-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))) = (fun _ => 1#1)

def Pre_Wd (m : (ℓ : Loc Cert.Wd.nD Cert.Wd.τ Cert.Wd.sig) → Buf (Elt Bits) ℓ) : Prop :=
  True

def Pre_WdIdeal (m : (ℓ : Loc Cert.WdIdeal.nD Cert.WdIdeal.τ Cert.WdIdeal.sig) → Buf (Elt Ideal) ℓ) : Prop :=
  True

def Pre_WdRefIdeal (m : (ℓ : Loc Cert.WdRefIdeal.nD Cert.WdRefIdeal.τ Cert.WdRefIdeal.sig) → Buf (Elt Ideal) ℓ) : Prop :=
  True

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Zin (m : (ℓ : Loc Cert.Zin.nD Cert.Zin.τ Cert.Zin.sig) → Buf (Elt Bits) ℓ) : Prop :=
  True

def Pre_ZinIdeal (m : (ℓ : Loc Cert.ZinIdeal.nD Cert.ZinIdeal.τ Cert.ZinIdeal.sig) → Buf (Elt Ideal) ℓ) : Prop :=
  True

def Pre_ZinRefIdeal (m : (ℓ : Loc Cert.ZinRefIdeal.nD Cert.ZinRefIdeal.τ Cert.ZinRefIdeal.sig) → Buf (Elt Ideal) ℓ) : Prop :=
  True

def Pre_Bout (m : (ℓ : Loc Cert.Bout.nD Cert.Bout.τ Cert.Bout.sig) → Buf (Elt Bits) ℓ) : Prop :=
  True

def Pre_BoutIdeal (m : (ℓ : Loc Cert.BoutIdeal.nD Cert.BoutIdeal.τ Cert.BoutIdeal.sig) → Buf (Elt Ideal) ℓ) : Prop :=
  True

def Pre_BoutRefIdeal (m : (ℓ : Loc Cert.BoutRefIdeal.nD Cert.BoutRefIdeal.τ Cert.BoutRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Wd [hWd : Cert.Wd.Facts] : Prop :=
  ∀ (m : (ℓ : Loc Cert.Wd.nD Cert.Wd.τ Cert.Wd.sig) → Buf (Elt Bits) ℓ) (g : Dev Cert.Wd.nD → PrngReg), Pre_Wd m →
    θ_run (Cert.Wd.defs (F := Bits)) (onTc (τ := Cert.Wd.τ) (Cert.Wd.main (F := Bits))) ⟨m, fun _ => 0, g⟩ (fun r => (∀ c : Dev Cert.Wd.nD,
      r.2.mem ((c.tc : Thread Cert.Wd.nD Cert.Wd.τ).loc Cert.Wd.main_arg0) = m ((c.tc : Thread Cert.Wd.nD Cert.Wd.τ).loc Cert.Wd.main_arg0)
      ∧ r.2.mem ((c.tc : Thread Cert.Wd.nD Cert.Wd.τ).loc Cert.Wd.main_arg1) = m ((c.tc : Thread Cert.Wd.nD Cert.Wd.τ).loc Cert.Wd.main_arg1))
      ∧ r.2.sem = fun _ => 0)

def quiescent_WdIdeal [hWdIdeal : Cert.WdIdeal.Facts] : Prop :=
  ∀ (m : (ℓ : Loc Cert.WdIdeal.nD Cert.WdIdeal.τ Cert.WdIdeal.sig) → Buf (Elt Ideal) ℓ) (g : Dev Cert.WdIdeal.nD → PrngReg), Pre_WdIdeal m →
    θ_run (Cert.WdIdeal.defs (F := Ideal)) (onTc (τ := Cert.WdIdeal.τ) (Cert.WdIdeal.main (F := Ideal))) ⟨m, fun _ => 0, g⟩ (fun r => (∀ c : Dev Cert.WdIdeal.nD,
      r.2.mem ((c.tc : Thread Cert.WdIdeal.nD Cert.WdIdeal.τ).loc Cert.WdIdeal.main_arg0) = m ((c.tc : Thread Cert.WdIdeal.nD Cert.WdIdeal.τ).loc Cert.WdIdeal.main_arg0)
      ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ r.2.sem = fun _ => 0)

def quiescent_WdRefIdeal [hWdRefIdeal : Cert.WdRefIdeal.Facts] : Prop :=
  ∀ (m : (ℓ : Loc Cert.WdRefIdeal.nD Cert.WdRefIdeal.τ Cert.WdRefIdeal.sig) → Buf (Elt Ideal) ℓ) (g : Dev Cert.WdRefIdeal.nD → PrngReg), Pre_WdRefIdeal m →
    θ_run (Cert.WdRefIdeal.defs (F := Ideal)) (onTc (τ := Cert.WdRefIdeal.τ) (Cert.WdRefIdeal.main (F := Ideal))) ⟨m, fun _ => 0, g⟩ (fun r => (∀ c : Dev Cert.WdRefIdeal.nD,
      r.2.mem ((c.tc : Thread Cert.WdRefIdeal.nD Cert.WdRefIdeal.τ).loc Cert.WdRefIdeal.main_arg0) = m ((c.tc : Thread Cert.WdRefIdeal.nD Cert.WdRefIdeal.τ).loc Cert.WdRefIdeal.main_arg0)
      ∧ r.2.mem ((c.tc : Thread Cert.WdRefIdeal.nD Cert.WdRefIdeal.τ).loc Cert.WdRefIdeal.main_arg1) = m ((c.tc : Thread Cert.WdRefIdeal.nD Cert.WdRefIdeal.τ).loc Cert.WdRefIdeal.main_arg1))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1)
      ∧ r.2.mem ((c.tc : Thread Cert.Wgu.nD Cert.Wgu.τ).loc Cert.Wgu.main_arg2) = m ((c.tc : Thread Cert.Wgu.nD Cert.Wgu.τ).loc Cert.Wgu.main_arg2))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
      ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1)
      ∧ r.2.mem ((c.tc : Thread Cert.WguRefIdeal.nD Cert.WguRefIdeal.τ).loc Cert.WguRefIdeal.main_arg2) = m ((c.tc : Thread Cert.WguRefIdeal.nD Cert.WguRefIdeal.τ).loc Cert.WguRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3)
      ∧ r.2.mem ((c.tc : Thread Cert.Sconv.nD Cert.Sconv.τ).loc Cert.Sconv.main_arg4) = m ((c.tc : Thread Cert.Sconv.nD Cert.Sconv.τ).loc Cert.Sconv.main_arg4))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
      ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)
      ∧ r.2.mem ((c.tc : Thread Cert.SconvRefIdeal.nD Cert.SconvRefIdeal.τ).loc Cert.SconvRefIdeal.main_arg4) = m ((c.tc : Thread Cert.SconvRefIdeal.nD Cert.SconvRefIdeal.τ).loc Cert.SconvRefIdeal.main_arg4))
      ∧ r.2.sem = fun _ => 0)

def quiescent_Zin [hZin : Cert.Zin.Facts] : Prop :=
  ∀ (m : (ℓ : Loc Cert.Zin.nD Cert.Zin.τ Cert.Zin.sig) → Buf (Elt Bits) ℓ) (g : Dev Cert.Zin.nD → PrngReg), Pre_Zin m →
    θ_run (Cert.Zin.defs (F := Bits)) (onTc (τ := Cert.Zin.τ) (Cert.Zin.main (F := Bits))) ⟨m, fun _ => 0, g⟩ (fun r => (∀ c : Dev Cert.Zin.nD,
      r.2.mem ((c.tc : Thread Cert.Zin.nD Cert.Zin.τ).loc Cert.Zin.main_arg0) = m ((c.tc : Thread Cert.Zin.nD Cert.Zin.τ).loc Cert.Zin.main_arg0)
      ∧ r.2.mem ((c.tc : Thread Cert.Zin.nD Cert.Zin.τ).loc Cert.Zin.main_arg1) = m ((c.tc : Thread Cert.Zin.nD Cert.Zin.τ).loc Cert.Zin.main_arg1))
      ∧ r.2.sem = fun _ => 0)

def quiescent_ZinIdeal [hZinIdeal : Cert.ZinIdeal.Facts] : Prop :=
  ∀ (m : (ℓ : Loc Cert.ZinIdeal.nD Cert.ZinIdeal.τ Cert.ZinIdeal.sig) → Buf (Elt Ideal) ℓ) (g : Dev Cert.ZinIdeal.nD → PrngReg), Pre_ZinIdeal m →
    θ_run (Cert.ZinIdeal.defs (F := Ideal)) (onTc (τ := Cert.ZinIdeal.τ) (Cert.ZinIdeal.main (F := Ideal))) ⟨m, fun _ => 0, g⟩ (fun r => (∀ c : Dev Cert.ZinIdeal.nD,
      r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
      ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ r.2.sem = fun _ => 0)

def quiescent_ZinRefIdeal [hZinRefIdeal : Cert.ZinRefIdeal.Facts] : Prop :=
  ∀ (m : (ℓ : Loc Cert.ZinRefIdeal.nD Cert.ZinRefIdeal.τ Cert.ZinRefIdeal.sig) → Buf (Elt Ideal) ℓ) (g : Dev Cert.ZinRefIdeal.nD → PrngReg), Pre_ZinRefIdeal m →
    θ_run (Cert.ZinRefIdeal.defs (F := Ideal)) (onTc (τ := Cert.ZinRefIdeal.τ) (Cert.ZinRefIdeal.main (F := Ideal))) ⟨m, fun _ => 0, g⟩ (fun r => (∀ c : Dev Cert.ZinRefIdeal.nD,
      r.2.mem ((c.tc : Thread Cert.ZinRefIdeal.nD Cert.ZinRefIdeal.τ).loc Cert.ZinRefIdeal.main_arg0) = m ((c.tc : Thread Cert.ZinRefIdeal.nD Cert.ZinRefIdeal.τ).loc Cert.ZinRefIdeal.main_arg0)
      ∧ r.2.mem ((c.tc : Thread Cert.ZinRefIdeal.nD Cert.ZinRefIdeal.τ).loc Cert.ZinRefIdeal.main_arg1) = m ((c.tc : Thread Cert.ZinRefIdeal.nD Cert.ZinRefIdeal.τ).loc Cert.ZinRefIdeal.main_arg1))
      ∧ r.2.sem = fun _ => 0)

def quiescent_Bout [hBout : Cert.Bout.Facts] : Prop :=
  ∀ (m : (ℓ : Loc Cert.Bout.nD Cert.Bout.τ Cert.Bout.sig) → Buf (Elt Bits) ℓ) (g : Dev Cert.Bout.nD → PrngReg), Pre_Bout m →
    θ_run (Cert.Bout.defs (F := Bits)) (onTc (τ := Cert.Bout.τ) (Cert.Bout.main (F := Bits))) ⟨m, fun _ => 0, g⟩ (fun r => (∀ c : Dev Cert.Bout.nD,
      r.2.mem ((c.tc : Thread Cert.Bout.nD Cert.Bout.τ).loc Cert.Bout.main_arg0) = m ((c.tc : Thread Cert.Bout.nD Cert.Bout.τ).loc Cert.Bout.main_arg0)
      ∧ r.2.mem ((c.tc : Thread Cert.Bout.nD Cert.Bout.τ).loc Cert.Bout.main_arg1) = m ((c.tc : Thread Cert.Bout.nD Cert.Bout.τ).loc Cert.Bout.main_arg1))
      ∧ r.2.sem = fun _ => 0)

def quiescent_BoutIdeal [hBoutIdeal : Cert.BoutIdeal.Facts] : Prop :=
  ∀ (m : (ℓ : Loc Cert.BoutIdeal.nD Cert.BoutIdeal.τ Cert.BoutIdeal.sig) → Buf (Elt Ideal) ℓ) (g : Dev Cert.BoutIdeal.nD → PrngReg), Pre_BoutIdeal m →
    θ_run (Cert.BoutIdeal.defs (F := Ideal)) (onTc (τ := Cert.BoutIdeal.τ) (Cert.BoutIdeal.main (F := Ideal))) ⟨m, fun _ => 0, g⟩ (fun r => (∀ c : Dev Cert.BoutIdeal.nD,
      r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
      ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1))
      ∧ r.2.sem = fun _ => 0)

def quiescent_BoutRefIdeal [hBoutRefIdeal : Cert.BoutRefIdeal.Facts] : Prop :=
  ∀ (m : (ℓ : Loc Cert.BoutRefIdeal.nD Cert.BoutRefIdeal.τ Cert.BoutRefIdeal.sig) → Buf (Elt Ideal) ℓ) (g : Dev Cert.BoutRefIdeal.nD → PrngReg), Pre_BoutRefIdeal m →
    θ_run (Cert.BoutRefIdeal.defs (F := Ideal)) (onTc (τ := Cert.BoutRefIdeal.τ) (Cert.BoutRefIdeal.main (F := Ideal))) ⟨m, fun _ => 0, g⟩ (fun r => (∀ c : Dev Cert.BoutRefIdeal.nD,
      r.2.mem ((c.tc : Thread Cert.BoutRefIdeal.nD Cert.BoutRefIdeal.τ).loc Cert.BoutRefIdeal.main_arg0) = m ((c.tc : Thread Cert.BoutRefIdeal.nD Cert.BoutRefIdeal.τ).loc Cert.BoutRefIdeal.main_arg0)
      ∧ r.2.mem ((c.tc : Thread Cert.BoutRefIdeal.nD Cert.BoutRefIdeal.τ).loc Cert.BoutRefIdeal.main_arg1) = m ((c.tc : Thread Cert.BoutRefIdeal.nD Cert.BoutRefIdeal.τ).loc Cert.BoutRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_v9) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v39) = v0 c
          ∧ r.2.mem ((c.tc : Thread Cert.PostRefIdeal.nD Cert.PostRefIdeal.τ).loc Cert.PostRefIdeal.main_v22) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v11) = v0 c
          ∧ r.2.mem ((c.tc : Thread Cert.ActRefIdeal.nD Cert.ActRefIdeal.τ).loc Cert.ActRefIdeal.main_v12) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Wd_WdIdeal : Prop :=
  True

def algebraic_WdIdeal_WdRefIdeal [hWdIdeal : Cert.WdIdeal.Facts] [hWdRefIdeal : Cert.WdRefIdeal.Facts] : Prop :=
  ∀ (m : (ℓ : Loc Cert.WdIdeal.nD Cert.WdIdeal.τ Cert.WdIdeal.sig) → Buf (Elt Ideal) ℓ) (g : Dev Cert.WdIdeal.nD → PrngReg)
    (m' : (ℓ : Loc Cert.WdRefIdeal.nD Cert.WdRefIdeal.τ Cert.WdRefIdeal.sig) → Buf (Elt Ideal) ℓ) (g' : Dev Cert.WdRefIdeal.nD → PrngReg), Pre_WdIdeal m →
    (∀ c : Dev Cert.WdIdeal.nD,
      m' ((c.tc : Thread Cert.WdRefIdeal.nD Cert.WdRefIdeal.τ).loc Cert.WdRefIdeal.main_arg0) = m ((c.tc : Thread Cert.WdIdeal.nD Cert.WdIdeal.τ).loc Cert.WdIdeal.main_arg0)
      ∧ m' ((c.tc : Thread Cert.WdRefIdeal.nD Cert.WdRefIdeal.τ).loc Cert.WdRefIdeal.main_arg1) = m ((c.tc : Thread Cert.WdIdeal.nD Cert.WdIdeal.τ).loc Cert.WdIdeal.main_arg1)) →
    ∃ (v0 : (c : Dev Cert.WdIdeal.nD) → Buf (Elt Ideal) ((c.tc : Thread Cert.WdIdeal.nD Cert.WdIdeal.τ).loc Cert.WdIdeal.main_v0)),
      θ_run (Cert.WdIdeal.defs (F := Ideal)) (onTc (τ := Cert.WdIdeal.τ) (Cert.WdIdeal.main (F := Ideal))) ⟨m, fun _ => 0, g⟩ (fun r => ∀ c : Dev Cert.WdIdeal.nD,
          r.2.mem ((c.tc : Thread Cert.WdIdeal.nD Cert.WdIdeal.τ).loc Cert.WdIdeal.main_v0) = v0 c
          ∧ r.2.mem ((c.tc : Thread Cert.WdIdeal.nD Cert.WdIdeal.τ).loc Cert.WdIdeal.main_arg0) = m ((c.tc : Thread Cert.WdIdeal.nD Cert.WdIdeal.τ).loc Cert.WdIdeal.main_arg0)
          ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ θ_run (Cert.WdRefIdeal.defs (F := Ideal)) (onTc (τ := Cert.WdRefIdeal.τ) (Cert.WdRefIdeal.main (F := Ideal))) ⟨m', fun _ => 0, g'⟩ (fun r => ∀ c : Dev Cert.WdRefIdeal.nD,
          r.2.mem ((c.tc : Thread Cert.WdRefIdeal.nD Cert.WdRefIdeal.τ).loc Cert.WdRefIdeal.main_v5) = v0 c
          ∧ r.2.mem ((c.tc : Thread Cert.WdRefIdeal.nD Cert.WdRefIdeal.τ).loc Cert.WdRefIdeal.main_arg0) = m' ((c.tc : Thread Cert.WdRefIdeal.nD Cert.WdRefIdeal.τ).loc Cert.WdRefIdeal.main_arg0)
          ∧ r.2.mem ((c.tc : Thread Cert.WdRefIdeal.nD Cert.WdRefIdeal.τ).loc Cert.WdRefIdeal.main_arg1) = m' ((c.tc : Thread Cert.WdRefIdeal.nD Cert.WdRefIdeal.τ).loc Cert.WdRefIdeal.main_arg1))

def preserves_Wgu_WguIdeal : Prop :=
  True

def algebraic_WguIdeal_WguRefIdeal [hWguIdeal : Cert.WguIdeal.Facts] [hWguRefIdeal : Cert.WguRefIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguIdeal m →
    (∀ c : Dev Cert.WguIdeal.nD,
      m' ((c.tc : Thread Cert.WguRefIdeal.nD Cert.WguRefIdeal.τ).loc Cert.WguRefIdeal.main_arg0) = m ((c.tc : Thread Cert.WguIdeal.nD Cert.WguIdeal.τ).loc Cert.WguIdeal.main_arg0)
      ∧ m' ((c.tc : Thread Cert.WguRefIdeal.nD Cert.WguRefIdeal.τ).loc Cert.WguRefIdeal.main_arg1) = m ((c.tc : Thread Cert.WguIdeal.nD Cert.WguIdeal.τ).loc Cert.WguIdeal.main_arg1)
      ∧ m' ((c.tc : Thread Cert.WguRefIdeal.nD Cert.WguRefIdeal.τ).loc Cert.WguRefIdeal.main_arg2) = m ((c.tc : Thread Cert.WguIdeal.nD Cert.WguIdeal.τ).loc Cert.WguIdeal.main_arg2)) →
    ∃ (v0 : (c : Dev Cert.WguIdeal.nD) → Buf (Elt Ideal) ((c.tc : Thread Cert.WguIdeal.nD Cert.WguIdeal.τ).loc Cert.WguIdeal.main_v0_0)) (v1 : (c : Dev Cert.WguIdeal.nD) → Buf (Elt Ideal) ((c.tc : Thread Cert.WguIdeal.nD Cert.WguIdeal.τ).loc Cert.WguIdeal.main_v0_1)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v0_0) = v0 c
          ∧ r.2.mem ((c.tc : Thread Cert.WguIdeal.nD Cert.WguIdeal.τ).loc Cert.WguIdeal.main_v0_1) = v1 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
          ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v9) = v0 c
          ∧ r.2.mem ((c.tc : Thread Cert.WguRefIdeal.nD Cert.WguRefIdeal.τ).loc Cert.WguRefIdeal.main_v7) = v1 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1)
          ∧ r.2.mem ((c.tc : Thread Cert.WguRefIdeal.nD Cert.WguRefIdeal.τ).loc Cert.WguRefIdeal.main_arg2) = m' ((c.tc : Thread Cert.WguRefIdeal.nD Cert.WguRefIdeal.τ).loc Cert.WguRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v43) = v0 c
          ∧ r.2.mem ((c.tc : Thread Cert.InRefIdeal.nD Cert.InRefIdeal.τ).loc Cert.InRefIdeal.main_v26) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)
      ∧ m' ((c.tc : Thread Cert.SconvRefIdeal.nD Cert.SconvRefIdeal.τ).loc Cert.SconvRefIdeal.main_arg4) = m ((c.tc : Thread Cert.SconvIdeal.nD Cert.SconvIdeal.τ).loc Cert.SconvIdeal.main_arg4)) →
    ∃ (v0 : (c : Dev Cert.SconvIdeal.nD) → Buf (Elt Ideal) ((c.tc : Thread Cert.SconvIdeal.nD Cert.SconvIdeal.τ).loc Cert.SconvIdeal.main_v0_0)) (v1 : (c : Dev Cert.SconvIdeal.nD) → Buf (Elt Ideal) ((c.tc : Thread Cert.SconvIdeal.nD Cert.SconvIdeal.τ).loc Cert.SconvIdeal.main_v0_1)) (v2 : (c : Dev Cert.SconvIdeal.nD) → Buf (Elt Ideal) ((c.tc : Thread Cert.SconvIdeal.nD Cert.SconvIdeal.τ).loc Cert.SconvIdeal.main_v0_2)) (v3 : (c : Dev Cert.SconvIdeal.nD) → Buf (Elt Ideal) ((c.tc : Thread Cert.SconvIdeal.nD Cert.SconvIdeal.τ).loc Cert.SconvIdeal.main_v0_3)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0_0) = v0 c
          ∧ r.2.mem ((c.tc : Thread Cert.SconvIdeal.nD Cert.SconvIdeal.τ).loc Cert.SconvIdeal.main_v0_1) = v1 c
          ∧ r.2.mem ((c.tc : Thread Cert.SconvIdeal.nD Cert.SconvIdeal.τ).loc Cert.SconvIdeal.main_v0_2) = v2 c
          ∧ r.2.mem ((c.tc : Thread Cert.SconvIdeal.nD Cert.SconvIdeal.τ).loc Cert.SconvIdeal.main_v0_3) = v3 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3)
          ∧ r.2.mem ((c.tc : Thread Cert.SconvIdeal.nD Cert.SconvIdeal.τ).loc Cert.SconvIdeal.main_arg4) = m ((c.tc : Thread Cert.SconvIdeal.nD Cert.SconvIdeal.τ).loc Cert.SconvIdeal.main_arg4))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v71) = v0 c
          ∧ r.2.mem ((c.tc : Thread Cert.SconvRefIdeal.nD Cert.SconvRefIdeal.τ).loc Cert.SconvRefIdeal.main_v72) = v1 c
          ∧ r.2.mem ((c.tc : Thread Cert.SconvRefIdeal.nD Cert.SconvRefIdeal.τ).loc Cert.SconvRefIdeal.main_v73) = v2 c
          ∧ r.2.mem ((c.tc : Thread Cert.SconvRefIdeal.nD Cert.SconvRefIdeal.τ).loc Cert.SconvRefIdeal.main_v74) = v3 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3)
          ∧ r.2.mem ((c.tc : Thread Cert.SconvRefIdeal.nD Cert.SconvRefIdeal.τ).loc Cert.SconvRefIdeal.main_arg4) = m' ((c.tc : Thread Cert.SconvRefIdeal.nD Cert.SconvRefIdeal.τ).loc Cert.SconvRefIdeal.main_arg4))

def preserves_Zin_ZinIdeal : Prop :=
  True

def algebraic_ZinIdeal_ZinRefIdeal [hZinIdeal : Cert.ZinIdeal.Facts] [hZinRefIdeal : Cert.ZinRefIdeal.Facts] : Prop :=
  ∀ (m : (ℓ : Loc Cert.ZinIdeal.nD Cert.ZinIdeal.τ Cert.ZinIdeal.sig) → Buf (Elt Ideal) ℓ) (g : Dev Cert.ZinIdeal.nD → PrngReg)
    (m' : (ℓ : Loc Cert.ZinRefIdeal.nD Cert.ZinRefIdeal.τ Cert.ZinRefIdeal.sig) → Buf (Elt Ideal) ℓ) (g' : Dev Cert.ZinRefIdeal.nD → PrngReg), Pre_ZinIdeal m →
    (∀ c : Dev Cert.ZinIdeal.nD,
      m' ((c.tc : Thread Cert.ZinRefIdeal.nD Cert.ZinRefIdeal.τ).loc Cert.ZinRefIdeal.main_arg0) = m ((c.tc : Thread Cert.ZinIdeal.nD Cert.ZinIdeal.τ).loc Cert.ZinIdeal.main_arg0)
      ∧ m' ((c.tc : Thread Cert.ZinRefIdeal.nD Cert.ZinRefIdeal.τ).loc Cert.ZinRefIdeal.main_arg1) = m ((c.tc : Thread Cert.ZinIdeal.nD Cert.ZinIdeal.τ).loc Cert.ZinIdeal.main_arg1)) →
    ∃ (v0 : (c : Dev Cert.ZinIdeal.nD) → Buf (Elt Ideal) ((c.tc : Thread Cert.ZinIdeal.nD Cert.ZinIdeal.τ).loc Cert.ZinIdeal.main_v0)),
      θ_run (Cert.ZinIdeal.defs (F := Ideal)) (onTc (τ := Cert.ZinIdeal.τ) (Cert.ZinIdeal.main (F := Ideal))) ⟨m, fun _ => 0, g⟩ (fun r => ∀ c : Dev Cert.ZinIdeal.nD,
          r.2.mem ((c.tc : Thread Cert.ZinIdeal.nD Cert.ZinIdeal.τ).loc Cert.ZinIdeal.main_v0) = v0 c
          ∧ r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
          ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ θ_run (Cert.ZinRefIdeal.defs (F := Ideal)) (onTc (τ := Cert.ZinRefIdeal.τ) (Cert.ZinRefIdeal.main (F := Ideal))) ⟨m', fun _ => 0, g'⟩ (fun r => ∀ c : Dev Cert.ZinRefIdeal.nD,
          r.2.mem ((c.tc : Thread Cert.ZinRefIdeal.nD Cert.ZinRefIdeal.τ).loc Cert.ZinRefIdeal.main_v3) = v0 c
          ∧ r.2.mem ((c.tc : Thread Cert.ZinRefIdeal.nD Cert.ZinRefIdeal.τ).loc Cert.ZinRefIdeal.main_arg0) = m' ((c.tc : Thread Cert.ZinRefIdeal.nD Cert.ZinRefIdeal.τ).loc Cert.ZinRefIdeal.main_arg0)
          ∧ r.2.mem ((c.tc : Thread Cert.ZinRefIdeal.nD Cert.ZinRefIdeal.τ).loc Cert.ZinRefIdeal.main_arg1) = m' ((c.tc : Thread Cert.ZinRefIdeal.nD Cert.ZinRefIdeal.τ).loc Cert.ZinRefIdeal.main_arg1))

def preserves_Bout_BoutIdeal : Prop :=
  True

def algebraic_BoutIdeal_BoutRefIdeal [hBoutIdeal : Cert.BoutIdeal.Facts] [hBoutRefIdeal : Cert.BoutRefIdeal.Facts] : Prop :=
  ∀ (m : (ℓ : Loc Cert.BoutIdeal.nD Cert.BoutIdeal.τ Cert.BoutIdeal.sig) → Buf (Elt Ideal) ℓ) (g : Dev Cert.BoutIdeal.nD → PrngReg)
    (m' : (ℓ : Loc Cert.BoutRefIdeal.nD Cert.BoutRefIdeal.τ Cert.BoutRefIdeal.sig) → Buf (Elt Ideal) ℓ) (g' : Dev Cert.BoutRefIdeal.nD → PrngReg), Pre_BoutIdeal m →
    (∀ c : Dev Cert.BoutIdeal.nD,
      m' ((c.tc : Thread Cert.BoutRefIdeal.nD Cert.BoutRefIdeal.τ).loc Cert.BoutRefIdeal.main_arg0) = m ((c.tc : Thread Cert.BoutIdeal.nD Cert.BoutIdeal.τ).loc Cert.BoutIdeal.main_arg0)
      ∧ m' ((c.tc : Thread Cert.BoutRefIdeal.nD Cert.BoutRefIdeal.τ).loc Cert.BoutRefIdeal.main_arg1) = m ((c.tc : Thread Cert.BoutIdeal.nD Cert.BoutIdeal.τ).loc Cert.BoutIdeal.main_arg1)) →
    ∃ (v0 : (c : Dev Cert.BoutIdeal.nD) → Buf (Elt Ideal) ((c.tc : Thread Cert.BoutIdeal.nD Cert.BoutIdeal.τ).loc Cert.BoutIdeal.main_v0)),
      θ_run (Cert.BoutIdeal.defs (F := Ideal)) (onTc (τ := Cert.BoutIdeal.τ) (Cert.BoutIdeal.main (F := Ideal))) ⟨m, fun _ => 0, g⟩ (fun r => ∀ c : Dev Cert.BoutIdeal.nD,
          r.2.mem ((c.tc : Thread Cert.BoutIdeal.nD Cert.BoutIdeal.τ).loc Cert.BoutIdeal.main_v0) = v0 c
          ∧ r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
          ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1))
      ∧ θ_run (Cert.BoutRefIdeal.defs (F := Ideal)) (onTc (τ := Cert.BoutRefIdeal.τ) (Cert.BoutRefIdeal.main (F := Ideal))) ⟨m', fun _ => 0, g'⟩ (fun r => ∀ c : Dev Cert.BoutRefIdeal.nD,
          r.2.mem ((c.tc : Thread Cert.BoutRefIdeal.nD Cert.BoutRefIdeal.τ).loc Cert.BoutRefIdeal.main_v5) = v0 c
          ∧ r.2.mem ((c.tc : Thread Cert.BoutRefIdeal.nD Cert.BoutRefIdeal.τ).loc Cert.BoutRefIdeal.main_arg0) = m' ((c.tc : Thread Cert.BoutRefIdeal.nD Cert.BoutRefIdeal.τ).loc Cert.BoutRefIdeal.main_arg0)
          ∧ r.2.mem ((c.tc : Thread Cert.BoutRefIdeal.nD Cert.BoutRefIdeal.τ).loc Cert.BoutRefIdeal.main_arg1) = m' ((c.tc : Thread Cert.BoutRefIdeal.nD Cert.BoutRefIdeal.τ).loc Cert.BoutRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Fwd_FwdIdeal : Prop :=
  IdealRules.named_const.Statement Cert.FwdIdeal.κ "log2e" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v14_0)) (v1 : (c : Dev Cert.FwdIdeal.nD) → Buf (Elt Ideal) ((c.tc : Thread Cert.FwdIdeal.nD Cert.FwdIdeal.τ).loc Cert.FwdIdeal.main_v14_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v14_0) = v0 c
          ∧ r.2.mem ((c.tc : Thread Cert.FwdIdeal.nD Cert.FwdIdeal.τ).loc Cert.FwdIdeal.main_v14_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v24) = v0 c
          ∧ r.2.mem ((c.tc : Thread Cert.FwdRefIdeal.nD Cert.FwdRefIdeal.τ).loc Cert.FwdRefIdeal.main_v22) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPost : Cert.Post.Facts) (hPostIdeal : Cert.PostIdeal.Facts) (hPostRefIdeal : Cert.PostRefIdeal.Facts) (hAct : Cert.Act.Facts) (hActIdeal : Cert.ActIdeal.Facts) (hActRefIdeal : Cert.ActRefIdeal.Facts) (hWd : Cert.Wd.Facts) (hWdIdeal : Cert.WdIdeal.Facts) (hWdRefIdeal : Cert.WdRefIdeal.Facts) (hWgu : Cert.Wgu.Facts) (hWguIdeal : Cert.WguIdeal.Facts) (hWguRefIdeal : Cert.WguRefIdeal.Facts) (hIn : Cert.In.Facts) (hInIdeal : Cert.InIdeal.Facts) (hInRefIdeal : Cert.InRefIdeal.Facts) (hSconv : Cert.Sconv.Facts) (hSconvIdeal : Cert.SconvIdeal.Facts) (hSconvRefIdeal : Cert.SconvRefIdeal.Facts) (hZin : Cert.Zin.Facts) (hZinIdeal : Cert.ZinIdeal.Facts) (hZinRefIdeal : Cert.ZinRefIdeal.Facts) (hBout : Cert.Bout.Facts) (hBoutIdeal : Cert.BoutIdeal.Facts) (hBoutRefIdeal : Cert.BoutRefIdeal.Facts) (hDwout : Cert.Dwout.Facts) (hDwoutIdeal : Cert.DwoutIdeal.Facts) (hDwoutRefIdeal : Cert.DwoutRefIdeal.Facts) (hDwin : Cert.Dwin.Facts) (hDwinIdeal : Cert.DwinIdeal.Facts) (hDwinRefIdeal : Cert.DwinRefIdeal.Facts) (hFwd : Cert.Fwd.Facts) (hFwdIdeal : Cert.FwdIdeal.Facts) (hFwdRefIdeal : Cert.FwdRefIdeal.Facts) (hPre_finite : Cert.Pre_finite.Facts) (hPre_finite_act : Cert.Pre_finite_act.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Post (hPost := hPost)
    ∧ quiescent_PostIdeal (hPostIdeal := hPostIdeal)
    ∧ quiescent_PostRefIdeal (hPostRefIdeal := hPostRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Wd (hWd := hWd)
    ∧ quiescent_WdIdeal (hWdIdeal := hWdIdeal)
    ∧ quiescent_WdRefIdeal (hWdRefIdeal := hWdRefIdeal)
    ∧ quiescent_Wgu (hWgu := hWgu)
    ∧ quiescent_WguIdeal (hWguIdeal := hWguIdeal)
    ∧ quiescent_WguRefIdeal (hWguRefIdeal := hWguRefIdeal)
    ∧ quiescent_In (hIn := hIn)
    ∧ quiescent_InIdeal (hInIdeal := hInIdeal)
    ∧ quiescent_InRefIdeal (hInRefIdeal := hInRefIdeal)
    ∧ quiescent_Sconv (hSconv := hSconv)
    ∧ quiescent_SconvIdeal (hSconvIdeal := hSconvIdeal)
    ∧ quiescent_SconvRefIdeal (hSconvRefIdeal := hSconvRefIdeal)
    ∧ quiescent_Zin (hZin := hZin)
    ∧ quiescent_ZinIdeal (hZinIdeal := hZinIdeal)
    ∧ quiescent_ZinRefIdeal (hZinRefIdeal := hZinRefIdeal)
    ∧ quiescent_Bout (hBout := hBout)
    ∧ quiescent_BoutIdeal (hBoutIdeal := hBoutIdeal)
    ∧ quiescent_BoutRefIdeal (hBoutRefIdeal := hBoutRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Post_PostIdeal
    ∧ algebraic_PostIdeal_PostRefIdeal (hPostIdeal := hPostIdeal) (hPostRefIdeal := hPostRefIdeal)
    ∧ preserves_Act_ActIdeal
    ∧ algebraic_ActIdeal_ActRefIdeal_pre_finite_act (hActIdeal := hActIdeal) (hActRefIdeal := hActRefIdeal) (hPre_finite_act := hPre_finite_act)
    ∧ preserves_Wd_WdIdeal
    ∧ algebraic_WdIdeal_WdRefIdeal (hWdIdeal := hWdIdeal) (hWdRefIdeal := hWdRefIdeal)
    ∧ preserves_Wgu_WguIdeal
    ∧ algebraic_WguIdeal_WguRefIdeal (hWguIdeal := hWguIdeal) (hWguRefIdeal := hWguRefIdeal)
    ∧ preserves_In_InIdeal
    ∧ algebraic_InIdeal_InRefIdeal (hInIdeal := hInIdeal) (hInRefIdeal := hInRefIdeal)
    ∧ preserves_Sconv_SconvIdeal
    ∧ algebraic_SconvIdeal_SconvRefIdeal (hSconvIdeal := hSconvIdeal) (hSconvRefIdeal := hSconvRefIdeal)
    ∧ preserves_Zin_ZinIdeal
    ∧ algebraic_ZinIdeal_ZinRefIdeal (hZinIdeal := hZinIdeal) (hZinRefIdeal := hZinRefIdeal)
    ∧ preserves_Bout_BoutIdeal
    ∧ algebraic_BoutIdeal_BoutRefIdeal (hBoutIdeal := hBoutIdeal) (hBoutRefIdeal := hBoutRefIdeal)
    ∧ preserves_Dwout_DwoutIdeal
    ∧ algebraic_DwoutIdeal_DwoutRefIdeal (hDwoutIdeal := hDwoutIdeal) (hDwoutRefIdeal := hDwoutRefIdeal)
    ∧ preserves_Dwin_DwinIdeal
    ∧ algebraic_DwinIdeal_DwinRefIdeal (hDwinIdeal := hDwinIdeal) (hDwinRefIdeal := hDwinRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
-- ==== Pre_finite.lean ====
abbrev S16384x12x96 : Shape := ⟨3, ![16384, 12, 96]⟩
abbrev S16384x12x64 : Shape := ⟨3, ![16384, 12, 64]⟩
abbrev S_ : Shape := ⟨0, ![]⟩

class Facts : Prop where
  bcast_S_S16384x12x96 : S_.BroadcastsInDim S16384x12x96 (![] : Fin 0 → Fin S16384x12x96.rank)
  reducesTo_S16384x12x96_S_d0_1_2 : S16384x12x96.ReducesTo [0, 1, 2] S_
  h_S_ : 0 < S_.numel
  bcast_S_S16384x12x64 : S_.BroadcastsInDim S16384x12x64 (![] : Fin 0 → Fin S16384x12x64.rank)
  reducesTo_S16384x12x64_S_d0_1_2 : S16384x12x64.ReducesTo [0, 1, 2] S_

variable [Facts]

def fn_part1 {F : FTy → Type} [FloatOps F] (main_v13 : IVec S_ 1) (main_v16 : IVec S16384x12x64 1) : IVec S_ 1 :=
  let main_c_5 : IVec S_ 1 := constantI S_ 1 1#1
  let main_v17 : IVec S_ 1 := (fun x v => Host.reduce IntOp.andi x v reducesTo_S16384x12x64_S_d0_1_2 h_S_) main_v16 main_c_5
  let main_v18 : IVec S_ 1 := andi main_v13 main_v17
  main_v18

def fn {F : FTy → Type} [FloatOps F] (main_arg0 : FVec F S16384x12x96 .f32) (main_arg1 : FVec F S16384x12x96 .f32) (main_arg2 : FVec F S16384x12x64 .f32) (main_arg3 : FVec F S16384x12x64 .f32) : IVec S_ 1 :=
  let main_v0 : FVec F S16384x12x96 .f32 := Host.absf main_arg0
  let main_cst : FVec F S_ .f32 := constant S_ .f32 0x7F800000#32
  let main_v1 : FVec F S16384x12x96 .f32 := broadcastInDim S16384x12x96 ![] bcast_S_S16384x12x96 main_cst
  let main_v2 : IVec S16384x12x96 1 := cmpf .olt main_v0 main_v1
  let main_c : IVec S_ 1 := constantI S_ 1 1#1
  let main_v3 : IVec S_ 1 := (fun x v => Host.reduce IntOp.andi x v reducesTo_S16384x12x96_S_d0_1_2 h_S_) main_v2 main_c
  let main_v4 : FVec F S16384x12x96 .f32 := Host.absf main_arg1
  let main_cst_0 : FVec F S_ .f32 := constant S_ .f32 0x7F800000#32
  let main_v5 : FVec F S16384x12x96 .f32 := broadcastInDim S16384x12x96 ![] bcast_S_S16384x12x96 main_cst_0
  let main_v6 : IVec S16384x12x96 1 := cmpf .olt main_v4 main_v5
  let main_c_1 : IVec S_ 1 := constantI S_ 1 1#1
  let main_v7 : IVec S_ 1 := (fun x v => Host.reduce IntOp.andi x v reducesTo_S16384x12x96_S_d0_1_2 h_S_) main_v6 main_c_1
  let main_v8 : IVec S_ 1 := andi main_v3 main_v7
  let main_v9 : FVec F S16384x12x64 .f32 := Host.absf main_arg2
  let main_cst_2 : FVec F S_ .f32 := constant S_ .f32 0x7F800000#32
  let main_v10 : FVec F S16384x12x64 .f32 := broadcastInDim S16384x12x64 ![] bcast_S_S16384x12x64 main_cst_2
  let main_v11 : IVec S16384x12x64 1 := cmpf .olt main_v9 main_v10
  let main_c_3 : IVec S_ 1 := constantI S_ 1 1#1
  let main_v12 : IVec S_ 1 := (fun x v => Host.reduce IntOp.andi x v reducesTo_S16384x12x64_S_d0_1_2 h_S_) main_v11 main_c_3
  let main_v13 : IVec S_ 1 := andi main_v8 main_v12
  let main_v14 : FVec F S16384x12x64 .f32 := Host.absf main_arg3
  let main_cst_4 : FVec F S_ .f32 := constant S_ .f32 0x7F800000#32
  let main_v15 : FVec F S16384x12x64 .f32 := broadcastInDim S16384x12x64 ![] bcast_S_S16384x12x64 main_cst_4
  let main_v16 : IVec S16384x12x64 1 := cmpf .olt main_v14 main_v15
  fn_part1 (F := F) main_v13 main_v16
-- ==== Pre_finite_act.lean ====
abbrev S16384x1024 : Shape := ⟨2, ![16384, 1024]⟩
abbrev S3072x1024 : Shape := ⟨2, ![3072, 1024]⟩
abbrev S16384x3072 : Shape := ⟨2, ![16384, 3072]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S16384x3072 : S_.BroadcastsInDim S16384x3072 (![] : Fin 0 → Fin S16384x3072.rank)
  reducesTo_S16384x3072_S_d0_1 : S16384x3072.ReducesTo [0, 1] S_

variable [Facts]

def fn {F : FTy → Type} [FloatOps F] (main_arg0 : FVec F S16384x1024 .bf16) (main_arg1 : FVec F S3072x1024 .bf16) (main_arg2 : FVec F S16384x3072 .bf16) (main_arg3 : FVec F S16384x3072 .bf16) : IVec S_ 1 :=
  let main_v0 : FVec F S16384x1024 .f32 := (extf .f32 · bitsLt_bf16_f32) main_arg0
  let main_v1 : FVec F S3072x1024 .f32 := (extf .f32 · bitsLt_bf16_f32) main_arg1
  let main_v2 : FVec F S16384x3072 .f32 := (extf .f32 · bitsLt_bf16_f32) main_arg3
  let main_v3 : FVec F S16384x1024 .f32 := Host.absf main_v0
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S3072x1024 .f32 := Host.absf main_v1
  let main_cst_0 : FVec F S_ .f32 := constant S_ .f32 0x7F800000#32
  let main_v8 : FVec F S3072x1024 .f32 := broadcastInDim S3072x1024 ![] bcast_S_S3072x1024 main_cst_0
  let main_v9 : IVec S3072x1024 1 := cmpf .olt main_v7 main_v8
  let main_c_1 : IVec S_ 1 := constantI S_ 1 1#1
  let main_v10 : IVec S_ 1 := (fun x v => Host.reduce IntOp.andi x v reducesTo_S3072x1024_S_d0_1 h_S_) main_v9 main_c_1
  let main_v11 : IVec S_ 1 := andi main_v6 main_v10
  let main_v12 : FVec F S16384x3072 .f32 := Host.absf main_v2
  let main_cst_2 : FVec F S_ .f32 := constant S_ .f32 0x7F800000#32
  let main_v13 : FVec F S16384x3072 .f32 := broadcastInDim S16384x3072 ![] bcast_S_S16384x3072 main_cst_2
  let main_v14 : IVec S16384x3072 1 := cmpf .olt main_v12 main_v13
  let main_c_3 : IVec S_ 1 := constantI S_ 1 1#1
  let main_v15 : IVec S_ 1 := (fun x v => Host.reduce IntOp.andi x v reducesTo_S16384x3072_S_d0_1 h_S_) main_v14 main_c_3
  let main_v16 : IVec S_ 1 := andi main_v11 main_v15
  main_v16
-- ==== Pre_finite_fwd.lean ====
abbrev S16384x12x96 : Shape := ⟨3, ![16384, 12, 96]⟩
abbrev S16384x12x64 : Shape := ⟨3, ![16384, 12, 64]⟩
abbrev S_ : Shape := ⟨0, ![]⟩

class Facts : Prop where
  bcast_S_S16384x12x96 : S_.BroadcastsInDim S16384x12x96 (![] : Fin 0 → Fin S16384x12x96.rank)
  reducesTo_S16384x12x96_S_d0_1_2 : S16384x12x96.ReducesTo [0, 1, 2] S_
  h_S_ : 0 < S_.numel

variable [Facts]

def fn {F : FTy → Type} [FloatOps F] (main_arg0 : FVec F S16384x12x96 .f32) (main_arg1 : FVec F S16384x12x96 .f32) (main_arg2 : FVec F S16384x12x64 .f32) : IVec S_ 1 :=
  let main_v0 : FVec F S16384x12x96 .f32 := Host.absf main_arg0
  let main_cst : FVec F S_ .f32 := constant S_ .f32 0x7F800000#32
  let main_v1 : FVec F S16384x12x96 .f32 := broadcastInDim S16384x12x96 ![] bcast_S_S16384x12x96 main_cst
  let main_v2 : IVec S16384x12x96 1 := cmpf .olt main_v0 main_v1
  let main_c : IVec S_ 1 := constantI S_ 1 1#1
  let main_v3 : IVec S_ 1 := (fun x v => Host.reduce IntOp.andi x v reducesTo_S16384x12x96_S_d0_1_2 h_S_) main_v2 main_c
  let main_v4 : FVec F S16384x12x96 .f32 := Host.absf main_arg1
  let main_cst_0 : FVec F S_ .f32 := constant S_ .f32 0x7F800000#32
  let main_v5 : FVec F S16384x12x96 .f32 := broadcastInDim S16384x12x96 ![] bcast_S_S16384x12x96 main_cst_0
  let main_v6 : IVec S16384x12x96 1 := cmpf .olt main_v4 main_v5
  let main_c_1 : IVec S_ 1 := constantI S_ 1 1#1
  let main_v7 : IVec S_ 1 := (fun x v => Host.reduce IntOp.andi x v reducesTo_S16384x12x96_S_d0_1_2 h_S_) main_v6 main_c_1
  let main_v8 : IVec S_ 1 := andi main_v3 main_v7
  main_v8
-- ==== Kernel.lean ====
abbrev S16384x12x96 : Shape := ⟨3, ![16384, 12, 96]⟩
abbrev S16384x12x64 : Shape := ⟨3, ![16384, 12, 64]⟩
abbrev S_ : Shape := ⟨0, ![]⟩
abbrev S12x16384x96 : Shape := ⟨3, ![12, 16384, 96]⟩
abbrev S12x16384x64 : Shape := ⟨3, ![12, 16384, 64]⟩
abbrev S12x16384x16384 : Shape := ⟨3, ![12, 16384, 16384]⟩
abbrev S12x16384 : Shape := ⟨2, ![12, 16384]⟩
abbrev S12x16384x1 : Shape := ⟨3, ![12, 16384, 1]⟩
abbrev S12x1x16384 : Shape := ⟨3, ![12, 1, 16384]⟩
abbrev S1x1024x96 : Shape := ⟨3, ![1, 1024, 96]⟩
abbrev S1x1024x64 : Shape := ⟨3, ![1, 1024, 64]⟩
abbrev S1x1x1024 : Shape := ⟨3, ![1, 1, 1024]⟩
abbrev S1x16384x96 : Shape := ⟨3, ![1, 16384, 96]⟩
abbrev S1024x96 : Shape := ⟨2, ![1024, 96]⟩
abbrev S1024x64 : Shape := ⟨2, ![1024, 64]⟩
abbrev S1024x1024 : Shape := ⟨2, ![1024, 1024]⟩
abbrev S1x1024 : Shape := ⟨2, ![1, 1024]⟩

abbrev nBuf : Space → Nat
  | .hbm => 48
  | .vmem => 18
  | .smem => 0
  | _ => 0

abbrev bufTy : (tb : Table) → Fin (tcTables nBuf tb) → BufTy
  | .hbm, ⟨0, _⟩ => ⟨S16384x12x96, .f32⟩
  | .hbm, ⟨1, _⟩ => ⟨S16384x12x96, .f32⟩
  | .hbm, ⟨2, _⟩ => ⟨S16384x12x64, .f32⟩
  | .hbm, ⟨3, _⟩ => ⟨S16384x12x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x12x96, .f32⟩
  | .hbm, ⟨8, _⟩ => ⟨S16384x12x96, .f32⟩
  | .hbm, ⟨9, _⟩ => ⟨S16384x12x96, .f32⟩
  | .hbm, ⟨10, _⟩ => ⟨S16384x12x96, .f32⟩
  | .hbm, ⟨11, _⟩ => ⟨S16384x12x96, .bf16⟩
  | .hbm, ⟨12, _⟩ => ⟨S12x16384x96, .bf16⟩
  | .hbm, ⟨13, _⟩ => ⟨S16384x12x96, .bf16⟩
  | .hbm, ⟨14, _⟩ => ⟨S12x16384x96, .bf16⟩
  | .hbm, ⟨15, _⟩ => ⟨S16384x12x64, .bf16⟩
  | .hbm, ⟨16, _⟩ => ⟨S12x16384x64, .bf16⟩
  | .hbm, ⟨17, _⟩ => ⟨S16384x12x64, .bf16⟩
  | .hbm, ⟨18, _⟩ => ⟨S12x16384x64, .bf16⟩
  | .hbm, ⟨19, _⟩ => ⟨S_, .f32⟩
  | .hbm, ⟨20, _⟩ => ⟨S16384x12x96, .f32⟩
  | .hbm, ⟨21, _⟩ => ⟨S16384x12x96, .f32⟩
  | .hbm, ⟨22, _⟩ => ⟨S12x16384x16384, .f32⟩
  | .hbm, ⟨23, _⟩ => ⟨S_, .f32⟩
  | .hbm, ⟨24, _⟩ => ⟨S12x16384, .f32⟩
  | .hbm, ⟨25, _⟩ => ⟨S12x16384x1, .f32⟩
  | .hbm, ⟨26, _⟩ => ⟨S12x16384x16384, .f32⟩
  | .hbm, ⟨27, _⟩ => ⟨S12x16384x16384, .f32⟩
  | .hbm, ⟨28, _⟩ => ⟨S12x16384x16384, .f32⟩
  | .hbm, ⟨29, _⟩ => ⟨S_, .f32⟩
  | .hbm, ⟨30, _⟩ => ⟨S12x16384, .f32⟩
  | .hbm, ⟨31, _⟩ => ⟨S12x16384x1, .f32⟩
  | .hbm, ⟨32, _⟩ => ⟨S12x16384x1, .f32⟩
  | .hbm, ⟨33, _⟩ => ⟨S12x16384x1, .f32⟩
  | .hbm, ⟨34, _⟩ => ⟨S12x16384x1, .f32⟩
  | .hbm, ⟨35, _⟩ => ⟨S12x16384x1, .f32⟩
  | .hbm, ⟨36, _⟩ => ⟨S12x16384x16384, .f32⟩
  | .hbm, ⟨37, _⟩ => ⟨S12x16384x16384, .f32⟩
  | .hbm, ⟨38, _⟩ => ⟨S12x16384x64, .f32⟩
  | .hbm, ⟨39, _⟩ => ⟨S12x16384x64, .f32⟩
  | .hbm, ⟨40, _⟩ => ⟨S12x16384x64, .f32⟩
  | .hbm, ⟨41, _⟩ => ⟨S_, .f32⟩
  | .hbm, ⟨42, _⟩ => ⟨S12x16384, .f32⟩
  | .hbm, ⟨43, _⟩ => ⟨S12x1x16384, .f32⟩
  | .hbm, ⟨44, _⟩ => ⟨S12x1x16384, .f32⟩
  | .hbm, ⟨45, _⟩ => ⟨S12x16384x96, .f32⟩
  | .hbm, ⟨46, _⟩ => ⟨S12x16384x64, .f32⟩
  | .hbm, ⟨47, _⟩ => ⟨S12x16384x96, .f32⟩
  | .local _ .vmem, ⟨0, _⟩ => ⟨S1x1024x96, .bf16⟩
  | .local _ .vmem, ⟨1, _⟩ => ⟨S1x1024x96, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x96, .bf16⟩
  | .local _ .vmem, ⟨5, _⟩ => ⟨S1x1024x96, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x96, .f32⟩
  | .local _ .vmem, ⟨13, _⟩ => ⟨S1x1024x96, .f32⟩
  | .local _ .vmem, ⟨14, _⟩ => ⟨S1x1024x64, .f32⟩
  | .local _ .vmem, ⟨15, _⟩ => ⟨S1x1024x64, .f32⟩
  | .local _ .vmem, ⟨16, _⟩ => ⟨S1x16384x96, .f32⟩
  | .local _ .vmem, ⟨17, _⟩ => ⟨S1x16384x96, .f32⟩
  | _, _ => ⟨S16384x12x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 16, 16], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_cond3 (i : grid0.Coords) : BitVec 1 :=
  let arg1 : BitVec 32 := BitVec.ofNat 32 (i 1).val
  let c0_i32_25 : BitVec 32 := 0#32
  let v35 : BitVec 1 := Scalar.cmpi .eq arg1 c0_i32_25
  let v36 : BitVec 32 := Scalar.extui v35
  let c0_i32_26 : BitVec 32 := 0#32
  let v37 : BitVec 1 := Scalar.cmpi .ne v36 c0_i32_26
  v37

def k0_off1 (i : grid0.Coords) : Fin 3 → Nat :=
  let c0_29 : Index := 0#32
  let arg2 : BitVec 32 := BitVec.ofNat 32 (i 2).val
  let c1024_i32 : BitVec 32 := 1024#32
  let v33 : BitVec 32 := Scalar.muli arg2 c1024_i32
  let v34 : BitVec 32 := v33
  let v41 : Index := Scalar.indexCast v34
  let c0_30 : Index := 0#32
  ![0, v41.toNat, 0]
def k0_cond4 (i : grid0.Coords) : BitVec 1 :=
  let arg1 : BitVec 32 := BitVec.ofNat 32 (i 1).val
  let c0_i32_27 : BitVec 32 := 0#32
  let v38 : BitVec 1 := Scalar.cmpi .sgt arg1 c0_i32_27
  let v39 : BitVec 32 := Scalar.extui v38
  let c0_i32_28 : BitVec 32 := 0#32
  let v40 : BitVec 1 := Scalar.cmpi .ne v39 c0_i32_28
  v40

def k0_off2 (i : grid0.Coords) : Fin 3 → Nat :=
  let c0_29 : Index := 0#32
  let arg2 : BitVec 32 := BitVec.ofNat 32 (i 2).val
  let c1024_i32 : BitVec 32 := 1024#32
  let v33 : BitVec 32 := Scalar.muli arg2 c1024_i32
  let v34 : BitVec 32 := v33
  let v41 : Index := Scalar.indexCast v34
  let c0_30 : Index := 0#32
  ![0, v41.toNat, 0]
def k0_cond1 (i : grid0.Coords) : BitVec 1 :=
  let arg2 : BitVec 32 := BitVec.ofNat 32 (i 2).val
  let c0_i32 : BitVec 32 := 0#32
  let v27 : BitVec 1 := Scalar.cmpi .eq arg2 c0_i32
  let v28 : BitVec 32 := Scalar.extui v27
  let c0_i32_22 : BitVec 32 := 0#32
  let v29 : BitVec 1 := Scalar.cmpi .ne v28 c0_i32_22
  v29

def k0_cond2 (i : grid0.Coords) : BitVec 1 :=
  let arg2 : BitVec 32 := BitVec.ofNat 32 (i 2).val
  let c0_i32_23 : BitVec 32 := 0#32
  let v30 : BitVec 1 := Scalar.cmpi .sgt arg2 c0_i32_23
  let v31 : BitVec 32 := Scalar.extui v30
  let c0_i32_24 : BitVec 32 := 0#32
  let v32 : BitVec 1 := Scalar.cmpi .ne v31 c0_i32_24
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x16384x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x12x96 : Shape := ⟨3, ![16384, 12, 96]⟩
abbrev S16384x12x64 : Shape := ⟨3, ![16384, 12, 64]⟩
abbrev S_ : Shape := ⟨0, ![]⟩
abbrev S12x16384x16384 : Shape := ⟨3, ![12, 16384, 16384]⟩
abbrev S12x16384 : Shape := ⟨2, ![12, 16384]⟩
abbrev S12x16384x1 : Shape := ⟨3, ![12, 16384, 1]⟩
abbrev S12x64x16384 : Shape := ⟨3, ![12, 64, 16384]⟩
abbrev S12x16384x96 : Shape := ⟨3, ![12, 16384, 96]⟩
abbrev S12x16384x64 : Shape := ⟨3, ![12, 16384, 64]⟩

abbrev nBuf : Space → Nat
  | .hbm => 73
  | .vmem => 0
  | .smem => 0
  | _ => 0

abbrev bufTy : (tb : Table) → Fin (tcTables nBuf tb) → BufTy
  | .hbm, ⟨0, _⟩ => ⟨S16384x12x96, .f32⟩
  | .hbm, ⟨1, _⟩ => ⟨S16384x12x96, .f32⟩
  | .hbm, ⟨2, _⟩ => ⟨S16384x12x64, .f32⟩
  | .hbm, ⟨3, _⟩ => ⟨S16384x12x64, .f32⟩
  | .hbm, ⟨4, _⟩ => ⟨S_, .f32⟩
  | .hbm, ⟨5, _⟩ => ⟨S16384x12x96, .f32⟩
  | .hbm, ⟨6, _⟩ => ⟨S16384x12x96, .f32⟩
  | .hbm, ⟨7, _⟩ => ⟨S12x16384x16384, .f32⟩
  | .hbm, ⟨8, _⟩ => ⟨S_, .f32⟩
  | .hbm, ⟨9, _⟩ => ⟨S12x16384, .f32⟩
  | .hbm, ⟨10, _⟩ => ⟨S12x16384x1, .f32⟩
  | .hbm, ⟨11, _⟩ => ⟨S12x16384x16384, .f32⟩
  | .hbm, ⟨12, _⟩ => ⟨S12x16384x16384, .i1⟩
  | .hbm, ⟨13, _⟩ => ⟨S12x16384x16384, .f32⟩
  | .hbm, ⟨14, _⟩ => ⟨S_, .f32⟩
  | .hbm, ⟨15, _⟩ => ⟨S12x16384, .f32⟩
  | .hbm, ⟨16, _⟩ => ⟨S_, .f32⟩
  | .hbm, ⟨17, _⟩ => ⟨S12x16384, .f32⟩
  | .hbm, ⟨18, _⟩ => ⟨S12x16384, .f32⟩
  | .hbm, ⟨19, _⟩ => ⟨S_, .f32⟩
  | .hbm, ⟨20, _⟩ => ⟨S12x16384, .f32⟩
  | .hbm, ⟨21, _⟩ => ⟨S12x16384, .i1⟩
  | .hbm, ⟨22, _⟩ => ⟨S_, .f32⟩
  | .hbm, ⟨23, _⟩ => ⟨S12x16384, .f32⟩
  | .hbm, ⟨24, _⟩ => ⟨S12x16384, .i1⟩
  | .hbm, ⟨25, _⟩ => ⟨S_, .f32⟩
  | .hbm, ⟨26, _⟩ => ⟨S12x16384, .f32⟩
  | .hbm, ⟨27, _⟩ => ⟨S_, .f32⟩
  | .hbm, ⟨28, _⟩ => ⟨S12x16384, .f32⟩
  | .hbm, ⟨29, _⟩ => ⟨S_, .f32⟩
  | .hbm, ⟨30, _⟩ => ⟨S12x16384, .f32⟩
  | .hbm, ⟨31, _⟩ => ⟨S12x16384, .f32⟩
  | .hbm, ⟨32, _⟩ => ⟨S12x16384, .f32⟩
  | .hbm, ⟨33, _⟩ => ⟨S12x16384x1, .f32⟩
  | .hbm, ⟨34, _⟩ => ⟨S12x16384x16384, .f32⟩
  | .hbm, ⟨35, _⟩ => ⟨S12x16384x16384, .f32⟩
  | .hbm, ⟨36, _⟩ => ⟨S12x16384x16384, .f32⟩
  | .hbm, ⟨37, _⟩ => ⟨S_, .f32⟩
  | .hbm, ⟨38, _⟩ => ⟨S12x16384, .f32⟩
  | .hbm, ⟨39, _⟩ => ⟨S12x16384x1, .f32⟩
  | .hbm, ⟨40, _⟩ => ⟨S12x16384x16384, .f32⟩
  | .hbm, ⟨41, _⟩ => ⟨S12x16384x16384, .f32⟩
  | .hbm, ⟨42, _⟩ => ⟨S12x16384x1, .f32⟩
  | .hbm, ⟨43, _⟩ => ⟨S_, .f32⟩
  | .hbm, ⟨44, _⟩ => ⟨S12x16384x1, .f32⟩
  | .hbm, ⟨45, _⟩ => ⟨S12x16384x1, .f32⟩
  | .hbm, ⟨46, _⟩ => ⟨S12x64x16384, .f32⟩
  | .hbm, ⟨47, _⟩ => ⟨S16384x12x64, .f32⟩
  | .hbm, ⟨48, _⟩ => ⟨S12x64x16384, .f32⟩
  | .hbm, ⟨49, _⟩ => ⟨S12x16384x16384, .f32⟩
  | .hbm, ⟨50, _⟩ => ⟨S12x64x16384, .f32⟩
  | .hbm, ⟨51, _⟩ => ⟨S16384x12x64, .f32⟩
  | .hbm, ⟨52, _⟩ => ⟨S12x16384x16384, .f32⟩
  | .hbm, ⟨53, _⟩ => ⟨S12x16384x16384, .f32⟩
  | .hbm, ⟨54, _⟩ => ⟨S12x16384x16384, .f32⟩
  | .hbm, ⟨55, _⟩ => ⟨S_, .f32⟩
  | .hbm, ⟨56, _⟩ => ⟨S12x16384, .f32⟩
  | .hbm, ⟨57, _⟩ => ⟨S12x16384x1, .f32⟩
  | .hbm, ⟨58, _⟩ => ⟨S12x16384x1, .f32⟩
  | .hbm, ⟨59, _⟩ => ⟨S12x16384x16384, .f32⟩
  | .hbm, ⟨60, _⟩ => ⟨S12x16384x16384, .f32⟩
  | .hbm, ⟨61, _⟩ => ⟨S_, .f32⟩
  | .hbm, ⟨62, _⟩ => ⟨S12x16384, .f32⟩
  | .hbm, ⟨63, _⟩ => ⟨S12x16384x16384, .f32⟩
  | .hbm, ⟨64, _⟩ => ⟨S12x16384x16384, .f32⟩
  | .hbm, ⟨65, _⟩ => ⟨S12x16384x16384, .f32⟩
  | .hbm, ⟨66, _⟩ => ⟨S12x16384x96, .f32⟩
  | .hbm, ⟨67, _⟩ => ⟨S16384x12x96, .f32⟩
  | .hbm, ⟨68, _⟩ => ⟨S12x16384x96, .f32⟩
  | .hbm, ⟨69, _⟩ => ⟨S16384x12x96, .f32⟩
  | .hbm, ⟨70, _⟩ => ⟨S12x16384x96, .f32⟩
  | .hbm, ⟨71, _⟩ => ⟨S12x16384x64, .f32⟩
  | .hbm, ⟨72, _⟩ => ⟨S12x16384x96, .f32⟩
  | _, _ => ⟨S16384x12x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Up.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S1024x3072, .bf16⟩
  | .hbm, ⟨3, _⟩ => ⟨S16384x3072, .bf16⟩
  | .hbm, ⟨4, _⟩ => ⟨S16384x3072, .bf16⟩
  | .hbm, ⟨5, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== UpRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S1024x3072, .bf16⟩
  | .hbm, ⟨3, _⟩ => ⟨S16384x1024, .f32⟩
  | .hbm, ⟨4, _⟩ => ⟨S1024x3072, .f32⟩
  | .hbm, ⟨5, _⟩ => ⟨S1024x3072, .f32⟩
  | .hbm, ⟨6, _⟩ => ⟨S16384x3072, .f32⟩
  | .hbm, ⟨7, _⟩ => ⟨S16384x3072, .f32⟩
  | .hbm, ⟨8, _⟩ => ⟨S16384x3072, .bf16⟩
  | .hbm, ⟨9, _⟩ => ⟨S16384x3072, .bf16⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S16384x3072, .f32⟩
  | .hbm, ⟨20, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16384x3072 : Shape := ⟨2, ![16384, 3072]⟩
abbrev S3072x1024 : Shape := ⟨2, ![3072, 1024]⟩
abbrev S16384x1024 : Shape := ⟨2, ![16384, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S16384x1024, .f32⟩
  | .hbm, ⟨3, _⟩ => ⟨S1x1024, .f32⟩
  | .hbm, ⟨4, _⟩ => ⟨S16384x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 32, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S16384x3072 : Shape := ⟨2, ![16384, 3072]⟩
abbrev S3072x1024 : Shape := ⟨2, ![3072, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S16384x1024, .f32⟩
  | .hbm, ⟨3, _⟩ => ⟨S1x1024, .f32⟩
  | .hbm, ⟨4, _⟩ => ⟨S16384x3072, .f32⟩
  | .hbm, ⟨5, _⟩ => ⟨S3072x1024, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Post.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S16384x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_13 : BitVec 32 := 0#32
  let v35 : BitVec 1 := Scalar.cmpi .ne v34 c0_i32_13
  v35

def k0_cond2 (i : grid0.Coords) : BitVec 1 :=
  let arg0 : BitVec 32 := BitVec.ofNat 32 (i 0).val
  let c0_i32_14 : BitVec 32 := 0#32
  let v36 : BitVec 1 := Scalar.cmpi .sgt arg0 c0_i32_14
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Act.lean ====
abbrev S16384x1024 : Shape := ⟨2, ![16384, 1024]⟩
abbrev S3072x1024 : Shape := ⟨2, ![3072, 1024]⟩
abbrev S16384x3072 : Shape := ⟨2, ![16384, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S16384x3072, .bf16⟩
  | .hbm, ⟨3, _⟩ => ⟨S16384x3072, .bf16⟩
  | .hbm, ⟨4, _⟩ => ⟨S16384x3072, .bf16⟩
  | .hbm, ⟨5, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ActRefIdeal.lean ====
abbrev S16384x1024 : Shape := ⟨2, ![16384, 1024]⟩
abbrev S3072x1024 : Shape := ⟨2, ![3072, 1024]⟩
abbrev S16384x3072 : Shape := ⟨2, ![16384, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S16384x3072, .bf16⟩
  | .hbm, ⟨3, _⟩ => ⟨S16384x3072, .bf16⟩
  | .hbm, ⟨4, _⟩ => ⟨S16384x1024, .f32⟩
  | .hbm, ⟨5, _⟩ => ⟨S3072x1024, .f32⟩
  | .hbm, ⟨6, _⟩ => ⟨S16384x3072, .f32⟩
  | .hbm, ⟨7, _⟩ => ⟨S16384x3072, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S16384x1024, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S16384x3072, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S16384x3072, .bf16⟩
  | .hbm, ⟨31, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Wd.lean ====
abbrev S16384x3072 : Shape := ⟨2, ![16384, 3072]⟩
abbrev S16384x1024 : Shape := ⟨2, ![16384, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdRefIdeal.lean ====
abbrev S16384x3072 : Shape := ⟨2, ![16384, 3072]⟩
abbrev S16384x1024 : Shape := ⟨2, ![16384, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x3072, .f32⟩
  | .hbm, ⟨3, _⟩ => ⟨S16384x1024, .f32⟩
  | .hbm, ⟨4, _⟩ => ⟨S_, .f32⟩
  | .hbm, ⟨5, _⟩ => ⟨S3072x1024, .f32⟩
  | .hbm, ⟨6, _⟩ => ⟨S16384x1024, .f32⟩
  | .hbm, ⟨7, _⟩ => ⟨S1024x3072, .f32⟩
  | .hbm, ⟨8, _⟩ => ⟨S3072x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wgu.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S16384x3072, .bf16⟩
  | .hbm, ⟨3, _⟩ => ⟨S1024x3072, .f32⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v19 : BitVec 1 := Scalar.cmpi .eq arg2 c15_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WguRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S16384x3072, .bf16⟩
  | .hbm, ⟨3, _⟩ => ⟨S16384x1024, .f32⟩
  | .hbm, ⟨4, _⟩ => ⟨S16384x3072, .f32⟩
  | .hbm, ⟨5, _⟩ => ⟨S16384x3072, .f32⟩
  | .hbm, ⟨6, _⟩ => ⟨S_, .f32⟩
  | .hbm, ⟨7, _⟩ => ⟨S1024x3072, .f32⟩
  | .hbm, ⟨8, _⟩ => ⟨S16384x3072, .f32⟩
  | .hbm, ⟨9, _⟩ => ⟨S16384x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== In.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x3072, .bf16⟩
  | .hbm, ⟨3, _⟩ => ⟨S1024x3072, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![1, 32, 3], ![false, false, false]⟩

def k0_cond2 (i : grid0.Coords) : BitVec 1 :=
  let arg2 : BitVec 32 := BitVec.ofNat 32 (i 2).val
  let c2_i32 : BitVec 32 := 2#32
  let v19 : BitVec 1 := Scalar.cmpi .eq arg2 c2_i32
  let v20 : BitVec 32 := Scalar.extui v19
  let c0_i32_17 : BitVec 32 := 0#32
  let v21 : BitVec 1 := Scalar.cmpi .ne v20 c0_i32_17
  v21

def k0_cond3 (i : grid0.Coords) : BitVec 1 :=
  let arg1 : BitVec 32 := BitVec.ofNat 32 (i 1).val
  let c0_i32_34 : BitVec 32 := 0#32
  let v53 : BitVec 1 := Scalar.cmpi .eq arg1 c0_i32_34
  let v54 : BitVec 32 := Scalar.extui v53
  let c0_i32_35 : BitVec 32 := 0#32
  let v55 : BitVec 1 := Scalar.cmpi .ne v54 c0_i32_35
  v55

def k0_cond4 (i : grid0.Coords) : BitVec 1 :=
  let arg1 : BitVec 32 := BitVec.ofNat 32 (i 1).val
  let c0_i32_36 : BitVec 32 := 0#32
  let v56 : BitVec 1 := Scalar.cmpi .sgt arg1 c0_i32_36
  let v57 : BitVec 32 := Scalar.extui v56
  let c0_i32_37 : BitVec 32 := 0#32
  let v58 : BitVec 1 := Scalar.cmpi .ne v57 c0_i32_37
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]
-- ==== InRefIdeal.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x3072, .bf16⟩
  | .hbm, ⟨3, _⟩ => ⟨S1024x3072, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x3072, .f32⟩
  | .hbm, ⟨8, _⟩ => ⟨S1024x3072, .f32⟩
  | .hbm, ⟨9, _⟩ => ⟨S16384x3072, .f32⟩
  | .hbm, ⟨10, _⟩ => ⟨S1024x3072, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x3072, .f32⟩
  | .hbm, ⟨31, _⟩ => ⟨S16384x3072, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Sconv.lean ====
abbrev S16384x768 : Shape := ⟨2, ![16384, 768]⟩
abbrev S3x768 : Shape := ⟨2, ![3, 768]⟩
abbrev S8x768 : Shape := ⟨2, ![8, 768]⟩
abbrev S16x768 : Shape := ⟨2, ![16, 768]⟩
abbrev S256x768 : Shape := ⟨2, ![256, 768]⟩
abbrev S288x768 : Shape := ⟨2, ![288, 768]⟩
abbrev S288x1 : Shape := ⟨2, ![288, 1]⟩
abbrev S1x768 : Shape := ⟨2, ![1, 768]⟩
abbrev S768 : Shape := ⟨1, ![768]⟩

abbrev nBuf : Space → Nat
  | .hbm => 9
  | .vmem => 34
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x768, .bf16⟩
  | .hbm, ⟨3, _⟩ => ⟨S16384x768, .bf16⟩
  | .hbm, ⟨4, _⟩ => ⟨S3x768, .f32⟩
  | .hbm, ⟨5, _⟩ => ⟨S16384x768, .bf16⟩
  | .hbm, ⟨6, _⟩ => ⟨S16384x768, .bf16⟩
  | .hbm, ⟨7, _⟩ => ⟨S16384x768, .bf16⟩
  | .hbm, ⟨8, _⟩ => ⟨S8x768, .f32⟩
  | .local _ .vmem, ⟨0, _⟩ => ⟨S16x768, .bf16⟩
  | .local _ .vmem, ⟨1, _⟩ => ⟨S16x768, .bf16⟩
  | .local _ .vmem, ⟨2, _⟩ => ⟨S256x768, .bf16⟩
  | .local _ .vmem, ⟨3, _⟩ => ⟨S256x768, .bf16⟩
  | .local _ .vmem, ⟨4, _⟩ => ⟨S16x768, .bf16⟩
  | .local _ .vmem, ⟨5, _⟩ => ⟨S16x768, .bf16⟩
  | .local _ .vmem, ⟨6, _⟩ => ⟨S16x768, .bf16⟩
  | .local _ .vmem, ⟨7, _⟩ => ⟨S16x768, .bf16⟩
  | .local _ .vmem, ⟨8, _⟩ => ⟨S256x768, .bf16⟩
  | .local _ .vmem, ⟨9, _⟩ => ⟨S256x768, .bf16⟩
  | .local _ .vmem, ⟨10, _⟩ => ⟨S16x768, .bf16⟩
  | .local _ .vmem, ⟨11, _⟩ => ⟨S16x768, .bf16⟩
  | .local _ .vmem, ⟨12, _⟩ => ⟨S16x768, .bf16⟩
  | .local _ .vmem, ⟨13, _⟩ => ⟨S16x768, .bf16⟩
  | .local _ .vmem, ⟨14, _⟩ => ⟨S256x768, .bf16⟩
  | .local _ .vmem, ⟨15, _⟩ => ⟨S256x768, .bf16⟩
  | .local _ .vmem, ⟨16, _⟩ => ⟨S16x768, .bf16⟩
  | .local _ .vmem, ⟨17, _⟩ => ⟨S16x768, .bf16⟩
  | .local _ .vmem, ⟨18, _⟩ => ⟨S16x768, .bf16⟩
  | .local _ .vmem, ⟨19, _⟩ => ⟨S16x768, .bf16⟩
  | .local _ .vmem, ⟨20, _⟩ => ⟨S256x768, .bf16⟩
  | .local _ .vmem, ⟨21, _⟩ => ⟨S256x768, .bf16⟩
  | .local _ .vmem, ⟨22, _⟩ => ⟨S16x768, .bf16⟩
  | .local _ .vmem, ⟨23, _⟩ => ⟨S16x768, .bf16⟩
  | .local _ .vmem, ⟨24, _⟩ => ⟨S3x768, .f32⟩
  | .local _ .vmem, ⟨25, _⟩ => ⟨S256x768, .bf16⟩
  | .local _ .vmem, ⟨26, _⟩ => ⟨S256x768, .bf16⟩
  | .local _ .vmem, ⟨27, _⟩ => ⟨S256x768, .bf16⟩
  | .local _ .vmem, ⟨28, _⟩ => ⟨S256x768, .bf16⟩
  | .local _ .vmem, ⟨29, _⟩ => ⟨S256x768, .bf16⟩
  | .local _ .vmem, ⟨30, _⟩ => ⟨S256x768, .bf16⟩
  | .local _ .vmem, ⟨31, _⟩ => ⟨S8x768, .f32⟩
  | .local _ .vmem, ⟨32, _⟩ => ⟨S288x768, .f32⟩
  | .local _ .vmem, ⟨33, _⟩ => ⟨S288x768, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SconvRefIdeal.lean ====
abbrev S16384x768 : Shape := ⟨2, ![16384, 768]⟩
abbrev S3x768 : Shape := ⟨2, ![3, 768]⟩
abbrev S_ : Shape := ⟨0, ![]⟩
abbrev S1x768 : Shape := ⟨2, ![1, 768]⟩
abbrev S16386x768 : Shape := ⟨2, ![16386, 768]⟩
abbrev S768 : Shape := ⟨1, ![768]⟩
abbrev S5x768 : Shape := ⟨2, ![5, 768]⟩
abbrev S8x768 : Shape := ⟨2, ![8, 768]⟩

abbrev nBuf : Space → Nat
  | .hbm => 97
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x768, .bf16⟩
  | .hbm, ⟨3, _⟩ => ⟨S16384x768, .bf16⟩
  | .hbm, ⟨4, _⟩ => ⟨S3x768, .f32⟩
  | .hbm, ⟨5, _⟩ => ⟨S16384x768, .f32⟩
  | .hbm, ⟨6, _⟩ => ⟨S16384x768, .f32⟩
  | .hbm, ⟨7, _⟩ => ⟨S16384x768, .f32⟩
  | .hbm, ⟨8, _⟩ => ⟨S16384x768, .f32⟩
  | .hbm, ⟨9, _⟩ => ⟨S16384x768, .f32⟩
  | .hbm, ⟨10, _⟩ => ⟨S_, .f32⟩
  | .hbm, ⟨11, _⟩ => ⟨S1x768, .f32⟩
  | .hbm, ⟨12, _⟩ => ⟨S16386x768, .f32⟩
  | .hbm, ⟨13, _⟩ => ⟨S_, .f32⟩
  | .hbm, ⟨14, _⟩ => ⟨S1x768, .f32⟩
  | .hbm, ⟨15, _⟩ => ⟨S_, .f32⟩
  | .hbm, ⟨16, _⟩ => ⟨S1x768, .f32⟩
  | .hbm, ⟨17, _⟩ => ⟨S16384x768, .f32⟩
  | .hbm, ⟨18, _⟩ => ⟨S1x768, .f32⟩
  | .hbm, ⟨19, _⟩ => ⟨S768, .f32⟩
  | .hbm, ⟨20, _⟩ => ⟨S1x768, .f32⟩
  | .hbm, ⟨21, _⟩ => ⟨S16384x768, .f32⟩
  | .hbm, ⟨22, _⟩ => ⟨S16384x768, .f32⟩
  | .hbm, ⟨23, _⟩ => ⟨S_, .f32⟩
  | .hbm, ⟨24, _⟩ => ⟨S16384x768, .f32⟩
  | .hbm, ⟨25, _⟩ => ⟨S16384x768, .f32⟩
  | .hbm, ⟨26, _⟩ => ⟨S16384x768, .f32⟩
  | .hbm, ⟨27, _⟩ => ⟨S1x768, .f32⟩
  | .hbm, ⟨28, _⟩ => ⟨S768, .f32⟩
  | .hbm, ⟨29, _⟩ => ⟨S1x768, .f32⟩
  | .hbm, ⟨30, _⟩ => ⟨S16384x768, .f32⟩
  | .hbm, ⟨31, _⟩ => ⟨S16384x768, .f32⟩
  | .hbm, ⟨32, _⟩ => ⟨S16384x768, .f32⟩
  | .hbm, ⟨33, _⟩ => ⟨S16384x768, .f32⟩
  | .hbm, ⟨34, _⟩ => ⟨S1x768, .f32⟩
  | .hbm, ⟨35, _⟩ => ⟨S768, .f32⟩
  | .hbm, ⟨36, _⟩ => ⟨S1x768, .f32⟩
  | .hbm, ⟨37, _⟩ => ⟨S16384x768, .f32⟩
  | .hbm, ⟨38, _⟩ => ⟨S16384x768, .f32⟩
  | .hbm, ⟨39, _⟩ => ⟨S16384x768, .f32⟩
  | .hbm, ⟨40, _⟩ => ⟨S16384x768, .f32⟩
  | .hbm, ⟨41, _⟩ => ⟨S16384x768, .f32⟩
  | .hbm, ⟨42, _⟩ => ⟨S16384x768, .f32⟩
  | .hbm, ⟨43, _⟩ => ⟨S16384x768, .f32⟩
  | .hbm, ⟨44, _⟩ => ⟨S_, .f32⟩
  | .hbm, ⟨45, _⟩ => ⟨S768, .f32⟩
  | .hbm, ⟨46, _⟩ => ⟨S1x768, .f32⟩
  | .hbm, ⟨47, _⟩ => ⟨S16384x768, .f32⟩
  | .hbm, ⟨48, _⟩ => ⟨S16384x768, .f32⟩
  | .hbm, ⟨49, _⟩ => ⟨S_, .f32⟩
  | .hbm, ⟨50, _⟩ => ⟨S768, .f32⟩
  | .hbm, ⟨51, _⟩ => ⟨S1x768, .f32⟩
  | .hbm, ⟨52, _⟩ => ⟨S_, .f32⟩
  | .hbm, ⟨53, _⟩ => ⟨S3x768, .f32⟩
  | .hbm, ⟨54, _⟩ => ⟨S_, .f32⟩
  | .hbm, ⟨55, _⟩ => ⟨S16386x768, .f32⟩
  | .hbm, ⟨56, _⟩ => ⟨S16384x768, .f32⟩
  | .hbm, ⟨57, _⟩ => ⟨S_, .f32⟩
  | .hbm, ⟨58, _⟩ => ⟨S768, .f32⟩
  | .hbm, ⟨59, _⟩ => ⟨S1x768, .f32⟩
  | .hbm, ⟨60, _⟩ => ⟨S16384x768, .f32⟩
  | .hbm, ⟨61, _⟩ => ⟨S16384x768, .f32⟩
  | .hbm, ⟨62, _⟩ => ⟨S_, .f32⟩
  | .hbm, ⟨63, _⟩ => ⟨S768, .f32⟩
  | .hbm, ⟨64, _⟩ => ⟨S1x768, .f32⟩
  | .hbm, ⟨65, _⟩ => ⟨S_, .f32⟩
  | .hbm, ⟨66, _⟩ => ⟨S3x768, .f32⟩
  | .hbm, ⟨67, _⟩ => ⟨S3x768, .f32⟩
  | .hbm, ⟨68, _⟩ => ⟨S_, .f32⟩
  | .hbm, ⟨69, _⟩ => ⟨S16386x768, .f32⟩
  | .hbm, ⟨70, _⟩ => ⟨S16386x768, .f32⟩
  | .hbm, ⟨71, _⟩ => ⟨S16384x768, .f32⟩
  | .hbm, ⟨72, _⟩ => ⟨S_, .f32⟩
  | .hbm, ⟨73, _⟩ => ⟨S768, .f32⟩
  | .hbm, ⟨74, _⟩ => ⟨S1x768, .f32⟩
  | .hbm, ⟨75, _⟩ => ⟨S16384x768, .f32⟩
  | .hbm, ⟨76, _⟩ => ⟨S16384x768, .f32⟩
  | .hbm, ⟨77, _⟩ => ⟨S_, .f32⟩
  | .hbm, ⟨78, _⟩ => ⟨S768, .f32⟩
  | .hbm, ⟨79, _⟩ => ⟨S1x768, .f32⟩
  | .hbm, ⟨80, _⟩ => ⟨S_, .f32⟩
  | .hbm, ⟨81, _⟩ => ⟨S3x768, .f32⟩
  | .hbm, ⟨82, _⟩ => ⟨S3x768, .f32⟩
  | .hbm, ⟨83, _⟩ => ⟨S_, .f32⟩
  | .hbm, ⟨84, _⟩ => ⟨S16386x768, .f32⟩
  | .hbm, ⟨85, _⟩ => ⟨S16386x768, .f32⟩
  | .hbm, ⟨86, _⟩ => ⟨S1x768, .f32⟩
  | .hbm, ⟨87, _⟩ => ⟨S16384x768, .f32⟩
  | .hbm, ⟨88, _⟩ => ⟨S1x768, .f32⟩
  | .hbm, ⟨89, _⟩ => ⟨S16384x768, .f32⟩
  | .hbm, ⟨90, _⟩ => ⟨S16384x768, .f32⟩
  | .hbm, ⟨91, _⟩ => ⟨S_, .f32⟩
  | .hbm, ⟨92, _⟩ => ⟨S5x768, .f32⟩
  | .hbm, ⟨93, _⟩ => ⟨S16384x768, .bf16⟩
  | .hbm, ⟨94, _⟩ => ⟨S16384x768, .bf16⟩
  | .hbm, ⟨95, _⟩ => ⟨S16384x768, .bf16⟩
  | .hbm, ⟨96, _⟩ => ⟨S8x768, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Zin.lean ====
abbrev S16384x1024 : Shape := ⟨2, ![16384, 1024]⟩
abbrev S1024x4864 : Shape := ⟨2, ![1024, 4864]⟩
abbrev S16384x4864 : Shape := ⟨2, ![16384, 4864]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZinRefIdeal.lean ====
abbrev S16384x1024 : Shape := ⟨2, ![16384, 1024]⟩
abbrev S1024x4864 : Shape := ⟨2, ![1024, 4864]⟩
abbrev S16384x4864 : Shape := ⟨2, ![16384, 4864]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x1024, .f32⟩
  | .hbm, ⟨3, _⟩ => ⟨S1024x4864, .f32⟩
  | .hbm, ⟨4, _⟩ => ⟨S16384x4864, .f32⟩
  | .hbm, ⟨5, _⟩ => ⟨S16384x4864, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Bout.lean ====
abbrev S16384x1024 : Shape := ⟨2, ![16384, 1024]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BoutRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwin.lean ====
abbrev S16384x1024 : Shape := ⟨2, ![16384, 1024]⟩
abbrev S16384x4864 : Shape := ⟨2, ![16384, 4864]⟩
abbrev S1024x4864 : Shape := ⟨2, ![1024, 4864]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4864, .bf16⟩
  | .hbm, ⟨2, _⟩ => ⟨S1024x4864, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S16384x1024 : Shape := ⟨2, ![16384, 1024]⟩
abbrev S16384x4864 : Shape := ⟨2, ![16384, 4864]⟩
abbrev S_ : Shape := ⟨0, ![]⟩
abbrev S1024x4864 : Shape := ⟨2, ![1024, 4864]⟩
abbrev S4864x1024 : Shape := ⟨2, ![4864, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4864, .bf16⟩
  | .hbm, ⟨2, _⟩ => ⟨S16384x1024, .f32⟩
  | .hbm, ⟨3, _⟩ => ⟨S16384x4864, .f32⟩
  | .hbm, ⟨4, _⟩ => ⟨S_, .f32⟩
  | .hbm, ⟨5, _⟩ => ⟨S1024x4864, .f32⟩
  | .hbm, ⟨6, _⟩ => ⟨S16384x4864, .f32⟩
  | .hbm, ⟨7, _⟩ => ⟨S4864x1024, .f32⟩
  | .hbm, ⟨8, _⟩ => ⟨S1024x4864, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Fwd.lean ====
abbrev S16384x12x96 : Shape := ⟨3, ![16384, 12, 96]⟩
abbrev S16384x12x64 : Shape := ⟨3, ![16384, 12, 64]⟩
abbrev S_ : Shape := ⟨0, ![]⟩
abbrev S12x16384x96 : Shape := ⟨3, ![12, 16384, 96]⟩
abbrev S12x16384x64 : Shape := ⟨3, ![12, 16384, 64]⟩
abbrev S12x16384x1 : Shape := ⟨3, ![12, 16384, 1]⟩
abbrev S12x16384x63 : Shape := ⟨3, ![12, 16384, 63]⟩
abbrev S12x16384x128 : Shape := ⟨3, ![12, 16384, 128]⟩
abbrev S1x1024x96 : Shape := ⟨3, ![1, 1024, 96]⟩
abbrev S1x2048x96 : Shape := ⟨3, ![1, 2048, 96]⟩
abbrev S1x2048x128 : Shape := ⟨3, ![1, 2048, 128]⟩
abbrev S1x1024x64 : Shape := ⟨3, ![1, 1024, 64]⟩
abbrev S1x1024x1 : Shape := ⟨3, ![1, 1024, 1]⟩
abbrev S1024x1 : Shape := ⟨2, ![1024, 1]⟩
abbrev S1024x128 : Shape := ⟨2, ![1024, 128]⟩
abbrev S1024x96 : Shape := ⟨2, ![1024, 96]⟩
abbrev S2048x96 : Shape := ⟨2, ![2048, 96]⟩
abbrev S1024x2048 : Shape := ⟨2, ![1024, 2048]⟩
abbrev S1024 : Shape := ⟨1, ![1024]⟩
abbrev S2048x128 : Shape := ⟨2, ![2048, 128]⟩
abbrev S1024x64 : Shape := ⟨2, ![1024, 64]⟩

abbrev nBuf : Space → Nat
  | .hbm => 23
  | .vmem => 12
  | .smem => 0
  | _ => 0

abbrev bufTy : (tb : Table) → Fin (tcTables nBuf tb) → BufTy
  | .hbm, ⟨0, _⟩ => ⟨S16384x12x96, .f32⟩
  | .hbm, ⟨1, _⟩ => ⟨S16384x12x96, .f32⟩
  | .hbm, ⟨2, _⟩ => ⟨S16384x12x64, .f32⟩
  | .hbm, ⟨3, _⟩ => ⟨S_, .f32⟩
  | .hbm, ⟨4, _⟩ => ⟨S16384x12x96, .f32⟩
  | .hbm, ⟨5, _⟩ => ⟨S16384x12x96, .f32⟩
  | .hbm, ⟨6, _⟩ => ⟨S_, .f32⟩
  | .hbm, ⟨7, _⟩ => ⟨S_, .f32⟩
  | .hbm, ⟨8, _⟩ => ⟨S16384x12x96, .f32⟩
  | .hbm, ⟨9, _⟩ => ⟨S16384x12x96, .f32⟩
  | .hbm, ⟨10, _⟩ => ⟨S16384x12x96, .bf16⟩
  | .hbm, ⟨11, _⟩ => ⟨S12x16384x96, .bf16⟩
  | .hbm, ⟨12, _⟩ => ⟨S16384x12x96, .bf16⟩
  | .hbm, ⟨13, _⟩ => ⟨S12x16384x96, .bf16⟩
  | .hbm, ⟨14, _⟩ => ⟨S16384x12x64, .bf16⟩
  | .hbm, ⟨15, _⟩ => ⟨S12x16384x64, .bf16⟩
  | .hbm, ⟨16, _⟩ => ⟨S_, .bf16⟩
  | .hbm, ⟨17, _⟩ => ⟨S12x16384x1, .bf16⟩
  | .hbm, ⟨18, _⟩ => ⟨S_, .bf16⟩
  | .hbm, ⟨19, _⟩ => ⟨S12x16384x63, .bf16⟩
  | .hbm, ⟨20, _⟩ => ⟨S12x16384x128, .bf16⟩
  | .hbm, ⟨21, _⟩ => ⟨S12x16384x64, .bf16⟩
  | .hbm, ⟨22, _⟩ => ⟨S12x16384x1, .f32⟩
  | .local _ .vmem, ⟨0, _⟩ => ⟨S1x1024x96, .bf16⟩
  | .local _ .vmem, ⟨1, _⟩ => ⟨S1x1024x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x128, .f32⟩
  | _, _ => ⟨S16384x12x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![12, 16, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdIdeal.lean ====
variable {F : FTy → Type} [FloatOps F] [Named F]
def κ : String → Option EReal := fun
  | "log2e" => some (((Real.log 2)⁻¹ : ℝ) : EReal)
  | _ => none
-- ==== FwdRefIdeal.lean ====
abbrev S16384x12x96 : Shape := ⟨3, ![16384, 12, 96]⟩
abbrev S16384x12x64 : Shape := ⟨3, ![16384, 12, 64]⟩
abbrev S_ : Shape := ⟨0, ![]⟩
abbrev S12x16384x16384 : Shape := ⟨3, ![12, 16384, 16384]⟩
abbrev S12x16384 : Shape := ⟨2, ![12, 16384]⟩
abbrev S12x16384x1 : Shape := ⟨3, ![12, 16384, 1]⟩
abbrev S12x64x16384 : Shape := ⟨3, ![12, 64, 16384]⟩
abbrev S12x16384x64 : Shape := ⟨3, ![12, 16384, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384x12x96, .f32⟩
  | .hbm, ⟨1, _⟩ => ⟨S16384x12x96, .f32⟩
  | .hbm, ⟨2, _⟩ => ⟨S16384x12x64, .f32⟩
  | .hbm, ⟨3, _⟩ => ⟨S_, .f32⟩
  | .hbm, ⟨4, _⟩ => ⟨S16384x12x96, .f32⟩
  | .hbm, ⟨5, _⟩ => ⟨S16384x12x96, .f32⟩
  | .hbm, ⟨6, _⟩ => ⟨S12x16384x16384, .f32⟩
  | .hbm, ⟨7, _⟩ => ⟨S_, .f32⟩
  | .hbm, ⟨8, _⟩ => ⟨S12x16384, .f32⟩
  | .hbm, ⟨9, _⟩ => ⟨S_, .f32⟩
  | .hbm, ⟨10, _⟩ => ⟨S12x16384, .f32⟩
  | .hbm, ⟨11, _⟩ => ⟨S12x16384, .f32⟩
  | .hbm, ⟨12, _⟩ => ⟨S12x16384x1, .f32⟩
  | .hbm, ⟨13, _⟩ => ⟨S12x16384x16384, .f32⟩
  | .hbm, ⟨14, _⟩ => ⟨S12x16384x16384, .f32⟩
  | .hbm, ⟨15, _⟩ => ⟨S12x16384x16384, .f32⟩
  | .hbm, ⟨16, _⟩ => ⟨S_, .f32⟩
  | .hbm, ⟨17, _⟩ => ⟨S12x16384, .f32⟩
  | .hbm, ⟨18, _⟩ => ⟨S12x16384x1, .f32⟩
  | .hbm, ⟨19, _⟩ => ⟨S12x16384x16384, .f32⟩
  | .hbm, ⟨20, _⟩ => ⟨S12x16384x16384, .f32⟩
  | .hbm, ⟨21, _⟩ => ⟨S12x64x16384, .f32⟩
  | .hbm, ⟨22, _⟩ => ⟨S16384x12x64, .f32⟩
  | .hbm, ⟨23, _⟩ => ⟨S12x16384x16384, .f32⟩
  | .hbm, ⟨24, _⟩ => ⟨S_, .f32⟩
  | .hbm, ⟨25, _⟩ => ⟨S12x16384, .f32⟩
  | .hbm, ⟨26, _⟩ => ⟨S12x16384x1, .f32⟩
  | .hbm, ⟨27, _⟩ => ⟨S12x16384x1, .f32⟩
  | .hbm, ⟨28, _⟩ => ⟨S_, .f32⟩
  | .hbm, ⟨29, _⟩ => ⟨S_, .f32⟩
  | .hbm, ⟨30, _⟩ => ⟨S12x16384x1, .f32⟩
  | .hbm, ⟨31, _⟩ => ⟨S12x16384x1, .f32⟩
  | .hbm, ⟨32, _⟩ => ⟨S12x16384x64, .f32⟩
  | .hbm, ⟨33, _⟩ => ⟨S12x16384x64, .bf16⟩
  | _, _ => ⟨S16384x12x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.KRun.lean ====
module

public import proofs.«01_k».proof.Proof.Gen.Kernel.Frame
public import proofs.«01_k».proof.Proof.KPoint
public import Idealize.ShloMosaic.Lib.Pipeline.Frame
public import Idealize.ShloMosaic.Lib.Pipeline.Value
public import Idealize.ShloMosaic.Lib.Tactic
public import Idealize.ShloMosaic.Lib.WordCmp
public import Idealize.ShloMosaic.Lib.VecWindow
public import Idealize.ShloMosaic.Lib.ValueIdx
public import Idealize.ShloMosaic.Lib.Pipeline.DatRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)
open Idealize.ShloMosaic.ValueIdx
open Cert.Kernel.Gen (iblk)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid point and the four branches -/

theorem hcond1 : ∀ t : Fin cfg0.N, k0_cond1 (grid0.coords t) = 1#1 ↔ t.val % 16 = 0 := fun t => by
  have ht : t.val < 3072 := Nat.lt_of_lt_of_eq t.isLt N_0
  have e0 : (grid0.coords t 0).val = t.val / 256 % 12 := Pipeline.Grid.coords_val t 0 (by decide) rfl
  have e1 : (grid0.coords t 1).val = t.val / 16 % 16 := Pipeline.Grid.coords_val t 1 (by decide) rfl
  have e2 : (grid0.coords t 2).val = t.val / 1 % 16 := Pipeline.Grid.coords_val t 2 (by decide) rfl
  simp only [k0_cond1, e0, e1, e2]
  word_cmp

theorem hcond2 : ∀ t : Fin cfg0.N, k0_cond2 (grid0.coords t) = 1#1 ↔ 1 ≤ t.val % 16 :=
  (by decide +kernel : ∀ t : Fin grid0.N, k0_cond2 (grid0.coords t) = 1#1 ↔ 1 ≤ t.val % 16)

theorem hcond3 : ∀ t : Fin cfg0.N, k0_cond3 (grid0.coords t) = 1#1 ↔ t.val / 16 % 16 = 0 := fun t => by
  have ht : t.val < 3072 := Nat.lt_of_lt_of_eq t.isLt N_0
  have e0 : (grid0.coords t 0).val = t.val / 256 % 12 := Pipeline.Grid.coords_val t 0 (by decide) rfl
  have e1 : (grid0.coords t 1).val = t.val / 16 % 16 := Pipeline.Grid.coords_val t 1 (by decide) rfl
  have e2 : (grid0.coords t 2).val = t.val / 1 % 16 := Pipeline.Grid.coords_val t 2 (by decide) rfl
  simp only [k0_cond3, e0, e1, e2]
  word_cmp

theorem hcond4 : ∀ t : Fin cfg0.N, k0_cond4 (grid0.coords t) = 1#1 ↔ 1 ≤ t.val / 16 % 16 :=
  (by decide +kernel : ∀ t : Fin grid0.N, k0_cond4 (grid0.coords t) = 1#1 ↔ 1 ≤ t.val / 16 % 16)

theorem coord2 (t : Fin cfg0.N) : (grid0.coords t 2).val = t.val % 16 := by
  rw [show (grid0.coords t 2).val = t.val / 1 % 16 from Pipeline.Grid.coords_val t 2 (by decide) rfl, Nat.div_one]

theorem off1 (t : Fin cfg0.N) : k0_off1 (grid0.coords t) = ![0, 1024 * (t.val % 16), 0] := by rw [k0_off1_eq, coord2]
theorem off2 (t : Fin cfg0.N) : k0_off2 (grid0.coords t) = ![0, 1024 * (t.val % 16), 0] := by rw [k0_off2_eq, coord2]

theorem rows_in (n : ℕ) (hn : n < 16) : ∀ a, (![0, 1024 * n, 0] : Fin 3 → ℕ) a + S1x1024x96.size a ≤ S1x16384x96.size a := by
  intro a
  fin_cases a
  · show 0 + 1 ≤ 1; omega
  · show 1024 * n + 1024 ≤ 16384; omega
  · show 0 + 96 ≤ 96; omega

/-! ## The proof data: the inputs exact, the outputs free -/

/-- The three output windows. -/
def outs : Fin cfg0.W → Bool := fun w => w.val == 6 || w.val == 7 || w.val == 8

/-- Nothing is asked of what the body leaves in an output block. -/
def Rl (c : Dev nD) (w : Fin cfg0.W) (t : Fin cfg0.N) (X : (cfg0.win w).block.Idx → Elt F (cfg0.win w).elt) : Prop := True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## What the body finds in the outputs, and what it must leave -/

/-- The relational data. -/
abbrev rdats (c : Dev nD) : RDat τ (Elt F) Unit ℕ (UR sig nD τ) ℕ cfg0 c := (dats m 0 c).toRRel outs (Rl c)

/-! ## The body obligation -/

theorem body_obligation (c : Dev nD) : Pipeline.BodyObligationRel (dats m 0 c) (defs₀ (F := F)) Variants.none () Set.univ outs (Rl c) := fun t => by
  rw [bigSep_W0, bigSep_W0, show defs₀ (F := F) .tc cfg0.body (cfg0.bodyArgs t (cfg0.slots t)) = bodyAt0 t from by unfold defs₀; rw [Defs.onTc_tc]]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y) ∗ (∃ Y, ⌜(rdats m c).Finds 8 t Y⌝ ∗ owns (c : Thread nD τ) (st0_8 t) fullShare Y))
    ⊢ wp frame (wpE (defs₀ (F := F)) Variants.none c none) Set.univ (bodyAt0 t) (fun _ =>
      iprop((dats m 0 c).Φ t.castSucc ∗ (dats m 0 c).owesAt () t.castSucc
        ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X)))
  simp only [before0, before1, before2, before3, before4, before5, after0, after1, after2, after3, after4, after5]
  have hN : t.val < 3072 := lt_of_lt_of_eq t.isLt (show cfg0.N = 3072 from N_0)
  have hlt : t.val % 16 < 16 := Nat.mod_lt _ (by decide)
  -- given any triple of the body at this point whose three leavings meet their predicates, the obligation follows
  suffices key : ∀ Y6 Y7 Y8, ∃ o6 o7 o8,
      Does c (grid0.coords t) _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5))
        _ (hstage0_6 ((cfg0.slots t 6).cast nbuf0_6)) _ (hstage0_7 ((cfg0.slots t 7).cast nbuf0_7)) _ (hstage0_8 ((cfg0.slots t 8).cast nbuf0_8))
        (iblk m c 0 t) (iblk m c 1 t) (iblk m c 2 t) (iblk m c 3 t) (iblk m c 4 t) (iblk m c 5 t) Y6 Y7 Y8 o6 o7 o8 by
    iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
    obtain ⟨o6, o7, o8, hd⟩ := key Y6 Y7 Y8
    iapply (hd Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; · ipureintro; exact trivial
      iexact H6
    isplitl [H7]
    · iexists _; isplitr; · ipureintro; exact trivial
      iexact H7
    iexists _; isplitr; · ipureintro; exact trivial
    iexact H8
  by_cases h0 : t.val % 16 = 0 <;> by_cases h2 : t.val / 16 % 16 = 0
  · exact fun Y6 Y7 Y8 => ⟨_, _, _, does_A c _ _ _ _ _ _ _ _ _ _ _ _ _ _ _ _ _ _ _ ((hcond1 t).mpr h0) (fun h => by have := (hcond2 t).mp h; omega) ((hcond3 t).mpr h2) (fun h => by have := (hcond4 t).mp h; omega) _ (off1 t) _ _ _ _ _ _ _ _ _⟩
  · exact fun Y6 Y7 Y8 => ⟨_, _, _, does_C c _ _ _ _ _ _ _ _ _ _ _ _ _ _ _ _ _ _ _ ((hcond1 t).mpr h0) (fun h => by have := (hcond2 t).mp h; omega) (fun h => h2 ((hcond3 t).mp h)) ((hcond4 t).mpr (by omega)) _ (off2 t) (rows_in _ hlt) _ _ _ _ _ _ _ _ _⟩
  · exact fun Y6 Y7 Y8 => ⟨_, _, _, does_B c _ _ _ _ _ _ _ _ _ _ _ _ _ _ _ _ _ _ _ (fun h => h0 ((hcond1 t).mp h)) ((hcond2 t).mpr (by omega)) ((hcond3 t).mpr h2) (fun h => by have := (hcond4 t).mp h; omega) _ (off1 t) _ _ _ _ _ _ _ _ _⟩
  · exact fun Y6 Y7 Y8 => ⟨_, _, _, does_D c _ _ _ _ _ _ _ _ _ _ _ _ _ _ _ _ _ _ _ (fun h => h0 ((hcond1 t).mp h)) ((hcond2 t).mpr (by omega)) (fun h => h2 ((hcond3 t).mp h)) ((hcond4 t).mpr (by omega)) _ (off2 t) (rows_in _ hlt) _ _ _ _ _ _ _ _ _⟩

/-! ## The run and the frame -/

set_option backward.isDefEq.respectTransparency.types false in
/-- The program runs, each output array ends as the writes of blocks that meet `Rl`, and every semaphore is back at zero. -/
theorem run_main : θ_run defs (onTc (τ := τ) (main (F := F))) (s₀ m ρ) (fun r => RDat.FramePost (cfgs 0) (rdats m) (V m) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end as they began. -/
theorem kept {r : PUnit × MemSt nD τ sig (Elt F)} (h : RDat.FramePost (cfgs 0) (rdats m) (V m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m ρ)

end Cert.Kernel.Hand

end
-- ==== Proof.Point.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

variable {κ : Kind} {sp : Space}

/-- A load of a whole block reads the block. -/
theorem load_96 {e : EltTy} (v : View sig κ sp S1x1024x96 e) (f : v.ty.Contents (Elt F)) :
    v.readAt (Elt F) (Rect.unit ![0, 0, 0] ![1, 1024, 96] inb_S1x1024x96_S1x1024x96_0_0_0).toLoadRect f = v.read (Elt F) f :=
  View.readAt_full v f _

@[inherit_doc load_96]
theorem load_64 {e : EltTy} (v : View sig κ sp S1x1024x64 e) (f : v.ty.Contents (Elt F)) :
    v.readAt (Elt F) (Rect.unit ![0, 0, 0] ![1, 1024, 64] inb_S1x1024x64_S1x1024x64_0_0_0).toLoadRect f = v.read (Elt F) f :=
  View.readAt_full v f _

@[inherit_doc load_96]
theorem load_row {e : EltTy} (v : View sig κ sp S1x1x1024 e) (f : v.ty.Contents (Elt F)) :
    v.readAt (Elt F) (Rect.unit ![0, 0, 0] ![1, 1, 1024] inb_S1x1x1024_S1x1x1024_0_0_0).toLoadRect f = v.read (Elt F) f :=
  View.readAt_full v f _

/-- A load of a block of rows reads that window. -/
theorem load_rows {e : EltTy} (v : View sig κ sp S1x16384x96 e) (f : v.ty.Contents (Elt F)) {off off' : Fin 3 → ℕ}
    (inb : ∀ a, off a + S1x1024x96.size a ≤ S1x16384x96.size a) (h : off = off') (hin : ∀ a, off' a + S1x1024x96.size a ≤ S1x16384x96.size a) :
    v.readAt (Elt F) (Rect.unit (s := S1x16384x96) off S1x1024x96.size inb).toLoadRect f
      = VecWindow.window (s := S1x16384x96) (v.read (Elt F) f) off' S1x1024x96.size hin :=
  View.readAt_unit v f inb h hin

/-- A store of a whole block leaves what was stored. -/
theorem store_96 {e : EltTy} (v : View sig κ sp S1x1024x96 e) (f : v.ty.Contents (Elt F)) (w : S1x1024x96.Idx → Elt F e) :
    v.read (Elt F) (v.writes (Elt F) f [⟨Rect.unit ![0, 0, 0] ![1, 1024, 96] inb_S1x1024x96_S1x1024x96_0_0_0, w⟩]) = w :=
  View.read_writes_full v f _ w []

@[inherit_doc store_96]
theorem store_64 {e : EltTy} (v : View sig κ sp S1x1024x64 e) (f : v.ty.Contents (Elt F)) (w : S1x1024x64.Idx → Elt F e) :
    v.read (Elt F) (v.writes (Elt F) f [⟨Rect.unit ![0, 0, 0] ![1, 1024, 64] inb_S1x1024x64_S1x1024x64_0_0_0, w⟩]) = w :=
  View.read_writes_full v f _ w []

/-- What one grid point does: given the nine staging buffers at the contents `x0` … `x8`, the body runs to its end and leaves the
    six inputs as they were and the three outputs at `o6`, `o7`, `o8`. -/
def Does (c : Dev nD) (i : grid0.Coords) (arg3 : Memref sig .tc .vmem S1x1024x96 .bf16) (harg3 : arg3.IsWhole) (arg4 : Memref sig .tc .vmem S1x1024x64 .bf16) (harg4 : arg4.IsWhole) (arg5 : Memref sig .tc .vmem S1x1024x96 .bf16) (harg5 : arg5.IsWhole) (arg6 : Memref sig .tc .vmem S1x1024x64 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x96 .f32) (harg9 : arg9.IsWhole) (arg10 : Memref sig .tc .vmem S1x1024x64 .f32) (harg10 : arg10.IsWhole) (arg11 : Memref sig .tc .vmem S1x16384x96 .f32) (harg11 : arg11.IsWhole)
    (x0 : Vec F S1x1024x96 .bf16) (x1 : Vec F S1x1024x64 .bf16) (x2 : Vec F S1x1024x96 .bf16) (x3 : Vec F S1x1024x64 .bf16) (x4 : Vec F S1x1x1024 .f32) (x5 : Vec F S1x1x1024 .f32) (x6 : Vec F S1x1024x96 .f32) (x7 : Vec F S1x1024x64 .f32) (x8 : Vec F S1x16384x96 .f32) (o6 : Vec F S1x1024x96 .f32) (o7 : Vec F S1x1024x64 .f32) (o8 : Vec F S1x16384x96 .f32) : Prop :=
  ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare o6 ∗ owns (c : Thread nD τ) arg10 fullShare o7 ∗ owns (c : Thread nD τ) arg11 fullShare o8) -∗ K ⟨⟩))
          ⊢ wp frame (wpE (defs₀ (F := F)) Variants.none c none) E (cc0_l0_flashb i arg3 harg3 arg4 harg4 arg5 harg5 arg6 harg6 arg7 harg7 arg8 harg8 arg9 harg9 arg10 harg10 arg11 harg11) K

set_option maxHeartbeats 1000000 in
/-- At the first query block of the first key block: all three results are begun. -/
theorem does_A (c : Dev nD) (i : grid0.Coords) (arg3 : Memref sig .tc .vmem S1x1024x96 .bf16) (harg3 : arg3.IsWhole) (arg4 : Memref sig .tc .vmem S1x1024x64 .bf16) (harg4 : arg4.IsWhole) (arg5 : Memref sig .tc .vmem S1x1024x96 .bf16) (harg5 : arg5.IsWhole) (arg6 : Memref sig .tc .vmem S1x1024x64 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x96 .f32) (harg9 : arg9.IsWhole) (arg10 : Memref sig .tc .vmem S1x1024x64 .f32) (harg10 : arg10.IsWhole) (arg11 : Memref sig .tc .vmem S1x16384x96 .f32) (harg11 : arg11.IsWhole)
    (hc0 : k0_cond1 i = 1#1) (hc1 : ¬k0_cond2 i = 1#1) (hc2 : k0_cond3 i = 1#1) (hc3 : ¬k0_cond4 i = 1#1)
    (n : ℕ) (hoff : k0_off1 i = ![0, 1024 * n, 0])
    (x0 : Vec F S1x1024x96 .bf16) (x1 : Vec F S1x1024x64 .bf16) (x2 : Vec F S1x1024x96 .bf16) (x3 : Vec F S1x1024x64 .bf16) (x4 : Vec F S1x1x1024 .f32) (x5 : Vec F S1x1x1024 .f32) (x6 : Vec F S1x1024x96 .f32) (x7 : Vec F S1x1024x64 .f32) (x8 : Vec F S1x16384x96 .f32) :
    Does c i arg3 harg3 arg4 harg4 arg5 harg5 arg6 harg6 arg7 harg7 arg8 harg8 arg9 harg9 arg10 harg10 arg11 harg11 x0 x1 x2 x3 x4 x5 x6 x7 x8 (k0_pay13 x0 x1 x2 x3 x4 x5) (k0_pay14 x0 x2 x3 x4) (VecWindow.put x8 ![0, 1024 * n, 0] S1x1024x96.size (k0_pay3 (k0_pay12 x0 x1 x2 x3 x4 x5))) := by
    unfold Does
    intro E K
    simp only [cc0_l0_flashb_eq_skeleton]; unfold cc0_l0_flashb_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro; sl_unfold_words; simp only [store_96, store_64, load_96, load_64, load_row, hf0, hf1, hf2, hf3, hf4, hf5, hf6, hf7, hf8]
    isplitl [H7]
    · iexists _; isplitr; swap; · iexact H7
      ipureintro; sl_unfold_words; simp only [store_96, store_64, load_96, load_64, load_row, hf0, hf1, hf2, hf3, hf4, hf5, hf6, hf7, hf8]
    iexists _; isplitr; swap; · iexact H8
    ipureintro; sl_unfold_words
    refine (View.read_writes_cons_put _ _ _ _ _ hoff).trans ?_
    simp only [View.writes_nil, load_96, load_64, load_row, hf0, hf1, hf2, hf3, hf4, hf5, hf6, hf7, hf8]

set_option maxHeartbeats 1000000 in
/-- At a later query block of the first key block: dk and dv are added to, the rows of dq begun. -/
theorem does_B (c : Dev nD) (i : grid0.Coords) (arg3 : Memref sig .tc .vmem S1x1024x96 .bf16) (harg3 : arg3.IsWhole) (arg4 : Memref sig .tc .vmem S1x1024x64 .bf16) (harg4 : arg4.IsWhole) (arg5 : Memref sig .tc .vmem S1x1024x96 .bf16) (harg5 : arg5.IsWhole) (arg6 : Memref sig .tc .vmem S1x1024x64 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x96 .f32) (harg9 : arg9.IsWhole) (arg10 : Memref sig .tc .vmem S1x1024x64 .f32) (harg10 : arg10.IsWhole) (arg11 : Memref sig .tc .vmem S1x16384x96 .f32) (harg11 : arg11.IsWhole)
    (hc0 : ¬k0_cond1 i = 1#1) (hc1 : k0_cond2 i = 1#1) (hc2 : k0_cond3 i = 1#1) (hc3 : ¬k0_cond4 i = 1#1)
    (n : ℕ) (hoff : k0_off1 i = ![0, 1024 * n, 0])
    (x0 : Vec F S1x1024x96 .bf16) (x1 : Vec F S1x1024x64 .bf16) (x2 : Vec F S1x1024x96 .bf16) (x3 : Vec F S1x1024x64 .bf16) (x4 : Vec F S1x1x1024 .f32) (x5 : Vec F S1x1x1024 .f32) (x6 : Vec F S1x1024x96 .f32) (x7 : Vec F S1x1024x64 .f32) (x8 : Vec F S1x16384x96 .f32) :
    Does c i arg3 harg3 arg4 harg4 arg5 harg5 arg6 harg6 arg7 harg7 arg8 harg8 arg9 harg9 arg10 harg10 arg11 harg11 x0 x1 x2 x3 x4 x5 x6 x7 x8 (k0_pay1 (k0_pay11 x0 x1 x2 x3 x4 x5) x6) (k0_pay2 (k0_pay10 x0 x2 x3 x4) x7) (VecWindow.put x8 ![0, 1024 * n, 0] S1x1024x96.size (k0_pay3 (k0_pay12 x0 x1 x2 x3 x4 x5))) := by
    unfold Does
    intro E K
    simp only [cc0_l0_flashb_eq_skeleton]; unfold cc0_l0_flashb_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro; sl_unfold_words; simp only [store_96, store_64, load_96, load_64, load_row, hf0, hf1, hf2, hf3, hf4, hf5, hf6, hf7, hf8]
    isplitl [H7]
    · iexists _; isplitr; swap; · iexact H7
      ipureintro; sl_unfold_words; simp only [store_96, store_64, load_96, load_64, load_row, hf0, hf1, hf2, hf3, hf4, hf5, hf6, hf7, hf8]
    iexists _; isplitr; swap; · iexact H8
    ipureintro; sl_unfold_words
    refine (View.read_writes_cons_put _ _ _ _ _ hoff).trans ?_
    simp only [View.writes_nil, load_96, load_64, load_row, hf0, hf1, hf2, hf3, hf4, hf5, hf6, hf7, hf8]

set_option maxHeartbeats 1000000 in
/-- At the first query block of a later key block: dk and dv are begun, the rows of dq added to. -/
theorem does_C (c : Dev nD) (i : grid0.Coords) (arg3 : Memref sig .tc .vmem S1x1024x96 .bf16) (harg3 : arg3.IsWhole) (arg4 : Memref sig .tc .vmem S1x1024x64 .bf16) (harg4 : arg4.IsWhole) (arg5 : Memref sig .tc .vmem S1x1024x96 .bf16) (harg5 : arg5.IsWhole) (arg6 : Memref sig .tc .vmem S1x1024x64 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x96 .f32) (harg9 : arg9.IsWhole) (arg10 : Memref sig .tc .vmem S1x1024x64 .f32) (harg10 : arg10.IsWhole) (arg11 : Memref sig .tc .vmem S1x16384x96 .f32) (harg11 : arg11.IsWhole)
    (hc0 : k0_cond1 i = 1#1) (hc1 : ¬k0_cond2 i = 1#1) (hc2 : ¬k0_cond3 i = 1#1) (hc3 : k0_cond4 i = 1#1)
    (n : ℕ) (hoff : k0_off2 i = ![0, 1024 * n, 0]) (hin : ∀ a, (![0, 1024 * n, 0] : Fin 3 → ℕ) a + S1x1024x96.size a ≤ S1x16384x96.size a)
    (x0 : Vec F S1x1024x96 .bf16) (x1 : Vec F S1x1024x64 .bf16) (x2 : Vec F S1x1024x96 .bf16) (x3 : Vec F S1x1024x64 .bf16) (x4 : Vec F S1x1x1024 .f32) (x5 : Vec F S1x1x1024 .f32) (x6 : Vec F S1x1024x96 .f32) (x7 : Vec F S1x1024x64 .f32) (x8 : Vec F S1x16384x96 .f32) :
    Does c i arg3 harg3 arg4 harg4 arg5 harg5 arg6 harg6 arg7 harg7 arg8 harg8 arg9 harg9 arg10 harg10 arg11 harg11 x0 x1 x2 x3 x4 x5 x6 x7 x8 (k0_pay13 x0 x1 x2 x3 x4 x5) (k0_pay14 x0 x2 x3 x4) (VecWindow.put x8 ![0, 1024 * n, 0] S1x1024x96.size (k0_pay4 (k0_pay12 x0 x1 x2 x3 x4 x5) (VecWindow.window x8 ![0, 1024 * n, 0] S1x1024x96.size hin))) := by
    unfold Does
    intro E K
    simp only [cc0_l0_flashb_eq_skeleton]; unfold cc0_l0_flashb_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro; sl_unfold_words; simp only [store_96, store_64, load_96, load_64, load_row, hf0, hf1, hf2, hf3, hf4, hf5, hf6, hf7, hf8]
    isplitl [H7]
    · iexists _; isplitr; swap; · iexact H7
      ipureintro; sl_unfold_words; simp only [store_96, store_64, load_96, load_64, load_row, hf0, hf1, hf2, hf3, hf4, hf5, hf6, hf7, hf8]
    iexists _; isplitr; swap; · iexact H8
    ipureintro; sl_unfold_words
    refine (View.read_writes_cons_put _ _ _ _ _ hoff).trans ?_
    simp only [View.writes_nil, load_96, load_64, load_row, hf0, hf1, hf2, hf3, hf4, hf5, hf6, hf7, hf8]
    exact congrArg (fun z => VecWindow.put x8 _ _ (k0_pay4 _ z)) ((load_rows arg11.view _ _ hoff hin).trans (congrArg (fun z => VecWindow.window z _ _ hin) hf8))

set_option maxHeartbeats 1000000 in
/-- At a later query block of a later key block: all three are added to. -/
theorem does_D (c : Dev nD) (i : grid0.Coords) (arg3 : Memref sig .tc .vmem S1x1024x96 .bf16) (harg3 : arg3.IsWhole) (arg4 : Memref sig .tc .vmem S1x1024x64 .bf16) (harg4 : arg4.IsWhole) (arg5 : Memref sig .tc .vmem S1x1024x96 .bf16) (harg5 : arg5.IsWhole) (arg6 : Memref sig .tc .vmem S1x1024x64 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x96 .f32) (harg9 : arg9.IsWhole) (arg10 : Memref sig .tc .vmem S1x1024x64 .f32) (harg10 : arg10.IsWhole) (arg11 : Memref sig .tc .vmem S1x16384x96 .f32) (harg11 : arg11.IsWhole)
    (hc0 : ¬k0_cond1 i = 1#1) (hc1 : k0_cond2 i = 1#1) (hc2 : ¬k0_cond3 i = 1#1) (hc3 : k0_cond4 i = 1#1)
    (n : ℕ) (hoff : k0_off2 i = ![0, 1024 * n, 0]) (hin : ∀ a, (![0, 1024 * n, 0] : Fin 3 → ℕ) a + S1x1024x96.size a ≤ S1x16384x96.size a)
    (x0 : Vec F S1x1024x96 .bf16) (x1 : Vec F S1x1024x64 .bf16) (x2 : Vec F S1x1024x96 .bf16) (x3 : Vec F S1x1024x64 .bf16) (x4 : Vec F S1x1x1024 .f32) (x5 : Vec F S1x1x1024 .f32) (x6 : Vec F S1x1024x96 .f32) (x7 : Vec F S1x1024x64 .f32) (x8 : Vec F S1x16384x96 .f32) :
    Does c i arg3 harg3 arg4 harg4 arg5 harg5 arg6 harg6 arg7 harg7 arg8 harg8 arg9 harg9 arg10 harg10 arg11 harg11 x0 x1 x2 x3 x4 x5 x6 x7 x8 (k0_pay1 (k0_pay11 x0 x1 x2 x3 x4 x5) x6) (k0_pay2 (k0_pay10 x0 x2 x3 x4) x7) (VecWindow.put x8 ![0, 1024 * n, 0] S1x1024x96.size (k0_pay4 (k0_pay12 x0 x1 x2 x3 x4 x5) (VecWindow.window x8 ![0, 1024 * n, 0] S1x1024x96.size hin))) := by
    unfold Does
    intro E K
    simp only [cc0_l0_flashb_eq_skeleton]; unfold cc0_l0_flashb_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro; sl_unfold_words; simp only [store_96, store_64, load_96, load_64, load_row, hf0, hf1, hf2, hf3, hf4, hf5, hf6, hf7, hf8]
    isplitl [H7]
    · iexists _; isplitr; swap; · iexact H7
      ipureintro; sl_unfold_words; simp only [store_96, store_64, load_96, load_64, load_row, hf0, hf1, hf2, hf3, hf4, hf5, hf6, hf7, hf8]
    iexists _; isplitr; swap; · iexact H8
    ipureintro; sl_unfold_words
    refine (View.read_writes_cons_put _ _ _ _ _ hoff).trans ?_
    simp only [View.writes_nil, load_96, load_64, load_row, hf0, hf1, hf2, hf3, hf4, hf5, hf6, hf7, hf8]
    exact congrArg (fun z => VecWindow.put x8 _ _ (k0_pay4 _ z)) ((load_rows arg11.view _ _ hoff hin).trans (congrArg (fun z => VecWindow.window z _ _ hin) hf8))

end Cert.KernelIdeal.Hand

end
-- ==== Proof.Run.lean ====
module

public import proofs.«01_k».proof.Proof.Gen.KernelIdeal.Frame
public import proofs.«01_k».proof.Proof.Point
public import Idealize.ShloMosaic.Lib.Pipeline.Frame
public import Idealize.ShloMosaic.Lib.Pipeline.Value
public import Idealize.ShloMosaic.Lib.Tactic
public import Idealize.ShloMosaic.Lib.WordCmp
public import Idealize.ShloMosaic.Lib.VecWindow
public import Idealize.ShloMosaic.Lib.ValueIdx
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)
open Idealize.ShloMosaic.ValueIdx
open Cert.KernelIdeal.Gen (iblk)

local notation "𝕄" => MT nD τ sig Unit (Elt Ideal) ℕ (UR sig nD τ) ℕ

variable (m : (ℓ : Loc nD τ sig) → Buf (Elt Ideal) ℓ) (ρ : Dev nD → PrngReg)

/-! ## The grid point and the four branches -/

theorem hcond1 : ∀ t : Fin cfg0.N, k0_cond1 (grid0.coords t) = 1#1 ↔ t.val % 16 = 0 := fun t => by
  have ht : t.val < 3072 := Nat.lt_of_lt_of_eq t.isLt N_0
  have e0 : (grid0.coords t 0).val = t.val / 256 % 12 := Pipeline.Grid.coords_val t 0 (by decide) rfl
  have e1 : (grid0.coords t 1).val = t.val / 16 % 16 := Pipeline.Grid.coords_val t 1 (by decide) rfl
  have e2 : (grid0.coords t 2).val = t.val / 1 % 16 := Pipeline.Grid.coords_val t 2 (by decide) rfl
  simp only [k0_cond1, e0, e1, e2]
  word_cmp

theorem hcond2 : ∀ t : Fin cfg0.N, k0_cond2 (grid0.coords t) = 1#1 ↔ 1 ≤ t.val % 16 :=
  (by decide +kernel : ∀ t : Fin grid0.N, k0_cond2 (grid0.coords t) = 1#1 ↔ 1 ≤ t.val % 16)

theorem hcond3 : ∀ t : Fin cfg0.N, k0_cond3 (grid0.coords t) = 1#1 ↔ t.val / 16 % 16 = 0 := fun t => by
  have ht : t.val < 3072 := Nat.lt_of_lt_of_eq t.isLt N_0
  have e0 : (grid0.coords t 0).val = t.val / 256 % 12 := Pipeline.Grid.coords_val t 0 (by decide) rfl
  have e1 : (grid0.coords t 1).val = t.val / 16 % 16 := Pipeline.Grid.coords_val t 1 (by decide) rfl
  have e2 : (grid0.coords t 2).val = t.val / 1 % 16 := Pipeline.Grid.coords_val t 2 (by decide) rfl
  simp only [k0_cond3, e0, e1, e2]
  word_cmp

theorem hcond4 : ∀ t : Fin cfg0.N, k0_cond4 (grid0.coords t) = 1#1 ↔ 1 ≤ t.val / 16 % 16 :=
  (by decide +kernel : ∀ t : Fin grid0.N, k0_cond4 (grid0.coords t) = 1#1 ↔ 1 ≤ t.val / 16 % 16)

theorem coord2 (t : Fin cfg0.N) : (grid0.coords t 2).val = t.val % 16 := by
  rw [show (grid0.coords t 2).val = t.val / 1 % 16 from Pipeline.Grid.coords_val t 2 (by decide) rfl, Nat.div_one]

theorem off1 (t : Fin cfg0.N) : k0_off1 (grid0.coords t) = ![0, 1024 * (t.val % 16), 0] := by rw [k0_off1_eq, coord2]
theorem off2 (t : Fin cfg0.N) : k0_off2 (grid0.coords t) = ![0, 1024 * (t.val % 16), 0] := by rw [k0_off2_eq, coord2]

theorem rows_in (n : ℕ) (hn : n < 16) : ∀ a, (![0, 1024 * n, 0] : Fin 3 → ℕ) a + S1x1024x96.size a ≤ S1x16384x96.size a := by
  intro a
  fin_cases a
  · show 0 + 1 ≤ 1; omega
  · show 1024 * n + 1024 ≤ 16384; omega
  · show 0 + 96 ≤ 96; omega

/-! ## What one point adds -/

/-- The block of dk, dv and dq's rows that point `u` works out (zero past the grid, where there is no point). -/
def dkAt (c : Dev nD) (u : ℕ) (y : S1x1024x96.Idx) : EReal :=
  if h : u < cfg0.N then k0_pay13 (F := Ideal) (iblk m c 0 ⟨u, h⟩) (iblk m c 1 ⟨u, h⟩) (iblk m c 2 ⟨u, h⟩) (iblk m c 3 ⟨u, h⟩) (iblk m c 4 ⟨u, h⟩) (iblk m c 5 ⟨u, h⟩) y else 0

@[inherit_doc dkAt]
def dvAt (c : Dev nD) (u : ℕ) (y : S1x1024x64.Idx) : EReal :=
  if h : u < cfg0.N then k0_pay14 (F := Ideal) (iblk m c 0 ⟨u, h⟩) (iblk m c 2 ⟨u, h⟩) (iblk m c 3 ⟨u, h⟩) (iblk m c 4 ⟨u, h⟩) y else 0

@[inherit_doc dkAt]
def dqAt (c : Dev nD) (u : ℕ) (y : S1x1024x96.Idx) : EReal :=
  if h : u < cfg0.N then k0_pay3 (F := Ideal) (k0_pay12 (iblk m c 0 ⟨u, h⟩) (iblk m c 1 ⟨u, h⟩) (iblk m c 2 ⟨u, h⟩) (iblk m c 3 ⟨u, h⟩) (iblk m c 4 ⟨u, h⟩) (iblk m c 5 ⟨u, h⟩)) y else 0

/-- Adding a computed block to a kept one adds entry by entry. -/
theorem add_96 (a : FVec Ideal S1024x96 .f32) (x : Vec Ideal S1x1024x96 .f32) (y : S1x1024x96.Idx) :
    k0_pay1 a x y = (x y + shapeCast S1x1024x96 a shapeCasts_S1024x96_S1x1024x96 y : EReal) :=
  congrArg (fun z : EReal => z + shapeCast S1x1024x96 a shapeCasts_S1024x96_S1x1024x96 y)
    (congrFun (shapeCast_shapeCast x shapeCasts_S1x1024x96_S1024x96 shapeCasts_S1024x96_S1x1024x96) y)

@[inherit_doc add_96]
theorem add_64 (a : FVec Ideal S1024x64 .f32) (x : Vec Ideal S1x1024x64 .f32) (y : S1x1024x64.Idx) :
    k0_pay2 a x y = (x y + shapeCast S1x1024x64 a shapeCasts_S1024x64_S1x1024x64 y : EReal) :=
  congrArg (fun z : EReal => z + shapeCast S1x1024x64 a shapeCasts_S1024x64_S1x1024x64 y)
    (congrFun (shapeCast_shapeCast x shapeCasts_S1x1024x64_S1024x64 shapeCasts_S1024x64_S1x1024x64) y)

@[inherit_doc add_96]
theorem add_rows (a : FVec Ideal S1024x96 .f32) (x : Vec Ideal S1x1024x96 .f32) (y : S1x1024x96.Idx) :
    k0_pay4 a x y = (x y + k0_pay3 a y : EReal) := add_96 a x y

/-! ## The rows of dq's buffer -/

/-- Entry `d` of row `r` of row block `n`. -/
def rowIx (n : Fin 16) (r : Fin 1024) (d : Fin 96) : S1x16384x96.Idx :=
  ix3 0 ⟨1024 * n.val + r.val, by omega⟩ d

theorem put_here (x : S1x16384x96.Idx → EReal) (n : Fin 16) (w : S1x1024x96.Idx → EReal) (r : Fin 1024) (d : Fin 96) :
    VecWindow.put (s := S1x16384x96) x ![0, 1024 * n.val, 0] S1x1024x96.size w (rowIx n r d) = w (ix3 0 r d) := by
  have h : ∀ a, (![0, 1024 * n.val, 0] : Fin 3 → ℕ) a ≤ (rowIx n r d a).val ∧ (rowIx n r d a).val < (![0, 1024 * n.val, 0] : Fin 3 → ℕ) a + S1x1024x96.size a := by
    intro a
    fin_cases a
    · show 0 ≤ 0 ∧ 0 < 0 + 1; omega
    · show 1024 * n.val ≤ 1024 * n.val + r.val ∧ 1024 * n.val + r.val < 1024 * n.val + 1024; omega
    · show 0 ≤ d.val ∧ d.val < 0 + 96; omega
  refine (dif_pos h).trans (congrArg w (funext fun a => Fin.ext ?_))
  fin_cases a
  · show 0 - 0 = 0; omega
  · show 1024 * n.val + r.val - 1024 * n.val = r.val; omega
  · show d.val - 0 = d.val; omega

theorem put_there (x : S1x16384x96.Idx → EReal) (n n' : Fin 16) (hn : n' ≠ n) (w : S1x1024x96.Idx → EReal) (r : Fin 1024) (d : Fin 96) :
    VecWindow.put (s := S1x16384x96) x ![0, 1024 * n.val, 0] S1x1024x96.size w (rowIx n' r d) = x (rowIx n' r d) := by
  refine dif_neg fun h => hn (Fin.ext ?_)
  have h1 : 1024 * n.val ≤ 1024 * n'.val + r.val ∧ 1024 * n'.val + r.val < 1024 * n.val + 1024 := h 1
  omega

theorem window_here (x : S1x16384x96.Idx → EReal) (n : Fin 16) (hin : ∀ a, (![0, 1024 * n.val, 0] : Fin 3 → ℕ) a + S1x1024x96.size a ≤ S1x16384x96.size a) (r : Fin 1024) (d : Fin 96) :
    VecWindow.window (s := S1x16384x96) x ![0, 1024 * n.val, 0] S1x1024x96.size hin (ix3 0 r d) = x (rowIx n r d) := by
  refine congrArg x (funext fun a => Fin.ext ?_)
  fin_cases a
  · show 0 + 1 * 0 = 0; omega
  · show 1024 * n.val + 1 * r.val = 1024 * n.val + r.val; omega
  · show 0 + 1 * d.val = d.val; omega

/-- How many key blocks have been added to row block `n` once point `t` is done. -/
def cnt (t n : ℕ) : ℕ := (t % 256 + 16 - n) / 16

/-! ## The proof data: the inputs exact, each output held to the partial sum it must carry -/

/-- The three output windows. -/
def outs : Fin cfg0.W → Bool := fun w => w.val == 6 || w.val == 7 || w.val == 8

/-- dk's block after point `t`: the sum over the query blocks met so far. -/
def DkOk (c : Dev nD) (t : ℕ) (X : S1x1024x96.Idx → EReal) : Prop :=
  ∀ y, X y = ∑ i ∈ Finset.range (t % 16 + 1), dkAt m c (t / 16 * 16 + i) y

/-- dv's block after point `t`. -/
def DvOk (c : Dev nD) (t : ℕ) (X : S1x1024x64.Idx → EReal) : Prop :=
  ∀ y, X y = ∑ i ∈ Finset.range (t % 16 + 1), dvAt m c (t / 16 * 16 + i) y

/-- dq's buffer after point `t`: in the row blocks already begun, the sum over the key blocks met so far. -/
def DqOk (c : Dev nD) (t : ℕ) (X : S1x16384x96.Idx → EReal) : Prop :=
  ∀ (n : Fin 16) (r : Fin 1024) (d : Fin 96), 0 < cnt t n.val →
    X (rowIx n r d) = ∑ j ∈ Finset.range (cnt t n.val), dqAt m c (t / 256 * 256 + 16 * j + n.val) (ix3 0 r d)

def Rl (c : Dev nD) (w : Fin cfg0.W) (t : Fin cfg0.N) (X : (cfg0.win w).block.Idx → Elt Ideal (cfg0.win w).elt) : Prop :=
  match w, X with
  | ⟨6, _⟩, X => DkOk m c t.val X
  | ⟨7, _⟩, X => DvOk m c t.val X
  | ⟨8, _⟩, X => DqOk m c t.val X
  | _, _ => True

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## What the body finds in the outputs, and what it must leave -/

/-- The relational data. -/
abbrev rdats (c : Dev nD) : RDat τ (Elt Ideal) Unit ℕ (UR sig nD τ) ℕ cfg0 c := (dats m 0 c).toRRel outs (Rl m c)

/-- In an output window not written back at the point before, the body finds what it left there. -/
theorem found {c : Dev nD} {w : Fin cfg0.W} (hw : outs w = true) (hf : ∀ t, (cfg0.win w).fetch t = false) (t : Fin cfg0.N) (ht : t.val ≠ 0)
    (hfl : ¬ (cfg0.win w).flush ⟨t.val - 1, Nat.lt_of_le_of_lt (Nat.sub_le _ _) t.isLt⟩ = true)
    {X : (cfg0.win w).block.Idx → Elt Ideal (cfg0.win w).elt} (h : (rdats m c).Finds w t X) :
    Rl m c w ⟨t.val - 1, Nat.lt_of_le_of_lt (Nat.sub_le _ _) t.isLt⟩ X :=
  (dats m 0 c).toRRel_leaves hw ((((rdats m c).finds_of_pos (hf t) ht X).mp h).resolve_left hfl)

theorem found6 {c : Dev nD} (t : Fin cfg0.N) (ht : 1 ≤ t.val % 16) {X : S1x1024x96.Idx → EReal} (h : (rdats m c).Finds 6 t X) : DkOk m c (t.val - 1) X :=
  found (w := 6) m rfl (fun _ => rfl) t (by omega) (fun h => by rw [flush0_6] at h; dsimp only at h; omega) h

theorem found7 {c : Dev nD} (t : Fin cfg0.N) (ht : 1 ≤ t.val % 16) {X : S1x1024x64.Idx → EReal} (h : (rdats m c).Finds 7 t X) : DvOk m c (t.val - 1) X :=
  found (w := 7) m rfl (fun _ => rfl) t (by omega) (fun h => by rw [flush0_7] at h; dsimp only at h; omega) h

theorem found8 {c : Dev nD} (t : Fin cfg0.N) (ht : 1 ≤ t.val % 256) {X : S1x16384x96.Idx → EReal} (h : (rdats m c).Finds 8 t X) : DqOk m c (t.val - 1) X :=
  found (w := 8) m rfl (fun _ => rfl) t (by omega) (fun h => by rw [flush0_8] at h; dsimp only at h; omega) h

theorem point_k (c : Dev nD) (t : Fin cfg0.N) (y : S1x1024x96.Idx) : dkAt m c t.val y = k0_pay13 (F := Ideal) (iblk m c 0 t) (iblk m c 1 t) (iblk m c 2 t) (iblk m c 3 t) (iblk m c 4 t) (iblk m c 5 t) y := by
  unfold dkAt; exact dif_pos t.isLt

theorem begin_k (c : Dev nD) (t : Fin cfg0.N) (ht : t.val % 16 = 0) :
    DkOk m c t.val (k0_pay13 (F := Ideal) (iblk m c 0 t) (iblk m c 1 t) (iblk m c 2 t) (iblk m c 3 t) (iblk m c 4 t) (iblk m c 5 t)) := fun y => by
  rw [ht, Finset.sum_range_one, show t.val / 16 * 16 + 0 = t.val by omega]
  exact (point_k m c t y).symm

theorem add_k (c : Dev nD) (t : Fin cfg0.N) (ht : 1 ≤ t.val % 16) (X : S1x1024x96.Idx → EReal) (hX : DkOk m c (t.val - 1) X) :
    DkOk m c t.val (k0_pay1 (F := Ideal) (k0_pay11 (iblk m c 0 t) (iblk m c 1 t) (iblk m c 2 t) (iblk m c 3 t) (iblk m c 4 t) (iblk m c 5 t)) X) := fun y => by
  refine (add_96 _ X y).trans ?_
  rw [Finset.sum_range_succ, hX y, show (t.val - 1) % 16 + 1 = t.val % 16 by omega, show (t.val - 1) / 16 * 16 = t.val / 16 * 16 by omega]
  refine congrArg _ ?_
  rw [show t.val / 16 * 16 + t.val % 16 = t.val by omega]
  exact (point_k m c t y).symm

theorem point_v (c : Dev nD) (t : Fin cfg0.N) (y : S1x1024x64.Idx) : dvAt m c t.val y = k0_pay14 (F := Ideal) (iblk m c 0 t) (iblk m c 2 t) (iblk m c 3 t) (iblk m c 4 t) y := by
  unfold dvAt; exact dif_pos t.isLt

theorem begin_v (c : Dev nD) (t : Fin cfg0.N) (ht : t.val % 16 = 0) :
    DvOk m c t.val (k0_pay14 (F := Ideal) (iblk m c 0 t) (iblk m c 2 t) (iblk m c 3 t) (iblk m c 4 t)) := fun y => by
  rw [ht, Finset.sum_range_one, show t.val / 16 * 16 + 0 = t.val by omega]
  exact (point_v m c t y).symm

theorem add_v (c : Dev nD) (t : Fin cfg0.N) (ht : 1 ≤ t.val % 16) (X : S1x1024x64.Idx → EReal) (hX : DvOk m c (t.val - 1) X) :
    DvOk m c t.val (k0_pay2 (F := Ideal) (k0_pay10 (iblk m c 0 t) (iblk m c 2 t) (iblk m c 3 t) (iblk m c 4 t)) X) := fun y => by
  refine (add_64 _ X y).trans ?_
  rw [Finset.sum_range_succ, hX y, show (t.val - 1) % 16 + 1 = t.val % 16 by omega, show (t.val - 1) / 16 * 16 = t.val / 16 * 16 by omega]
  refine congrArg _ ?_
  rw [show t.val / 16 * 16 + t.val % 16 = t.val by omega]
  exact (point_v m c t y).symm

theorem point_q (c : Dev nD) (t : Fin cfg0.N) (y : S1x1024x96.Idx) : dqAt m c t.val y = k0_pay3 (F := Ideal) (k0_pay12 (iblk m c 0 t) (iblk m c 1 t) (iblk m c 2 t) (iblk m c 3 t) (iblk m c 4 t) (iblk m c 5 t)) y := by
  unfold dqAt; exact dif_pos t.isLt

theorem begin_q (c : Dev nD) (t : Fin cfg0.N) (ht : t.val / 16 % 16 = 0) (X : S1x16384x96.Idx → EReal) (hX : 1 ≤ t.val % 256 → DqOk m c (t.val - 1) X) :
    DqOk m c t.val (VecWindow.put (s := S1x16384x96) X ![0, 1024 * (t.val % 16), 0] S1x1024x96.size (k0_pay3 (F := Ideal) (k0_pay12 (iblk m c 0 t) (iblk m c 1 t) (iblk m c 2 t) (iblk m c 3 t) (iblk m c 4 t) (iblk m c 5 t)))) := by
  intro n r d hc
  have hN : t.val < 3072 := lt_of_lt_of_eq t.isLt (show cfg0.N = 3072 from N_0)
  by_cases hn : n.val = t.val % 16
  · obtain ⟨n, hn16⟩ := n
    obtain rfl : n = t.val % 16 := hn
    refine (put_here X ⟨t.val % 16, hn16⟩ _ r d).trans ?_
    have hcnt : cnt t.val (t.val % 16) = t.val / 16 % 16 + 1 := by unfold cnt; omega
    dsimp only
    rw [hcnt]
    rw [ht, Finset.sum_range_one, show t.val / 256 * 256 + 16 * 0 + t.val % 16 = t.val by omega]
    exact (point_q m c t _).symm
  · refine (put_there X ⟨t.val % 16, Nat.mod_lt _ (by decide)⟩ n (fun h => hn (congrArg Fin.val h)) _ r d).trans ?_
    have hpos : 1 ≤ t.val % 256 := by unfold cnt at hc; omega
    have hcnt : cnt (t.val - 1) n.val = cnt t.val n.val := by unfold cnt; omega
    rw [hX hpos n r d (by rw [hcnt]; exact hc), hcnt, show (t.val - 1) / 256 = t.val / 256 by omega]

theorem add_q (c : Dev nD) (t : Fin cfg0.N) (ht : 1 ≤ t.val / 16 % 16) (X : S1x16384x96.Idx → EReal) (hX : DqOk m c (t.val - 1) X)
    (hin : ∀ a, (![0, 1024 * (t.val % 16), 0] : Fin 3 → ℕ) a + S1x1024x96.size a ≤ S1x16384x96.size a) :
    DqOk m c t.val (VecWindow.put (s := S1x16384x96) X ![0, 1024 * (t.val % 16), 0] S1x1024x96.size
      (k0_pay4 (F := Ideal) (k0_pay12 (iblk m c 0 t) (iblk m c 1 t) (iblk m c 2 t) (iblk m c 3 t) (iblk m c 4 t) (iblk m c 5 t)) (VecWindow.window (s := S1x16384x96) X ![0, 1024 * (t.val % 16), 0] S1x1024x96.size hin))) := by
  intro n r d hc
  have hN : t.val < 3072 := lt_of_lt_of_eq t.isLt (show cfg0.N = 3072 from N_0)
  by_cases hn : n.val = t.val % 16
  · obtain ⟨n, hn16⟩ := n
    obtain rfl : n = t.val % 16 := hn
    refine (put_here X ⟨t.val % 16, hn16⟩ _ r d).trans ?_
    have hcnt : cnt t.val (t.val % 16) = t.val / 16 % 16 + 1 := by unfold cnt; omega
    dsimp only
    rw [hcnt]
    refine (add_rows _ _ _).trans ?_
    rw [Finset.sum_range_succ]
    have hold : cnt (t.val - 1) (t.val % 16) = t.val / 16 % 16 := by unfold cnt; omega
    have hw := (window_here X ⟨t.val % 16, hn16⟩ hin r d).trans (hX ⟨t.val % 16, hn16⟩ r d (by dsimp only; omega))
    dsimp only at hw
    rw [hold, show (t.val - 1) / 256 = t.val / 256 by omega] at hw
    refine congrArg₂ (fun a b : EReal => a + b) hw ?_
    rw [show t.val / 256 * 256 + 16 * (t.val / 16 % 16) + t.val % 16 = t.val by omega]
    exact (point_q m c t _).symm
  · refine (put_there X ⟨t.val % 16, Nat.mod_lt _ (by decide)⟩ n (fun h => hn (congrArg Fin.val h)) _ r d).trans ?_
    have hcnt : cnt (t.val - 1) n.val = cnt t.val n.val := by unfold cnt; omega
    rw [hX n r d (by rw [hcnt]; exact hc), hcnt, show (t.val - 1) / 256 = t.val / 256 by omega]

/-! ## The body obligation -/

theorem body_obligation (c : Dev nD) : Pipeline.BodyObligationRel (dats m 0 c) (defs₀ (F := Ideal)) Variants.none () Set.univ outs (Rl m c) := fun t => by
  rw [bigSep_W0, bigSep_W0, show defs₀ (F := Ideal) .tc cfg0.body (cfg0.bodyArgs t (cfg0.slots t)) = bodyAt0 t from by unfold defs₀; rw [Defs.onTc_tc]]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y) ∗ (∃ Y, ⌜(rdats m c).Finds 8 t Y⌝ ∗ owns (c : Thread nD τ) (st0_8 t) fullShare Y))
    ⊢ wp frame (wpE (defs₀ (F := Ideal)) Variants.none c none) Set.univ (bodyAt0 t) (fun _ =>
      iprop((dats m 0 c).Φ t.castSucc ∗ (dats m 0 c).owesAt () t.castSucc
        ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, ⌜DkOk m c t.val X⌝ ∗ owns (c : Thread nD τ) (st0_6 t) fullShare X) ∗ (∃ X, ⌜DvOk m c t.val X⌝ ∗ owns (c : Thread nD τ) (st0_7 t) fullShare X) ∗ (∃ X, ⌜DqOk m c t.val X⌝ ∗ owns (c : Thread nD τ) (st0_8 t) fullShare X)))
  simp only [before0, before1, before2, before3, before4, before5, after0, after1, after2, after3, after4, after5]
  have hN : t.val < 3072 := lt_of_lt_of_eq t.isLt (show cfg0.N = 3072 from N_0)
  have hlt : t.val % 16 < 16 := Nat.mod_lt _ (by decide)
  -- given any triple of the body at this point whose three leavings meet their predicates, the obligation follows
  suffices key : ∀ Y6 Y7 Y8, (rdats m c).Finds 6 t Y6 → (rdats m c).Finds 7 t Y7 → (rdats m c).Finds 8 t Y8 → ∃ o6 o7 o8,
      Does c (grid0.coords t) _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5))
        _ (hstage0_6 ((cfg0.slots t 6).cast nbuf0_6)) _ (hstage0_7 ((cfg0.slots t 7).cast nbuf0_7)) _ (hstage0_8 ((cfg0.slots t 8).cast nbuf0_8))
        (iblk m c 0 t) (iblk m c 1 t) (iblk m c 2 t) (iblk m c 3 t) (iblk m c 4 t) (iblk m c 5 t) Y6 Y7 Y8 o6 o7 o8
      ∧ DkOk m c t.val o6 ∧ DvOk m c t.val o7 ∧ DqOk m c t.val o8 by
    iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
    obtain ⟨o6, o7, o8, hd, h6, h7, h8⟩ := key Y6 Y7 Y8 hY6 hY7 hY8
    iapply (hd Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; · ipureintro; exact h6
      iexact H6
    isplitl [H7]
    · iexists _; isplitr; · ipureintro; exact h7
      iexact H7
    iexists _; isplitr; · ipureintro; exact h8
    iexact H8
  by_cases h0 : t.val % 16 = 0 <;> by_cases h2 : t.val / 16 % 16 = 0
  · exact fun Y6 Y7 Y8 _ _ f8 => ⟨_, _, _, does_A c _ _ _ _ _ _ _ _ _ _ _ _ _ _ _ _ _ _ _ ((hcond1 t).mpr h0) (fun h => by have := (hcond2 t).mp h; omega) ((hcond3 t).mpr h2) (fun h => by have := (hcond4 t).mp h; omega) _ (off1 t) _ _ _ _ _ _ _ _ _,
      begin_k m c t h0, begin_v m c t h0, begin_q m c t h2 Y8 fun hp => found8 m t hp f8⟩
  · exact fun Y6 Y7 Y8 _ _ f8 => ⟨_, _, _, does_C c _ _ _ _ _ _ _ _ _ _ _ _ _ _ _ _ _ _ _ ((hcond1 t).mpr h0) (fun h => by have := (hcond2 t).mp h; omega) (fun h => h2 ((hcond3 t).mp h)) ((hcond4 t).mpr (by omega)) _ (off2 t) (rows_in _ hlt) _ _ _ _ _ _ _ _ _,
      begin_k m c t h0, begin_v m c t h0, add_q m c t (by omega) Y8 (found8 m t (by omega) f8) _⟩
  · exact fun Y6 Y7 Y8 f6 f7 f8 => ⟨_, _, _, does_B c _ _ _ _ _ _ _ _ _ _ _ _ _ _ _ _ _ _ _ (fun h => h0 ((hcond1 t).mp h)) ((hcond2 t).mpr (by omega)) ((hcond3 t).mpr h2) (fun h => by have := (hcond4 t).mp h; omega) _ (off1 t) _ _ _ _ _ _ _ _ _,
      add_k m c t (by omega) Y6 (found6 m t (by omega) f6), add_v m c t (by omega) Y7 (found7 m t (by omega) f7), begin_q m c t h2 Y8 fun hp => found8 m t hp f8⟩
  · exact fun Y6 Y7 Y8 f6 f7 f8 => ⟨_, _, _, does_D c _ _ _ _ _ _ _ _ _ _ _ _ _ _ _ _ _ _ _ (fun h => h0 ((hcond1 t).mp h)) ((hcond2 t).mpr (by omega)) (fun h => h2 ((hcond3 t).mp h)) ((hcond4 t).mpr (by omega)) _ (off2 t) (rows_in _ hlt) _ _ _ _ _ _ _ _ _,
      add_k m c t (by omega) Y6 (found6 m t (by omega) f6), add_v m c t (by omega) Y7 (found7 m t (by omega) f7), add_q m c t (by omega) Y8 (found8 m t (by omega) f8) _⟩

/-! ## The run and the frame -/

set_option backward.isDefEq.respectTransparency.types false in
/-- The program runs, each output array ends as the writes of blocks that meet `Rl`, and every semaphore is back at zero. -/
theorem run_main : θ_run defs (onTc (τ := τ) (main (F := Ideal))) (s₀ m ρ) (fun r => RDat.FramePost (cfgs 0) (rdats m) (V m) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end as they began. -/
theorem kept {r : PUnit × MemSt nD τ sig (Elt Ideal)} (h : RDat.FramePost (cfgs 0) (rdats m) (V m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m ρ)

end Cert.KernelIdeal.Hand

end
-- ==== Proof.Math.lean ====
module

public import Mathlib.Analysis.SpecialFunctions.Pow.Real
public import Mathlib.Data.EReal.Operations
public import Mathlib.Algebra.BigOperators.Fin
public import Mathlib.Algebra.BigOperators.Field
public import Idealize.ShloMosaic.PureOps

@[expose] public section

noncomputable section

/-! The gradients of softmax attention over the reals, for one head: what both programs compute, and the two
    arrangements of the same numbers that they use. Rows `a` are queries, rows `b` are keys. -/

namespace Cert.Attn

open Finset

/-! ## Sums of reals among the extended reals -/

theorem coe_sum {ι : Type} (t : Finset ι) (f : ι → ℝ) : ∑ i ∈ t, ((f i : ℝ) : EReal) = ((∑ i ∈ t, f i : ℝ) : EReal) := by
  classical
  induction t using Finset.induction_on with
  | empty => rfl
  | insert a t h ih => rw [Finset.sum_insert h, Finset.sum_insert h, ih, EReal.coe_add]

/-- A maximum over a nonempty finite family of reals, started from `⊥`, is a real. -/
theorem max_real {n : ℕ} (x : Fin (n + 1) → EReal) (hx : ∀ i, ∃ r : ℝ, x i = (r : EReal)) :
    ∃ r : ℝ, (Finset.univ : Finset (Fin (n + 1))).fold max ⊥ x = (r : EReal) := by
  suffices h : ∀ t : Finset (Fin (n + 1)), t.fold max ⊥ x = ⊥ ∧ t = ∅ ∨ ∃ r : ℝ, t.fold max ⊥ x = (r : EReal) by
    rcases h Finset.univ with ⟨_, h⟩ | h
    · exact absurd h (Finset.univ_nonempty).ne_empty
    · exact h
  intro t
  induction t using Finset.induction_on with
  | empty => exact Or.inl ⟨rfl, rfl⟩
  | insert a t h ih =>
    right
    obtain ⟨r, hr⟩ := hx a
    rw [Finset.fold_insert h, hr]
    rcases ih with ⟨h0, _⟩ | ⟨r', h'⟩
    · exact ⟨r, by rw [h0]; exact max_eq_left bot_le⟩
    · exact ⟨max r r', by rw [h']; exact (EReal.coe_strictMono.monotone.map_max).symm⟩

/-- Sixteen blocks of 1024 make the whole axis. -/
theorem sum_blocks {M : Type} [AddCommMonoid M] (f : Fin 16384 → M) (g : ℕ → Fin 1024 → M)
    (h : ∀ (n : Fin 16) (r : Fin 1024), g n.val r = f ⟨1024 * n.val + r.val, by omega⟩) :
    ∑ n ∈ Finset.range 16, ∑ r : Fin 1024, g n r = ∑ i : Fin 16384, f i := by
  rw [Finset.sum_range, ← Fintype.sum_prod_type' (f := fun (n : Fin 16) (r : Fin 1024) => g n.val r)]
  refine Fintype.sum_equiv (finProdFinEquiv (m := 16) (n := 1024)) _ _ fun p => ?_
  refine (h p.1 p.2).trans (congrArg f (Fin.ext ?_))
  show 1024 * p.1.val + p.2.val = p.2.val + 1024 * p.1.val
  omega

/-! ## The model -/

variable {N D E : Type} [Fintype N] [Fintype D] [Fintype E]

/-- The scores. -/
def sc (q k : N → D → ℝ) (a b : N) : ℝ := ∑ d, q a d * k b d

/-- The softmax weights. -/
def wt (q k : N → D → ℝ) (a b : N) : ℝ := Real.exp (sc q k a b) / ∑ b', Real.exp (sc q k a b')

/-- The gradient of the weights. -/
def dp (v o : N → E → ℝ) (a b : N) : ℝ := ∑ e, o a e * v b e

/-- The gradient of the scores. -/
def ds (q k : N → D → ℝ) (v o : N → E → ℝ) (a b : N) : ℝ :=
  wt q k a b * (dp v o a b - ∑ b', wt q k a b' * dp v o a b')

def dK (q k : N → D → ℝ) (v o : N → E → ℝ) (b : N) (d : D) : ℝ := ∑ a, ds q k v o a b * q a d
def dV (q k : N → D → ℝ) (o : N → E → ℝ) (b : N) (e : E) : ℝ := ∑ a, wt q k a b * o a e
def dQ (q k : N → D → ℝ) (v o : N → E → ℝ) (a : N) (d : D) : ℝ := ∑ b, ds q k v o a b * k b d

variable (q k : N → D → ℝ) (v o : N → E → ℝ)

/-! ## Any shift of a row's scores leaves the weights -/

/-- The shifted exponentials' sum. -/
def ls (M : N → ℝ) (a : N) : ℝ := ∑ b, Real.exp (sc q k a b - M a)

theorem ls_eq (M : N → ℝ) (a : N) : ls q k M a = Real.exp (-M a) * ∑ b, Real.exp (sc q k a b) := by
  rw [ls, Finset.mul_sum]
  exact Finset.sum_congr rfl fun b _ => by rw [sub_eq_add_neg, Real.exp_add, mul_comm]

theorem sum_pos [Nonempty N] (a : N) : 0 < ∑ b, Real.exp (sc q k a b) :=
  Finset.sum_pos (fun _ _ => Real.exp_pos _) Finset.univ_nonempty

theorem ls_pos [Nonempty N] (M : N → ℝ) (a : N) : 0 < ls q k M a :=
  Finset.sum_pos (fun _ _ => Real.exp_pos _) Finset.univ_nonempty

theorem wt_shift [Nonempty N] (M : N → ℝ) (a b : N) : Real.exp (sc q k a b - M a) / ls q k M a = wt q k a b := by
  have := sum_pos q k a
  have := Real.exp_pos (-M a)
  rw [ls_eq, wt, sub_eq_add_neg, Real.exp_add]
  field_simp

/-! ## The reference's arrangement -/

theorem ds_ref [Nonempty N] (M : N → ℝ) (a b : N) :
    (dp v o a b / ls q k M a + -(∑ b', dp v o a b' * (1 / (ls q k M a * ls q k M a)) * Real.exp (sc q k a b' - M a))) * Real.exp (sc q k a b - M a)
      = ds q k v o a b := by
  have hl := ls_pos q k M a
  have hs : ∑ b', dp v o a b' * (1 / (ls q k M a * ls q k M a)) * Real.exp (sc q k a b' - M a) = (∑ b', wt q k a b' * dp v o a b') / ls q k M a := by
    rw [Finset.sum_div]
    refine Finset.sum_congr rfl fun b' _ => ?_
    rw [← wt_shift q k M]
    field_simp
  rw [hs, ds, ← wt_shift q k M a b]
  field_simp
  ring

/-! ## The kernel's arrangement -/

theorem two_rpow (x : ℝ) : Real.rpow 2 (x / Real.log 2) = Real.exp x := by
  have h : Real.log 2 ≠ 0 := (Real.log_pos (by norm_num)).ne'
  show (2 : ℝ) ^ (x / Real.log 2) = _
  rw [Real.rpow_def_of_pos (by norm_num)]
  congr 1
  field_simp

theorem wt_kernel [Nonempty N] (M : N → ℝ) (a b : N) :
    Real.rpow 2 ((∑ d, k b d * (q a d / Real.log 2)) - (M a + Real.log (ls q k M a)) / Real.log 2) = wt q k a b := by
  have hs : ∑ d, k b d * (q a d / Real.log 2) = sc q k a b / Real.log 2 := by
    rw [sc, Finset.sum_div]
    exact Finset.sum_congr rfl fun d _ => by ring
  rw [hs, ← sub_div, two_rpow, ← sub_sub, Real.exp_sub, Real.exp_log (ls_pos q k M a)]
  exact wt_shift q k M a b

theorem delta_kernel (a : N) : ∑ e, o a e * ∑ b, wt q k a b * v b e = ∑ b, wt q k a b * dp v o a b := by
  simp only [dp, Finset.mul_sum]
  rw [Finset.sum_comm]
  exact Finset.sum_congr rfl fun b _ => Finset.sum_congr rfl fun e _ => by ring

theorem dp_kernel (a b : N) : ∑ e, v b e * o a e = dp v o a b :=
  Finset.sum_congr rfl fun e _ => mul_comm _ _

end Cert.Attn

end
-- ==== Proof.Data.lean ====
module

public import proofs.«01_k».proof.Proof.Math
public import Idealize.ShloMosaic.Lib.ValueIdx
public import Idealize.ShloMosaic.PureOps.Ideal.Laws

@[expose] public section

noncomputable section

/-! The arguments as real arrays, head by head, and the constants both programs share. -/

namespace Cert.Attn

open Idealize.ShloMosaic Idealize.ShloMosaic.ValueIdx

/-- `[tokens, heads, features]` arrays of the arguments. -/
abbrev Tok (d : ℕ) : Shape := ⟨3, ![16384, 12, d]⟩

/-- An array of reals as an array of extended reals. -/
def lift {s : Shape} (x : s.Idx → ℝ) : s.Idx → EReal := fun i => (x i : EReal)

/-- The softmax scale `1/√96`, as the float both programs multiply by. -/
def scale : ℝ := (Ideal.ofBits .f32 0x3DD105EC#32).toReal

theorem scale_eq : Ideal.ofBits .f32 0x3DD105EC#32 = (scale : EReal) := by
  refine (EReal.coe_toReal ?_ ?_).symm <;> simp [Ideal.ofBits, Ideal.ieee, -EReal.coe_mul]

theorem zero_eq : Ideal.ofBits .f32 0x00000000#32 = ((0 : ℝ) : EReal) := Ideal.ofBits_zero_f32

theorem one_eq : Ideal.ofBits .f32 0x3F800000#32 = ((1 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem bot_eq : Ideal.ofBits .f32 0xFF800000#32 = ⊥ := by
  simp [Ideal.ofBits, Ideal.ieee, -EReal.coe_mul]

/-- The scaled queries of head `h`. -/
def Qh (q : (Tok 96).Idx → ℝ) (h : Fin 12) (a : Fin 16384) (d : Fin 96) : ℝ := q (ix3 a h d) * scale
/-- Head `h` of an array. -/
def Hd {n : ℕ} (k : (Tok n).Idx → ℝ) (h : Fin 12) (b : Fin 16384) (d : Fin n) : ℝ := k (ix3 b h d)

theorem coe_dot {ι : Type} [Fintype ι] (A B : ι → EReal) (a b : ι → ℝ) (hA : ∀ i, A i = (a i : EReal)) (hB : ∀ i, B i = (b i : EReal)) :
    ∑ i, A i * B i = ((∑ i, a i * b i : ℝ) : EReal) :=
  (Finset.sum_congr rfl fun i _ => by rw [hA i, hB i, ← EReal.coe_mul]).trans (coe_sum _ _)

theorem coe_div (a b : ℝ) (hb : b ≠ 0) : Ideal.div (a : EReal) (b : EReal) = ((a / b : ℝ) : EReal) := by
  rw [Ideal.div_coe hb, ← EReal.coe_mul, mul_one_div]

theorem coe_sub (a b : ℝ) : (a : EReal) - (b : EReal) = ((a - b : ℝ) : EReal) := (EReal.coe_sub a b).symm

end Cert.Attn

end
-- ==== Proof.Pay.lean ====
module

public import proofs.«01_k».proof.Proof.Data
public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

noncomputable section

/-! What one visit of a pair of blocks computes, entry by entry, when the blocks hold reals: rows `b` are the
    keys of the key block, rows `a` the queries of the query block. -/

namespace Cert.KernelIdeal.Hand

open Cert.KernelIdeal Cert.KernelIdeal.Gen Cert.Attn
open Idealize.ShloMosaic Idealize.ShloMosaic.ValueIdx

/-- A product over the rows of both operands, read at an entry. -/
theorem dot_rows (prec : Option ContractPrecision) (x : FVec Ideal S1024x1024 .bf16) (y : FVec Ideal S1024x96 .bf16) (a : Fin 1024) (d : Fin 96) :
    matmul (F := Ideal) dot_S1024x1024_S1024x96_S1024x96_0_0_1_1_n_n prec x y (constant S1024x96 .f32 0x00000000#32) (ix2 a d) = ∑ b : Fin 1024, x (ix2 b a) * y (ix2 b d) := by
  refine (Ideal.matmul_constant_zero_apply (φ₁ := .bf16) (φ₂ := .bf16) dot_S1024x1024_S1024x96_S1024x96_0_0_1_1_n_n prec x y (ix2 a d)).trans ?_
  rw [← Equiv.sum_comp (contrEquiv1 dot_S1024x1024_S1024x96_S1024x96_0_0_1_1_n_n 1024 rfl rfl).symm]
  refine Finset.sum_congr rfl fun b _ => ?_
  have hb := contrEquiv1_symm_val dot_S1024x1024_S1024x96_S1024x96_0_0_1_1_n_n 1024 rfl rfl b
  refine congrArg₂ (fun u v : EReal => u * v) (congrArg x (funext fun c => Fin.ext ?_)) (congrArg y (funext fun c => Fin.ext ?_))
  · match c with
    | ⟨0, _⟩ => exact hb
    | ⟨1, _⟩ => rfl
  · match c with
    | ⟨0, _⟩ => exact hb
    | ⟨1, _⟩ => rfl

variable {x0 : Vec Ideal S1x1024x96 .bf16} {x1 : Vec Ideal S1x1024x64 .bf16} {x2 : Vec Ideal S1x1024x96 .bf16} {x3 : Vec Ideal S1x1024x64 .bf16}
  {x4 x5 : Vec Ideal S1x1x1024 .f32} {K Q : Fin 1024 → Fin 96 → ℝ} {W O : Fin 1024 → Fin 64 → ℝ} {L D : Fin 1024 → ℝ}

/-- The block's weights. -/
def pw (K Q : Fin 1024 → Fin 96 → ℝ) (L : Fin 1024 → ℝ) (b a : Fin 1024) : ℝ := Real.rpow 2 ((∑ d, K b d * Q a d) - L a)
/-- The block's score gradients. -/
def pd (K Q : Fin 1024 → Fin 96 → ℝ) (W O : Fin 1024 → Fin 64 → ℝ) (L D : Fin 1024 → ℝ) (b a : Fin 1024) : ℝ :=
  pw K Q L b a * ((∑ e, W b e * O a e) - D a)

theorem drop96 (x : Vec Ideal S1x1024x96 .bf16) (h) (b : Fin 1024) (d : Fin 96) : shapeCast S1024x96 x h (ix2 b d) = x (ix3 0 b d) :=
  (shapeCast_dropUnit_apply ![1024, 96] x h (ix2 b d)).trans (congrArg x (eq_ix3 _))
theorem drop64 (x : Vec Ideal S1x1024x64 .bf16) (h) (b : Fin 1024) (d : Fin 64) : shapeCast S1024x64 x h (ix2 b d) = x (ix3 0 b d) :=
  (shapeCast_dropUnit_apply ![1024, 64] x h (ix2 b d)).trans (congrArg x (eq_ix3 _))
theorem row (x : Vec Ideal S1x1x1024 .f32) (h h') (b a : Fin 1024) :
    broadcastTo S1024x1024 (shapeCast S1x1024 x h) h' (ix2 b a) = x (ix3 0 0 a) :=
  (broadcastTo_1b_ab_apply (a := 1024) (b := 1024) _ h' b a).trans ((shapeCast_dropUnit_apply ![1, 1024] x h (ix2 0 a)).trans (congrArg x (eq_ix3 _)))

theorem zero_at {s : Shape} (i : s.Idx) : constant (F := Ideal) s .f32 0x00000000#32 i = (0 : EReal) := Ideal.ofBits_zero_f32

theorem pay8_apply (h0 : ∀ b d, x0 (ix3 0 b d) = (K b d : EReal)) (h2 : ∀ a d, x2 (ix3 0 a d) = (Q a d : EReal)) (h4 : ∀ a, x4 (ix3 0 0 a) = (L a : EReal))
    (b a : Fin 1024) : k0_pay8 (F := Ideal) x0 x2 x4 (ix2 b a) = (pw K Q L b a : EReal) := by
  have e : matmul dot_S1024x96_S1024x96_S1024x1024_1_1_0_0_n_n none (k0_pay5 (F := Ideal) x0) (k0_pay6 x2) (constant S1024x1024 .f32 0x00000000#32) (ix2 b a)
      = ((∑ d, K b d * Q a d : ℝ) : EReal) := by
    refine (Ideal.matmul_transposedRhs_apply (M := 1024) (K := 96) (N := 1024) none _ _ _ b a).trans ?_
    rw [zero_at, zero_add]
    exact coe_dot _ _ _ _ (fun d => (drop96 x0 _ b d).trans (h0 b d)) (fun d => (drop96 x2 _ a d).trans (h2 a d))
  refine (congrArg₂ (fun u v : EReal => Ideal.exp2 (u - v)) e ((row x4 _ _ b a).trans (h4 a))).trans ?_
  exact (congrArg Ideal.exp2 (coe_sub _ _)).trans (Ideal.exp2_coe _)

theorem pay9_apply (h0 : ∀ b d, x0 (ix3 0 b d) = (K b d : EReal)) (h1 : ∀ b d, x1 (ix3 0 b d) = (W b d : EReal)) (h2 : ∀ a d, x2 (ix3 0 a d) = (Q a d : EReal))
    (h3 : ∀ a d, x3 (ix3 0 a d) = (O a d : EReal)) (h4 : ∀ a, x4 (ix3 0 0 a) = (L a : EReal)) (h5 : ∀ a, x5 (ix3 0 0 a) = (D a : EReal))
    (b a : Fin 1024) : k0_pay9 (F := Ideal) x0 x1 x2 x3 x4 x5 (ix2 b a) = (pd K Q W O L D b a : EReal) := by
  have e : matmul dot_S1024x64_S1024x64_S1024x1024_1_1_0_0_n_n none (φ₁ := .bf16) (shapeCast S1024x64 x1 shapeCasts_S1x1024x64_S1024x64) (k0_pay7 (F := Ideal) x3) (constant S1024x1024 .f32 0x00000000#32) (ix2 b a)
      = ((∑ d, W b d * O a d : ℝ) : EReal) := by
    refine (Ideal.matmul_transposedRhs_apply (M := 1024) (K := 64) (N := 1024) none _ _ _ b a).trans ?_
    rw [zero_at, zero_add]
    exact coe_dot _ _ _ _ (fun d => (drop64 x1 _ b d).trans (h1 b d)) (fun d => (drop64 x3 _ a d).trans (h3 a d))
  refine (congrArg₂ (fun u v : EReal => u * v) (pay8_apply h0 h2 h4 b a) (congrArg₂ (fun u v : EReal => u - v) e ((row x5 _ _ b a).trans (h5 a)))).trans ?_
  exact (congrArg (fun z : EReal => _ * z) (coe_sub _ _)).trans (EReal.coe_mul _ _).symm

theorem pay14_apply (h0 : ∀ b d, x0 (ix3 0 b d) = (K b d : EReal)) (h2 : ∀ a d, x2 (ix3 0 a d) = (Q a d : EReal))
    (h3 : ∀ a d, x3 (ix3 0 a d) = (O a d : EReal)) (h4 : ∀ a, x4 (ix3 0 0 a) = (L a : EReal)) (b : Fin 1024) (e : Fin 64) :
    k0_pay14 (F := Ideal) x0 x2 x3 x4 (ix3 0 b e) = ((∑ a, pw K Q L b a * O a e : ℝ) : EReal) := by
  refine (shapeCast_addUnit_apply ![1024, 64] _ _ (ix3 0 b e)).trans ((congrArg (k0_pay10 (F := Ideal) x0 x2 x3 x4) (eq_ix2 _)).trans ?_)
  refine (Ideal.matmul_plain_apply (M := 1024) (K := 1024) (N := 64) none _ _ _ b e).trans ?_
  rw [zero_at, zero_add]
  exact coe_dot _ _ _ _ (fun a => pay8_apply h0 h2 h4 b a) (fun a => (drop64 x3 _ a e).trans (h3 a e))

theorem ln2_at : Named.named (F := Ideal) (φ := .f32) κ "ln2" 0x3F317218#32 = ((Real.log 2 : ℝ) : EReal) :=
  IdealRules.named_const.ideal_named_scalar _ _ _ _ rfl

theorem pay13_apply (h0 : ∀ b d, x0 (ix3 0 b d) = (K b d : EReal)) (h1 : ∀ b d, x1 (ix3 0 b d) = (W b d : EReal)) (h2 : ∀ a d, x2 (ix3 0 a d) = (Q a d : EReal))
    (h3 : ∀ a d, x3 (ix3 0 a d) = (O a d : EReal)) (h4 : ∀ a, x4 (ix3 0 0 a) = (L a : EReal)) (h5 : ∀ a, x5 (ix3 0 0 a) = (D a : EReal))
    (b : Fin 1024) (d : Fin 96) :
    k0_pay13 (F := Ideal) x0 x1 x2 x3 x4 x5 (ix3 0 b d) = (((∑ a, pd K Q W O L D b a * Q a d) * Real.log 2 : ℝ) : EReal) := by
  refine (shapeCast_addUnit_apply ![1024, 96] _ _ (ix3 0 b d)).trans ((congrArg (k0_pay11 (F := Ideal) x0 x1 x2 x3 x4 x5) (eq_ix2 _)).trans ?_)
  refine (congrArg₂ (fun u v : EReal => u * v) ?_ ln2_at).trans (EReal.coe_mul _ _).symm
  refine (Ideal.matmul_plain_apply (M := 1024) (K := 1024) (N := 96) none _ _ _ b d).trans ?_
  rw [zero_at, zero_add]
  exact coe_dot _ _ _ _ (fun a => pay9_apply h0 h1 h2 h3 h4 h5 b a) (fun a => (drop96 x2 _ a d).trans (h2 a d))

theorem pay3_apply (h0 : ∀ b d, x0 (ix3 0 b d) = (K b d : EReal)) (h1 : ∀ b d, x1 (ix3 0 b d) = (W b d : EReal)) (h2 : ∀ a d, x2 (ix3 0 a d) = (Q a d : EReal))
    (h3 : ∀ a d, x3 (ix3 0 a d) = (O a d : EReal)) (h4 : ∀ a, x4 (ix3 0 0 a) = (L a : EReal)) (h5 : ∀ a, x5 (ix3 0 0 a) = (D a : EReal))
    (a : Fin 1024) (d : Fin 96) :
    k0_pay3 (F := Ideal) (k0_pay12 x0 x1 x2 x3 x4 x5) (ix3 0 a d) = ((∑ b, pd K Q W O L D b a * K b d : ℝ) : EReal) := by
  refine (shapeCast_addUnit_apply ![1024, 96] _ _ (ix3 0 a d)).trans ((congrArg (k0_pay12 (F := Ideal) x0 x1 x2 x3 x4 x5) (eq_ix2 _)).trans ?_)
  refine (dot_rows none _ _ a d).trans ?_
  exact coe_dot _ _ _ _ (fun b => pay9_apply h0 h1 h2 h3 h4 h5 b a) (fun b => (drop96 x0 _ b d).trans (h0 b d))

end Cert.KernelIdeal.Hand

end
-- ==== Proof.Ref.lean ====
module

public import proofs.«01_k».proof.Proof.Data
public import proofs.«01_k».proof.Proof.Gen.ReferenceIdeal.Read

@[expose] public section

noncomputable section

/-! The reference's three results, read at an index, on finite arguments: the model's gradients. -/

namespace Cert.ReferenceIdeal.Hand

open Cert.ReferenceIdeal Cert.ReferenceIdeal.Gen Cert.ReferenceIdeal.Read Cert.Attn
open Idealize.ShloMosaic Idealize.ShloMosaic.ValueIdx

variable (q k : (Tok 96).Idx → ℝ) (v o : (Tok 64).Idx → ℝ) (h : Fin 12) (a b : Fin 16384)

theorem r1 (i : S16384x12x96.Idx) : val_main_v1 (F := Ideal) (lift q) i = ((q i * scale : ℝ) : EReal) := by
  rw [val_main_v1_apply, val_main_v0_apply]
  exact (congrArg (fun z : EReal => (q i : EReal) * z) scale_eq).trans (EReal.coe_mul _ _).symm

theorem r2 : val_main_v2 (F := Ideal) (lift q) (lift k) (ix3 h a b) = (sc (Qh q h) (Hd k h) a b : EReal) :=
  (val_main_v2_apply _ _ _).trans (coe_dot _ _ _ _
    (fun d => (r1 q _).trans (congrArg (fun j => ((q j * scale : ℝ) : EReal)) (eq_ix3 _)))
    (fun d => congrArg (lift k) (eq_ix3 _)))

/-- The row maximum is a real. -/
theorem r3 : ∃ M : ℝ, val_main_v3 (F := Ideal) (lift q) (lift k) (ix2 h a) = (M : EReal) := by
  unfold val_main_v3
  rw [Host.reduce_eq_fold_single (FloatOps.maximumf (F := Ideal) (φ := .f32)) _ _ reducesTo_S12x16384x16384_S12x16384_d2 (by decide) h_S_]
  have e : val_main_cst_0 (F := Ideal) (Shape.Idx.first h_S_) = (⊥ : EReal) := bot_eq
  rw [e]
  refine max_real _ fun i => ⟨sc (Qh q h) (Hd k h) a i, ?_⟩
  refine Eq.trans (congrArg (val_main_v2 (F := Ideal) (lift q) (lift k)) ?_) (r2 q k h a i)
  exact funext fun c => Fin.ext (by match c with | ⟨0, _⟩ => rfl | ⟨1, _⟩ => rfl | ⟨2, _⟩ => rfl)

theorem r10 : ∃ M : ℝ, val_main_v10 (F := Ideal) (lift q) (lift k) (ix2 h a) = (M : EReal) := by
  obtain ⟨M, hM⟩ := r3 q k h a
  refine ⟨M, ?_⟩
  rw [val_main_v10_apply, val_main_v9_apply, hM]
  exact (congrArg (fun z : EReal => max z (M : EReal)) bot_eq).trans (max_eq_right bot_le)

/-- The row maxima, as reals. -/
def Mx (a : Fin 16384) : ℝ := (r10 q k h a).choose
theorem Mx_eq : val_main_v10 (F := Ideal) (lift q) (lift k) (ix2 h a) = (Mx q k h a : EReal) := (r10 q k h a).choose_spec

local notation "Sc" => sc (Qh q h) (Hd k h)
local notation "Ls" => ls (Qh q h) (Hd k h) (Mx q k h)
local notation "Wt" => wt (Qh q h) (Hd k h)
local notation "Dp" => dp (Hd v h) (Hd o h)

theorem r23 : val_main_v23 (F := Ideal) (lift q) (lift k) (ix3 h a b) = ((Real.exp (Sc a b - Mx q k h a) : ℝ) : EReal) := by
  rw [val_main_v23_apply, val_main_v22_apply, r2, val_main_v21_apply, val_main_v20_apply,
    show idx_main_v20 (idx_main_v21 (ix3 h a b)) = ix2 h a from eq_ix2 _, Mx_eq]
  exact congrArg Ideal.exp (coe_sub _ _)

theorem r24 : val_main_v24 (F := Ideal) (lift q) (lift k) (ix2 h a) = (Ls a : EReal) := by
  rw [val_main_v24_apply]
  refine (congrArg₂ (fun x y : EReal => x + y) zero_eq ((Finset.sum_congr rfl fun b _ => ?_).trans (coe_sum _ _))).trans ((EReal.coe_add _ _).symm.trans (congrArg _ (zero_add _)))
  exact (congrArg _ (eq_ix3 _)).trans (r23 q k h a b)

theorem r25 (z : Fin 1) : val_main_v25 (F := Ideal) (lift q) (lift k) (ix3 h a z) = (Ls a : EReal) := by
  rw [val_main_v25_apply, show idx_main_v25 (ix3 h a z) = ix2 h a from eq_ix2 _, r24]

theorem ls_ne : Ls a ≠ 0 := (ls_pos (Qh q h) (Hd k h) (Mx q k h) a).ne'

theorem r27 : val_main_v27 (F := Ideal) (lift q) (lift k) (ix3 h a b) = (Wt a b : EReal) := by
  rw [val_main_v27_apply, r23, val_main_v26_apply, show idx_main_v26 (ix3 h a b) = ix3 h a 0 from eq_ix3 _, r25]
  exact (coe_div _ _ (ls_ne q k h a)).trans (congrArg _ (wt_shift _ _ _ a b))

theorem r30 (z : Fin 1) : val_main_v30 (F := Ideal) (lift q) (lift k) (ix3 h a z) = ((1 / (Ls a * Ls a) : ℝ) : EReal) := by
  rw [val_main_v30_apply, val_main_v29_apply, val_main_v28_apply, r25]
  refine (congrArg₂ Ideal.div one_eq (EReal.coe_mul _ _).symm).trans (coe_div _ _ ?_)
  exact mul_ne_zero (ls_ne q k h a) (ls_ne q k h a)

theorem r34 : val_main_v34 (F := Ideal) (lift v) (lift o) (ix3 h a b) = (Dp a b : EReal) :=
  (val_main_v34_apply _ _ _).trans (coe_dot _ _ _ _
    (fun d => (val_main_v33_apply _ _).trans (congrArg (lift o) (eq_ix3 _)))
    (fun d => congrArg (lift v) (eq_ix3 _)))

theorem r40 : val_main_v40 (F := Ideal) (lift q) (lift k) (lift v) (lift o) (ix2 h a)
    = ((∑ b, Dp a b * (1 / (Ls a * Ls a)) * Real.exp (Sc a b - Mx q k h a) : ℝ) : EReal) := by
  rw [val_main_v40_apply]
  refine (congrArg₂ (fun x y : EReal => x + y) zero_eq ((Finset.sum_congr rfl fun b _ => ?_).trans (coe_sum _ _))).trans ((EReal.coe_add _ _).symm.trans (congrArg _ (zero_add _)))
  rw [show idx_main_v40 (ix2 h a) b = ix3 h a b from eq_ix3 _, val_main_v39_apply, val_main_v38_apply, r34, r23, val_main_v37_apply,
    show idx_main_v37 (ix3 h a b) = ix3 h a 0 from eq_ix3 _, r30]
  exact (congrArg (fun z : EReal => z * _) (EReal.coe_mul _ _).symm).trans (EReal.coe_mul _ _).symm

theorem r42 : val_main_v42 (F := Ideal) (lift q) (lift k) (lift v) (lift o) (ix3 h a 0)
    = ((-(∑ b, Dp a b * (1 / (Ls a * Ls a)) * Real.exp (Sc a b - Mx q k h a)) : ℝ) : EReal) := by
  rw [val_main_v42_apply, val_main_v41_apply]
  have e : idx_main_v41 (ix3 h a 0) = ix2 h a := funext fun c => Fin.ext (by
    have ha := a.isLt
    match c with
    | ⟨0, _⟩ => show ((h.val * 16384 + a.val) * 1 + 0) / 16384 = h.val; omega
    | ⟨1, _⟩ => show ((h.val * 16384 + a.val) * 1 + 0) % 16384 = a.val; omega)
  rw [e, r40]
  exact (EReal.coe_neg _).symm

theorem r48 : val_main_v48 (F := Ideal) (lift q) (lift k) (lift v) (lift o) (ix3 h a b) = (ds (Qh q h) (Hd k h) (Hd v h) (Hd o h) a b : EReal) := by
  rw [val_main_v48_apply, val_main_v47_apply, val_main_v44_apply, r34, r23, val_main_v43_apply,
    show idx_main_v43 (ix3 h a b) = ix3 h a 0 from eq_ix3 _, r25, val_main_v46_apply, val_main_v45_apply, Fin.sum_univ_one,
    show idx_main_v45 (idx_main_v46 (ix3 h a b)) 0 = ix3 h a 0 from eq_ix3 _, r42]
  refine Eq.trans ?_ (congrArg (fun z : ℝ => (z : EReal)) (ds_ref _ _ _ _ (Mx q k h) a b))
  refine Eq.trans ?_ (EReal.coe_mul _ _).symm
  refine congrArg (fun z : EReal => z * _) ?_
  refine Eq.trans ?_ (EReal.coe_add _ _).symm
  refine congrArg₂ (fun x y : EReal => x + y) (coe_div _ _ (ls_ne q k h a)) ?_
  exact (congrArg (fun z : EReal => z + _) zero_eq).trans ((EReal.coe_add _ _).symm.trans (congrArg _ (zero_add _)))

theorem res_k (d : Fin 96) : val_main_v53 (F := Ideal) (lift q) (lift k) (lift v) (lift o) (ix3 h b d) = (dK (Qh q h) (Hd k h) (Hd v h) (Hd o h) b d : EReal) := by
  rw [val_main_v53_apply, val_main_v50_apply, val_main_v49_apply]
  exact coe_dot _ _ _ _ (fun a => (congrArg _ (eq_ix3 _)).trans (r48 q k v o h a b))
    (fun a => (r1 q _).trans (congrArg (fun j => ((q j * scale : ℝ) : EReal)) (eq_ix3 _)))

theorem res_v (d : Fin 64) : val_main_v54 (F := Ideal) (lift q) (lift k) (lift o) (ix3 h b d) = (dV (Qh q h) (Hd k h) (Hd o h) b d : EReal) := by
  rw [val_main_v54_apply, val_main_v36_apply, val_main_v35_apply]
  refine (coe_dot _ _ (fun a => o (ix3 a h d)) (fun a => Wt a b) (fun a => (val_main_v33_apply _ _).trans (congrArg (lift o) (eq_ix3 _)))
    (fun a => (congrArg _ (eq_ix3 _)).trans (r27 q k h a b))).trans (congrArg _ (Finset.sum_congr rfl fun a _ => mul_comm _ _))

theorem res_q (d : Fin 96) : val_main_v55 (F := Ideal) (lift q) (lift k) (lift v) (lift o) (ix3 h a d) = (dQ (Qh q h) (Hd k h) (Hd v h) (Hd o h) a d : EReal) := by
  rw [val_main_v55_apply, val_main_v52_apply, val_main_v51_apply]
  exact coe_dot _ _ _ _ (fun b => (congrArg _ (eq_ix3 _)).trans (r48 q k v o h a b))
    (fun b => congrArg (lift k) (eq_ix3 _))

end Cert.ReferenceIdeal.Hand

end
-- ==== Proof.Host.lean ====
module

public import proofs.«01_k».proof.Proof.Ref
public import proofs.«01_k».proof.Proof.Gen.KernelIdeal.Frame
public import Idealize.ShloMosaic.Lib.StableHlo.RunRead

@[expose] public section

noncomputable section

/-! The six arrays the region is entered with, entry by entry, on finite arguments. -/

namespace Cert.KernelIdeal.Hand

open Cert.KernelIdeal Cert.KernelIdeal.Gen Cert.Attn
open Idealize.ShloMosaic Idealize.ShloMosaic.ValueIdx

abbrev C3 := (⟨S16384x12x96, .f32⟩ : BufTy).Contents (Elt Ideal)
abbrev V3 := (⟨S16384x12x64, .f32⟩ : BufTy).Contents (Elt Ideal)

def w0 : FVec Ideal S_ .f32 := Host.log (constant (F := Ideal) S_ .f32 0x40000000#32)
def w2 (q : C3) : FVec Ideal S16384x12x96 .f32 := mulf q (broadcastInDim S16384x12x96 ![] bcast_S_S16384x12x96 (constant (F := Ideal) S_ .f32 0x3DD105EC#32))
def w15 (q k : C3) : FVec Ideal S12x16384x16384 .f32 :=
  Host.dotGeneral (F := Ideal) (φ₁ := .f32) (φ₂ := .f32) dot_S16384x12x96_S16384x12x96_S12x16384x16384_2_2_0_0_1_1 none (w2 q) k
def w17 (q k : C3) : FVec Ideal S12x16384x1 .f32 :=
  broadcastInDim S12x16384x1 ![0, 1] bcast_S12x16384_S12x16384x1_0_1
    (Host.reduce FloatOps.maximumf (w15 q k) (constant (F := Ideal) S_ .f32 0xFF800000#32) reducesTo_S12x16384x16384_S12x16384_d2 h_S_)
def w20 (q k : C3) : FVec Ideal S12x16384x16384 .f32 :=
  Host.exp (subf (w15 q k) (broadcastInDim S12x16384x16384 ![0, 1, 2] bcast_S12x16384x1_S12x16384x16384_0_1_2 (w17 q k)))
def w22 (q k : C3) : FVec Ideal S12x16384x1 .f32 :=
  broadcastInDim S12x16384x1 ![0, 1] bcast_S12x16384_S12x16384x1_0_1
    (Host.reduceAdd (w20 q k) (constant (F := Ideal) S_ .f32 0x00000000#32) reducesTo_S12x16384x16384_S12x16384_d2 h_S_)
def w26 (q k : C3) : FVec Ideal S12x16384x1 .f32 :=
  Host.divf (addf (w17 q k) (Host.log (w22 q k))) (broadcastInDim S12x16384x1 ![] bcast_S_S12x16384x1 w0)
def w28 (q k : C3) : FVec Ideal S12x16384x16384 .f32 :=
  Host.divf (w20 q k) (broadcastInDim S12x16384x16384 ![0, 1, 2] bcast_S12x16384x1_S12x16384x16384_0_1_2 (w22 q k))
def w29 (q k : C3) (v : V3) : FVec Ideal S12x16384x64 .f32 :=
  Host.dotGeneral (F := Ideal) (φ₁ := .f32) (φ₂ := .f32) dot_S12x16384x16384_S16384x12x64_S12x16384x64_2_0_1_2_0_1 none (w28 q k) v
def w32 (q k : C3) (v o : V3) : FVec Ideal S12x16384 .f32 :=
  Host.reduceAdd (mulf (transpose S12x16384x64 [1, 0, 2] o transposes_S16384x12x64_S12x16384x64_1_0_2) (w29 q k v))
    (constant (F := Ideal) S_ .f32 0x00000000#32) reducesTo_S12x16384x64_S12x16384_d2 h_S_

variable (m : (ℓ : Loc nD τ sig) → Buf (Elt Ideal) ℓ) (c : Dev nD)

/-- Argument 0 at launch. -/
abbrev A0 : C3 := m ((c.tc : Thread nD τ).loc main_arg0)
/-- Argument 1 at launch. -/
abbrev A1 : C3 := m ((c.tc : Thread nD τ).loc main_arg1)
/-- Argument 2 at launch. -/
abbrev A2 : V3 := m ((c.tc : Thread nD τ).loc main_arg2)
/-- Argument 3 at launch. -/
abbrev A3 : V3 := m ((c.tc : Thread nD τ).loc main_arg3)

theorem V_main_v6 : V (F := Ideal) m c main_v6 = transpose S12x16384x96 [1, 0, 2]
    (truncf .bf16 (Host.divf (w2 (A0 m c)) (broadcastInDim S16384x12x96 ![] bcast_S_S16384x12x96 w0)) bitsLt_bf16_f32) transposes_S16384x12x96_S12x16384x96_1_0_2 := by
  after_reads_simp
  rfl

theorem V_main_v8 : V (F := Ideal) m c main_v8 = transpose S12x16384x96 [1, 0, 2] (truncf (F := Ideal) (φ := .f32) .bf16 (A1 m c) bitsLt_bf16_f32) transposes_S16384x12x96_S12x16384x96_1_0_2 := by
  after_reads_simp

theorem V_main_v10 : V (F := Ideal) m c main_v10 = transpose S12x16384x64 [1, 0, 2] (truncf (F := Ideal) (φ := .f32) .bf16 (A2 m c) bitsLt_bf16_f32) transposes_S16384x12x64_S12x16384x64_1_0_2 := by
  after_reads_simp

theorem V_main_v12 : V (F := Ideal) m c main_v12 = transpose S12x16384x64 [1, 0, 2] (truncf (F := Ideal) (φ := .f32) .bf16 (A3 m c) bitsLt_bf16_f32) transposes_S16384x12x64_S12x16384x64_1_0_2 := by
  after_reads_simp

theorem V_main_v33 : V (F := Ideal) m c main_v33 = shapeCast S12x1x16384 (w26 (A0 m c) (A1 m c)) shapeCasts_S12x16384x1_S12x1x16384 := by
  after_reads_simp
  rfl

theorem V_main_v34 : V (F := Ideal) m c main_v34 = shapeCast S12x1x16384 (w32 (A0 m c) (A1 m c) (A2 m c) (A3 m c)) shapeCasts_S12x16384_S12x1x16384 := by
  after_reads_simp
  rfl

end Cert.KernelIdeal.Hand

end
-- ==== Proof.Hval.lean ====
module

public import proofs.«01_k».proof.Proof.Host

@[expose] public section

noncomputable section

/-! The host's values, read at an index, on finite arguments. -/

namespace Cert.KernelIdeal.Hand

open Cert.KernelIdeal Cert.KernelIdeal.Gen Cert.Attn
open Idealize.ShloMosaic Idealize.ShloMosaic.ValueIdx

/-! ## Layout -/

theorem bc_scalar {t : Shape} (y : FVec Ideal S_ .f32) (h : S_.BroadcastsInDim t ![]) (i : t.Idx) :
    broadcastInDim t ![] h y i = y (Shape.Idx.first h_S_) :=
  broadcastInDim_apply _ h y i _ fun a => a.elim0

theorem bc_col (y : FVec Ideal S12x16384 .f32) (h : Fin 12) (a : Fin 16384) (z : Fin 1) :
    broadcastInDim S12x16384x1 ![0, 1] bcast_S12x16384_S12x16384x1_0_1 y (ix3 h a z) = y (ix2 h a) :=
  broadcastInDim_apply _ bcast_S12x16384_S12x16384x1_0_1 y (ix3 h a z) (ix2 h a) fun c => match c with
    | ⟨0, _⟩ => (if_neg (show ¬(12 = 1) by decide)).symm
    | ⟨1, _⟩ => (if_neg (show ¬(16384 = 1) by decide)).symm

theorem bc_row (y : FVec Ideal S12x16384x1 .f32) (h : Fin 12) (a b : Fin 16384) :
    broadcastInDim S12x16384x16384 ![0, 1, 2] bcast_S12x16384x1_S12x16384x16384_0_1_2 y (ix3 h a b) = y (ix3 h a 0) :=
  broadcastInDim_apply _ bcast_S12x16384x1_S12x16384x16384_0_1_2 y (ix3 h a b) (ix3 h a 0) fun c => match c with
    | ⟨0, _⟩ => (if_neg (show ¬(12 = 1) by decide)).symm
    | ⟨1, _⟩ => (if_neg (show ¬(16384 = 1) by decide)).symm
    | ⟨2, _⟩ => (if_pos rfl).symm

theorem swap96 {φ : FTy} (y : FVec Ideal S16384x12x96 φ) (h : Fin 12) (a : Fin 16384) (d : Fin 96) :
    transpose S12x16384x96 [1, 0, 2] y transposes_S16384x12x96_S12x16384x96_1_0_2 (ix3 h a d) = y (ix3 a h d) :=
  transpose_apply [1, 0, 2] y transposes_S16384x12x96_S12x16384x96_1_0_2 (ix3 h a d) (ix3 a h d) fun b => match b with
    | ⟨0, _⟩ => rfl
    | ⟨1, _⟩ => rfl
    | ⟨2, _⟩ => rfl

theorem swap64 {φ : FTy} (y : FVec Ideal S16384x12x64 φ) (h : Fin 12) (a : Fin 16384) (d : Fin 64) :
    transpose S12x16384x64 [1, 0, 2] y transposes_S16384x12x64_S12x16384x64_1_0_2 (ix3 h a d) = y (ix3 a h d) :=
  transpose_apply [1, 0, 2] y transposes_S16384x12x64_S12x16384x64_1_0_2 (ix3 h a d) (ix3 a h d) fun b => match b with
    | ⟨0, _⟩ => rfl
    | ⟨1, _⟩ => rfl
    | ⟨2, _⟩ => rfl

theorem host_exp_at {s : Shape} (x : FVec Ideal s .f32) (i : s.Idx) : Host.exp x i = Ideal.exp (x i) := rfl
theorem host_log_at {s : Shape} (x : FVec Ideal s .f32) (i : s.Idx) : Host.log x i = Ideal.log (x i) := rfl
theorem host_div_at {s : Shape} (x y : FVec Ideal s .f32) (i : s.Idx) : Host.divf x y i = Ideal.div (x i) (y i) := rfl

/-! ## Values -/

variable (q k : (Tok 96).Idx → ℝ) (v o : (Tok 64).Idx → ℝ) (h : Fin 12) (a b : Fin 16384)

theorem log2_ne : Real.log 2 ≠ 0 := (Real.log_pos (by norm_num)).ne'

theorem w0_eq (i : S_.Idx) : w0 i = ((Real.log 2 : ℝ) : EReal) := by
  refine (congrArg Ideal.log two_eq).trans ((Ideal.log_coe _).trans (if_neg (by norm_num)))

theorem w2_eq (i : S16384x12x96.Idx) : w2 (lift q) i = ((q i * scale : ℝ) : EReal) :=
  (congrArg (fun z : EReal => (q i : EReal) * z) ((bc_scalar _ _ i).trans scale_eq)).trans (EReal.coe_mul _ _).symm

theorem w15_eq : w15 (lift q) (lift k) (ix3 h a b) = (sc (Qh q h) (Hd k h) a b : EReal) :=
  Cert.ReferenceIdeal.Hand.r2 q k h a b

theorem w16_eq : ∃ M : ℝ, Host.reduce FloatOps.maximumf (w15 (lift q) (lift k)) (constant (F := Ideal) S_ .f32 0xFF800000#32) reducesTo_S12x16384x16384_S12x16384_d2 h_S_ (ix2 h a) = (M : EReal) :=
  Cert.ReferenceIdeal.Hand.r3 q k h a

/-- The row maxima, as reals. -/
def Mk (a : Fin 16384) : ℝ := (w16_eq q k h a).choose

theorem w17_eq (z : Fin 1) : w17 (lift q) (lift k) (ix3 h a z) = (Mk q k h a : EReal) :=
  (bc_col _ h a z).trans (w16_eq q k h a).choose_spec

local notation "Sc" => sc (Qh q h) (Hd k h)
local notation "Lk" => ls (Qh q h) (Hd k h) (Mk q k h)
local notation "Wt" => wt (Qh q h) (Hd k h)

theorem w20_eq : w20 (lift q) (lift k) (ix3 h a b) = ((Real.exp (Sc a b - Mk q k h a) : ℝ) : EReal) := by
  have e₁ := w15_eq q k h a b
  have e₂ := (bc_row _ h a b).trans (w17_eq q k h a 0)
  unfold w20
  generalize w15 (lift q) (lift k) = x at e₁ ⊢
  generalize broadcastInDim S12x16384x16384 ![0, 1, 2] bcast_S12x16384x1_S12x16384x16384_0_1_2 (w17 (lift q) (lift k)) = y at e₂ ⊢
  rw [host_exp_at, subf_apply, e₁, e₂, coe_sub, Ideal.exp_coe]

theorem w22_eq (z : Fin 1) : w22 (lift q) (lift k) (ix3 h a z) = (Lk a : EReal) := by
  refine (bc_col _ h a z).trans ?_
  have hw := w20_eq q k h a
  generalize w20 (lift q) (lift k) = y at hw ⊢
  simp only [Host.reduceAdd, Ideal.hostReduceAdd_def]
  rw [Ideal.hostReduceAdd_single reducesTo_S12x16384x16384_S12x16384_d2 (by decide)]
  refine (congrArg₂ (fun x y : EReal => x + y) zero_eq ((Finset.sum_congr rfl fun b _ => ?_).trans (coe_sum _ _))).trans ((EReal.coe_add _ _).symm.trans (congrArg _ (zero_add _)))
  exact (congrArg y (funext fun c => Fin.ext (by match c with | ⟨0, _⟩ => rfl | ⟨1, _⟩ => rfl | ⟨2, _⟩ => rfl))).trans (hw b)

theorem lk_ne : Lk a ≠ 0 := (ls_pos (Qh q h) (Hd k h) (Mk q k h) a).ne'

theorem w26_eq (z : Fin 1) : w26 (lift q) (lift k) (ix3 h a z) = (((Mk q k h a + Real.log (Lk a)) / Real.log 2 : ℝ) : EReal) := by
  have e₁ := w17_eq q k h a z
  have e₂ := w22_eq q k h a z
  have e₃ := (bc_scalar w0 bcast_S_S12x16384x1 (ix3 h a z)).trans (w0_eq _)
  unfold w26
  generalize w17 (lift q) (lift k) = x at e₁ ⊢
  generalize w22 (lift q) (lift k) = y at e₂ ⊢
  generalize broadcastInDim S12x16384x1 ![] bcast_S_S12x16384x1 w0 = u at e₃ ⊢
  rw [host_div_at, addf_apply, host_log_at, e₁, e₂, e₃, Ideal.log_coe, if_neg (not_le.mpr (ls_pos (Qh q h) (Hd k h) (Mk q k h) a)), ← EReal.coe_add]
  exact coe_div _ _ log2_ne

theorem w28_eq : w28 (lift q) (lift k) (ix3 h a b) = (Wt a b : EReal) := by
  have e₁ := w20_eq q k h a b
  have e₂ := (bc_row _ h a b).trans (w22_eq q k h a 0)
  unfold w28
  generalize w20 (lift q) (lift k) = x at e₁ ⊢
  generalize broadcastInDim S12x16384x16384 ![0, 1, 2] bcast_S12x16384x1_S12x16384x16384_0_1_2 (w22 (lift q) (lift k)) = y at e₂ ⊢
  rw [host_div_at, e₁, e₂, coe_div _ _ (lk_ne q k h a), wt_shift]

theorem w29_eq (e : Fin 64) : w29 (lift q) (lift k) (lift v) (ix3 h a e) = ((∑ b, Wt a b * Hd v h b e : ℝ) : EReal) := by
  have hw := w28_eq q k h a
  unfold w29
  generalize w28 (lift q) (lift k) = y at hw ⊢
  simp only [Host.dotGeneral]
  rw [Ideal.dotGeneral_apply, ← Equiv.sum_comp (contrEquiv1 dot_S12x16384x16384_S16384x12x64_S12x16384x64_2_0_1_2_0_1 16384 rfl rfl).symm]
  refine coe_dot _ _ _ _ (fun b => ?_) (fun b => ?_)
  · refine (congrArg y (funext fun c => Fin.ext ?_)).trans (hw b)
    match c with
    | ⟨0, _⟩ => rfl
    | ⟨1, _⟩ => rfl
    | ⟨2, _⟩ => exact contrEquiv1_symm_val dot_S12x16384x16384_S16384x12x64_S12x16384x64_2_0_1_2_0_1 16384 rfl rfl b
  · refine congrArg (lift v) (a₂ := ix3 b h e) (funext fun c => Fin.ext ?_)
    match c with
    | ⟨0, _⟩ => exact contrEquiv1_symm_val dot_S12x16384x16384_S16384x12x64_S12x16384x64_2_0_1_2_0_1 16384 rfl rfl b
    | ⟨1, _⟩ => rfl
    | ⟨2, _⟩ => rfl

theorem w32_eq : w32 (lift q) (lift k) (lift v) (lift o) (ix2 h a) = ((∑ e, Hd o h a e * ∑ b, Wt a b * Hd v h b e : ℝ) : EReal) := by
  have hw : ∀ e, mulf (transpose S12x16384x64 [1, 0, 2] (lift o) transposes_S16384x12x64_S12x16384x64_1_0_2) (w29 (lift q) (lift k) (lift v)) (ix3 h a e)
      = ((Hd o h a e * ∑ b, Wt a b * Hd v h b e : ℝ) : EReal) := fun e =>
    (congrArg₂ (fun x y : EReal => x * y) (swap64 (φ := .f32) (lift o) h a e) (w29_eq q k v h a e)).trans (EReal.coe_mul _ _).symm
  unfold w32
  generalize mulf (transpose S12x16384x64 [1, 0, 2] (lift o) transposes_S16384x12x64_S12x16384x64_1_0_2) (w29 (lift q) (lift k) (lift v)) = y at hw ⊢
  simp only [Host.reduceAdd, Ideal.hostReduceAdd_def]
  rw [Ideal.hostReduceAdd_single reducesTo_S12x16384x64_S12x16384_d2 (by decide)]
  refine (congrArg₂ (fun x y : EReal => x + y) zero_eq ((Finset.sum_congr rfl fun b _ => ?_).trans (coe_sum _ _))).trans ((EReal.coe_add _ _).symm.trans (congrArg _ (zero_add _)))
  exact (congrArg y (funext fun c => Fin.ext (by match c with | ⟨0, _⟩ => rfl | ⟨1, _⟩ => rfl | ⟨2, _⟩ => rfl))).trans (hw b)

/-! ## The six arrays -/

/-- The region's queries: scaled, over `log 2`. -/
def Qk (q : (Tok 96).Idx → ℝ) (h : Fin 12) (a : Fin 16384) (d : Fin 96) : ℝ := Qh q h a d / Real.log 2
/-- The region's logarithms of the row sums, over `log 2`. -/
def LSE (q k : (Tok 96).Idx → ℝ) (h : Fin 12) (a : Fin 16384) : ℝ := (Mk q k h a + Real.log (ls (Qh q h) (Hd k h) (Mk q k h) a)) / Real.log 2
/-- The region's row corrections. -/
def DEL (q k : (Tok 96).Idx → ℝ) (v o : (Tok 64).Idx → ℝ) (h : Fin 12) (a : Fin 16384) : ℝ := ∑ e, Hd o h a e * ∑ b, wt (Qh q h) (Hd k h) a b * Hd v h b e

variable (m : (ℓ : Loc nD τ sig) → Buf (Elt Ideal) ℓ) (c : Dev nD)

theorem arr_q (h0 : A0 m c = lift q) (d : Fin 96) : (V (F := Ideal) m c main_v6 : S12x16384x96.Idx → EReal) (ix3 h a d) = (Qk q h a d : EReal) := by
  rw [V_main_v6, h0]
  refine (swap96 _ h a d).trans ((congrArg₂ Ideal.div (w2_eq q _) ((bc_scalar _ _ _).trans (w0_eq _))).trans ?_)
  exact coe_div _ _ log2_ne

theorem arr_k (h1 : A1 m c = lift k) (d : Fin 96) : (V (F := Ideal) m c main_v8 : S12x16384x96.Idx → EReal) (ix3 h b d) = (Hd k h b d : EReal) := by
  rw [V_main_v8, h1]; exact swap96 _ h b d

theorem arr_v (h2 : A2 m c = lift v) (d : Fin 64) : (V (F := Ideal) m c main_v10 : S12x16384x64.Idx → EReal) (ix3 h b d) = (Hd v h b d : EReal) := by
  rw [V_main_v10, h2]; exact swap64 _ h b d

theorem arr_o (h3 : A3 m c = lift o) (d : Fin 64) : (V (F := Ideal) m c main_v12 : S12x16384x64.Idx → EReal) (ix3 h a d) = (Hd o h a d : EReal) := by
  rw [V_main_v12, h3]; exact swap64 _ h a d

theorem arr_l (h0 : A0 m c = lift q) (h1 : A1 m c = lift k) : (V (F := Ideal) m c main_v33 : S12x1x16384.Idx → EReal) (ix3 h 0 a) = (LSE q k h a : EReal) := by
  rw [V_main_v33, h0, h1]
  refine (shapeCast_apply _ _ (ix3 h 0 a) (ix3 h a 0) ?_).trans (w26_eq q k h a 0)
  rewrite [Shape.rowMajor_val_three, Shape.rowMajor_val_three]
  show (h.val * 16384 + a.val) * 1 + 0 = (h.val * 1 + 0) * 16384 + a.val
  omega

theorem arr_d (h0 : A0 m c = lift q) (h1 : A1 m c = lift k) (h2 : A2 m c = lift v) (h3 : A3 m c = lift o) :
    (V (F := Ideal) m c main_v34 : S12x1x16384.Idx → EReal) (ix3 h 0 a) = (DEL q k v o h a : EReal) := by
  rw [V_main_v34, h0, h1, h2, h3]
  refine (shapeCast_apply _ _ (ix3 h 0 a) (ix2 h a) ?_).trans (w32_eq q k v o h a)
  rewrite [Shape.rowMajor_val_two, Shape.rowMajor_val_three]
  show h.val * 16384 + a.val = (h.val * 1 + 0) * 16384 + a.val
  omega

end Cert.KernelIdeal.Hand

end
-- ==== Proof.Blk.lean ====
module

public import proofs.«01_k».proof.Proof.Run
public import proofs.«01_k».proof.Proof.Pay
public import proofs.«01_k».proof.Proof.Hval

@[expose] public section

noncomputable section

/-! What one grid point adds, as sums of reals over the query or key rows of its block. -/

namespace Cert.KernelIdeal.Hand

open Cert.KernelIdeal Cert.KernelIdeal.Gen Cert.Attn
open Idealize.ShloMosaic Idealize.ShloMosaic.TcCoe Idealize.ShloMosaic.ValueIdx
open Cert.KernelIdeal.Gen (iblk)

variable (m : (ℓ : Loc nD τ sig) → Buf (Elt Ideal) ℓ) (c : Dev nD)

theorem lt_N (t : Fin cfg0.N) : t.val < 3072 := lt_of_lt_of_eq t.isLt (show cfg0.N = 3072 from N_0)

/-- The head of point `t`; row `r` of its key block; row `r` of its query block. -/
def hd (t : Fin cfg0.N) : Fin 12 := ⟨t.val / 256, by have := lt_N t; omega⟩
@[inherit_doc hd]
def kb (t : Fin cfg0.N) (r : Fin 1024) : Fin 16384 := ⟨1024 * (t.val / 16 % 16) + r.val, by omega⟩
@[inherit_doc hd]
def qb (t : Fin cfg0.N) (r : Fin 1024) : Fin 16384 := ⟨1024 * (t.val % 16) + r.val, by omega⟩

theorem word0 (t : Fin cfg0.N) : (BitVec.ofNat 32 (grid0.coords t 0).val).toNat = t.val / 256 := by
  have := lt_N t
  rw [show (grid0.coords t 0).val = t.val / 256 % 12 from Pipeline.Grid.coords_val t 0 (by decide) rfl, BitVec.toNat_ofNat]
  omega
theorem word1 (t : Fin cfg0.N) : (BitVec.ofNat 32 (grid0.coords t 1).val).toNat = t.val / 16 % 16 := by
  rw [show (grid0.coords t 1).val = t.val / 16 % 16 from Pipeline.Grid.coords_val t 1 (by decide) rfl, BitVec.toNat_ofNat]
  omega
theorem word2 (t : Fin cfg0.N) : (BitVec.ofNat 32 (grid0.coords t 2).val).toNat = t.val % 16 := by
  rw [show (grid0.coords t 2).val = t.val / 1 % 16 from Pipeline.Grid.coords_val t 2 (by decide) rfl, BitVec.toNat_ofNat]
  omega

theorem emb0 (t : Fin cfg0.N) (r : Fin 1024) (d : Fin 96) : (win0_0.rect t).emb (ix3 0 r d) = ix3 (hd t) (kb t r) d := by
  funext a; apply Fin.ext
  match a with
  | ⟨0, _⟩ => exact (win0_0.rect_emb_val t _ 0).trans (show (BitVec.ofNat 32 (grid0.coords t 0).val).toNat * 1 + 0 = t.val / 256 by rw [word0]; omega)
  | ⟨1, _⟩ => exact (win0_0.rect_emb_val t _ 1).trans (show (BitVec.ofNat 32 (grid0.coords t 1).val).toNat * 1024 + r.val = 1024 * (t.val / 16 % 16) + r.val by rw [word1]; omega)
  | ⟨2, _⟩ => exact (win0_0.rect_emb_val t _ 2).trans (show 0 * 96 + d.val = d.val by omega)

theorem emb1 (t : Fin cfg0.N) (r : Fin 1024) (d : Fin 64) : (win0_1.rect t).emb (ix3 0 r d) = ix3 (hd t) (kb t r) d := by
  funext a; apply Fin.ext
  match a with
  | ⟨0, _⟩ => exact (win0_1.rect_emb_val t _ 0).trans (show (BitVec.ofNat 32 (grid0.coords t 0).val).toNat * 1 + 0 = t.val / 256 by rw [word0]; omega)
  | ⟨1, _⟩ => exact (win0_1.rect_emb_val t _ 1).trans (show (BitVec.ofNat 32 (grid0.coords t 1).val).toNat * 1024 + r.val = 1024 * (t.val / 16 % 16) + r.val by rw [word1]; omega)
  | ⟨2, _⟩ => exact (win0_1.rect_emb_val t _ 2).trans (show 0 * 64 + d.val = d.val by omega)

theorem emb2 (t : Fin cfg0.N) (r : Fin 1024) (d : Fin 96) : (win0_2.rect t).emb (ix3 0 r d) = ix3 (hd t) (qb t r) d := by
  funext a; apply Fin.ext
  match a with
  | ⟨0, _⟩ => exact (win0_2.rect_emb_val t _ 0).trans (show (BitVec.ofNat 32 (grid0.coords t 0).val).toNat * 1 + 0 = t.val / 256 by rw [word0]; omega)
  | ⟨1, _⟩ => exact (win0_2.rect_emb_val t _ 1).trans (show (BitVec.ofNat 32 (grid0.coords t 2).val).toNat * 1024 + r.val = 1024 * (t.val % 16) + r.val by rw [word2]; omega)
  | ⟨2, _⟩ => exact (win0_2.rect_emb_val t _ 2).trans (show 0 * 96 + d.val = d.val by omega)

theorem emb3 (t : Fin cfg0.N) (r : Fin 1024) (d : Fin 64) : (win0_3.rect t).emb (ix3 0 r d) = ix3 (hd t) (qb t r) d := by
  funext a; apply Fin.ext
  match a with
  | ⟨0, _⟩ => exact (win0_3.rect_emb_val t _ 0).trans (show (BitVec.ofNat 32 (grid0.coords t 0).val).toNat * 1 + 0 = t.val / 256 by rw [word0]; omega)
  | ⟨1, _⟩ => exact (win0_3.rect_emb_val t _ 1).trans (show (BitVec.ofNat 32 (grid0.coords t 2).val).toNat * 1024 + r.val = 1024 * (t.val % 16) + r.val by rw [word2]; omega)
  | ⟨2, _⟩ => exact (win0_3.rect_emb_val t _ 2).trans (show 0 * 64 + d.val = d.val by omega)

theorem emb4 (t : Fin cfg0.N) (r : Fin 1024) : (win0_4.rect t).emb (ix3 0 0 r) = ix3 (hd t) 0 (qb t r) := by
  funext a; apply Fin.ext
  match a with
  | ⟨0, _⟩ => exact (win0_4.rect_emb_val t _ 0).trans (show (BitVec.ofNat 32 (grid0.coords t 0).val).toNat * 1 + 0 = t.val / 256 by rw [word0]; omega)
  | ⟨1, _⟩ => exact (win0_4.rect_emb_val t _ 1).trans (show 0 * 1 + 0 = 0 by omega)
  | ⟨2, _⟩ => exact (win0_4.rect_emb_val t _ 2).trans (show (BitVec.ofNat 32 (grid0.coords t 2).val).toNat * 1024 + r.val = 1024 * (t.val % 16) + r.val by rw [word2]; omega)

theorem emb5 (t : Fin cfg0.N) (r : Fin 1024) : (win0_5.rect t).emb (ix3 0 0 r) = ix3 (hd t) 0 (qb t r) := by
  funext a; apply Fin.ext
  match a with
  | ⟨0, _⟩ => exact (win0_5.rect_emb_val t _ 0).trans (show (BitVec.ofNat 32 (grid0.coords t 0).val).toNat * 1 + 0 = t.val / 256 by rw [word0]; omega)
  | ⟨1, _⟩ => exact (win0_5.rect_emb_val t _ 1).trans (show 0 * 1 + 0 = 0 by omega)
  | ⟨2, _⟩ => exact (win0_5.rect_emb_val t _ 2).trans (show (BitVec.ofNat 32 (grid0.coords t 2).val).toNat * 1024 + r.val = 1024 * (t.val % 16) + r.val by rw [word2]; omega)

/-! ## The blocks' entries -/

variable {m c} {q k : (Tok 96).Idx → ℝ} {v o : (Tok 64).Idx → ℝ}

theorem blk0 (h1 : A1 m c = lift k) (t : Fin cfg0.N) (r : Fin 1024) (d : Fin 96) : (iblk m c 0 t : S1x1024x96.Idx → EReal) (ix3 0 r d) = (Hd k (hd t) (kb t r) d : EReal) :=
  (congrArg (V (F := Ideal) m c main_v8) (emb0 t r d)).trans (arr_k k (hd t) (kb t r) m c h1 d)
theorem blk1 (h2 : A2 m c = lift v) (t : Fin cfg0.N) (r : Fin 1024) (d : Fin 64) : (iblk m c 1 t : S1x1024x64.Idx → EReal) (ix3 0 r d) = (Hd v (hd t) (kb t r) d : EReal) :=
  (congrArg (V (F := Ideal) m c main_v10) (emb1 t r d)).trans (arr_v v (hd t) (kb t r) m c h2 d)
theorem blk2 (h0 : A0 m c = lift q) (t : Fin cfg0.N) (r : Fin 1024) (d : Fin 96) : (iblk m c 2 t : S1x1024x96.Idx → EReal) (ix3 0 r d) = (Qk q (hd t) (qb t r) d : EReal) :=
  (congrArg (V (F := Ideal) m c main_v6) (emb2 t r d)).trans (arr_q q (hd t) (qb t r) m c h0 d)
theorem blk3 (h3 : A3 m c = lift o) (t : Fin cfg0.N) (r : Fin 1024) (d : Fin 64) : (iblk m c 3 t : S1x1024x64.Idx → EReal) (ix3 0 r d) = (Hd o (hd t) (qb t r) d : EReal) :=
  (congrArg (V (F := Ideal) m c main_v12) (emb3 t r d)).trans (arr_o o (hd t) (qb t r) m c h3 d)
theorem blk4 (h0 : A0 m c = lift q) (h1 : A1 m c = lift k) (t : Fin cfg0.N) (r : Fin 1024) : (iblk m c 4 t : S1x1x1024.Idx → EReal) (ix3 0 0 r) = (LSE q k (hd t) (qb t r) : EReal) :=
  (congrArg (V (F := Ideal) m c main_v33) (emb4 t r)).trans (arr_l q k (hd t) (qb t r) m c h0 h1)
theorem blk5 (h0 : A0 m c = lift q) (h1 : A1 m c = lift k) (h2 : A2 m c = lift v) (h3 : A3 m c = lift o) (t : Fin cfg0.N) (r : Fin 1024) :
    (iblk m c 5 t : S1x1x1024.Idx → EReal) (ix3 0 0 r) = (DEL q k v o (hd t) (qb t r) : EReal) :=
  (congrArg (V (F := Ideal) m c main_v34) (emb5 t r)).trans (arr_d q k v o (hd t) (qb t r) m c h0 h1 h2 h3)

/-! ## One point's sums -/

theorem pw_eq (t : Fin cfg0.N) (b a : Fin 1024) :
    pw (fun b => Hd k (hd t) (kb t b)) (fun a => Qk q (hd t) (qb t a)) (fun a => LSE q k (hd t) (qb t a)) b a = wt (Qh q (hd t)) (Hd k (hd t)) (qb t a) (kb t b) :=
  wt_kernel (Qh q (hd t)) (Hd k (hd t)) (Mk q k (hd t)) (qb t a) (kb t b)

theorem pd_eq (t : Fin cfg0.N) (b a : Fin 1024) :
    pd (fun b => Hd k (hd t) (kb t b)) (fun a => Qk q (hd t) (qb t a)) (fun b => Hd v (hd t) (kb t b)) (fun a => Hd o (hd t) (qb t a)) (fun a => LSE q k (hd t) (qb t a)) (fun a => DEL q k v o (hd t) (qb t a)) b a
      = ds (Qh q (hd t)) (Hd k (hd t)) (Hd v (hd t)) (Hd o (hd t)) (qb t a) (kb t b) := by
  unfold pd ds
  rw [pw_eq, dp_kernel]
  show _ * (_ - DEL q k v o (hd t) (qb t a)) = _
  rw [show DEL q k v o (hd t) (qb t a) = _ from delta_kernel (Qh q (hd t)) (Hd k (hd t)) (Hd v (hd t)) (Hd o (hd t)) (qb t a)]

theorem dk_point (h0 : A0 m c = lift q) (h1 : A1 m c = lift k) (h2 : A2 m c = lift v) (h3 : A3 m c = lift o) (t : Fin cfg0.N) (r : Fin 1024) (d : Fin 96) :
    dkAt m c t.val (ix3 0 r d) = ((∑ a, ds (Qh q (hd t)) (Hd k (hd t)) (Hd v (hd t)) (Hd o (hd t)) (qb t a) (kb t r) * Qh q (hd t) (qb t a) d : ℝ) : EReal) := by
  refine (point_k m c t _).trans ((pay13_apply (blk0 h1 t) (blk1 h2 t) (blk2 h0 t) (blk3 h3 t) (blk4 h0 h1 t) (blk5 h0 h1 h2 h3 t) r d).trans (congrArg _ ?_))
  rw [Finset.sum_mul]
  refine Finset.sum_congr rfl fun a _ => ?_
  rw [pd_eq, mul_assoc]
  exact congrArg _ (div_mul_cancel₀ _ log2_ne)

theorem dv_point (h0 : A0 m c = lift q) (h1 : A1 m c = lift k) (h3 : A3 m c = lift o) (t : Fin cfg0.N) (r : Fin 1024) (e : Fin 64) :
    dvAt m c t.val (ix3 0 r e) = ((∑ a, wt (Qh q (hd t)) (Hd k (hd t)) (qb t a) (kb t r) * Hd o (hd t) (qb t a) e : ℝ) : EReal) := by
  refine (point_v m c t _).trans ((pay14_apply (blk0 h1 t) (blk2 h0 t) (blk3 h3 t) (blk4 h0 h1 t) r e).trans (congrArg _ ?_))
  exact Finset.sum_congr rfl fun a _ => by rw [pw_eq]

theorem dq_point (h0 : A0 m c = lift q) (h1 : A1 m c = lift k) (h2 : A2 m c = lift v) (h3 : A3 m c = lift o) (t : Fin cfg0.N) (r : Fin 1024) (d : Fin 96) :
    dqAt m c t.val (ix3 0 r d) = ((∑ b, ds (Qh q (hd t)) (Hd k (hd t)) (Hd v (hd t)) (Hd o (hd t)) (qb t r) (kb t b) * Hd k (hd t) (kb t b) d : ℝ) : EReal) := by
  refine (point_q m c t _).trans ((pay3_apply (blk0 h1 t) (blk1 h2 t) (blk2 h0 t) (blk3 h3 t) (blk4 h0 h1 t) (blk5 h0 h1 h2 h3 t) r d).trans (congrArg _ ?_))
  exact Finset.sum_congr rfl fun b _ => by rw [pd_eq]

/-! ## A whole row or column of blocks -/

theorem sum16 (f : Fin 16384 → ℝ) (G : ℕ → EReal) (hG : ∀ n : Fin 16, G n.val = ((∑ r : Fin 1024, f ⟨1024 * n.val + r.val, by omega⟩ : ℝ) : EReal)) :
    ∑ n ∈ Finset.range 16, G n = ((∑ i, f i : ℝ) : EReal) := by
  rw [Finset.sum_range, ← sum_blocks f (fun n r => if h : n < 16 then f ⟨1024 * n + r.val, by omega⟩ else 0) fun n r => dif_pos n.isLt,
    Finset.sum_range, ← coe_sum]
  refine Finset.sum_congr rfl fun n _ => (hG n).trans (congrArg _ (Finset.sum_congr rfl fun r _ => ?_))
  simp only [n.isLt, dif_pos]

theorem dk_sum (h0 : A0 m c = lift q) (h1 : A1 m c = lift k) (h2 : A2 m c = lift v) (h3 : A3 m c = lift o) (t : Fin cfg0.N) (ht : t.val % 16 = 15)
    (X : S1x1024x96.Idx → EReal) (hX : DkOk m c t.val X) (r : Fin 1024) (d : Fin 96) :
    X (ix3 0 r d) = (dK (Qh q (hd t)) (Hd k (hd t)) (Hd v (hd t)) (Hd o (hd t)) (kb t r) d : EReal) := by
  rw [hX, ht]
  refine sum16 (fun a => ds (Qh q (hd t)) (Hd k (hd t)) (Hd v (hd t)) (Hd o (hd t)) a (kb t r) * Qh q (hd t) a d) _ fun n => ?_
  have hlt := lt_N t
  have hu : t.val / 16 * 16 + n.val < cfg0.N := lt_of_lt_of_eq (by omega : _ < 3072) (show 3072 = cfg0.N from N_0.symm)
  refine (dk_point h0 h1 h2 h3 ⟨t.val / 16 * 16 + n.val, hu⟩ r d).trans ?_
  have e1 : hd ⟨t.val / 16 * 16 + n.val, hu⟩ = hd t := Fin.ext (by show (t.val / 16 * 16 + n.val) / 256 = t.val / 256; omega)
  have e2 : kb ⟨t.val / 16 * 16 + n.val, hu⟩ r = kb t r := Fin.ext (by show 1024 * ((t.val / 16 * 16 + n.val) / 16 % 16) + r.val = 1024 * (t.val / 16 % 16) + r.val; omega)
  rw [e1, e2]
  refine congrArg _ (Finset.sum_congr rfl fun a _ => ?_)
  rw [show qb ⟨t.val / 16 * 16 + n.val, hu⟩ a = ⟨1024 * n.val + a.val, by omega⟩ from Fin.ext (by show 1024 * ((t.val / 16 * 16 + n.val) % 16) + a.val = 1024 * n.val + a.val; omega)]

theorem dv_sum (h0 : A0 m c = lift q) (h1 : A1 m c = lift k) (h3 : A3 m c = lift o) (t : Fin cfg0.N) (ht : t.val % 16 = 15)
    (X : S1x1024x64.Idx → EReal) (hX : DvOk m c t.val X) (r : Fin 1024) (e : Fin 64) :
    X (ix3 0 r e) = (dV (Qh q (hd t)) (Hd k (hd t)) (Hd o (hd t)) (kb t r) e : EReal) := by
  rw [hX, ht]
  refine sum16 (fun a => wt (Qh q (hd t)) (Hd k (hd t)) a (kb t r) * Hd o (hd t) a e) _ fun n => ?_
  have hlt := lt_N t
  have hu : t.val / 16 * 16 + n.val < cfg0.N := lt_of_lt_of_eq (by omega : _ < 3072) (show 3072 = cfg0.N from N_0.symm)
  refine (dv_point h0 h1 h3 ⟨t.val / 16 * 16 + n.val, hu⟩ r e).trans ?_
  have e1 : hd ⟨t.val / 16 * 16 + n.val, hu⟩ = hd t := Fin.ext (by show (t.val / 16 * 16 + n.val) / 256 = t.val / 256; omega)
  have e2 : kb ⟨t.val / 16 * 16 + n.val, hu⟩ r = kb t r := Fin.ext (by show 1024 * ((t.val / 16 * 16 + n.val) / 16 % 16) + r.val = 1024 * (t.val / 16 % 16) + r.val; omega)
  rw [e1, e2]
  refine congrArg _ (Finset.sum_congr rfl fun a _ => ?_)
  rw [show qb ⟨t.val / 16 * 16 + n.val, hu⟩ a = ⟨1024 * n.val + a.val, by omega⟩ from Fin.ext (by show 1024 * ((t.val / 16 * 16 + n.val) % 16) + a.val = 1024 * n.val + a.val; omega)]

theorem dq_sum (h0 : A0 m c = lift q) (h1 : A1 m c = lift k) (h2 : A2 m c = lift v) (h3 : A3 m c = lift o) (t : Fin cfg0.N) (ht : t.val % 256 = 255)
    (X : S1x16384x96.Idx → EReal) (hX : DqOk m c t.val X) (n : Fin 16) (r : Fin 1024) (d : Fin 96) :
    X (rowIx n r d) = (dQ (Qh q (hd t)) (Hd k (hd t)) (Hd v (hd t)) (Hd o (hd t)) ⟨1024 * n.val + r.val, by omega⟩ d : EReal) := by
  have hc : cnt t.val n.val = 16 := by unfold cnt; omega
  rw [hX n r d (by omega), hc]
  refine sum16 (fun b => ds (Qh q (hd t)) (Hd k (hd t)) (Hd v (hd t)) (Hd o (hd t)) ⟨1024 * n.val + r.val, by omega⟩ b * Hd k (hd t) b d) _ fun j => ?_
  have hlt := lt_N t
  have hu : t.val / 256 * 256 + 16 * j.val + n.val < cfg0.N := lt_of_lt_of_eq (by omega : _ < 3072) (show 3072 = cfg0.N from N_0.symm)
  refine (dq_point h0 h1 h2 h3 ⟨t.val / 256 * 256 + 16 * j.val + n.val, hu⟩ r d).trans ?_
  have e1 : hd ⟨t.val / 256 * 256 + 16 * j.val + n.val, hu⟩ = hd t := Fin.ext (by show (t.val / 256 * 256 + 16 * j.val + n.val) / 256 = t.val / 256; omega)
  have e2 : qb ⟨t.val / 256 * 256 + 16 * j.val + n.val, hu⟩ r = ⟨1024 * n.val + r.val, by omega⟩ := Fin.ext (by show 1024 * ((t.val / 256 * 256 + 16 * j.val + n.val) % 16) + r.val = 1024 * n.val + r.val; omega)
  rw [e1, e2]
  refine congrArg _ (Finset.sum_congr rfl fun b _ => ?_)
  rw [show kb ⟨t.val / 256 * 256 + 16 * j.val + n.val, hu⟩ b = ⟨1024 * j.val + b.val, by omega⟩ from Fin.ext (by show 1024 * ((t.val / 256 * 256 + 16 * j.val + n.val) / 16 % 16) + b.val = 1024 * j.val + b.val; omega)]

end Cert.KernelIdeal.Hand

end
-- ==== Proof.Arr.lean ====
module

public import proofs.«01_k».proof.Proof.Blk
public import Idealize.ShloMosaic.Lib.Pipeline.ArrRel
public import Idealize.ShloMosaic.Lib.Pipeline.ValueKit.Geometry

@[expose] public section

noncomputable section

/-! The kernel's three result arrays after its run, as the model's gradients. -/

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.Sem
open Idealize.ShloMosaic.Pipeline (Dat RDat)
open Idealize.ShloMosaic.ValueIdx
open Cert.KernelIdeal.Gen (iblk)

/-- The gradient with respect to the keys, head by head. -/
def GK (q k : (Tok 96).Idx → ℝ) (v o : (Tok 64).Idx → ℝ) : S12x16384x96.Idx → EReal :=
  fun i => (dK (Qh q (i 0)) (Hd k (i 0)) (Hd v (i 0)) (Hd o (i 0)) (i 1) (i 2) : EReal)
/-- The gradient with respect to the values. -/
def GV (q k : (Tok 96).Idx → ℝ) (o : (Tok 64).Idx → ℝ) : S12x16384x64.Idx → EReal :=
  fun i => (dV (Qh q (i 0)) (Hd k (i 0)) (Hd o (i 0)) (i 1) (i 2) : EReal)
/-- The gradient with respect to the scaled queries. -/
def GQ (q k : (Tok 96).Idx → ℝ) (v o : (Tok 64).Idx → ℝ) : S12x16384x96.Idx → EReal :=
  fun i => (dQ (Qh q (i 0)) (Hd k (i 0)) (Hd v (i 0)) (Hd o (i 0)) (i 1) (i 2) : EReal)

theorem emb6 (t : Fin cfg0.N) (r : Fin 1024) (d : Fin 96) : (win0_6.rect t).emb (ix3 0 r d) = ix3 (hd t) (kb t r) d := by
  funext a; apply Fin.ext
  match a with
  | ⟨0, _⟩ => exact (win0_6.rect_emb_val t _ 0).trans (show (BitVec.ofNat 32 (grid0.coords t 0).val).toNat * 1 + 0 = t.val / 256 by rw [word0]; omega)
  | ⟨1, _⟩ => exact (win0_6.rect_emb_val t _ 1).trans (show (BitVec.ofNat 32 (grid0.coords t 1).val).toNat * 1024 + r.val = 1024 * (t.val / 16 % 16) + r.val by rw [word1]; omega)
  | ⟨2, _⟩ => exact (win0_6.rect_emb_val t _ 2).trans (show 0 * 96 + d.val = d.val by omega)

theorem emb7 (t : Fin cfg0.N) (r : Fin 1024) (d : Fin 64) : (win0_7.rect t).emb (ix3 0 r d) = ix3 (hd t) (kb t r) d := by
  funext a; apply Fin.ext
  match a with
  | ⟨0, _⟩ => exact (win0_7.rect_emb_val t _ 0).trans (show (BitVec.ofNat 32 (grid0.coords t 0).val).toNat * 1 + 0 = t.val / 256 by rw [word0]; omega)
  | ⟨1, _⟩ => exact (win0_7.rect_emb_val t _ 1).trans (show (BitVec.ofNat 32 (grid0.coords t 1).val).toNat * 1024 + r.val = 1024 * (t.val / 16 % 16) + r.val by rw [word1]; omega)
  | ⟨2, _⟩ => exact (win0_7.rect_emb_val t _ 2).trans (show 0 * 64 + d.val = d.val by omega)

theorem emb8 (t : Fin cfg0.N) (n : Fin 16) (r : Fin 1024) (d : Fin 96) : (win0_8.rect t).emb (rowIx n r d) = ix3 (hd t) ⟨1024 * n.val + r.val, by omega⟩ d := by
  funext a; apply Fin.ext
  match a with
  | ⟨0, _⟩ => exact (win0_8.rect_emb_val t _ 0).trans (show (BitVec.ofNat 32 (grid0.coords t 0).val).toNat * 1 + 0 = t.val / 256 by rw [word0]; omega)
  | ⟨1, _⟩ => exact (win0_8.rect_emb_val t _ 1).trans (show 0 * 16384 + (1024 * n.val + r.val) = 1024 * n.val + r.val by omega)
  | ⟨2, _⟩ => exact (win0_8.rect_emb_val t _ 2).trans (show 0 * 96 + d.val = d.val by omega)

theorem ix3_eq {n d : ℕ} (y : (⟨3, ![1, n, d]⟩ : Shape).Idx) : y = ix3 0 (y 1) (y 2) := by
  funext a
  match a with
  | ⟨0, _⟩ => exact Subsingleton.elim (α := Fin 1) _ _
  | ⟨1, _⟩ => rfl
  | ⟨2, _⟩ => rfl

theorem row_eq (y : S1x16384x96.Idx) : y = rowIx ⟨(y 1).val / 1024, by have := (y 1).isLt; change _ < 16384 at this; omega⟩ ⟨(y 1).val % 1024, by omega⟩ (y 2) := by
  refine (ix3_eq y).trans ?_
  unfold rowIx
  refine congrArg (fun z => ix3 0 z (y 2)) (Fin.ext ?_)
  show (y 1).val = 1024 * ((y 1).val / 1024) + (y 1).val % 1024
  omega

variable {m : (ℓ : Loc nD τ sig) → Buf (Elt Ideal) ℓ} {c : Dev nD} {q k : (Tok 96).Idx → ℝ} {v o : (Tok 64).Idx → ℝ}

theorem step6 (h0 : A0 m c = lift q) (h1 : A1 m c = lift k) (h2 : A2 m c = lift v) (h3 : A3 m c = lift o) (t : Fin cfg0.N) (ht : t.val % 16 = 15)
    (X : S1x1024x96.Idx → EReal) (hX : DkOk m c t.val X) (y : S1x1024x96.Idx) : X y = GK q k v o ((win0_6.rect t).emb y) :=
  (congrArg X (ix3_eq y)).trans ((dk_sum h0 h1 h2 h3 t ht X hX (y 1) (y 2)).trans
    (congrArg (GK q k v o) ((congrArg (win0_6.rect t).emb (ix3_eq y)).trans (emb6 t (y 1) (y 2)))).symm)

theorem step7 (h0 : A0 m c = lift q) (h1 : A1 m c = lift k) (h3 : A3 m c = lift o) (t : Fin cfg0.N) (ht : t.val % 16 = 15)
    (X : S1x1024x64.Idx → EReal) (hX : DvOk m c t.val X) (y : S1x1024x64.Idx) : X y = GV q k o ((win0_7.rect t).emb y) :=
  (congrArg X (ix3_eq y)).trans ((dv_sum h0 h1 h3 t ht X hX (y 1) (y 2)).trans
    (congrArg (GV q k o) ((congrArg (win0_7.rect t).emb (ix3_eq y)).trans (emb7 t (y 1) (y 2)))).symm)

theorem step8 (h0 : A0 m c = lift q) (h1 : A1 m c = lift k) (h2 : A2 m c = lift v) (h3 : A3 m c = lift o) (t : Fin cfg0.N) (ht : t.val % 256 = 255)
    (X : S1x16384x96.Idx → EReal) (hX : DqOk m c t.val X) (y : S1x16384x96.Idx) : X y = GQ q k v o ((win0_8.rect t).emb y) :=
  (congrArg X (row_eq y)).trans ((dq_sum h0 h1 h2 h3 t ht X hX _ _ (y 2)).trans
    (congrArg (GQ q k v o) ((congrArg (win0_8.rect t).emb (row_eq y)).trans (emb8 t _ _ (y 2)))).symm)

section
variable (after : (w' : Fin cfg0.W) → Fin cfg0.N → (cfg0.win w').block.Idx → (Elt Ideal) (cfg0.win w').elt)

theorem arr6 (h0 : A0 m c = lift q) (h1 : A1 m c = lift k) (h2 : A2 m c = lift v) (h3 : A3 m c = lift o)
    (hL : ∀ t : Fin cfg0.N, (cfg0.win 6).flush t = true → DkOk m c t.val (after 6 t)) :
    ((rdats m c).withAfter after).arrAt 6 cfg0.N = GK q k v o := by
  refine Dat.arrAt_eq_of_covers _ 6 _ (by decide +kernel) fun t hf y => ?_
  have ht : t.val % 16 = 15 := by rw [flush0_6] at hf; exact hf
  exact step6 h0 h1 h2 h3 t ht _ (hL t hf) y

theorem arr7 (h0 : A0 m c = lift q) (h1 : A1 m c = lift k) (h3 : A3 m c = lift o)
    (hL : ∀ t : Fin cfg0.N, (cfg0.win 7).flush t = true → DvOk m c t.val (after 7 t)) :
    ((rdats m c).withAfter after).arrAt 7 cfg0.N = GV q k o := by
  refine Dat.arrAt_eq_of_covers _ 7 _ (by decide +kernel) fun t hf y => ?_
  have ht : t.val % 16 = 15 := by rw [flush0_7] at hf; exact hf
  exact step7 h0 h1 h3 t ht _ (hL t hf) y

theorem arr8 (h0 : A0 m c = lift q) (h1 : A1 m c = lift k) (h2 : A2 m c = lift v) (h3 : A3 m c = lift o)
    (hL : ∀ t : Fin cfg0.N, (cfg0.win 8).flush t = true → DqOk m c t.val (after 8 t)) :
    ((rdats m c).withAfter after).arrAt 8 cfg0.N = GQ q k v o := by
  refine Dat.arrAt_eq_of_covers _ 8 _ (by decide +kernel) fun t hf y => ?_
  have ht : t.val % 256 = 255 := by rw [flush0_8] at hf; exact hf
  exact step8 h0 h1 h2 h3 t ht _ (hL t hf) y
end

/-- After the run each device's result arrays are the model's gradients. -/
theorem results {r : PUnit × MemSt nD τ sig (Elt Ideal)} (h : RDat.FramePost (cfgs 0) (rdats m) (V m) r)
    (h0 : A0 m c = lift q) (h1 : A1 m c = lift k) (h2 : A2 m c = lift v) (h3 : A3 m c = lift o) :
    r.2.mem ((c.tc : Thread nD τ).loc main_v35_0) = GK q k v o
    ∧ r.2.mem ((c.tc : Thread nD τ).loc main_v35_1) = GV q k o
    ∧ r.2.mem ((c.tc : Thread nD τ).loc main_v35_2) = GQ q k v o := by
  obtain ⟨after, hL, hA⟩ := h.exists_exact c
  refine ⟨(hA 6).trans (arr6 after h0 h1 h2 h3 fun t ht => ?_), (hA 7).trans (arr7 after h0 h1 h3 fun t ht => ?_), (hA 8).trans (arr8 after h0 h1 h2 h3 fun t ht => ?_)⟩
  · exact (dats m 0 c).toRRel_leaves rfl (hL 6 t ht)
  · exact (dats m 0 c).toRRel_leaves rfl (hL 7 t ht)
  · exact (dats m 0 c).toRRel_leaves rfl (hL 8 t ht)

end Cert.KernelIdeal.Hand

end
-- ==== Proof.Real.lean ====
module

public import proofs.«01_k».proof.Proof.Data
public import proofs.«01_k».proof.Proof.Gen.Pre_finite
public import Idealize.ShloMosaic.Lib.ReduceAll

@[expose] public section

noncomputable section

/-! What the precondition says: every entry of the four arguments is a real number. -/

namespace Cert.Pre_finite.Hand

open Cert.Pre_finite Cert.Attn
open Idealize.ShloMosaic Idealize.ShloMosaic.ValueIdx

theorem inf_eq : Ideal.ofBits .f32 0x7F800000#32 = (⊤ : EReal) := by
  simp [Ideal.ofBits, Ideal.ieee]

theorem real_of_lt {x : EReal} (h : Ideal.cmp .olt (max x (-x)) (Ideal.ofBits .f32 0x7F800000#32) = 1#1) : x = ((x.toReal : ℝ) : EReal) := by
  rw [inf_eq] at h
  have h' : max x (-x) < ⊤ := by
    by_contra hn
    simp [Ideal.cmp, hn] at h
  rw [max_lt_iff] at h'
  refine (EReal.coe_toReal h'.1.ne ?_).symm
  rintro rfl
  exact absurd h'.2 (by simp)

/-- One argument's conjunct. -/
theorem lift_of_all {s : Shape} (x : FVec Ideal s .f32) (hb : S_.BroadcastsInDim s (![] : Fin 0 → Fin s.rank)) {axes : List (Fin s.rank)} (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu = fun _ => 1#1) :
    x = lift fun i => (x i).toReal :=
  have : Subsingleton S_.Idx := ⟨fun a b => funext fun i => i.elim0⟩
  funext fun i => real_of_lt (Host.reduce_andi_all _ _ hr hu (fun i => i.elim0) (congrFun e _) i)

theorem real (a0 a1 : FVec Ideal S16384x12x96 .f32) (a2 a3 : FVec Ideal S16384x12x64 .f32) (h : fn (F := Ideal) a0 a1 a2 a3 = fun _ => 1#1) :
    a0 = lift (fun i => (a0 i).toReal) ∧ a1 = lift (fun i => (a1 i).toReal) ∧ a2 = lift (fun i => (a2 i).toReal) ∧ a3 = lift (fun i => (a3 i).toReal) := by
  have hj := fun j => IntOp.andi_eq_one.1 (congrFun h j)
  have hk := fun j => IntOp.andi_eq_one.1 (hj j).1
  have hl := fun j => IntOp.andi_eq_one.1 (hk j).1
  exact ⟨lift_of_all a0 _ _ _ (funext fun j => (hl j).1), lift_of_all a1 _ _ _ (funext fun j => (hl j).2), lift_of_all a2 _ _ _ (funext fun j => (hk j).2), lift_of_all a3 _ _ _ (funext fun j => (hj j).2)⟩

end Cert.Pre_finite.Hand

end
-- ==== Proof.Alg.lean ====
module

public import proofs.«01_k».proof.Defs
public import proofs.«01_k».proof.Proof.Arr
public import proofs.«01_k».proof.Proof.Real
public import proofs.«01_k».proof.Proof.Gen.ReferenceIdeal.Run

@[expose] public section

noncomputable section

/-! The kernel's and the reference's results are the model's gradients, so they are equal. -/

namespace Cert.Proof

open Idealize.ShloMosaic Idealize.SL.Sem Idealize.ShloMosaic.ValueIdx Cert.Attn
open Cert.KernelIdeal.Hand (GK GV GQ A0 A1 A2 A3)

theorem idx3 {l n d : ℕ} (y : (⟨3, ![l, n, d]⟩ : Shape).Idx) : y = ix3 (y 0) (y 1) (y 2) := by
  funext a
  match a with
  | ⟨0, _⟩ => rfl
  | ⟨1, _⟩ => rfl
  | ⟨2, _⟩ => rfl

section
open Cert.ReferenceIdeal
variable (m : (ℓ : Loc nD τ sig) → Buf (Elt Ideal) ℓ) (c : Dev nD) {q k : (Tok 96).Idx → ℝ} {v o : (Tok 64).Idx → ℝ}

theorem ref_k (h0 : m ((c.tc : Thread nD τ).loc main_arg0) = lift q) (h1 : m ((c.tc : Thread nD τ).loc main_arg1) = lift k)
    (h2 : m ((c.tc : Thread nD τ).loc main_arg2) = lift v) (h3 : m ((c.tc : Thread nD τ).loc main_arg3) = lift o) :
    Value.res_main_v53 m c = GK q k v o := by
  rw [Read.val_main_v53_eq, h0, h1, h2, h3]
  funext i
  exact (congrArg _ (idx3 i)).trans (Hand.res_k q k v o (i 0) (i 1) (i 2))

theorem ref_v (h0 : m ((c.tc : Thread nD τ).loc main_arg0) = lift q) (h1 : m ((c.tc : Thread nD τ).loc main_arg1) = lift k)
    (h3 : m ((c.tc : Thread nD τ).loc main_arg3) = lift o) :
    Read.val_main_v54 (F := Ideal) (m ((c.tc : Thread nD τ).loc main_arg0)) (m ((c.tc : Thread nD τ).loc main_arg1)) (m ((c.tc : Thread nD τ).loc main_arg3)) = GV q k o := by
  rw [h0, h1, h3]
  funext i
  exact (congrArg _ (idx3 i)).trans (Hand.res_v q k o (i 0) (i 1) (i 2))

theorem ref_q (h0 : m ((c.tc : Thread nD τ).loc main_arg0) = lift q) (h1 : m ((c.tc : Thread nD τ).loc main_arg1) = lift k)
    (h2 : m ((c.tc : Thread nD τ).loc main_arg2) = lift v) (h3 : m ((c.tc : Thread nD τ).loc main_arg3) = lift o) :
    Value.res_main_v55 m c = GQ q k v o := by
  rw [Read.val_main_v55_eq, h0, h1, h2, h3]
  funext i
  exact (congrArg _ (idx3 i)).trans (Hand.res_q q k v o (i 0) (i 1) (i 2))
end

theorem algebraic : algebraic_KernelIdeal_ReferenceIdeal_pre_finite := by
  intro m g m' g' hpre hargs
  have hr := fun c => Cert.Pre_finite.Hand.real _ _ _ _ (hpre c)
  refine ⟨fun c => GK (fun i => (A0 m c i).toReal) (fun i => (A1 m c i).toReal) (fun i => (A2 m c i).toReal) (fun i => (A3 m c i).toReal),
    fun c => GV (fun i => (A0 m c i).toReal) (fun i => (A1 m c i).toReal) (fun i => (A3 m c i).toReal),
    fun c => GQ (fun i => (A0 m c i).toReal) (fun i => (A1 m c i).toReal) (fun i => (A2 m c i).toReal) (fun i => (A3 m c i).toReal), ?_, ?_⟩
  · refine (θ_run Cert.KernelIdeal.defs _ _).mono (fun r h c => ?_) (Cert.KernelIdeal.Hand.run_main m g)
    obtain ⟨e0, e1, e2, e3⟩ := hr c
    obtain ⟨rk, rv, rq⟩ := Cert.KernelIdeal.Hand.results (c := c) h.1 e0 e1 e2 e3
    exact ⟨rk, rv, rq, Cert.KernelIdeal.Hand.kept m h.1 c⟩
  · refine (θ_run Cert.ReferenceIdeal.defs _ _).mono (fun r h c => ?_) (Cert.ReferenceIdeal.Value.run (F := Ideal) m' g')
    obtain ⟨e0, e1, e2, e3⟩ := hr c
    obtain ⟨a0, a1, a2, a3⟩ := hargs c
    exact ⟨(h c).1.trans (ref_k m' c (a0.trans e0) (a1.trans e1) (a2.trans e2) (a3.trans e3)),
      (h c).2.1.trans (ref_v m' c (a0.trans e0) (a1.trans e1) (a3.trans e3)),
      (h c).2.2.1.trans (ref_q m' c (a0.trans e0) (a1.trans e1) (a2.trans e2) (a3.trans e3)), (h c).2.2.2⟩

end Cert.Proof

end
-- ==== Proof.Ffn.lean ====
module

public import proofs.«01_k».proof.Proof.Data
public import Idealize.ShloMosaic.Lib.MatmulPlain
public import Idealize.ShloMosaic.Lib.ValueLayout
public import Idealize.ShloMosaic.Lib.Pipeline.Value

@[expose] public section

noncomputable section

/-! What the feed-forward block's calls share: a product accumulated over tiles of the summed axis is the whole
    product. -/

namespace Cert.Ffn

open Idealize.ShloMosaic Idealize.ShloMosaic.ValueIdx

theorem hz : (![0, 0] : Fin 2 → Nat) = fun _ => 0 := funext fun a => by fin_cases a <;> rfl

theorem idx2 {n d : ℕ} (y : (⟨2, ![n, d]⟩ : Shape).Idx) : y = ix2 (y 0) (y 1) := by
  funext a
  match a with
  | ⟨0, _⟩ => rfl
  | ⟨1, _⟩ => rfl

/-- A sum tile by tile is the whole sum. -/
theorem sum_tiles {M : Type} [AddCommMonoid M] {L B N : ℕ} (hN : L * B = N) (f : Fin N → M) (g : ℕ → M)
    (h : ∀ n : Fin L, g n.val = ∑ r : Fin B, f ⟨B * n.val + r.val, by
      have := Nat.mul_le_mul_left B n.isLt; have := r.isLt; rw [← hN, Nat.mul_comm L]; rw [Nat.mul_succ] at *; omega⟩) :
    ∑ n ∈ Finset.range L, g n = ∑ i : Fin N, f i := by
  subst hN
  rw [Finset.sum_range, Finset.sum_congr rfl fun n _ => h n, ← Fintype.sum_prod_type' (f := fun (n : Fin L) (r : Fin B) => f ⟨B * n.val + r.val, _⟩)]
  refine Fintype.sum_equiv (finProdFinEquiv (m := L) (n := B)) _ _ fun p => congrArg f (Fin.ext ?_)
  show B * p.1.val + p.2.val = p.2.val + B * p.1.val
  omega

/-- An accumulator restarted every `L` points holds the sum of the points since its restart. -/
theorem acc_sum {M : Type} [AddCommMonoid M] (L : ℕ) {N : ℕ} (hL : 0 < L) (f : (n : ℕ) → n < N → M) (P : (n : ℕ) → M)
    (h0 : ∀ n h, n % L = 0 → f n h = 0 + P n)
    (hs : ∀ n h, ¬n % L = 0 → f n h = f (n - 1) (Nat.lt_of_le_of_lt (Nat.sub_le _ _) h) + P n) :
    ∀ n h, f n h = ∑ j ∈ Finset.range (n % L + 1), P (n / L * L + j) := by
  intro n
  induction n with
  | zero => intro h; rw [h0 0 h (Nat.zero_mod L), Nat.zero_mod, Nat.zero_div, zero_add, Finset.sum_range_one, Nat.zero_mul]
  | succ n ih =>
    intro h
    by_cases hn : (n + 1) % L = 0
    · rw [h0 _ h hn, hn, zero_add, zero_add, Finset.sum_range_one, Nat.div_mul_cancel (Nat.dvd_of_mod_eq_zero hn), add_zero]
    · have e1 := Nat.div_add_mod n L
      have hm : (n + 1) % L = n % L + 1 := by
        rcases Nat.lt_or_ge (n % L + 1) L with h1 | h1
        · rw [show n + 1 = L * (n / L) + (n % L + 1) by omega, Nat.mul_add_mod, Nat.mod_eq_of_lt h1]
        · have := Nat.mod_lt n hL
          exact absurd (by rw [show n + 1 = L * (n / L) + L by omega, Nat.mul_add_mod, Nat.mod_self]) hn
      have hd : (n + 1) / L = n / L := by
        have e2 := Nat.div_add_mod (n + 1) L
        exact Nat.eq_of_mul_eq_mul_left hL (by omega)
      have hi := ih (Nat.lt_of_succ_lt h)
      rw [hs _ h hn, hm, hd, Finset.sum_range_succ _ (n % L + 1), ← hi]
      rw [show n / L * L + (n % L + 1) = n + 1 by rw [Nat.mul_comm]; omega]
      rfl

theorem zero_at {s : Shape} (i : s.Idx) : constant (F := Ideal) s .f32 0x00000000#32 i = (0 : EReal) := Ideal.ofBits_zero_f32

/-- A product over the rows of both operands. -/
theorem dot_rows {M K N : ℕ} {φ₁ φ₂ : FTy} (d : DotDims ⟨2, ![K, M]⟩ ⟨2, ![K, N]⟩ ⟨2, ![M, N]⟩)
    (hr : d.contr.rank = 1) (hk : d.contr.size ⟨0, by rw [hr]; exact Nat.one_pos⟩ = K)
    (hl : ∀ i q a, (d.lhsIdx i q a : ℕ) = if a = 0 then (q ⟨0, by rw [hr]; exact Nat.one_pos⟩ : ℕ) else (i 0 : ℕ))
    (hr' : ∀ i q a, (d.rhsIdx i q a : ℕ) = if a = 0 then (q ⟨0, by rw [hr]; exact Nat.one_pos⟩ : ℕ) else (i 1 : ℕ))
    (prec : Option ContractPrecision) (x : FVec Ideal ⟨2, ![K, M]⟩ φ₁) (y : FVec Ideal ⟨2, ![K, N]⟩ φ₂) (r : Fin M) (s : Fin N) :
    matmul (F := Ideal) d prec x y (constant ⟨2, ![M, N]⟩ .f32 0x00000000#32) (ix2 r s) = ∑ b : Fin K, x (ix2 b r) * y (ix2 b s) := by
  refine (Ideal.matmul_constant_zero_apply (φ₁ := φ₁) (φ₂ := φ₂) d prec x y (ix2 r s)).trans ?_
  rw [← Equiv.sum_comp (contrEquiv1 d K hr hk).symm]
  refine Finset.sum_congr rfl fun b _ => ?_
  have hb := contrEquiv1_symm_val d K hr hk b
  refine congrArg₂ (fun u v : EReal => u * v) (congrArg x (funext fun c => Fin.ext ?_)) (congrArg y (funext fun c => Fin.ext ?_))
  · rw [hl]
    match c with
    | ⟨0, _⟩ => exact hb
    | ⟨1, _⟩ => rfl
  · rw [hr']
    match c with
    | ⟨0, _⟩ => exact hb
    | ⟨1, _⟩ => rfl

/-! A row's normalizing factor, as the calls spell it. -/

/-- A column broadcast over the row. -/
theorem col_bcast {M N : ℕ} {α : Type} (v : (⟨2, ![M, 1]⟩ : Shape).Idx → α) (h : (⟨2, ![M, 1]⟩ : Shape).Broadcasts ⟨2, ![M, N]⟩) (r : Fin M) (s : Fin N) :
    broadcastTo ⟨2, ![M, N]⟩ v h (ix2 r s) = v (ix2 r (0 : Fin 1)) := by
  refine broadcastTo_apply v h (ix2 r s) (ix2 r (0 : Fin 1)) fun ax => ?_
  match ax with
  | ⟨0, _⟩ =>
    show r.val = if M = 1 then 0 else r.val
    split
    · have := r.isLt; omega
    · rfl
  | ⟨1, _⟩ => rfl

/-- A sum over a row, kept as a column. -/
theorem row_sum {M N : ℕ} (x : FVec Ideal ⟨2, ![M, N]⟩ .f32) (acc) (h : (⟨2, ![M, N]⟩ : Shape).Reduces [1] ⟨1, ![M]⟩) (hφ hacc) (h' : (⟨1, ![M]⟩ : Shape).ShapeCasts ⟨2, ![M, 1]⟩) (r : Fin M) :
    shapeCast ⟨2, ![M, 1]⟩ (multiReduction .add [1] ⟨1, ![M]⟩ x acc h hφ hacc) h' (ix2 r (0 : Fin 1)) = (∑ k : Fin N, x (ix2 r k) : EReal) := by
  refine (shapeCast_apply _ h' (ix2 r (0 : Fin 1)) (ix1 r) ?_).trans ((Ideal.multiReduction_add_single x acc h hφ hacc (ix1 r)).trans (Finset.sum_congr rfl fun k _ => congrArg x ?_))
  · rw [Shape.rowMajor_val_one, Shape.rowMajor_val_two]
    show r.val = r.val * 1 + 0
    omega
  · exact funext fun a => Fin.ext (by match a with | ⟨0, _⟩ => rfl | ⟨1, _⟩ => rfl)

/-- The reciprocal root of a row's mean square and the small constant. -/
def rr (x : Fin 1024 → EReal) : EReal :=
  Ideal.rsqrt (Ideal.div (∑ k, x k * x k) (Ideal.ofBits .f32 0x44800000#32) + Ideal.ofBits .f32 0x358637BD#32)

theorem rr_at {M : ℕ} (x : FVec Ideal ⟨2, ![M, 1024]⟩ .f32) (acc) (h : (⟨2, ![M, 1024]⟩ : Shape).Reduces [1] ⟨1, ![M]⟩) (hφ hacc) (h' : (⟨1, ![M]⟩ : Shape).ShapeCasts ⟨2, ![M, 1]⟩) (r : Fin M) :
    rsqrt (F := Ideal) (addf (divf (shapeCast ⟨2, ![M, 1]⟩ (multiReduction .add [1] ⟨1, ![M]⟩ (mulf x x) acc h hφ hacc) h') (broadcast ⟨2, ![M, 1]⟩ (Scalar.ofBits (F := Ideal) .f32 0x44800000#32)))
      (broadcast ⟨2, ![M, 1]⟩ (Scalar.ofBits (F := Ideal) .f32 0x358637BD#32))) (ix2 r (0 : Fin 1)) = rr fun k => x (ix2 r k) :=
  congrArg (fun z => Ideal.rsqrt (Ideal.div z (Ideal.ofBits .f32 0x44800000#32) + Ideal.ofBits .f32 0x358637BD#32))
    (row_sum (mulf x x) acc h hφ hacc h' r)

end Cert.Ffn

end
-- ==== Proof.Up.lean ====
module

public import proofs.«01_k».proof.Defs
public import proofs.«01_k».proof.Proof.Ffn
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit.Geometry

@[expose] public section

noncomputable section

/-! The up projections: two products at every point, and the gated activation of the two. -/

namespace Cert.UpIdeal.Hand

open Cert.UpIdeal Cert.UpIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (x0 : Vec F S1024x1024 .bf16) (x1 : Vec F S1024x512 .bf16) (x2 : Vec F S1024x1024 .bf16) (x3 : Vec F S1024x512 .bf16)

theorem out4_eq : out0_4 x0 x1 x2 x3 = k0_pay3 x0 x1 := by
  unfold out0_4
  rw [View.canon_unit_zero hz]
  simp only [View.ld_unit_zero (S := S1024x1024) hz, View.ld_unit_zero (S := S1024x512) hz]
theorem out5_eq : out0_5 x0 x1 x2 x3 = k0_pay4 x2 x3 := by
  unfold out0_5
  rw [View.canon_unit_zero hz]
  simp only [View.ld_unit_zero (S := S1024x1024) hz, View.ld_unit_zero (S := S1024x512) hz]
theorem out6_eq : out0_6 x0 x1 x2 x3 = k0_pay5 x0 x1 x2 x3 := by
  unfold out0_6
  rw [View.canon_unit_zero hz]
  simp only [View.ld_unit_zero (S := S1024x1024) hz, View.ld_unit_zero (S := S1024x512) hz]
end

theorem pay1_at (x0 : FVec Ideal S1024x1024 .bf16) (x1 : FVec Ideal S1024x512 .bf16) (r : Fin 1024) (s : Fin 512) :
    k0_pay1 (F := Ideal) x0 x1 (ix2 r s) = (∑ k : Fin 1024, x0 (ix2 r k) * x1 (ix2 k s) : EReal) :=
  (Ideal.matmul_plain_apply (φ₁ := .bf16) (φ₂ := .bf16) none x0 x1 (constant ⟨2, ![1024, 512]⟩ .f32 0x00000000#32) r s).trans
    (by rw [zero_at, zero_add])

/-- The activation's element, from the two products'. -/
def act (g u : EReal) : EReal := g * Ideal.logistic g * u

theorem pay5_at (x0 : FVec Ideal S1024x1024 .bf16) (x1 : FVec Ideal S1024x512 .bf16) (x2 : FVec Ideal S1024x1024 .bf16) (x3 : FVec Ideal S1024x512 .bf16) (y : S1024x512.Idx) :
    k0_pay5 (F := Ideal) x0 x1 x2 x3 y = act (k0_pay1 (F := Ideal) x0 x1 y) (k0_pay2 (F := Ideal) x2 x3 y) := by
  unfold k0_pay5
  generalize k0_pay1 (F := Ideal) x0 x1 = g
  generalize k0_pay2 (F := Ideal) x2 x3 = u
  rfl

variable (m : (ℓ : Loc nD τ sig) → Buf (Elt Ideal) ℓ) (c : Dev nD)

theorem lt96 (t : Fin cfg0.N) : t.val < 96 := lt_of_lt_of_eq t.isLt N_0

theorem word0 (t : Fin cfg0.N) : (BitVec.ofNat 32 (grid0.coords t 0).val).toNat = t.val / 16 := by
  have := lt96 t
  rw [show (grid0.coords t 0).val = t.val / 16 % 6 from Pipeline.Grid.coords_val t 0 (by decide) rfl, BitVec.toNat_ofNat]
  omega
theorem word1 (t : Fin cfg0.N) : (BitVec.ofNat 32 (grid0.coords t 1).val).toNat = t.val % 16 := by
  rw [show (grid0.coords t 1).val = t.val / 1 % 16 from Pipeline.Grid.coords_val t 1 (by decide) rfl, BitVec.toNat_ofNat]
  omega
theorem word2 (t : Fin cfg0.N) : (BitVec.ofNat 32 (grid0.coords t 2).val).toNat = 0 := by
  rw [show (grid0.coords t 2).val = t.val / 1 % 1 from Pipeline.Grid.coords_val t 2 (by decide) rfl, BitVec.toNat_ofNat]
  omega

/-- The row and the column of the arrays that a point's block's are. -/
def row (t : Fin cfg0.N) (r : Fin 1024) : Fin 16384 := ⟨1024 * (t.val % 16) + r.val, by omega⟩
def col (t : Fin cfg0.N) (s : Fin 512) : Fin 3072 := ⟨512 * (t.val / 16) + s.val, by have := lt96 t; omega⟩

theorem emb0 (t : Fin cfg0.N) (r k : Fin 1024) : (win0_0.rect t).emb (ix2 r k) = ix2 (row t r) k := by
  funext a; apply Fin.ext
  match a with
  | ⟨0, _⟩ => exact (win0_0.rect_emb_val t _ 0).trans (show (BitVec.ofNat 32 (grid0.coords t 1).val).toNat * 1024 + r.val = 1024 * (t.val % 16) + r.val by rw [word1]; omega)
  | ⟨1, _⟩ => exact (win0_0.rect_emb_val t _ 1).trans (show (BitVec.ofNat 32 (grid0.coords t 2).val).toNat * 1024 + k.val = k.val by rw [word2]; omega)
theorem emb1 (t : Fin cfg0.N) (k : Fin 1024) (s : Fin 512) : (win0_1.rect t).emb (ix2 k s) = ix2 k (col t s) := by
  funext a; apply Fin.ext
  match a with
  | ⟨0, _⟩ => exact (win0_1.rect_emb_val t _ 0).trans (show (BitVec.ofNat 32 (grid0.coords t 2).val).toNat * 1024 + k.val = k.val by rw [word2]; omega)
  | ⟨1, _⟩ => exact (win0_1.rect_emb_val t _ 1).trans (show (BitVec.ofNat 32 (grid0.coords t 0).val).toNat * 512 + s.val = 512 * (t.val / 16) + s.val by rw [word0]; omega)
theorem emb2 (t : Fin cfg0.N) (r k : Fin 1024) : (win0_2.rect t).emb (ix2 r k) = ix2 (row t r) k := emb0 t r k
theorem emb3 (t : Fin cfg0.N) (k : Fin 1024) (s : Fin 512) : (win0_3.rect t).emb (ix2 k s) = ix2 k (col t s) := emb1 t k s
theorem emb4 (t : Fin cfg0.N) (r : Fin 1024) (s : Fin 512) : (win0_4.rect t).emb (ix2 r s) = ix2 (row t r) (col t s) := by
  funext a; apply Fin.ext
  match a with
  | ⟨0, _⟩ => exact (win0_4.rect_emb_val t _ 0).trans (show (BitVec.ofNat 32 (grid0.coords t 1).val).toNat * 1024 + r.val = 1024 * (t.val % 16) + r.val by rw [word1]; omega)
  | ⟨1, _⟩ => exact (win0_4.rect_emb_val t _ 1).trans (show (BitVec.ofNat 32 (grid0.coords t 0).val).toNat * 512 + s.val = 512 * (t.val / 16) + s.val by rw [word0]; omega)
theorem emb5 (t : Fin cfg0.N) (r : Fin 1024) (s : Fin 512) : (win0_5.rect t).emb (ix2 r s) = ix2 (row t r) (col t s) := emb4 t r s
theorem emb6 (t : Fin cfg0.N) (r : Fin 1024) (s : Fin 512) : (win0_6.rect t).emb (ix2 r s) = ix2 (row t r) (col t s) := emb4 t r s

/-- The arguments. -/
abbrev A0 : FVec Ideal S16384x1024 .bf16 := m ((c.tc : Thread nD τ).loc main_arg0)
abbrev A1 : FVec Ideal S1024x3072 .bf16 := m ((c.tc : Thread nD τ).loc main_arg1)
abbrev A2 : FVec Ideal S1024x3072 .bf16 := m ((c.tc : Thread nD τ).loc main_arg2)

/-- A product with the weights. -/
def D (x : FVec Ideal S16384x1024 .bf16) (w : FVec Ideal S1024x3072 .bf16) (a : Fin 16384) (b : Fin 3072) : EReal :=
  ∑ k : Fin 1024, x (ix2 a k) * w (ix2 k b)

/-- The results: the gate, the other factor (each a `G`), and the activation. -/
def G (x : FVec Ideal S16384x1024 .bf16) (w : FVec Ideal S1024x3072 .bf16) : FVec Ideal S16384x3072 .bf16 := fun i => D x w (i 0) (i 1)
def Ga (x : FVec Ideal S16384x1024 .bf16) (w v : FVec Ideal S1024x3072 .bf16) : FVec Ideal S16384x3072 .bf16 :=
  fun i => act (D x w (i 0) (i 1)) (D x v (i 0) (i 1))

theorem dot1 (t : Fin cfg0.N) (r : Fin 1024) (s : Fin 512) :
    k0_pay1 (F := Ideal) (iblk m c 0 t) (iblk m c 1 t) (ix2 r s) = D (A0 m c) (A1 m c) (row t r) (col t s) :=
  (pay1_at (iblk m c 0 t) (iblk m c 1 t) r s).trans (Finset.sum_congr rfl fun k _ =>
    congrArg₂ (fun u v : EReal => u * v) (congrArg (A0 m c) (emb0 t r k)) (congrArg (A1 m c) (emb1 t k s)))
theorem dot2 (t : Fin cfg0.N) (r : Fin 1024) (s : Fin 512) :
    k0_pay2 (F := Ideal) (iblk m c 2 t) (iblk m c 3 t) (ix2 r s) = D (A0 m c) (A2 m c) (row t r) (col t s) :=
  (pay1_at (iblk m c 2 t) (iblk m c 3 t) r s).trans (Finset.sum_congr rfl fun k _ =>
    congrArg₂ (fun u v : EReal => u * v) (congrArg (A0 m c) (emb2 t r k)) (congrArg (A2 m c) (emb3 t k s)))

theorem out4_at (t : Fin cfg0.N) (r : Fin 1024) (s : Fin 512) : (dats m 0 c).after 4 t (ix2 r s) = G (A0 m c) (A1 m c) (ix2 (row t r) (col t s)) := by
  rw [after0_4, out4_eq]
  exact dot1 m c t r s

theorem final4 : (dats m 0 c).arrAt 4 cfg0.N = G (A0 m c) (A1 m c) :=
  Dat.arrAt_eq_of_covers _ 4 _ (by decide +kernel) fun t _ y => by
    show (dats m 0 c).after 4 t y = G (A0 m c) (A1 m c) ((win0_4.rect t).emb y)
    have e : y = ix2 (y 0) (y 1) := idx2 y
    refine (congrArg _ e).trans ((out4_at m c t (y 0) (y 1)).trans (congrArg (G (A0 m c) (A1 m c)) ?_))
    exact (emb4 t (y 0) (y 1)).symm.trans (congrArg (fun z => (win0_4.rect t).emb z) e.symm)

theorem out5_at (t : Fin cfg0.N) (r : Fin 1024) (s : Fin 512) : (dats m 0 c).after 5 t (ix2 r s) = G (A0 m c) (A2 m c) (ix2 (row t r) (col t s)) := by
  rw [after0_5, out5_eq]
  exact dot2 m c t r s

theorem final5 : (dats m 0 c).arrAt 5 cfg0.N = G (A0 m c) (A2 m c) :=
  Dat.arrAt_eq_of_covers _ 5 _ (by decide +kernel) fun t _ y => by
    show (dats m 0 c).after 5 t y = G (A0 m c) (A2 m c) ((win0_5.rect t).emb y)
    have e : y = ix2 (y 0) (y 1) := idx2 y
    refine (congrArg _ e).trans ((out5_at m c t (y 0) (y 1)).trans (congrArg (G (A0 m c) (A2 m c)) ?_))
    exact (emb5 t (y 0) (y 1)).symm.trans (congrArg (fun z => (win0_5.rect t).emb z) e.symm)

theorem out6_at (t : Fin cfg0.N) (r : Fin 1024) (s : Fin 512) : (dats m 0 c).after 6 t (ix2 r s) = Ga (A0 m c) (A1 m c) (A2 m c) (ix2 (row t r) (col t s)) := by
  rw [after0_6, out6_eq]
  exact (pay5_at _ _ _ _ _).trans (congrArg₂ act (dot1 m c t r s) (dot2 m c t r s))

theorem final6 : (dats m 0 c).arrAt 6 cfg0.N = Ga (A0 m c) (A1 m c) (A2 m c) :=
  Dat.arrAt_eq_of_covers _ 6 _ (by decide +kernel) fun t _ y => by
    show (dats m 0 c).after 6 t y = Ga (A0 m c) (A1 m c) (A2 m c) ((win0_6.rect t).emb y)
    have e : y = ix2 (y 0) (y 1) := idx2 y
    refine (congrArg _ e).trans ((out6_at m c t (y 0) (y 1)).trans (congrArg (Ga (A0 m c) (A1 m c) (A2 m c)) ?_))
    exact (emb6 t (y 0) (y 1)).symm.trans (congrArg (fun z => (win0_6.rect t).emb z) e.symm)

end Cert.UpIdeal.Hand

namespace Cert.Proof

open Idealize.ShloMosaic Idealize.SL.Sem Idealize.ShloMosaic.ValueIdx Cert.Ffn
open Cert.UpRefIdeal (S16384x1024 S1024x3072 S16384x3072)

theorem ref_up_dot (x : FVec Ideal S16384x1024 .bf16) (w : FVec Ideal S1024x3072 .bf16) (i : S16384x3072.Idx) :
    Cert.UpRefIdeal.Read.val_main_v3 (F := Ideal) x w i = Cert.UpIdeal.Hand.D x w (i 0) (i 1) := by
  rw [Cert.UpRefIdeal.Read.val_main_v3_apply]
  refine Finset.sum_congr rfl fun k _ => congrArg₂ (fun u v : EReal => u * v) (congrArg x ?_) (congrArg w ?_)
  · exact funext fun a => Fin.ext (by match a with | ⟨0, _⟩ => rfl | ⟨1, _⟩ => rfl)
  · exact funext fun a => Fin.ext (by match a with | ⟨0, _⟩ => rfl | ⟨1, _⟩ => rfl)

theorem ref_up_prod (x : FVec Ideal S16384x1024 .bf16) (w : FVec Ideal S1024x3072 .bf16) :
    Cert.UpRefIdeal.Read.val_main_v5 (F := Ideal) x w = Cert.UpIdeal.Hand.G x w := by
  funext i
  rw [Cert.UpRefIdeal.Read.val_main_v5_apply, ref_up_dot]
  rfl

theorem ref_up_same : Cert.UpRefIdeal.Read.val_main_v4 (F := Ideal) = Cert.UpRefIdeal.Read.val_main_v3 := rfl

theorem ref_up_act (x : FVec Ideal S16384x1024 .bf16) (w v : FVec Ideal S1024x3072 .bf16) :
    Cert.UpRefIdeal.Read.val_main_v9 (F := Ideal) x w v = Cert.UpIdeal.Hand.Ga x w v := by
  funext i
  rw [Cert.UpRefIdeal.Read.val_main_v9_apply, Cert.UpRefIdeal.Read.val_main_v8_apply, Cert.UpRefIdeal.Read.val_main_v7_apply, Cert.UpRefIdeal.Read.val_main_call0_v5_apply,
    Cert.UpRefIdeal.Read.val_main_call0_v4_apply, Cert.UpRefIdeal.Read.val_main_call0_v3_apply, Cert.UpRefIdeal.Read.val_main_call0_v2_apply,
    Cert.UpRefIdeal.Read.val_main_call0_v1_apply, Cert.UpRefIdeal.Read.val_main_call0_v0_apply, Cert.UpRefIdeal.Read.val_main_call0_cst_0_apply,
    Cert.UpRefIdeal.Read.val_main_call0_cst_apply, ref_up_same, ref_up_dot, ref_up_dot]
  show Cert.UpIdeal.Hand.D x w (i 0) (i 1) * Ideal.div (Ideal.ofBits .f32 0x3F800000#32) (Ideal.ofBits .f32 0x3F800000#32 + Ideal.exp (-Cert.UpIdeal.Hand.D x w (i 0) (i 1))) * Cert.UpIdeal.Hand.D x v (i 0) (i 1) = _
  rw [Cert.Attn.one_eq]
  rfl

theorem algebraic_up : algebraic_UpIdeal_UpRefIdeal := by
  intro m g m' g' _ hargs
  refine ⟨fun c => Cert.UpIdeal.Hand.G (Cert.UpIdeal.Hand.A0 m c) (Cert.UpIdeal.Hand.A1 m c), fun c => Cert.UpIdeal.Hand.G (Cert.UpIdeal.Hand.A0 m c) (Cert.UpIdeal.Hand.A2 m c),
    fun c => Cert.UpIdeal.Hand.Ga (Cert.UpIdeal.Hand.A0 m c) (Cert.UpIdeal.Hand.A1 m c) (Cert.UpIdeal.Hand.A2 m c), ?_, ?_⟩
  · exact (θ_run Cert.UpIdeal.defs _ _).mono (fun r h c => ⟨(h c).1.trans (Cert.UpIdeal.Hand.final4 m c), (h c).2.1.trans (Cert.UpIdeal.Hand.final5 m c),
      (h c).2.2.1.trans (Cert.UpIdeal.Hand.final6 m c), (h c).2.2.2⟩) (Cert.UpIdeal.Value.run_blocks (F := Ideal) m g)
  · refine (θ_run Cert.UpRefIdeal.defs _ _).mono (fun r h c => ⟨(h c).1.trans ?_, (h c).2.1.trans ?_, (h c).2.2.1.trans ?_, (h c).2.2.2⟩) (Cert.UpRefIdeal.Value.run (F := Ideal) m' g')
    · rw [(hargs c).1, (hargs c).2.1]
      exact ref_up_prod _ _
    · rw [(hargs c).1, (hargs c).2.2]
      exact ref_up_prod _ _
    · rw [(hargs c).1, (hargs c).2.1, (hargs c).2.2]
      exact (Cert.UpRefIdeal.Read.val_main_v9_eq (F := Ideal) _ _ _).trans (ref_up_act _ _ _)

end Cert.Proof

end
-- ==== Proof.Down.lean ====
module

public import proofs.«01_k».proof.Defs
public import proofs.«01_k».proof.Proof.Ffn
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit.Geometry

@[expose] public section

noncomputable section

/-! The down projection: a product accumulated over three tiles, and the residual of its normalized rows. -/

namespace Cert.DownIdeal.Hand

open Cert.DownIdeal Cert.DownIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S512x1024 .bf16) (h3 : a3.IsWhole)
  (a4 : Memref sig .tc .vmem S1024x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .bf16) (h7 : a7.IsWhole)
  (a8 : Memref sig .tc .vmem S512x1024 .f32) (h8 : a8.IsWhole) (a9 : Memref sig .tc .vmem S512x1024 .f32) (h9 : a9.IsWhole)
  (x0 : Vec F S512x1024 .bf16) (x1 : Vec F S1024x1024 .bf16) (x2 : Vec F S512x1024 .f32) (x3 : Vec F S1x1024 .f32) (u : Vec F S512x1024 .f32)

theorem sout_A_0 (h0 h1) : sout0_A_0 c i a3 h3 a4 h4 a5 h5 a6 h6 a7 h7 a8 h8 a9 h9 h0 h1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 a9 h9 h0 h1 x0 x1 x2 x3)]
  unfold kernelRun0_A
  dsimp only
  sl_unfold_words
  rw [View.canon_cons_unit_zero (S := S512x1024) hz, View.readCov_unit_zero (S := S512x1024) _ hz]
  simp only [View.readAt_eq_ld, h3.read_unread, h4.read_unread, h5.read_unread, h6.read_unread, h9.read_unread, View.ld_unit_zero (S := S512x1024) hz, View.ld_unit_zero (S := S1024x1024) hz, View.ld_unit_zero (S := S1x1024) hz]

theorem sout_B_0 (h0 h1) : sout0_B_0 c i a3 h3 a4 h4 a5 h5 a6 h6 a7 h7 a8 h8 a9 h9 h0 h1 x0 x1 x2 x3 u = k0_pay2 u x0 x1 := by
  unfold sout0_B_0
  rw [View.read_writes_eq_canon _ _ _ (scover0_B_0 c i a3 h3 a4 h4 a5 h5 a6 h6 a7 h7 a8 h8 a9 h9 h0 h1 x0 x1 x2 x3 u)]
  unfold kernelRun0_B
  dsimp only
  rw [View.canon_unit_zero hz]
  simp only [View.readAt_eq_ld, h3.read_unread, h4.read_unread, h5.read_unread, h6.read_unread, h9.read_unread, View.ld_unit_zero (S := S512x1024) hz, View.ld_unit_zero (S := S1024x1024) hz, View.ld_unit_zero (S := S1x1024) hz]

theorem sout_C_0 (h0 h1) : sout0_C_0 c i a3 h3 a4 h4 a5 h5 a6 h6 a7 h7 a8 h8 a9 h9 h0 h1 x0 x1 x2 x3 u = k0_pay2 u x0 x1 := by
  unfold sout0_C_0
  rw [View.read_writes_eq_canon _ _ _ (scover0_C_0 c i a3 h3 a4 h4 a5 h5 a6 h6 a7 h7 a8 h8 a9 h9 h0 h1 x0 x1 x2 x3 u)]
  unfold kernelRun0_C
  dsimp only
  sl_unfold_words
  rw [View.canon_unit_zero hz]
  simp only [View.readAt_eq_ld, h3.read_unread, h4.read_unread, h5.read_unread, h6.read_unread, h9.read_unread, View.ld_unit_zero (S := S512x1024) hz, View.ld_unit_zero (S := S1024x1024) hz, View.ld_unit_zero (S := S1x1024) hz]

theorem outC4 (h0 h1) : out0_C_4 c i a3 h3 a4 h4 a5 h5 a6 h6 a7 h7 a8 h8 a9 h9 h0 h1 x0 x1 x2 x3 u = k0_pay4 (k0_pay2 u x0 x1) := by
  unfold out0_C_4
  rw [View.read_writes_eq_canon _ _ _ (cover0_C_4 c i a3 h3 a4 h4 a5 h5 a6 h6 a7 h7 a8 h8 a9 h9 h0 h1 x0 x1 x2 x3 u)]
  unfold kernelRun0_C
  dsimp only
  sl_unfold_words
  rw [View.canon_unit_zero hz, View.readCov_unit_zero (S := S512x1024) _ hz]
  simp only [View.readAt_eq_ld, h3.read_unread, h4.read_unread, h5.read_unread, h6.read_unread, h9.read_unread, View.ld_unit_zero (S := S512x1024) hz, View.ld_unit_zero (S := S1024x1024) hz, View.ld_unit_zero (S := S1x1024) hz]

theorem outC5 (h0 h1) : out0_C_5 c i a3 h3 a4 h4 a5 h5 a6 h6 a7 h7 a8 h8 a9 h9 h0 h1 x0 x1 x2 x3 u = k0_pay3 (k0_pay2 u x0 x1) x2 x3 := by
  unfold out0_C_5
  rw [View.read_writes_eq_canon _ _ _ (cover0_C_5 c i a3 h3 a4 h4 a5 h5 a6 h6 a7 h7 a8 h8 a9 h9 h0 h1 x0 x1 x2 x3 u)]
  unfold kernelRun0_C
  dsimp only
  sl_unfold_words
  rw [View.canon_unit_zero hz, View.readCov_unit_zero (S := S512x1024) _ hz]
  simp only [View.readAt_eq_ld, h3.read_unread, h4.read_unread, h5.read_unread, h6.read_unread, h9.read_unread, View.ld_unit_zero (S := S512x1024) hz, View.ld_unit_zero (S := S1024x1024) hz, View.ld_unit_zero (S := S1x1024) hz]

end

theorem pay1_at (y : S512x1024.Idx) : k0_pay1 (F := Ideal) y = 0 := by
  unfold k0_pay1
  rw [shapeCast_self]
  exact Ideal.ofBits_zero_f32

theorem pay2_at (xs : FVec Ideal S512x1024 .f32) (x0 : FVec Ideal S512x1024 .bf16) (x1 : FVec Ideal S1024x1024 .bf16) (r : Fin 512) (s : Fin 1024) :
    k0_pay2 (F := Ideal) xs x0 x1 (ix2 r s) = (xs (ix2 r s) + ∑ b : Fin 1024, x0 (ix2 r b) * x1 (ix2 b s) : EReal) := by
  unfold k0_pay2
  rw [shapeCast_self]
  exact congrArg (fun z : EReal => xs (ix2 r s) + z)
    ((Ideal.matmul_plain_apply (φ₁ := .bf16) (φ₂ := .bf16) none x0 x1 (constant ⟨2, ![512, 1024]⟩ .f32 0x00000000#32) r s).trans (by rw [zero_at, zero_add]))

/-- The residual's element, from the row of the product, the residual and the gain. -/
def res (y : Fin 1024 → EReal) (x g : EReal) (s : Fin 1024) : EReal := x + Ideal.ofBits .f32 0x3F000000#32 * (y s * rr y * g)

theorem pay3_at (y x : FVec Ideal S512x1024 .f32) (g : FVec Ideal S1x1024 .f32) (r : Fin 512) (s : Fin 1024) :
    k0_pay3 (F := Ideal) y x g (ix2 r s) = res (fun k => y (ix2 r k)) (x (ix2 r s)) (g (ix2 (0 : Fin 1) s)) s := by
  unfold k0_pay3
  have e1 := (col_bcast (M := 512) (N := 1024) _ broadcasts_S512x1_S512x1024 r s).trans (rr_at (M := 512) y 0x00000000#32 reduces_S512x1024_S512 (.inl rfl) rfl shapeCasts_S512_S512x1 r)
  have e2 := broadcastTo_1b_ab_apply (a := 512) (b := 1024) g broadcasts_S1x1024_S512x1024 r s
  exact congrArg₂ (fun u v : EReal => x (ix2 r s) + Ideal.ofBits .f32 0x3F000000#32 * (y (ix2 r s) * u * v)) e1 e2

variable (m : (ℓ : Loc nD τ sig) → Buf (Elt Ideal) ℓ) (c : Dev nD)

/-- The tiles a point reads. -/
abbrev X0 (t : Fin cfg0.N) : FVec Ideal S512x1024 .bf16 := iblk m c 0 t
abbrev X1 (t : Fin cfg0.N) : FVec Ideal S1024x1024 .bf16 := iblk m c 1 t
abbrev X2 (t : Fin cfg0.N) : FVec Ideal S512x1024 .f32 := iblk m c 2 t
abbrev X3 (t : Fin cfg0.N) : FVec Ideal S1x1024 .f32 := iblk m c 3 t

/-- A point's addend. -/
def P (r : Fin 512) (s : Fin 1024) (n : ℕ) : EReal :=
  if h : n < cfg0.N then (∑ b : Fin 1024, X0 m c ⟨n, h⟩ (ix2 r b) * X1 m c ⟨n, h⟩ (ix2 b s) : EReal) else 0

theorem lt96 {n : ℕ} (h : n < cfg0.N) : n < 96 := lt_of_lt_of_eq h N_0

theorem acc_eq (r : Fin 512) (s : Fin 1024) (n : ℕ) (h : n < cfg0.N) :
    (outsAt0 m c n h).2.2 (ix2 r s) = ∑ j ∈ Finset.range (n % 3 + 1), P m c r s (n / 3 * 3 + j) := by
  refine acc_sum 3 (by decide) (fun n h => ((outsAt0 m c n h).2.2 (ix2 r s) : EReal)) (P m c r s) (fun n h h0 => ?_) (fun n h h0 => ?_) n h
  · have e := congrArg (fun z => (z.2.2 (ix2 r s) : EReal)) (outsAt0_A m c ⟨n, h⟩ h0 (by show ¬n % 3 = 2; omega))
    refine e.trans ?_
    dsimp only
    rw [sout_A_0, pay2_at, pay1_at, P, dif_pos h]
  · by_cases h1 : n % 3 = 2
    · have e := congrArg (fun z => (z.2.2 (ix2 r s) : EReal)) (outsAt0_C m c ⟨n, h⟩ h0 h1)
      refine e.trans ?_
      dsimp only
      rw [sout_C_0, pay2_at, P, dif_pos h]
    · have e := congrArg (fun z => (z.2.2 (ix2 r s) : EReal)) (outsAt0_B m c ⟨n, h⟩ h0 h1)
      refine e.trans ?_
      dsimp only
      rw [sout_B_0, pay2_at, P, dif_pos h]

theorem word0 (t : Fin cfg0.N) : (BitVec.ofNat 32 (grid0.coords t 0).val).toNat = 0 := by
  have := lt96 t.isLt
  rw [show (grid0.coords t 0).val = t.val / 96 % 1 from Pipeline.Grid.coords_val t 0 (by decide) rfl, BitVec.toNat_ofNat]
  omega
theorem word1 (t : Fin cfg0.N) : (BitVec.ofNat 32 (grid0.coords t 1).val).toNat = t.val / 3 := by
  have := lt96 t.isLt
  rw [show (grid0.coords t 1).val = t.val / 3 % 32 from Pipeline.Grid.coords_val t 1 (by decide) rfl, BitVec.toNat_ofNat]
  omega
theorem word2 (t : Fin cfg0.N) : (BitVec.ofNat 32 (grid0.coords t 2).val).toNat = t.val % 3 := by
  rw [show (grid0.coords t 2).val = t.val / 1 % 3 from Pipeline.Grid.coords_val t 2 (by decide) rfl, BitVec.toNat_ofNat]
  omega

/-- The row of the arrays that a point's block's is, and the summed axis's coordinate. -/
def row (t : Fin cfg0.N) (r : Fin 512) : Fin 16384 := ⟨512 * (t.val / 3) + r.val, by have := lt96 t.isLt; omega⟩
def mid (t : Fin cfg0.N) (b : Fin 1024) : Fin 3072 := ⟨1024 * (t.val % 3) + b.val, by omega⟩

theorem emb0 (t : Fin cfg0.N) (r : Fin 512) (b : Fin 1024) : (win0_0.rect t).emb (ix2 r b) = ix2 (row t r) (mid t b) := by
  funext a; apply Fin.ext
  match a with
  | ⟨0, _⟩ => exact (win0_0.rect_emb_val t _ 0).trans (show (BitVec.ofNat 32 (grid0.coords t 1).val).toNat * 512 + r.val = 512 * (t.val / 3) + r.val by rw [word1]; omega)
  | ⟨1, _⟩ => exact (win0_0.rect_emb_val t _ 1).trans (show (BitVec.ofNat 32 (grid0.coords t 2).val).toNat * 1024 + b.val = 1024 * (t.val % 3) + b.val by rw [word2]; omega)
theorem emb1 (t : Fin cfg0.N) (b s : Fin 1024) : (win0_1.rect t).emb (ix2 b s) = ix2 (mid t b) s := by
  funext a; apply Fin.ext
  match a with
  | ⟨0, _⟩ => exact (win0_1.rect_emb_val t _ 0).trans (show (BitVec.ofNat 32 (grid0.coords t 2).val).toNat * 1024 + b.val = 1024 * (t.val % 3) + b.val by rw [word2]; omega)
  | ⟨1, _⟩ => exact (win0_1.rect_emb_val t _ 1).trans (show (BitVec.ofNat 32 (grid0.coords t 0).val).toNat * 1024 + s.val = s.val by rw [word0]; omega)
theorem emb2 (t : Fin cfg0.N) (r : Fin 512) (s : Fin 1024) : (win0_2.rect t).emb (ix2 r s) = ix2 (row t r) s := by
  funext a; apply Fin.ext
  match a with
  | ⟨0, _⟩ => exact (win0_2.rect_emb_val t _ 0).trans (show (BitVec.ofNat 32 (grid0.coords t 1).val).toNat * 512 + r.val = 512 * (t.val / 3) + r.val by rw [word1]; omega)
  | ⟨1, _⟩ => exact (win0_2.rect_emb_val t _ 1).trans (show (BitVec.ofNat 32 (grid0.coords t 0).val).toNat * 1024 + s.val = s.val by rw [word0]; omega)
theorem emb3 (t : Fin cfg0.N) (s : Fin 1024) : (win0_3.rect t).emb (ix2 (0 : Fin 1) s) = ix2 (0 : Fin 1) s := by
  funext a; apply Fin.ext
  match a with
  | ⟨0, _⟩ => exact (win0_3.rect_emb_val t _ 0).trans rfl
  | ⟨1, _⟩ => exact (win0_3.rect_emb_val t _ 1).trans (show (BitVec.ofNat 32 (grid0.coords t 0).val).toNat * 1024 + s.val = s.val by rw [word0]; omega)
theorem emb4 (t : Fin cfg0.N) (r : Fin 512) (s : Fin 1024) : (win0_4.rect t).emb (ix2 r s) = ix2 (row t r) s := emb2 t r s
theorem emb5 (t : Fin cfg0.N) (r : Fin 512) (s : Fin 1024) : (win0_5.rect t).emb (ix2 r s) = ix2 (row t r) s := emb2 t r s

/-- The arguments. -/
abbrev A0 : FVec Ideal S16384x3072 .bf16 := m ((c.tc : Thread nD τ).loc main_arg0)
abbrev A1 : FVec Ideal S3072x1024 .bf16 := m ((c.tc : Thread nD τ).loc main_arg1)
abbrev A2 : FVec Ideal S16384x1024 .f32 := m ((c.tc : Thread nD τ).loc main_arg2)
abbrev A3 : FVec Ideal S1x1024 .f32 := m ((c.tc : Thread nD τ).loc main_arg3)

/-- The product. -/
def D (x : FVec Ideal S16384x3072 .bf16) (w : FVec Ideal S3072x1024 .bf16) (a : Fin 16384) (b : Fin 1024) : EReal :=
  ∑ k : Fin 3072, x (ix2 a k) * w (ix2 k b)

/-- The results: the product and the residual. -/
def G4 (x : FVec Ideal S16384x3072 .bf16) (w : FVec Ideal S3072x1024 .bf16) : FVec Ideal S16384x1024 .bf16 := fun i => D x w (i 0) (i 1)
def G5 (x : FVec Ideal S16384x3072 .bf16) (w : FVec Ideal S3072x1024 .bf16) (z : FVec Ideal S16384x1024 .f32) (g : FVec Ideal S1x1024 .f32) : FVec Ideal S16384x1024 .f32 :=
  fun i => res (D x w (i 0)) (z i) (g (ix2 (0 : Fin 1) (i 1))) (i 1)

theorem tiles (t : Fin cfg0.N) (r : Fin 512) (s : Fin 1024) :
    ∑ j ∈ Finset.range 3, P m c r s (t.val / 3 * 3 + j) = D (A0 m c) (A1 m c) (row t r) s := by
  refine sum_tiles (L := 3) (B := 1024) rfl (fun k : Fin 3072 => (A0 m c (ix2 (row t r) k) * A1 m c (ix2 k s) : EReal)) (fun j => P m c r s (t.val / 3 * 3 + j)) fun n => ?_
  have hlt : t.val / 3 * 3 + n.val < cfg0.N := lt_of_lt_of_eq (b := 96) (by have := lt96 t.isLt; have := n.isLt; omega) N_0.symm
  show P m c r s (t.val / 3 * 3 + n.val) = _
  rw [P, dif_pos hlt]
  have e0 : (t.val / 3 * 3 + n.val) % 3 = n.val := by have := n.isLt; omega
  have e1 : (t.val / 3 * 3 + n.val) / 3 = t.val / 3 := by have := n.isLt; omega
  refine Finset.sum_congr rfl fun b _ => congrArg₂ (fun u v : EReal => u * v) (congrArg (A0 m c) ((emb0 ⟨_, hlt⟩ r b).trans ?_)) (congrArg (A1 m c) ((emb1 ⟨_, hlt⟩ b s).trans ?_))
  · exact congrArg₂ ix2 (Fin.ext (by show 512 * ((t.val / 3 * 3 + n.val) / 3) + r.val = 512 * (t.val / 3) + r.val; rw [e1])) (Fin.ext (by show 1024 * ((t.val / 3 * 3 + n.val) % 3) + b.val = 1024 * n.val + b.val; rw [e0]))
  · exact congrArg (fun z => ix2 z s) (Fin.ext (by show 1024 * ((t.val / 3 * 3 + n.val) % 3) + b.val = 1024 * n.val + b.val; rw [e0]))

/-- The accumulator at a block's last point. -/
theorem acc_at (t : Fin cfg0.N) (ht : t.val % 3 = 2) (r : Fin 512) (s : Fin 1024) :
    k0_pay2 (F := Ideal) (outsAt0 m c (t.val - 1) (Nat.lt_of_le_of_lt (Nat.sub_le _ _) t.isLt)).2.2 (X0 m c t) (X1 m c t) (ix2 r s) = D (A0 m c) (A1 m c) (row t r) s := by
  have e := congrArg (fun z => (z.2.2 (ix2 r s) : EReal)) (outsAt0_C m c t (by omega) ht)
  dsimp only at e
  rw [sout_C_0] at e
  exact e.symm.trans ((acc_eq m c r s t.val t.isLt).trans ((by rw [ht] : _ = _).trans (tiles m c t r s)))

theorem out4_at (t : Fin cfg0.N) (ht : t.val % 3 = 2) (r : Fin 512) (s : Fin 1024) :
    (dats m 0 c).after 4 t (ix2 r s) = G4 (A0 m c) (A1 m c) (ix2 (row t r) s) := by
  rw [after0_4]
  have e := congrArg (fun z => (z.1 (ix2 r s) : EReal)) (outsAt0_C m c t (by omega) ht)
  dsimp only at e
  rw [outC4] at e
  exact e.trans (acc_at m c t ht r s)

theorem out5_at (t : Fin cfg0.N) (ht : t.val % 3 = 2) (r : Fin 512) (s : Fin 1024) :
    (dats m 0 c).after 5 t (ix2 r s) = G5 (A0 m c) (A1 m c) (A2 m c) (A3 m c) (ix2 (row t r) s) := by
  rw [after0_5]
  have e := congrArg (fun z => (z.2.1 (ix2 r s) : EReal)) (outsAt0_C m c t (by omega) ht)
  dsimp only at e
  rw [outC5, pay3_at, show (fun k => k0_pay2 (F := Ideal) _ _ _ (ix2 r k)) = D (A0 m c) (A1 m c) (row t r) from funext fun k => acc_at m c t ht r k] at e
  exact e.trans (congrArg₂ (fun u v => res (D (A0 m c) (A1 m c) (row t r)) u v s) (congrArg (A2 m c) (emb2 t r s)) (congrArg (A3 m c) (emb3 t s)))

theorem final4 : (dats m 0 c).arrAt 4 cfg0.N = G4 (A0 m c) (A1 m c) :=
  Dat.arrAt_eq_of_covers _ 4 _ (by decide +kernel) fun t hf y => by
    show (dats m 0 c).after 4 t y = G4 (A0 m c) (A1 m c) ((win0_4.rect t).emb y)
    have e : y = ix2 (y 0) (y 1) := idx2 y
    refine (congrArg _ e).trans ((out4_at m c t ((flush0_4 t).mp hf) (y 0) (y 1)).trans (congrArg (G4 (A0 m c) (A1 m c)) ?_))
    exact (emb4 t (y 0) (y 1)).symm.trans (congrArg (fun z => (win0_4.rect t).emb z) e.symm)

theorem final5 : (dats m 0 c).arrAt 5 cfg0.N = G5 (A0 m c) (A1 m c) (A2 m c) (A3 m c) :=
  Dat.arrAt_eq_of_covers _ 5 _ (by decide +kernel) fun t hf y => by
    show (dats m 0 c).after 5 t y = G5 (A0 m c) (A1 m c) (A2 m c) (A3 m c) ((win0_5.rect t).emb y)
    have e : y = ix2 (y 0) (y 1) := idx2 y
    refine (congrArg _ e).trans ((out5_at m c t ((flush0_5 t).mp hf) (y 0) (y 1)).trans (congrArg (G5 (A0 m c) (A1 m c) (A2 m c) (A3 m c)) ?_))
    exact (emb5 t (y 0) (y 1)).symm.trans (congrArg (fun z => (win0_5.rect t).emb z) e.symm)

end Cert.DownIdeal.Hand

namespace Cert.Proof

open Idealize.ShloMosaic Idealize.SL.Sem Idealize.ShloMosaic.ValueIdx Cert.Ffn
open Cert.DownRefIdeal (S16384x3072 S3072x1024 S16384x1024 S1x1024)
open Cert.DownIdeal.Hand (D G4 G5)

theorem ref_down_dot (x : FVec Ideal S16384x3072 .bf16) (w : FVec Ideal S3072x1024 .bf16) (i : S16384x1024.Idx) :
    Cert.DownRefIdeal.Read.val_main_v2 (F := Ideal) x w i = D x w (i 0) (i 1) := by
  rw [Cert.DownRefIdeal.Read.val_main_v2_apply]
  refine Finset.sum_congr rfl fun k _ => congrArg₂ (fun u v : EReal => u * v) (congrArg x ?_) (congrArg w ?_)
  · exact funext fun a => Fin.ext (by match a with | ⟨0, _⟩ => rfl | ⟨1, _⟩ => rfl)
  · exact funext fun a => Fin.ext (by match a with | ⟨0, _⟩ => rfl | ⟨1, _⟩ => rfl)

theorem ref_down_prod (x : FVec Ideal S16384x3072 .bf16) (w : FVec Ideal S3072x1024 .bf16) : Cert.DownRefIdeal.Read.val_main_v3 (F := Ideal) x w = G4 x w := by
  funext i
  rw [Cert.DownRefIdeal.Read.val_main_v3_apply, ref_down_dot]
  rfl

theorem ref_down_rr (x : FVec Ideal S16384x3072 .bf16) (w : FVec Ideal S3072x1024 .bf16) (i : S16384x1024.Idx) : Cert.DownRefIdeal.Read.val_main_v12 (F := Ideal) x w i = rr (D x w (i 0)) := by
  rw [Cert.DownRefIdeal.Read.val_main_v12_apply, Cert.DownRefIdeal.Read.val_main_v11_apply, Cert.DownRefIdeal.Read.val_main_v10_apply, Cert.DownRefIdeal.Read.val_main_v9_apply, Cert.DownRefIdeal.Read.val_main_v8_apply, Cert.DownRefIdeal.Read.val_main_v7_apply, Cert.DownRefIdeal.Read.val_main_v6_apply, Cert.DownRefIdeal.Read.val_main_v5_apply]
  refine congrArg (fun z => Ideal.rsqrt (Ideal.div z (Ideal.ofBits .f32 0x44800000#32) + Ideal.ofBits .f32 0x358637BD#32)) ?_
  refine (congrArg₂ (fun u v : EReal => u + v) Ideal.ofBits_zero_f32 (Finset.sum_congr rfl fun k _ => ?_)).trans (zero_add _)
  rw [Cert.DownRefIdeal.Read.val_main_v4_apply, ref_down_dot]
  rfl

theorem ref_down_res (x : FVec Ideal S16384x3072 .bf16) (w : FVec Ideal S3072x1024 .bf16) (z : FVec Ideal S16384x1024 .f32) (g : FVec Ideal S1x1024 .f32) :
    Cert.DownRefIdeal.Read.val_main_v18 (F := Ideal) x w z g = G5 x w z g := by
  funext i
  rw [Cert.DownRefIdeal.Read.val_main_v18_apply, Cert.DownRefIdeal.Read.val_main_v17_apply, Cert.DownRefIdeal.Read.val_main_v16_apply, Cert.DownRefIdeal.Read.val_main_v15_apply, Cert.DownRefIdeal.Read.val_main_v14_apply, Cert.DownRefIdeal.Read.val_main_v13_apply, ref_down_dot, ref_down_rr]
  refine congrArg (fun u : EReal => z i + Ideal.ofBits .f32 0x3F000000#32 * (D x w (i 0) (i 1) * rr (D x w (i 0)) * u)) (congrArg g ?_)
  exact funext fun a => Fin.ext (by match a with | ⟨0, _⟩ => rfl | ⟨1, _⟩ => rfl)

theorem algebraic_down : algebraic_DownIdeal_DownRefIdeal := by
  intro m g m' g' _ hargs
  refine ⟨fun c => G4 (Cert.DownIdeal.Hand.A0 m c) (Cert.DownIdeal.Hand.A1 m c),
    fun c => G5 (Cert.DownIdeal.Hand.A0 m c) (Cert.DownIdeal.Hand.A1 m c) (Cert.DownIdeal.Hand.A2 m c) (Cert.DownIdeal.Hand.A3 m c), ?_, ?_⟩
  · exact (θ_run Cert.DownIdeal.defs _ _).mono (fun r h c => ⟨(h c).1.trans (Cert.DownIdeal.Hand.final4 m c), (h c).2.1.trans (Cert.DownIdeal.Hand.final5 m c),
      (h c).2.2⟩) (Cert.DownIdeal.Value.run_blocks (F := Ideal) m g)
  · refine (θ_run Cert.DownRefIdeal.defs _ _).mono (fun r h c => ⟨(h c).1.trans ?_, (h c).2.1.trans ?_, (h c).2.2⟩) (Cert.DownRefIdeal.Value.run (F := Ideal) m' g')
    · rw [(hargs c).1, (hargs c).2.1]
      exact ref_down_prod _ _
    · rw [(hargs c).1, (hargs c).2.1, (hargs c).2.2.1, (hargs c).2.2.2]
      exact (Cert.DownRefIdeal.Read.val_main_v18_eq (F := Ideal) _ _ _ _).trans (ref_down_res _ _ _ _)

end Cert.Proof

end
-- ==== Proof.Norm.lean ====
module

public import proofs.«01_k».proof.Proof.Ffn

@[expose] public section

noncomputable section

/-! The gradient of a row's normalization, in the two spellings the calls and the references use. Every value is an
    extended real, so the infinite rows are part of the statement. -/

namespace Cert.Ffn

open Idealize.ShloMosaic Idealize.ShloMosaic.ValueIdx

theorem of_1024 : Ideal.ofBits .f32 0x44800000#32 = ((1024 : ℝ) : EReal) := by
  simp [Ideal.ofBits, Ideal.ieee, -EReal.coe_mul]; norm_num

theorem of_neg_half : Ideal.ofBits .f32 0xBF000000#32 = ((-(1 / 2) : ℝ) : EReal) := by
  simp [Ideal.ofBits, Ideal.ieee, -EReal.coe_mul]; norm_num

theorem of_eps : ∃ e : ℝ, 0 < e ∧ Ideal.ofBits .f32 0x358637BD#32 = (e : EReal) := by
  refine ⟨(8796093 : ℝ) / 2 ^ 43, by positivity, ?_⟩
  simp [Ideal.ofBits, Ideal.ieee, -EReal.coe_mul]; norm_num

/-- A nonnegative real factor passes through a sum, whatever the addends. -/
theorem mul_sum_real {ι : Type} (S : Finset ι) (f : ι → EReal) {r : ℝ} (hr : 0 ≤ r) : ∑ k ∈ S, f k * (r : EReal) = (∑ k ∈ S, f k) * (r : EReal) := by
  classical
  induction S using Finset.induction_on with
  | empty => simp
  | insert a S ha ih =>
    rw [Finset.sum_insert ha, Finset.sum_insert ha, ih, mul_comm _ (r : EReal), mul_comm _ (r : EReal), mul_comm _ (r : EReal)]
    exact (EReal.left_distrib_of_nonneg_of_ne_top (by exact_mod_cast hr) (EReal.coe_ne_top r) _ _).symm

/-- Twice a real multiple of a value is the sum of two such. -/
theorem two_mul_real (b : ℝ) (S : EReal) : S * (b : EReal) + S * (b : EReal) = S * ((2 * b : ℝ) : EReal) := by
  induction S using EReal.rec with
  | coe s => rw [← EReal.coe_mul, ← EReal.coe_mul, ← EReal.coe_add]; congr 1; ring
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sq_nonneg' (x : EReal) : 0 ≤ x * x := by
  induction x using EReal.rec with
  | coe s => rw [← EReal.coe_mul]; exact_mod_cast mul_self_nonneg s
  | top => exact le_top
  | bot => exact le_top

/-- A row's mean square and the small constant. -/
def vv (x : Fin 1024 → EReal) : EReal := Ideal.div (∑ k, x k * x k) (Ideal.ofBits .f32 0x44800000#32) + Ideal.ofBits .f32 0x358637BD#32

theorem rr_vv (x : Fin 1024 → EReal) : rr x = Ideal.rsqrt (vv x) := rfl

/-- Either the row is infinite somewhere, or every entry is real and so is the mean square. -/
theorem vv_cases (x : Fin 1024 → EReal) : vv x = ⊤ ∨ ∃ (v : ℝ) (y : Fin 1024 → ℝ), 0 < v ∧ vv x = (v : EReal) ∧ x = fun k => (y k : EReal) := by
  obtain ⟨e, he, hE⟩ := of_eps
  have hs : 0 ≤ ∑ k, x k * x k := Finset.sum_nonneg fun k _ => sq_nonneg' (x k)
  unfold vv
  rw [of_1024, hE, Ideal.div_coe (by norm_num)]
  generalize hS : ∑ k, x k * x k = S at hs
  induction S using EReal.rec with
  | bot => exact absurd hs (by simp)
  | top => left; rw [EReal.top_mul_coe_of_pos (by norm_num)]; rfl
  | coe s =>
    right
    have hs' : (0 : ℝ) ≤ s := by exact_mod_cast hs
    have hx : ∀ k, x k * x k ≠ ⊤ := fun k h => by
      have h1 : x k * x k ≤ ∑ k, x k * x k := Finset.single_le_sum (f := fun k => x k * x k) (fun j _ => sq_nonneg' (x j)) (Finset.mem_univ k)
      rw [h, hS] at h1
      exact absurd h1 (by simp)
    refine ⟨s * (1 / 1024) + e, fun k => (x k).toReal, by positivity, by rw [EReal.coe_add, EReal.coe_mul], funext fun k => (EReal.coe_toReal ?_ ?_).symm⟩
    · intro h; exact hx k (by rw [h]; rfl)
    · intro h; exact hx k (by rw [h]; rfl)

/-- The factor that multiplies a row in its normalization's gradient, as the reference differentiates it. -/
def qq (x d : Fin 1024 → EReal) : EReal :=
  Ideal.div ((∑ k, x k * d k) * (Ideal.ofBits .f32 0xBF000000#32 * Ideal.div (rr x) (vv x))) (Ideal.ofBits .f32 0x44800000#32)

/-- The gradient of a normalized row, as the calls compute it. -/
def dx (x d : Fin 1024 → EReal) (s : Fin 1024) : EReal :=
  rr x * (d s - x s * rr x * Ideal.div (∑ k, d k * (x k * rr x)) (Ideal.ofBits .f32 0x44800000#32))

theorem dx_eq (x d : Fin 1024 → EReal) (s : Fin 1024) : dx x d s = d s * rr x + x s * qq x d + qq x d * x s := by
  unfold dx qq
  rw [of_1024, of_neg_half, rr_vv]
  rcases vv_cases x with h | ⟨v, y, hv, h, rfl⟩
  · have h0 : Ideal.div 0 ⊤ = 0 := by simp [Ideal.div]
    have h1 : Ideal.div 0 ((1024 : ℝ) : EReal) = 0 := by rw [Ideal.div_coe (by norm_num), zero_mul]
    simp [h, h0, h1]
  · rw [h, Ideal.rsqrt_coe, if_neg (not_lt.2 hv.le), if_neg hv.ne', Ideal.div_coe (by norm_num), Ideal.div_coe (by norm_num), Ideal.div_coe hv.ne']
    have hr : (0 : ℝ) ≤ (Real.sqrt v)⁻¹ := by positivity
    have hr3 : (Real.sqrt v)⁻¹ * (1 / v) = (Real.sqrt v)⁻¹ ^ 3 := by
      have h2 := Real.sq_sqrt hv.le
      have h3 : Real.sqrt v ≠ 0 := (Real.sqrt_pos.2 hv).ne'
      field_simp
      exact h2.symm ▸ rfl
    generalize (Real.sqrt v)⁻¹ = r at hr hr3
    have hsum : ∑ k, d k * ((y k : EReal) * (r : EReal)) = (∑ k, (y k : EReal) * d k) * (r : EReal) := by
      rw [← mul_sum_real _ _ hr]
      exact Finset.sum_congr rfl fun k _ => by rw [← mul_assoc, mul_comm (d k)]
    rw [hsum]
    generalize ∑ k, (y k : EReal) * d k = S
    have e1 : (y s : EReal) * (r : EReal) * (S * (r : EReal) * ((1 / 1024 : ℝ) : EReal)) = S * ((y s * r * r * (1 / 1024) : ℝ) : EReal) := by
      simp only [EReal.coe_mul]; ac_rfl
    have e2 : S * (((-(1 / 2) : ℝ) : EReal) * ((r : EReal) * ((1 / v : ℝ) : EReal))) * ((1 / 1024 : ℝ) : EReal) = S * ((-(1 / 2) * r ^ 3 * (1 / 1024) : ℝ) : EReal) := by
      rw [← hr3]; simp only [EReal.coe_mul]; ac_rfl
    have e3 : (y s : EReal) * (S * ((-(1 / 2) * r ^ 3 * (1 / 1024) : ℝ) : EReal)) = S * ((-(1 / 2) * r ^ 3 * (1 / 1024) * y s : ℝ) : EReal) := by
      simp only [EReal.coe_mul]; ac_rfl
    rw [e1, e2, mul_comm (S * _) (y s : EReal), e3, add_assoc, two_mul_real, sub_eq_add_neg,
      EReal.left_distrib_of_nonneg_of_ne_top (by exact_mod_cast hr) (EReal.coe_ne_top r), mul_comm (r : EReal) (d s), mul_comm (r : EReal) (-_)]
    refine congrArg (fun z : EReal => d s * (r : EReal) + z) ?_
    rw [← mul_neg, ← EReal.coe_neg, mul_assoc, ← EReal.coe_mul]
    exact congrArg (fun z : ℝ => S * (z : EReal)) (by ring)

/-- A sum over a column, kept as a row. -/
theorem col_sum {M N : ℕ} (x : FVec Ideal ⟨2, ![M, N]⟩ .f32) (acc) (h : (⟨2, ![M, N]⟩ : Shape).Reduces [0] ⟨1, ![N]⟩) (hφ hacc) (h' : (⟨1, ![N]⟩ : Shape).ShapeCasts ⟨2, ![1, N]⟩) (s : Fin N) :
    shapeCast ⟨2, ![1, N]⟩ (multiReduction .add [0] ⟨1, ![N]⟩ x acc h hφ hacc) h' (ix2 (0 : Fin 1) s) = (∑ r : Fin M, x (ix2 r s) : EReal) := by
  refine (shapeCast_apply _ h' (ix2 (0 : Fin 1) s) (ix1 s) ?_).trans ((Ideal.multiReduction_add_single x acc h hφ hacc (ix1 s)).trans (Finset.sum_congr rfl fun k _ => congrArg x ?_))
  · rw [Shape.rowMajor_val_one, Shape.rowMajor_val_two]
    show s.val = 0 * N + s.val
    omega
  · exact funext fun a => Fin.ext (by match a with | ⟨0, _⟩ => rfl | ⟨1, _⟩ => rfl)

end Cert.Ffn

end
-- ==== Proof.Post.lean ====
module

public import proofs.«01_k».proof.Defs
public import proofs.«01_k».proof.Proof.Norm
public import proofs.«01_k».proof.Proof.Gen.PostIdeal.Value
public import proofs.«01_k».proof.Proof.Gen.PostRefIdeal.Run
public import proofs.«01_k».proof.Proof.Gen.PostRefIdeal.Read
public import Idealize.ShloMosaic.Lib.Pipeline.ValueKit.Geometry

@[expose] public section

noncomputable section

/-! The output norm's backward: the rows' gradient block by block, and the gain's gradient accumulated over the blocks. -/

namespace Cert.PostIdeal.Hand

open Cert.PostIdeal Cert.PostIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a1 : Memref sig .tc .vmem S512x1024 .f32) (h1 : a1.IsWhole)
  (a2 : Memref sig .tc .vmem S512x1024 .bf16) (h2 : a2.IsWhole) (a3 : Memref sig .tc .vmem S1x1024 .f32) (h3 : a3.IsWhole)
  (a4 : Memref sig .tc .vmem S512x1024 .bf16) (h4 : a4.IsWhole) (a5 : Memref sig .tc .vmem S1x1024 .f32) (h5 : a5.IsWhole)
  (x0 : Vec F S512x1024 .f32) (x1 : Vec F S512x1024 .bf16) (x2 : Vec F S1x1024 .f32) (u : Vec F S1x1024 .f32)

theorem outA3 (hc0 hc1) : out0_A_3 c i a1 h1 a2 h2 a3 h3 a4 h4 a5 h5 hc0 hc1 x0 x1 x2 = k0_pay7 x0 x1 x2 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem outA4 (hc0 hc1) : out0_A_4 c i a1 h1 a2 h2 a3 h3 a4 h4 a5 h5 hc0 hc1 x0 x1 x2 = k0_pay6 x0 x1 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem outB3 (hc0 hc1) : out0_B_3 c i a1 h1 a2 h2 a3 h3 a4 h4 a5 h5 hc0 hc1 x0 x1 x2 u = k0_pay7 x0 x1 x2 := by
  unfold out0_B_3
  rw [View.read_writes_eq_canon _ _ _ (cover0_B_3 c i a1 h1 a2 h2 a3 h3 a4 h4 a5 h5 hc0 hc1 x0 x1 x2 u)]
  unfold kernelRun0_B
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem outB4 (hc0 hc1) : out0_B_4 c i a1 h1 a2 h2 a3 h3 a4 h4 a5 h5 hc0 hc1 x0 x1 x2 u = k0_pay1 (k0_pay6 x0 x1) u := by
  unfold out0_B_4
  rw [View.read_writes_eq_canon _ _ _ (cover0_B_4 c i a1 h1 a2 h2 a3 h3 a4 h4 a5 h5 hc0 hc1 x0 x1 x2 u)]
  unfold kernelRun0_B
  dsimp only
  sl_unfold_words
  rw [View.canon_unit_zero hz]
  simp only [View.readAt_eq_ld, h1.read_unread, h2.read_unread, h3.read_unread, h5.read_unread, View.ld_unit_zero (S := S512x1024) hz, View.ld_unit_zero (S := S1x1024) hz]

end

/-- Half of a gradient's element. -/
def hf (z : EReal) : EReal := Ideal.ofBits .f32 0x3F000000#32 * z

theorem pay5_at (y : FVec Ideal S512x1024 .bf16) (r : Fin 512) (s : Fin 1024) :
    k0_pay5 (F := Ideal) y (ix2 r s) = (y (ix2 r s) * rr fun k => y (ix2 r k) : EReal) := by
  unfold k0_pay5
  exact congrArg (fun z : EReal => y (ix2 r s) * z)
    ((col_bcast (M := 512) (N := 1024) _ broadcasts_S512x1_S512x1024 r s).trans (rr_at (M := 512) (k0_pay2 (F := Ideal) y) 0x00000000#32 reduces_S512x1024_S512 (.inl rfl) rfl shapeCasts_S512_S512x1 r))

theorem pay6_at (x : FVec Ideal S512x1024 .f32) (y : FVec Ideal S512x1024 .bf16) (s : Fin 1024) :
    k0_pay6 (F := Ideal) x y (ix2 (0 : Fin 1) s) = (∑ r : Fin 512, hf (x (ix2 r s)) * (y (ix2 r s) * rr fun k => y (ix2 r k)) : EReal) := by
  unfold k0_pay6
  refine (col_sum (M := 512) (N := 1024) _ 0x00000000#32 reduces_S512x1024_S1024 (.inl rfl) rfl shapeCasts_S1024_S1x1024 s).trans (Finset.sum_congr rfl fun r _ => ?_)
  exact congrArg (fun z : EReal => hf (x (ix2 r s)) * z) (pay5_at y r s)

theorem pay7_at (x : FVec Ideal S512x1024 .f32) (y : FVec Ideal S512x1024 .bf16) (g : FVec Ideal S1x1024 .f32) (r : Fin 512) (s : Fin 1024) :
    k0_pay7 (F := Ideal) x y g (ix2 r s) = dx (fun k => y (ix2 r k)) (fun k => hf (x (ix2 r k)) * g (ix2 (0 : Fin 1) k)) s := by
  unfold k0_pay7
  have eg : ∀ k, broadcastTo S512x1024 g broadcasts_S1x1024_S512x1024 (ix2 r k) = g (ix2 (0 : Fin 1) k) :=
    fun k => broadcastTo_1b_ab_apply (a := 512) (b := 1024) g broadcasts_S1x1024_S512x1024 r k
  have er := (col_bcast (M := 512) (N := 1024) (k0_pay4 (F := Ideal) y) broadcasts_S512x1_S512x1024 r s).trans
    (rr_at (M := 512) (k0_pay2 (F := Ideal) y) 0x00000000#32 reduces_S512x1024_S512 (.inl rfl) rfl shapeCasts_S512_S512x1 r)
  have es := (col_bcast (M := 512) (N := 1024) (divf (shapeCast S512x1 (multiReduction .add [1] S512 (mulf (mulf (k0_pay3 (F := Ideal) x) (broadcastTo S512x1024 g broadcasts_S1x1024_S512x1024)) (k0_pay5 y)) 0x00000000#32 reduces_S512x1024_S512 (.inl rfl) rfl) shapeCasts_S512_S512x1) (broadcast S512x1 (Scalar.ofBits .f32 0x44800000#32))) broadcasts_S512x1_S512x1024 r s).trans
    (congrArg (fun z => Ideal.div z (Ideal.ofBits .f32 0x44800000#32)) ((row_sum (M := 512) (N := 1024) _ 0x00000000#32 reduces_S512x1024_S512 (.inl rfl) rfl shapeCasts_S512_S512x1 r).trans
      (Finset.sum_congr rfl fun k _ => congrArg₂ (fun a b : EReal => hf (x (ix2 r k)) * a * b) (eg k) (pay5_at y r k))))
  have e1 := congrArg₂ (fun a b : EReal => hf (x (ix2 r s)) * a - b) (eg s) (congrArg₂ (fun a b : EReal => a * b) (pay5_at y r s) es)
  exact congrArg₂ (fun a b : EReal => a * b) er e1

variable (m : (ℓ : Loc nD τ sig) → Buf (Elt Ideal) ℓ) (c : Dev nD)

/-- The blocks a point reads. -/
abbrev X0 (t : Fin cfg0.N) : FVec Ideal S512x1024 .f32 := iblk m c 0 t
abbrev X1 (t : Fin cfg0.N) : FVec Ideal S512x1024 .bf16 := iblk m c 1 t
abbrev X2 (t : Fin cfg0.N) : FVec Ideal S1x1024 .f32 := iblk m c 2 t

theorem lt32 {n : ℕ} (h : n < cfg0.N) : n < 32 := lt_of_lt_of_eq h N_0

/-- A point's share of the gain's gradient. -/
def P (s : Fin 1024) (n : ℕ) : EReal :=
  if h : n < cfg0.N then (∑ r : Fin 512, hf (X0 m c ⟨n, h⟩ (ix2 r s)) * (X1 m c ⟨n, h⟩ (ix2 r s) * rr fun k => X1 m c ⟨n, h⟩ (ix2 r k)) : EReal) else 0

theorem acc_eq (s : Fin 1024) (n : ℕ) (h : n < cfg0.N) :
    (outsAt0 m c n h).2 (ix2 (0 : Fin 1) s) = ∑ j ∈ Finset.range (n % 32 + 1), P m c s (n / 32 * 32 + j) := by
  refine acc_sum 32 (by decide) (fun n h => ((outsAt0 m c n h).2 (ix2 (0 : Fin 1) s) : EReal)) (P m c s) (fun n h h0 => ?_) (fun n h h0 => ?_) n h
  · have e := congrArg (fun z => (z.2 (ix2 (0 : Fin 1) s) : EReal)) (outsAt0_A m c ⟨n, h⟩ h0 (by have := lt32 h; show ¬1 ≤ n; omega))
    refine e.trans ?_
    dsimp only
    rw [outA4, pay6_at, P, dif_pos h, zero_add]
  · have e := congrArg (fun z => (z.2 (ix2 (0 : Fin 1) s) : EReal)) (outsAt0_B m c ⟨n, h⟩ h0 (by show 1 ≤ n; omega))
    refine e.trans ?_
    dsimp only
    rw [outB4]
    unfold k0_pay1
    rw [shapeCast_self, P, dif_pos h]
    exact congrArg (fun z : EReal => (outsAt0 m c (n - 1) (Nat.lt_of_le_of_lt (Nat.sub_le _ _) h)).2 (ix2 (0 : Fin 1) s) + z) (pay6_at (X0 m c ⟨n, h⟩) (X1 m c ⟨n, h⟩) s)

theorem word0 (t : Fin cfg0.N) : (BitVec.ofNat 32 (grid0.coords t 0).val).toNat = t.val := by
  have := lt32 t.isLt
  rw [show (grid0.coords t 0).val = t.val / 1 % 32 from Pipeline.Grid.coords_val t 0 (by decide) rfl, BitVec.toNat_ofNat]
  omega

/-- The row of the arrays that a point's block's is. -/
def row (t : Fin cfg0.N) (r : Fin 512) : Fin 16384 := ⟨512 * t.val + r.val, by have := lt32 t.isLt; omega⟩

theorem emb0 (t : Fin cfg0.N) (r : Fin 512) (s : Fin 1024) : (win0_0.rect t).emb (ix2 r s) = ix2 (row t r) s := by
  funext a; apply Fin.ext
  match a with
  | ⟨0, _⟩ => exact (win0_0.rect_emb_val t _ 0).trans (show (BitVec.ofNat 32 (grid0.coords t 0).val).toNat * 512 + r.val = 512 * t.val + r.val by rw [word0]; omega)
  | ⟨1, _⟩ => exact (win0_0.rect_emb_val t _ 1).trans (show 0 * 1024 + s.val = s.val by omega)
theorem emb1 (t : Fin cfg0.N) (r : Fin 512) (s : Fin 1024) : (win0_1.rect t).emb (ix2 r s) = ix2 (row t r) s := emb0 t r s
theorem emb3 (t : Fin cfg0.N) (r : Fin 512) (s : Fin 1024) : (win0_3.rect t).emb (ix2 r s) = ix2 (row t r) s := emb0 t r s
theorem emb2 (t : Fin cfg0.N) (s : Fin 1024) : (win0_2.rect t).emb (ix2 (0 : Fin 1) s) = ix2 (0 : Fin 1) s := by
  funext a; apply Fin.ext
  match a with
  | ⟨0, _⟩ => exact (win0_2.rect_emb_val t _ 0).trans rfl
  | ⟨1, _⟩ => exact (win0_2.rect_emb_val t _ 1).trans (show 0 * 1024 + s.val = s.val by omega)
theorem emb4 (t : Fin cfg0.N) (s : Fin 1024) : (win0_4.rect t).emb (ix2 (0 : Fin 1) s) = ix2 (0 : Fin 1) s := emb2 t s

/-- The arguments. -/
abbrev A0 : FVec Ideal S16384x1024 .f32 := m ((c.tc : Thread nD τ).loc main_arg0)
abbrev A1 : FVec Ideal S16384x1024 .bf16 := m ((c.tc : Thread nD τ).loc main_arg1)
abbrev A2 : FVec Ideal S1x1024 .f32 := m ((c.tc : Thread nD τ).loc main_arg2)

/-- The results: the rows' gradient and the gain's. -/
def G3 (x : FVec Ideal S16384x1024 .f32) (y : FVec Ideal S16384x1024 .bf16) (g : FVec Ideal S1x1024 .f32) : FVec Ideal S16384x1024 .bf16 :=
  fun i => dx (fun k => y (ix2 (i 0) k)) (fun k => hf (x (ix2 (i 0) k)) * g (ix2 (0 : Fin 1) k)) (i 1)
def gain (x : FVec Ideal S16384x1024 .f32) (y : FVec Ideal S16384x1024 .bf16) (s : Fin 1024) : EReal :=
  ∑ a : Fin 16384, hf (x (ix2 a s)) * (y (ix2 a s) * rr fun k => y (ix2 a k))
def G4 (x : FVec Ideal S16384x1024 .f32) (y : FVec Ideal S16384x1024 .bf16) : FVec Ideal S1x1024 .f32 := fun i => gain x y (i 1)

theorem tiles (s : Fin 1024) : ∑ j ∈ Finset.range 32, P m c s (0 / 32 * 32 + j) = gain (A0 m c) (A1 m c) s := by
  refine sum_tiles (L := 32) (B := 512) rfl (fun a : Fin 16384 => (hf (A0 m c (ix2 a s)) * (A1 m c (ix2 a s) * rr fun k => A1 m c (ix2 a k)) : EReal)) (fun j => P m c s (0 / 32 * 32 + j)) fun n => ?_
  have hlt : n.val < cfg0.N := lt_of_lt_of_eq (b := 32) n.isLt N_0.symm
  show P m c s (0 / 32 * 32 + n.val) = _
  rw [show 0 / 32 * 32 + n.val = n.val by omega, P, dif_pos hlt]
  refine Finset.sum_congr rfl fun r _ => congrArg₂ (fun u v : EReal => hf u * v) (congrArg (A0 m c) (emb0 ⟨_, hlt⟩ r s))
    (congrArg₂ (fun u v : EReal => u * v) (congrArg (A1 m c) (emb1 ⟨_, hlt⟩ r s)) (congrArg rr (funext fun k => congrArg (A1 m c) (emb1 ⟨_, hlt⟩ r k))))

theorem out3_at (t : Fin cfg0.N) (r : Fin 512) (s : Fin 1024) :
    (dats m 0 c).after 3 t (ix2 r s) = G3 (A0 m c) (A1 m c) (A2 m c) (ix2 (row t r) s) := by
  rw [after0_3]
  have e : ((outsAt0 m c t.val t.isLt).1 (ix2 r s) : EReal) = k0_pay7 (F := Ideal) (X0 m c t) (X1 m c t) (X2 m c t) (ix2 r s) := by
    by_cases h0 : t.val % 32 = 0
    · have e := congrArg (fun z => (z.1 (ix2 r s) : EReal)) (outsAt0_A m c t h0 (by have := lt32 t.isLt; omega))
      dsimp only at e
      rw [outA3] at e
      exact e
    · have e := congrArg (fun z => (z.1 (ix2 r s) : EReal)) (outsAt0_B m c t h0 (by omega))
      dsimp only at e
      rw [outB3] at e
      exact e
  refine e.trans ((pay7_at (X0 m c t) (X1 m c t) (X2 m c t) r s).trans ?_)
  exact congrArg₂ (fun u v => dx u v s) (funext fun k => congrArg (A1 m c) (emb1 t r k))
    (funext fun k => congrArg₂ (fun u v : EReal => hf u * v) (congrArg (A0 m c) (emb0 t r k)) (congrArg (A2 m c) (emb2 t k)))

theorem out4_at (t : Fin cfg0.N) (ht : t.val % 32 = 31) (s : Fin 1024) :
    (dats m 0 c).after 4 t (ix2 (0 : Fin 1) s) = G4 (A0 m c) (A1 m c) (ix2 (0 : Fin 1) s) := by
  rw [after0_4]
  refine (acc_eq m c s t.val t.isLt).trans (Eq.trans ?_ (tiles m c s))
  rw [ht, show t.val / 32 = 0 / 32 by have := lt32 t.isLt; omega]

theorem final3 : (dats m 0 c).arrAt 3 cfg0.N = G3 (A0 m c) (A1 m c) (A2 m c) :=
  Dat.arrAt_eq_of_covers _ 3 _ (by decide +kernel) fun t hf y => by
    show (dats m 0 c).after 3 t y = G3 (A0 m c) (A1 m c) (A2 m c) ((win0_3.rect t).emb y)
    have e : y = ix2 (y 0) (y 1) := idx2 y
    refine (congrArg _ e).trans ((out3_at m c t (y 0) (y 1)).trans (congrArg (G3 (A0 m c) (A1 m c) (A2 m c)) ?_))
    exact (emb3 t (y 0) (y 1)).symm.trans (congrArg (fun z => (win0_3.rect t).emb z) e.symm)

theorem final4 : (dats m 0 c).arrAt 4 cfg0.N = G4 (A0 m c) (A1 m c) :=
  Dat.arrAt_eq_of_covers _ 4 _ (by decide +kernel) fun t hf y => by
    show (dats m 0 c).after 4 t y = G4 (A0 m c) (A1 m c) ((win0_4.rect t).emb y)
    have e : y = ix2 (0 : Fin 1) (y 1) := (idx2 y).trans (congrArg (fun z => ix2 z (y 1)) (Subsingleton.elim (α := Fin 1) _ _))
    refine (congrArg _ e).trans ((out4_at m c t ((flush0_4 t).mp hf) (y 1)).trans (congrArg (G4 (A0 m c) (A1 m c)) ?_))
    exact (emb4 t (y 1)).symm.trans (congrArg (fun z => (win0_4.rect t).emb z) e.symm)

end Cert.PostIdeal.Hand

namespace Cert.Proof

open Idealize.ShloMosaic Idealize.SL.Sem Idealize.ShloMosaic.ValueIdx Cert.Ffn
open Cert.PostRefIdeal (S16384x1024 S1x1024 S16384x1)
open Cert.PostIdeal.Hand (hf gain G3 G4)
open Cert.PostRefIdeal.Read

theorem ref_post_vv (y : FVec Ideal S16384x1024 .bf16) (i : S16384x1.Idx) : val_main_v7 (F := Ideal) y i = vv fun k => y (ix2 (i 0) k) := by
  rw [val_main_v7_apply, val_main_v6_apply, val_main_v5_apply, val_main_v4_apply, val_main_v3_apply, val_main_v2_apply]
  refine congrArg (fun z => Ideal.div z (Ideal.ofBits .f32 0x44800000#32) + Ideal.ofBits .f32 0x358637BD#32) ?_
  refine (congrArg₂ (fun u v : EReal => u + v) Ideal.ofBits_zero_f32 (Finset.sum_congr rfl fun k _ => ?_)).trans (zero_add _)
  rw [val_main_v1_apply, val_main_v0_apply]
  have e : idx_main_v2 (idx_main_v3 i) k = ix2 (i 0) k := funext fun a => by
    match a with
    | ⟨0, _⟩ => rfl
    | ⟨1, _⟩ => rfl
  exact congrArg (fun j => (y j * y j : EReal)) e

theorem ref_post_rr (y : FVec Ideal S16384x1024 .bf16) (i : S16384x1.Idx) : val_main_v8 (F := Ideal) y i = rr fun k => y (ix2 (i 0) k) := by
  rw [val_main_v8_apply, ref_post_vv]
  rfl

theorem ref_post_idx (i : S1x1024.Idx) (a : Fin 16384) : idx_main_v21 (idx_main_v22 i) a = ix2 a (i 1) := by
  have h (p q : ℕ) (hp : p < 1) : p * 1024 + q = q := by omega
  have h' : (idx_main_v22 i 0).val = (i 1).val := h _ _ (i 0).isLt
  funext b
  match b with
  | ⟨0, _⟩ => rfl
  | ⟨1, _⟩ => exact Fin.ext h'

theorem ref_post_term (x : FVec Ideal S16384x1024 .f32) (y : FVec Ideal S16384x1024 .bf16) (i : S16384x1024.Idx) :
    val_main_v20 (F := Ideal) x y i = (hf (x i) * (y i * rr fun k => y (ix2 (i 0) k)) : EReal) := by
  rw [val_main_v20_apply, val_main_v13_apply, val_main_v12_apply, val_main_v0_apply, val_main_v19_apply, val_main_v18_apply, ref_post_rr]
  exact mul_comm _ _

theorem ref_post_gain (x : FVec Ideal S16384x1024 .f32) (y : FVec Ideal S16384x1024 .bf16) : val_main_v22 (F := Ideal) x y = G4 x y := by
  funext i
  rw [val_main_v22_apply, val_main_v21_apply]
  show _ = gain x y (i 1)
  unfold gain
  rw [show val_main_cst_5 (F := Ideal) _ = 0 from Ideal.ofBits_zero_f32, zero_add]
  refine Finset.sum_congr rfl fun a _ => ?_
  refine (congrArg (val_main_v20 (F := Ideal) x y) (ref_post_idx i a)).trans ?_
  exact ref_post_term x y (ix2 a (i 1))

/-- The gradient of the normalized rows' element. -/
theorem ref_post_d (x : FVec Ideal S16384x1024 .f32) (g : FVec Ideal S1x1024 .f32) (i : S16384x1024.Idx) :
    val_main_v24 (F := Ideal) x g i = (hf (x i) * g (ix2 (0 : Fin 1) (i 1)) : EReal) := by
  rw [val_main_v24_apply, val_main_v23_apply, val_main_v19_apply, val_main_v18_apply]
  have e : idx_main_v23 i = ix2 (0 : Fin 1) (i 1) := funext fun a => Fin.ext (by match a with | ⟨0, _⟩ => rfl | ⟨1, _⟩ => rfl)
  exact congrArg (fun j => (hf (x i) * g j : EReal)) e

theorem ref_post_qq (x : FVec Ideal S16384x1024 .f32) (y : FVec Ideal S16384x1024 .bf16) (g : FVec Ideal S1x1024 .f32) (i : S16384x1.Idx) :
    val_main_v32 (F := Ideal) x y g i = qq (fun k => y (ix2 (i 0) k)) (fun k => hf (x (ix2 (i 0) k)) * g (ix2 (0 : Fin 1) k)) := by
  rw [val_main_v32_apply, val_main_v31_apply, val_main_v30_apply, val_main_v11_apply, val_main_v10_apply, val_main_v9_apply, ref_post_rr, ref_post_vv, val_main_v27_apply, val_main_v26_apply]
  refine congrArg (fun z : EReal => Ideal.div (z * (Ideal.ofBits .f32 0xBF000000#32 * Ideal.div (rr fun k => y (ix2 (i 0) k)) (vv fun k => y (ix2 (i 0) k)))) (Ideal.ofBits .f32 0x44800000#32)) ?_
  refine (congrArg₂ (fun u v : EReal => u + v) Ideal.ofBits_zero_f32 (Finset.sum_congr rfl fun k _ => ?_)).trans (zero_add _)
  have e : idx_main_v26 (idx_main_v27 i) k = ix2 (i 0) k := funext fun a => Fin.ext (by
    match a with
    | ⟨0, _⟩ =>
      show (i 0).val * 1 + (i 1).val = (i 0).val
      have h1 : (i 1).val < 1 := (i 1).isLt
      omega
    | ⟨1, _⟩ => rfl)
  refine (congrArg (val_main_v25 (F := Ideal) x y g) e).trans ?_
  exact congrArg (fun z : EReal => y (ix2 (i 0) k) * z) (ref_post_d x g (ix2 (i 0) k))

theorem ref_post_dx (x : FVec Ideal S16384x1024 .f32) (y : FVec Ideal S16384x1024 .bf16) (g : FVec Ideal S1x1024 .f32) : val_main_v39 (F := Ideal) x y g = G3 x y g := by
  funext i
  have e0 : ix2 (i 0) (i 1) = i := (idx2 i).symm
  have eq : val_main_v34 (F := Ideal) x y g i = qq (fun k => y (ix2 (i 0) k)) (fun k => hf (x (ix2 (i 0) k)) * g (ix2 (0 : Fin 1) k)) := by
    rw [val_main_v34_apply, val_main_v33_apply]
    refine (congrArg₂ (fun u v : EReal => u + v) Ideal.ofBits_zero_f32 ((Fin.sum_univ_one _).trans (ref_post_qq x y g _))).trans (zero_add _)
  rw [val_main_v39_apply, val_main_v38_apply, val_main_v37_apply, val_main_v36_apply, val_main_v35_apply, val_main_v29_apply, val_main_v28_apply, ref_post_rr, ref_post_d, eq, val_main_v0_apply]
  refine Eq.trans ?_ (dx_eq _ _ _).symm
  rw [← e0]
  rfl

theorem algebraic_post : algebraic_PostIdeal_PostRefIdeal := by
  intro m g m' g' _ hargs
  refine ⟨fun c => G3 (Cert.PostIdeal.Hand.A0 m c) (Cert.PostIdeal.Hand.A1 m c) (Cert.PostIdeal.Hand.A2 m c),
    fun c => G4 (Cert.PostIdeal.Hand.A0 m c) (Cert.PostIdeal.Hand.A1 m c), ?_, ?_⟩
  · exact (θ_run Cert.PostIdeal.defs _ _).mono (fun r h c => ⟨(h c).1.trans (Cert.PostIdeal.Hand.final3 m c), (h c).2.1.trans (Cert.PostIdeal.Hand.final4 m c),
      (h c).2.2⟩) (Cert.PostIdeal.Value.run_blocks (F := Ideal) m g)
  · refine (θ_run Cert.PostRefIdeal.defs _ _).mono (fun r h c => ⟨(h c).1.trans ?_, (h c).2.1.trans ?_, (h c).2.2⟩) (Cert.PostRefIdeal.Value.run (F := Ideal) m' g')
    · rw [val_main_v39_eq, (hargs c).1, (hargs c).2.1, (hargs c).2.2]
      exact ref_post_dx _ _ _
    · rw [(hargs c).1, (hargs c).2.1]
      exact (val_main_v22_eq (F := Ideal) _ _).trans (ref_post_gain _ _)

end Cert.Proof

end
-- ==== Proof.Act.lean ====
module

public import proofs.«01_k».proof.Defs
public import proofs.«01_k».proof.Proof.Ffn
public import proofs.«01_k».proof.Proof.Real
public import proofs.«01_k».proof.Proof.Gen.Pre_finite_act
public import proofs.«01_k».proof.Proof.Gen.ActIdeal.Value
public import proofs.«01_k».proof.Proof.Gen.ActRefIdeal.Run
public import proofs.«01_k».proof.Proof.Gen.ActRefIdeal.Read
public import Idealize.ShloMosaic.Lib.Pipeline.ValueKit.Geometry

@[expose] public section

noncomputable section

/-! The gradient of the gated activation: one product and a pointwise epilogue at every point. -/

namespace Cert.Ffn

open Idealize.ShloMosaic

theorem logistic_top : Ideal.logistic ⊤ = 1 := by
  unfold Ideal.logistic
  rw [EReal.neg_top, Ideal.exp_bot, add_zero, ← EReal.coe_one, Cert.Attn.coe_div 1 1 one_ne_zero, div_one]

theorem logistic_bot : Ideal.logistic ⊥ = 0 := by
  unfold Ideal.logistic
  rw [EReal.neg_bot, Ideal.exp_top, show (1 : EReal) + ⊤ = ⊤ from rfl]
  simp [Ideal.div]

theorem logistic_coe (r : ℝ) : Ideal.logistic (r : EReal) = ((1 / (1 + Real.exp (-r)) : ℝ) : EReal) := by
  unfold Ideal.logistic
  rw [← EReal.coe_neg, Ideal.exp_coe, ← EReal.coe_one, ← EReal.coe_add, Cert.Attn.coe_div _ _ (by positivity)]

/-- The sigmoid-weighted gate's derivative, both ways round, where the incoming gradient is a real number. -/
theorem gate_grad (T : ℝ) (g : EReal) : (T : EReal) * (Ideal.logistic g * (1 + g * (1 - Ideal.logistic g)))
    = T * Ideal.logistic g + g * T * (Ideal.logistic g * (1 - Ideal.logistic g)) := by
  induction g using EReal.rec with
  | bot => rw [logistic_bot]; simp
  | coe r =>
    rw [logistic_coe]
    generalize 1 / (1 + Real.exp (-r)) = s
    rw [← EReal.coe_one, ← EReal.coe_sub, ← EReal.coe_mul, ← EReal.coe_add, ← EReal.coe_mul, ← EReal.coe_mul, ← EReal.coe_mul, ← EReal.coe_mul, ← EReal.coe_mul, ← EReal.coe_mul, ← EReal.coe_add]
    exact congrArg _ (by ring)
  | top =>
    have h : (1 : EReal) - 1 = 0 := by rw [← EReal.coe_one, ← EReal.coe_sub, sub_self, EReal.coe_zero]
    rw [logistic_top, h]; simp

end Cert.Ffn

namespace Cert.Pre_finite_act.Hand

open Cert.Pre_finite_act Cert.Attn
open Idealize.ShloMosaic

theorem real (a0 : FVec Ideal S16384x1024 .bf16) (a1 : FVec Ideal S3072x1024 .bf16) (a2 a3 : FVec Ideal S16384x3072 .bf16) (h : fn (F := Ideal) a0 a1 a2 a3 = fun _ => 1#1) :
    a0 = lift (fun i => (a0 i).toReal) ∧ a1 = lift (fun i => (a1 i).toReal) ∧ a3 = lift (fun i => (a3 i).toReal) := by
  have hj := fun j => IntOp.andi_eq_one.1 (congrFun h j)
  have hk := fun j => IntOp.andi_eq_one.1 (hj j).1
  exact ⟨Cert.Pre_finite.Hand.lift_of_all (s := S16384x1024) (extf .f32 a0 Gen.bitsLt_bf16_f32) _ _ _ (funext fun j => (hk j).1),
    Cert.Pre_finite.Hand.lift_of_all (s := S3072x1024) (extf .f32 a1 Gen.bitsLt_bf16_f32) _ _ _ (funext fun j => (hk j).2),
    Cert.Pre_finite.Hand.lift_of_all (s := S16384x3072) (extf .f32 a3 Gen.bitsLt_bf16_f32) _ _ _ (funext fun j => (hj j).2)⟩

end Cert.Pre_finite_act.Hand

namespace Cert.ActIdeal.Hand

open Cert.ActIdeal Cert.ActIdeal.Gen Cert.Ffn
open Idealize.ShloMosaic Idealize.ShloMosaic.TcCoe Idealize.SL.Sem
open Idealize.ShloMosaic.ValueIdx
open Idealize.ShloMosaic.Pipeline (Dat)

theorem out4_eq {F : FTy → Type} [FloatOps F] (x0 : Vec F S1024x1024 .bf16) (x1 : Vec F S512x1024 .bf16) (x2 x3 : Vec F S1024x512 .bf16) :
    out0_4 x0 x1 x2 x3 = k0_pay4 x0 x1 x2 x3 := by
  unfold out0_4
  rw [View.canon_unit_zero hz]
  simp only [View.ld_unit_zero (S := S1024x1024) hz, View.ld_unit_zero (S := S512x1024) hz, View.ld_unit_zero (S := S1024x512) hz]

theorem out5_eq {F : FTy → Type} [FloatOps F] (x0 : Vec F S1024x1024 .bf16) (x1 : Vec F S512x1024 .bf16) (x2 x3 : Vec F S1024x512 .bf16) :
    out0_5 x0 x1 x2 x3 = k0_pay5 x0 x1 x2 := by
  unfold out0_5
  rw [View.canon_unit_zero hz]
  simp only [View.ld_unit_zero (S := S1024x1024) hz, View.ld_unit_zero (S := S512x1024) hz, View.ld_unit_zero (S := S1024x512) hz]

theorem pay1_at (x0 : FVec Ideal S1024x1024 .bf16) (x1 : FVec Ideal S512x1024 .bf16) (r : Fin 1024) (s : Fin 512) :
    k0_pay1 (F := Ideal) x0 x1 (ix2 r s) = (∑ k : Fin 1024, x0 (ix2 r k) * x1 (ix2 s k) : EReal) :=
  (Ideal.matmul_transposedRhs_apply (φ₁ := .bf16) (φ₂ := .bf16) none x0 x1 (constant ⟨2, ![1024, 512]⟩ .f32 0x00000000#32) r s).trans
    (by rw [zero_at, zero_add])

/-- The two results' elements, from the product's, the gate's and the other factor's. -/
def e4 (t g u : EReal) : EReal := t * u * (Ideal.logistic g * (1 + g * (1 - Ideal.logistic g)))
def e5 (t g : EReal) : EReal := t * (g * Ideal.logistic g)

theorem pay4_at (x0 : FVec Ideal S1024x1024 .bf16) (x1 : FVec Ideal S512x1024 .bf16) (x2 x3 : FVec Ideal S1024x512 .bf16) (y : S1024x512.Idx) :
    k0_pay4 (F := Ideal) x0 x1 x2 x3 y = e4 (k0_pay1 (F := Ideal) x0 x1 y) (x2 y) (x3 y) := by
  unfold k0_pay4
  generalize k0_pay1 (F := Ideal) x0 x1 = t
  show (t y * x3 y * (Ideal.logistic (x2 y) * (Ideal.ofBits .f32 0x3F800000#32 + x2 y * (Ideal.ofBits .f32 0x3F800000#32 - Ideal.logistic (x2 y)))) : EReal) = _
  rw [Cert.Attn.one_eq]
  rfl

theorem pay5_at (x0 : FVec Ideal S1024x1024 .bf16) (x1 : FVec Ideal S512x1024 .bf16) (x2 : FVec Ideal S1024x512 .bf16) (y : S1024x512.Idx) :
    k0_pay5 (F := Ideal) x0 x1 x2 y = e5 (k0_pay1 (F := Ideal) x0 x1 y) (x2 y) := by
  unfold k0_pay5
  generalize k0_pay1 (F := Ideal) x0 x1 = t
  rfl

variable (m : (ℓ : Loc nD τ sig) → Buf (Elt Ideal) ℓ) (c : Dev nD)

theorem lt96 (t : Fin cfg0.N) : t.val < 96 := lt_of_lt_of_eq t.isLt N_0

theorem word0 (t : Fin cfg0.N) : (BitVec.ofNat 32 (grid0.coords t 0).val).toNat = t.val / 16 := by
  have := lt96 t
  rw [show (grid0.coords t 0).val = t.val / 16 % 6 from Pipeline.Grid.coords_val t 0 (by decide) rfl, BitVec.toNat_ofNat]
  omega
theorem word1 (t : Fin cfg0.N) : (BitVec.ofNat 32 (grid0.coords t 1).val).toNat = t.val % 16 := by
  rw [show (grid0.coords t 1).val = t.val / 1 % 16 from Pipeline.Grid.coords_val t 1 (by decide) rfl, BitVec.toNat_ofNat]
  omega
theorem word2 (t : Fin cfg0.N) : (BitVec.ofNat 32 (grid0.coords t 2).val).toNat = 0 := by
  rw [show (grid0.coords t 2).val = t.val / 1 % 1 from Pipeline.Grid.coords_val t 2 (by decide) rfl, BitVec.toNat_ofNat]
  omega

/-- The row and the column of the arrays that a point's block's are. -/
def row (t : Fin cfg0.N) (r : Fin 1024) : Fin 16384 := ⟨1024 * (t.val % 16) + r.val, by omega⟩
def col (t : Fin cfg0.N) (s : Fin 512) : Fin 3072 := ⟨512 * (t.val / 16) + s.val, by have := lt96 t; omega⟩

theorem emb0 (t : Fin cfg0.N) (r k : Fin 1024) : (win0_0.rect t).emb (ix2 r k) = ix2 (row t r) k := by
  funext a; apply Fin.ext
  match a with
  | ⟨0, _⟩ => exact (win0_0.rect_emb_val t _ 0).trans (show (BitVec.ofNat 32 (grid0.coords t 1).val).toNat * 1024 + r.val = 1024 * (t.val % 16) + r.val by rw [word1]; omega)
  | ⟨1, _⟩ => exact (win0_0.rect_emb_val t _ 1).trans (show (BitVec.ofNat 32 (grid0.coords t 2).val).toNat * 1024 + k.val = k.val by rw [word2]; omega)
theorem emb1 (t : Fin cfg0.N) (s : Fin 512) (k : Fin 1024) : (win0_1.rect t).emb (ix2 s k) = ix2 (col t s) k := by
  funext a; apply Fin.ext
  match a with
  | ⟨0, _⟩ => exact (win0_1.rect_emb_val t _ 0).trans (show (BitVec.ofNat 32 (grid0.coords t 0).val).toNat * 512 + s.val = 512 * (t.val / 16) + s.val by rw [word0]; omega)
  | ⟨1, _⟩ => exact (win0_1.rect_emb_val t _ 1).trans (show (BitVec.ofNat 32 (grid0.coords t 2).val).toNat * 1024 + k.val = k.val by rw [word2]; omega)
theorem emb2 (t : Fin cfg0.N) (r : Fin 1024) (s : Fin 512) : (win0_2.rect t).emb (ix2 r s) = ix2 (row t r) (col t s) := by
  funext a; apply Fin.ext
  match a with
  | ⟨0, _⟩ => exact (win0_2.rect_emb_val t _ 0).trans (show (BitVec.ofNat 32 (grid0.coords t 1).val).toNat * 1024 + r.val = 1024 * (t.val % 16) + r.val by rw [word1]; omega)
  | ⟨1, _⟩ => exact (win0_2.rect_emb_val t _ 1).trans (show (BitVec.ofNat 32 (grid0.coords t 0).val).toNat * 512 + s.val = 512 * (t.val / 16) + s.val by rw [word0]; omega)
/-- The other three windows move as window 2 does. -/
theorem emb3 (t : Fin cfg0.N) (r : Fin 1024) (s : Fin 512) : (win0_3.rect t).emb (ix2 r s) = ix2 (row t r) (col t s) := emb2 t r s
theorem emb4 (t : Fin cfg0.N) (r : Fin 1024) (s : Fin 512) : (win0_4.rect t).emb (ix2 r s) = ix2 (row t r) (col t s) := emb2 t r s
theorem emb5 (t : Fin cfg0.N) (r : Fin 1024) (s : Fin 512) : (win0_5.rect t).emb (ix2 r s) = ix2 (row t r) (col t s) := emb2 t r s

/-- The arguments. -/
abbrev A0 : FVec Ideal S16384x1024 .bf16 := m ((c.tc : Thread nD τ).loc main_arg0)
abbrev A1 : FVec Ideal S3072x1024 .bf16 := m ((c.tc : Thread nD τ).loc main_arg1)
abbrev A2 : FVec Ideal S16384x3072 .bf16 := m ((c.tc : Thread nD τ).loc main_arg2)
abbrev A3 : FVec Ideal S16384x3072 .bf16 := m ((c.tc : Thread nD τ).loc main_arg3)

/-- The product of the incoming gradient with the weights' transpose. -/
def D (x : FVec Ideal S16384x1024 .bf16) (w : FVec Ideal S3072x1024 .bf16) (a : Fin 16384) (b : Fin 3072) : EReal :=
  ∑ k : Fin 1024, x (ix2 a k) * w (ix2 b k)

/-- The results. -/
def G4 (x : FVec Ideal S16384x1024 .bf16) (w : FVec Ideal S3072x1024 .bf16) (g u : FVec Ideal S16384x3072 .bf16) : FVec Ideal S16384x3072 .bf16 :=
  fun i => e4 (D x w (i 0) (i 1)) (g i) (u i)
def G5 (x : FVec Ideal S16384x1024 .bf16) (w : FVec Ideal S3072x1024 .bf16) (g : FVec Ideal S16384x3072 .bf16) : FVec Ideal S16384x3072 .bf16 :=
  fun i => e5 (D x w (i 0) (i 1)) (g i)

theorem dot_at (t : Fin cfg0.N) (r : Fin 1024) (s : Fin 512) :
    k0_pay1 (F := Ideal) (iblk m c 0 t) (iblk m c 1 t) (ix2 r s) = D (A0 m c) (A1 m c) (row t r) (col t s) :=
  (pay1_at (iblk m c 0 t) (iblk m c 1 t) r s).trans (Finset.sum_congr rfl fun k _ =>
    congrArg₂ (fun u v : EReal => u * v) (congrArg (A0 m c) (emb0 t r k)) (congrArg (A1 m c) (emb1 t s k)))

theorem out4_at (t : Fin cfg0.N) (r : Fin 1024) (s : Fin 512) :
    (dats m 0 c).after 4 t (ix2 r s) = G4 (A0 m c) (A1 m c) (A2 m c) (A3 m c) (ix2 (row t r) (col t s)) := by
  rw [after0_4, out4_eq]
  refine (pay4_at _ _ _ _ _).trans ?_
  have e2 : (iblk m c 2 t : FVec Ideal S1024x512 .bf16) (ix2 r s) = A2 m c (ix2 (row t r) (col t s)) := congrArg (A2 m c) (emb2 t r s)
  have e3 : (iblk m c 3 t : FVec Ideal S1024x512 .bf16) (ix2 r s) = A3 m c (ix2 (row t r) (col t s)) := congrArg (A3 m c) (emb3 t r s)
  exact (congrArg₂ (fun (u : EReal) (v : EReal × EReal) => e4 u v.1 v.2) (dot_at m c t r s) (congrArg₂ Prod.mk e2 e3))

theorem out5_at (t : Fin cfg0.N) (r : Fin 1024) (s : Fin 512) :
    (dats m 0 c).after 5 t (ix2 r s) = G5 (A0 m c) (A1 m c) (A2 m c) (ix2 (row t r) (col t s)) := by
  rw [after0_5, out5_eq]
  refine (pay5_at _ _ _ _).trans ?_
  have e2 : (iblk m c 2 t : FVec Ideal S1024x512 .bf16) (ix2 r s) = A2 m c (ix2 (row t r) (col t s)) := congrArg (A2 m c) (emb2 t r s)
  exact congrArg₂ e5 (dot_at m c t r s) e2

theorem final4 : (dats m 0 c).arrAt 4 cfg0.N = G4 (A0 m c) (A1 m c) (A2 m c) (A3 m c) :=
  Dat.arrAt_eq_of_covers _ 4 _ (by decide +kernel) fun t _ y => by
    show (dats m 0 c).after 4 t y = G4 (A0 m c) (A1 m c) (A2 m c) (A3 m c) ((win0_4.rect t).emb y)
    have e : y = ix2 (y 0) (y 1) := idx2 y
    refine (congrArg _ e).trans ((out4_at m c t (y 0) (y 1)).trans (congrArg (G4 (A0 m c) (A1 m c) (A2 m c) (A3 m c)) ?_))
    exact (emb4 t (y 0) (y 1)).symm.trans (congrArg (fun z => (win0_4.rect t).emb z) e.symm)

theorem final5 : (dats m 0 c).arrAt 5 cfg0.N = G5 (A0 m c) (A1 m c) (A2 m c) :=
  Dat.arrAt_eq_of_covers _ 5 _ (by decide +kernel) fun t _ y => by
    show (dats m 0 c).after 5 t y = G5 (A0 m c) (A1 m c) (A2 m c) ((win0_5.rect t).emb y)
    have e : y = ix2 (y 0) (y 1) := idx2 y
    refine (congrArg _ e).trans ((out5_at m c t (y 0) (y 1)).trans (congrArg (G5 (A0 m c) (A1 m c) (A2 m c)) ?_))
    exact (emb5 t (y 0) (y 1)).symm.trans (congrArg (fun z => (win0_5.rect t).emb z) e.symm)

end Cert.ActIdeal.Hand

namespace Cert.Proof

open Idealize.ShloMosaic Idealize.SL.Sem Idealize.ShloMosaic.ValueIdx Cert.Ffn
open Cert.ActRefIdeal (S16384x1024 S3072x1024 S16384x3072)

theorem ref_act_dot (x : FVec Ideal S16384x1024 .bf16) (w : FVec Ideal S3072x1024 .bf16) (i : S16384x3072.Idx) :
    Cert.ActRefIdeal.Read.val_main_v7 (F := Ideal) x w i = Cert.ActIdeal.Hand.D x w (i 0) (i 1) := by
  rw [Cert.ActRefIdeal.Read.val_main_v7_apply]
  refine Finset.sum_congr rfl fun k _ => congrArg₂ (fun u v : EReal => u * v) (congrArg x ?_) (congrArg w ?_)
  · exact funext fun a => Fin.ext (by match a with | ⟨0, _⟩ => rfl | ⟨1, _⟩ => rfl)
  · exact funext fun a => Fin.ext (by match a with | ⟨0, _⟩ => rfl | ⟨1, _⟩ => rfl)

theorem ref_sig (g : FVec Ideal S16384x3072 .bf16) (i : S16384x3072.Idx) :
    Cert.ActRefIdeal.Read.val_main_v4_2 (F := Ideal) g i = Ideal.logistic (g i) := by
  rw [Cert.ActRefIdeal.Read.val_main_v4_2_apply, Cert.ActRefIdeal.Read.val_main_call0_v4_apply, Cert.ActRefIdeal.Read.val_main_call0_v3_apply,
    Cert.ActRefIdeal.Read.val_main_call0_v2_apply, Cert.ActRefIdeal.Read.val_main_call0_v1_apply, Cert.ActRefIdeal.Read.val_main_call0_v0_apply,
    Cert.ActRefIdeal.Read.val_main_v2_apply, Cert.ActRefIdeal.Read.val_main_call0_cst_0_apply, Cert.ActRefIdeal.Read.val_main_call0_cst_apply]
  show Ideal.div (Ideal.ofBits .f32 0x3F800000#32) (Ideal.ofBits .f32 0x3F800000#32 + Ideal.exp (-(g i))) = _
  rw [Cert.Attn.one_eq]
  rfl

theorem ref_up (x : FVec Ideal S16384x1024 .bf16) (w : FVec Ideal S3072x1024 .bf16) (g : FVec Ideal S16384x3072 .bf16) :
    Cert.ActRefIdeal.Read.val_main_v12 (F := Ideal) x w g = Cert.ActIdeal.Hand.G5 x w g := by
  funext i
  rw [Cert.ActRefIdeal.Read.val_main_v12_apply, Cert.ActRefIdeal.Read.val_main_v8_apply, Cert.ActRefIdeal.Read.val_main_v4_0_apply, Cert.ActRefIdeal.Read.val_main_v2_apply, ref_act_dot, ref_sig]
  exact mul_comm (G := EReal) _ _

theorem ref_gate (x : FVec Ideal S16384x1024 .bf16) (w : FVec Ideal S3072x1024 .bf16) (g u : FVec Ideal S16384x3072 .bf16)
    (hx : x = Cert.Attn.lift fun i => (x i).toReal) (hw : w = Cert.Attn.lift fun i => (w i).toReal) (hu : u = Cert.Attn.lift fun i => (u i).toReal) :
    Cert.ActRefIdeal.Read.val_main_v11 (F := Ideal) x w g u = Cert.ActIdeal.Hand.G4 x w g u := by
  funext i
  rw [Cert.ActRefIdeal.Read.val_main_v11_apply, Cert.ActRefIdeal.Read.val_main_v10_apply, Cert.ActRefIdeal.Read.val_main_call1_v1_apply, Cert.ActRefIdeal.Read.val_main_call1_v2_apply,
    Cert.ActRefIdeal.Read.val_main_call1_v0_apply, Cert.ActRefIdeal.Read.val_main_v4_1_apply, Cert.ActRefIdeal.Read.val_main_call0_v7_apply, Cert.ActRefIdeal.Read.val_main_call0_v6_apply,
    Cert.ActRefIdeal.Read.val_main_call0_cst_1_apply, Cert.ActRefIdeal.Read.val_main_v9_apply, Cert.ActRefIdeal.Read.val_main_v2_apply, Cert.ActRefIdeal.Read.val_main_v3_apply, ref_act_dot, ref_sig]
  have hT : (Cert.ActIdeal.Hand.D x w (i 0) (i 1) * u i : EReal)
      = (((∑ k : Fin 1024, (x (ix2 (i 0) k)).toReal * (w (ix2 (i 1) k)).toReal) * (u i).toReal : ℝ) : EReal) := by
    rw [EReal.coe_mul]
    exact congrArg₂ (fun a b : EReal => a * b) (Cert.Attn.coe_dot _ _ _ _ (fun k => congrFun hx _) (fun k => congrFun hw _)) (congrFun hu i)
  show (Cert.ActIdeal.Hand.D x w (i 0) (i 1) * u i * Ideal.logistic (g i)
      + g i * (Cert.ActIdeal.Hand.D x w (i 0) (i 1) * u i) * (Ideal.logistic (g i) * (Ideal.ofBits .f32 0x3F800000#32 - Ideal.logistic (g i))) : EReal)
    = Cert.ActIdeal.Hand.D x w (i 0) (i 1) * u i * (Ideal.logistic (g i) * (1 + g i * (1 - Ideal.logistic (g i))))
  rw [hT, Cert.Attn.one_eq]
  exact (gate_grad _ (g i)).symm

theorem algebraic_act : algebraic_ActIdeal_ActRefIdeal_pre_finite_act := by
  intro m g m' g' hpre hargs
  refine ⟨fun c => Cert.ActIdeal.Hand.G4 (Cert.ActIdeal.Hand.A0 m c) (Cert.ActIdeal.Hand.A1 m c) (Cert.ActIdeal.Hand.A2 m c) (Cert.ActIdeal.Hand.A3 m c),
    fun c => Cert.ActIdeal.Hand.G5 (Cert.ActIdeal.Hand.A0 m c) (Cert.ActIdeal.Hand.A1 m c) (Cert.ActIdeal.Hand.A2 m c), ?_, ?_⟩
  · exact (θ_run Cert.ActIdeal.defs _ _).mono (fun r h c => ⟨(h c).1.trans (Cert.ActIdeal.Hand.final4 m c),
      (h c).2.1.trans (Cert.ActIdeal.Hand.final5 m c), (h c).2.2⟩) (Cert.ActIdeal.Value.run_blocks (F := Ideal) m g)
  · refine (θ_run Cert.ActRefIdeal.defs _ _).mono (fun r h c => ⟨(h c).1.trans ?_, (h c).2.1.trans ?_, (h c).2.2⟩) (Cert.ActRefIdeal.Value.run (F := Ideal) m' g')
    · obtain ⟨h0, h1, h3⟩ := Cert.Pre_finite_act.Hand.real _ _ _ _ (hpre c)
      rw [(hargs c).1, (hargs c).2.1, (hargs c).2.2.1, (hargs c).2.2.2]
      exact (Cert.ActRefIdeal.Read.val_main_v11_eq (F := Ideal) _ _ _ _).trans (ref_gate _ _ _ _ h0 h1 h3)
    · rw [(hargs c).1, (hargs c).2.1, (hargs c).2.2.1]
      exact (Cert.ActRefIdeal.Read.val_main_v12_eq (F := Ideal) _ _ _).trans (ref_up _ _ _)

end Cert.Proof

end
-- ==== Proof.Wd.lean ====
module

public import proofs.«01_k».proof.Defs
public import proofs.«01_k».proof.Proof.Ffn
public import proofs.«01_k».proof.Proof.Gen.WdIdeal.Value
public import proofs.«01_k».proof.Proof.Gen.WdRefIdeal.Run
public import proofs.«01_k».proof.Proof.Gen.WdRefIdeal.Read
public import Idealize.ShloMosaic.Lib.Pipeline.ValueKit.Geometry

@[expose] public section

noncomputable section

/-! The gradient of the down projection's weights: sixteen row tiles accumulated are the product over all rows. -/

namespace Cert.WdIdeal.Hand

open Cert.WdIdeal Cert.WdIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec F S1024x1024 .bf16) (xs : Vec F S1024x1024 .f32)

theorem sout_A (h0 h1) : sout0_A_0 c i a3 h3 a4 h4 a5 h5 a6 h6 h0 h1 x0 x1 = k0_pay2 (k0_pay1 (F := F)) x0 x1 := by
  unfold sout0_A_0
  rw [View.read_writes_eq_canon _ _ _ (scover0_A_0 c i a3 h3 a4 h4 a5 h5 a6 h6 h0 h1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem sout_B (h0 h1) : sout0_B_0 c i a3 h3 a4 h4 a5 h5 a6 h6 h0 h1 x0 x1 xs = k0_pay2 xs x0 x1 := by
  unfold sout0_B_0
  rw [View.read_writes_eq_canon _ _ _ (scover0_B_0 c i a3 h3 a4 h4 a5 h5 a6 h6 h0 h1 x0 x1 xs)]
  unfold kernelRun0_B
  dsimp only
  rw [View.canon_unit_zero hz]
  simp only [View.readAt_eq_ld, h3.read_unread, h4.read_unread, h6.read_unread, View.ld_unit_zero (S := S1024x1024) hz]

theorem sout_C (h0 h1) : sout0_C_0 c i a3 h3 a4 h4 a5 h5 a6 h6 h0 h1 x0 x1 xs = k0_pay2 xs x0 x1 := by
  unfold sout0_C_0
  rw [View.read_writes_eq_canon _ _ _ (scover0_C_0 c i a3 h3 a4 h4 a5 h5 a6 h6 h0 h1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

theorem out_C (h0 h1) : out0_C_2 c i a3 h3 a4 h4 a5 h5 a6 h6 h0 h1 x0 x1 xs = k0_pay2 xs x0 x1 := by
  unfold out0_C_2
  rw [View.read_writes_eq_canon _ _ _ (cover0_C_2 c i a3 h3 a4 h4 a5 h5 a6 h6 h0 h1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

theorem pay1_at (y : S1024x1024.Idx) : k0_pay1 (F := Ideal) y = 0 := by
  unfold k0_pay1
  rw [shapeCast_self]
  exact Ideal.ofBits_zero_f32

theorem pay2_at (xs : Vec Ideal S1024x1024 .f32) (x0 x1 : Vec Ideal S1024x1024 .bf16) (r s : Fin 1024) :
    k0_pay2 xs x0 x1 (ix2 r s) = (xs (ix2 r s) + ∑ b : Fin 1024, x0 (ix2 b r) * x1 (ix2 b s) : EReal) := by
  unfold k0_pay2
  rw [shapeCast_self]
  exact congrArg (fun z : EReal => xs (ix2 r s) + z) (dot_rows (φ₁ := .bf16) (φ₂ := .bf16) dot_S1024x1024_S1024x1024_S1024x1024_0_0_1_1_n_n rfl rfl
    (fun i q a => by match a with | ⟨0, _⟩ => rfl | ⟨1, _⟩ => rfl) (fun i q a => by match a with | ⟨0, _⟩ => rfl | ⟨1, _⟩ => rfl) none x0 x1 r s)

variable (m : (ℓ : Loc nD τ sig) → Buf (Elt Ideal) ℓ) (c : Dev nD)

/-- The two tiles a point reads. -/
abbrev X0 (t : Fin cfg0.N) : FVec Ideal S1024x1024 .bf16 := iblk m c 0 t
abbrev X1 (t : Fin cfg0.N) : FVec Ideal S1024x1024 .bf16 := iblk m c 1 t

/-- A point's addend. -/
def P (r s : Fin 1024) (n : ℕ) : EReal :=
  if h : n < cfg0.N then (∑ b : Fin 1024, X0 m c ⟨n, h⟩ (ix2 b r) * X1 m c ⟨n, h⟩ (ix2 b s) : EReal) else 0

theorem lt48 {n : ℕ} (h : n < cfg0.N) : n < 48 := lt_of_lt_of_eq h N_0

/-- The accumulator after a point: its column tile's products so far. -/
theorem acc_eq (r s : Fin 1024) (n : ℕ) (h : n < cfg0.N) :
    (outsAt0 m c n h).2 (ix2 r s) = ∑ j ∈ Finset.range (n % 16 + 1), P m c r s (n / 16 * 16 + j) := by
  refine acc_sum 16 (by decide) (fun n h => ((outsAt0 m c n h).2 (ix2 r s) : EReal)) (P m c r s) (fun n h h0 => ?_) (fun n h h0 => ?_) n h
  · have e := congrArg (fun z => (z.2 (ix2 r s) : EReal)) (outsAt0_A m c ⟨n, h⟩ h0 (by show ¬n % 16 = 15; omega))
    refine e.trans ?_
    dsimp only
    rw [sout_A, pay2_at, pay1_at, P, dif_pos h]
  · by_cases h1 : n % 16 = 15
    · have e := congrArg (fun z => (z.2 (ix2 r s) : EReal)) (outsAt0_C m c ⟨n, h⟩ h0 h1)
      refine e.trans ?_
      dsimp only
      rw [sout_C, pay2_at, P, dif_pos h]
    · have e := congrArg (fun z => (z.2 (ix2 r s) : EReal)) (outsAt0_B m c ⟨n, h⟩ h0 h1)
      refine e.trans ?_
      dsimp only
      rw [sout_B, pay2_at, P, dif_pos h]

/-- What a last tile's point writes back: the whole accumulator. -/
theorem out_eq (t : Fin cfg0.N) (ht : t.val % 16 = 15) (r s : Fin 1024) :
    (outsAt0 m c t.val t.isLt).1 (ix2 r s) = ∑ j ∈ Finset.range 16, P m c r s (t.val / 16 * 16 + j) := by
  have h0 : ¬t.val % 16 = 0 := by omega
  have e1 := congrArg (fun z => (z.1 (ix2 r s) : EReal)) (outsAt0_C m c t h0 ht)
  have e2 := congrArg (fun z => (z.2 (ix2 r s) : EReal)) (outsAt0_C m c t h0 ht)
  dsimp only at e1 e2
  rw [out_C] at e1
  rw [sout_C] at e2
  exact (e1.trans e2.symm).trans ((acc_eq m c r s t.val t.isLt).trans (by rw [ht]))

theorem word1 (t : Fin cfg0.N) : (BitVec.ofNat 32 (grid0.coords t 1).val).toNat = t.val / 16 := by
  have := lt48 t.isLt
  rw [show (grid0.coords t 1).val = t.val / 16 % 3 from Pipeline.Grid.coords_val t 1 (by decide) rfl, BitVec.toNat_ofNat]
  omega
theorem word2 (t : Fin cfg0.N) : (BitVec.ofNat 32 (grid0.coords t 2).val).toNat = t.val % 16 := by
  rw [show (grid0.coords t 2).val = t.val / 1 % 16 from Pipeline.Grid.coords_val t 2 (by decide) rfl, BitVec.toNat_ofNat]
  omega
theorem word0 (t : Fin cfg0.N) : (BitVec.ofNat 32 (grid0.coords t 0).val).toNat = 0 := by
  rw [show (grid0.coords t 0).val = t.val / 48 % 1 from Pipeline.Grid.coords_val t 0 (by decide) rfl, BitVec.toNat_ofNat]
  omega

/-- The row of the arrays that row `b` of a point's tile is. -/
def row (t : Fin cfg0.N) (b : Fin 1024) : Fin 16384 := ⟨1024 * (t.val % 16) + b.val, by omega⟩
/-- The row of the result that row `r` of a point's block is. -/
def col (t : Fin cfg0.N) (r : Fin 1024) : Fin 3072 := ⟨1024 * (t.val / 16) + r.val, by have := lt48 t.isLt; omega⟩

theorem emb0 (t : Fin cfg0.N) (b r : Fin 1024) : (win0_0.rect t).emb (ix2 b r) = ix2 (row t b) (col t r) := by
  funext a; apply Fin.ext
  match a with
  | ⟨0, _⟩ => exact (win0_0.rect_emb_val t _ 0).trans (show (BitVec.ofNat 32 (grid0.coords t 2).val).toNat * 1024 + b.val = 1024 * (t.val % 16) + b.val by rw [word2]; omega)
  | ⟨1, _⟩ => exact (win0_0.rect_emb_val t _ 1).trans (show (BitVec.ofNat 32 (grid0.coords t 1).val).toNat * 1024 + r.val = 1024 * (t.val / 16) + r.val by rw [word1]; omega)
theorem emb1 (t : Fin cfg0.N) (b s : Fin 1024) : (win0_1.rect t).emb (ix2 b s) = ix2 (row t b) s := by
  funext a; apply Fin.ext
  match a with
  | ⟨0, _⟩ => exact (win0_1.rect_emb_val t _ 0).trans (show (BitVec.ofNat 32 (grid0.coords t 2).val).toNat * 1024 + b.val = 1024 * (t.val % 16) + b.val by rw [word2]; omega)
  | ⟨1, _⟩ => exact (win0_1.rect_emb_val t _ 1).trans (show (BitVec.ofNat 32 (grid0.coords t 0).val).toNat * 1024 + s.val = s.val by rw [word0]; omega)
theorem emb2 (t : Fin cfg0.N) (r s : Fin 1024) : (win0_2.rect t).emb (ix2 r s) = ix2 (col t r) s := by
  funext a; apply Fin.ext
  match a with
  | ⟨0, _⟩ => exact (win0_2.rect_emb_val t _ 0).trans (show (BitVec.ofNat 32 (grid0.coords t 1).val).toNat * 1024 + r.val = 1024 * (t.val / 16) + r.val by rw [word1]; omega)
  | ⟨1, _⟩ => exact (win0_2.rect_emb_val t _ 1).trans (show (BitVec.ofNat 32 (grid0.coords t 0).val).toNat * 1024 + s.val = s.val by rw [word0]; omega)

/-- The arguments. -/
abbrev A0 : FVec Ideal S16384x3072 .bf16 := m ((c.tc : Thread nD τ).loc main_arg0)
abbrev A1 : FVec Ideal S16384x1024 .bf16 := m ((c.tc : Thread nD τ).loc main_arg1)

/-- The result: the product over all rows. -/
def G (x : FVec Ideal S16384x3072 .bf16) (y : FVec Ideal S16384x1024 .bf16) : FVec Ideal S3072x1024 .f32 :=
  fun i => (∑ k : Fin 16384, x (ix2 k (i 0)) * y (ix2 k (i 1)) : EReal)

theorem P_eq (r s : Fin 1024) (t : Fin cfg0.N) :
    P m c r s t.val = (∑ b : Fin 1024, A0 m c (ix2 (row t b) (col t r)) * A1 m c (ix2 (row t b) s) : EReal) := by
  rw [P, dif_pos t.isLt]
  exact Finset.sum_congr rfl fun b _ => congrArg₂ (fun u v : EReal => u * v) (congrArg (A0 m c) (emb0 t b r)) (congrArg (A1 m c) (emb1 t b s))

theorem out_final (t : Fin cfg0.N) (ht : t.val % 16 = 15) (r s : Fin 1024) :
    (outsAt0 m c t.val t.isLt).1 (ix2 r s) = G (A0 m c) (A1 m c) (ix2 (col t r) s) := by
  have hlt := lt48 t.isLt
  refine (out_eq m c t ht r s).trans (sum_tiles (L := 16) (B := 1024) (by norm_num) (fun k => (A0 m c (ix2 k (col t r)) * A1 m c (ix2 k s) : EReal)) _ fun n => ?_)
  have hu : t.val / 16 * 16 + n.val < cfg0.N := lt_of_lt_of_eq (by omega : _ < 48) N_0.symm
  refine (P_eq m c r s ⟨t.val / 16 * 16 + n.val, hu⟩).trans (Finset.sum_congr rfl fun b _ => ?_)
  rw [show row ⟨t.val / 16 * 16 + n.val, hu⟩ b = ⟨1024 * n.val + b.val, by omega⟩ from Fin.ext (by show 1024 * ((t.val / 16 * 16 + n.val) % 16) + b.val = 1024 * n.val + b.val; omega),
    show col ⟨t.val / 16 * 16 + n.val, hu⟩ r = col t r from Fin.ext (by show 1024 * ((t.val / 16 * 16 + n.val) / 16) + r.val = 1024 * (t.val / 16) + r.val; omega)]

theorem final : (dats m 0 c).arrAt 2 cfg0.N = G (A0 m c) (A1 m c) :=
  Dat.arrAt_eq_of_covers _ 2 _ (by decide +kernel) fun t hf y => by
    show (dats m 0 c).after 2 t y = G (A0 m c) (A1 m c) ((win0_2.rect t).emb y)
    rw [after0_2]
    have e : y = ix2 (y 0) (y 1) := idx2 y
    refine (congrArg _ e).trans ((out_final m c t ((flush0_2 t).mp hf) (y 0) (y 1)).trans (congrArg (G (A0 m c) (A1 m c)) ?_))
    exact (emb2 t (y 0) (y 1)).symm.trans (congrArg (fun z => (win0_2.rect t).emb z) e.symm)

end Cert.WdIdeal.Hand

namespace Cert.Proof

open Idealize.ShloMosaic Idealize.SL.Sem Idealize.ShloMosaic.ValueIdx Cert.Ffn

theorem ref_wd (x : FVec Ideal Cert.WdRefIdeal.S16384x3072 .bf16) (y : FVec Ideal Cert.WdRefIdeal.S16384x1024 .bf16) :
    Cert.WdRefIdeal.Read.val_main_v5 (F := Ideal) x y = Cert.WdIdeal.Hand.G x y := by
  funext i
  rw [Cert.WdRefIdeal.Read.val_main_v5_apply, Cert.WdRefIdeal.Read.val_main_v4_apply]
  refine Finset.sum_congr rfl fun k _ => ?_
  refine (mul_comm _ _).trans (congrArg₂ (fun u v : EReal => u * v) (congrArg x ?_) (congrArg y ?_))
  · exact funext fun a => Fin.ext (by match a with | ⟨0, _⟩ => rfl | ⟨1, _⟩ => rfl)
  · exact funext fun a => Fin.ext (by match a with | ⟨0, _⟩ => rfl | ⟨1, _⟩ => rfl)

theorem algebraic_wd : algebraic_WdIdeal_WdRefIdeal := by
  intro m g m' g' _ hargs
  refine ⟨fun c => Cert.WdIdeal.Hand.G (Cert.WdIdeal.Hand.A0 m c) (Cert.WdIdeal.Hand.A1 m c), ?_, ?_⟩
  · exact (θ_run Cert.WdIdeal.defs _ _).mono (fun r h c => ⟨(h c).1.trans (Cert.WdIdeal.Hand.final m c), (h c).2⟩)
      (Cert.WdIdeal.Value.run_blocks (F := Ideal) m g)
  · refine (θ_run Cert.WdRefIdeal.defs _ _).mono (fun r h c => ⟨(h c).1.trans ?_, (h c).2⟩) (Cert.WdRefIdeal.Value.run (F := Ideal) m' g')
    rw [(hargs c).1, (hargs c).2]
    exact ref_wd _ _

end Cert.Proof

end
-- ==== Proof.Wgu.lean ====
module

public import proofs.«01_k».proof.Defs
public import proofs.«01_k».proof.Proof.Ffn
public import proofs.«01_k».proof.Proof.Gen.WguIdeal.Value
public import proofs.«01_k».proof.Proof.Gen.WguRefIdeal.Run
public import proofs.«01_k».proof.Proof.Gen.WguRefIdeal.Read
public import Idealize.ShloMosaic.Lib.Pipeline.ValueKit.Geometry

@[expose] public section

noncomputable section

/-! The gradients of the gate's and the up projection's weights: two products accumulated over sixteen row tiles, each the product over all rows. -/

namespace Cert.WguIdeal.Hand

open Cert.WguIdeal Cert.WguIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .bf16) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .f32) (h9 : a9.IsWhole)
  (a10 : Memref sig .tc .vmem S1024x1024 .f32) (h10 : a10.IsWhole) (x0 x1 x2 x3 : Vec F S1024x1024 .bf16) (u v : Vec F S1024x1024 .f32)

theorem sout_A0 (h0 h1) : sout0_A_0 c i a3 h3 a4 h4 a5 h5 a6 h6 a7 h7 a8 h8 a9 h9 a10 h10 h0 h1 x0 x1 x2 x3 = k0_pay3 (k0_pay1 (F := F)) x0 x1 := by
  unfold sout0_A_0
  rw [View.read_writes_eq_canon _ _ _ (scover0_A_0 c i a3 h3 a4 h4 a5 h5 a6 h6 a7 h7 a8 h8 a9 h9 a10 h10 h0 h1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem sout_B0 (h0 h1) : sout0_B_0 c i a3 h3 a4 h4 a5 h5 a6 h6 a7 h7 a8 h8 a9 h9 a10 h10 h0 h1 x0 x1 x2 x3 u v = k0_pay3 u x0 x1 := by
  unfold sout0_B_0
  rw [View.read_writes_eq_canon _ _ _ (scover0_B_0 c i a3 h3 a4 h4 a5 h5 a6 h6 a7 h7 a8 h8 a9 h9 a10 h10 h0 h1 x0 x1 x2 x3 u v)]
  unfold kernelRun0_B
  dsimp only
  rw [View.canon_unit_zero hz]
  simp only [View.readAt_eq_ld, h3.read_unread, h4.read_unread, h9.read_unread, View.ld_unit_zero (S := S1024x1024) hz]

theorem sout_C0 (h0 h1) : sout0_C_0 c i a3 h3 a4 h4 a5 h5 a6 h6 a7 h7 a8 h8 a9 h9 a10 h10 h0 h1 x0 x1 x2 x3 u v = k0_pay3 u x0 x1 := by
  unfold sout0_C_0
  rw [View.read_writes_eq_canon _ _ _ (scover0_C_0 c i a3 h3 a4 h4 a5 h5 a6 h6 a7 h7 a8 h8 a9 h9 a10 h10 h0 h1 x0 x1 x2 x3 u v)]
  unfold kernelRun0_C
  dsimp only
  sl_unfold_words
  rw [View.canon_unit_zero hz]
  simp only [View.readAt_eq_ld, h3.read_unread, h4.read_unread, h9.read_unread, View.ld_unit_zero (S := S1024x1024) hz]

theorem out_C0 (h0 h1) : out0_C_4 c i a3 h3 a4 h4 a5 h5 a6 h6 a7 h7 a8 h8 a9 h9 a10 h10 h0 h1 x0 x1 x2 x3 u v = k0_pay3 u x0 x1 := by
  unfold out0_C_4
  rw [View.read_writes_eq_canon _ _ _ (cover0_C_4 c i a3 h3 a4 h4 a5 h5 a6 h6 a7 h7 a8 h8 a9 h9 a10 h10 h0 h1 x0 x1 x2 x3 u v)]
  unfold kernelRun0_C
  dsimp only
  sl_unfold_words
  rw [View.canon_unit_zero hz, View.readCov_unit_zero (S := S1024x1024) _ hz]
  simp only [View.readAt_eq_ld, h3.read_unread, h4.read_unread, h9.read_unread, View.ld_unit_zero (S := S1024x1024) hz]

theorem sout_A1 (h0 h1) : sout0_A_1 c i a3 h3 a4 h4 a5 h5 a6 h6 a7 h7 a8 h8 a9 h9 a10 h10 h0 h1 x0 x1 x2 x3 = k0_pay4 (k0_pay2 (F := F)) x2 x3 := by
  unfold sout0_A_1
  rw [View.read_writes_eq_canon _ _ _ (scover0_A_1 c i a3 h3 a4 h4 a5 h5 a6 h6 a7 h7 a8 h8 a9 h9 a10 h10 h0 h1 x0 x1 x2 x3)]
  unfold kernelRun0_A
  dsimp only
  sl_unfold_words
  rw [View.canon_cons_unit_zero (S := S1024x1024) hz, View.readCov_unit_zero (S := S1024x1024) _ hz]
  simp only [View.readAt_eq_ld, h5.read_unread, h6.read_unread, View.ld_unit_zero (S := S1024x1024) hz]

theorem sout_B1 (h0 h1) : sout0_B_1 c i a3 h3 a4 h4 a5 h5 a6 h6 a7 h7 a8 h8 a9 h9 a10 h10 h0 h1 x0 x1 x2 x3 u v = k0_pay4 v x2 x3 := by
  unfold sout0_B_1
  rw [View.read_writes_eq_canon _ _ _ (scover0_B_1 c i a3 h3 a4 h4 a5 h5 a6 h6 a7 h7 a8 h8 a9 h9 a10 h10 h0 h1 x0 x1 x2 x3 u v)]
  unfold kernelRun0_B
  dsimp only
  rw [View.canon_unit_zero hz]
  simp only [View.readAt_eq_ld, h5.read_unread, h6.read_unread, h10.read_unread, View.ld_unit_zero (S := S1024x1024) hz]

theorem sout_C1 (h0 h1) : sout0_C_1 c i a3 h3 a4 h4 a5 h5 a6 h6 a7 h7 a8 h8 a9 h9 a10 h10 h0 h1 x0 x1 x2 x3 u v = k0_pay4 v x2 x3 := by
  unfold sout0_C_1
  rw [View.read_writes_eq_canon _ _ _ (scover0_C_1 c i a3 h3 a4 h4 a5 h5 a6 h6 a7 h7 a8 h8 a9 h9 a10 h10 h0 h1 x0 x1 x2 x3 u v)]
  unfold kernelRun0_C
  dsimp only
  sl_unfold_words
  rw [View.canon_unit_zero hz]
  simp only [View.readAt_eq_ld, h5.read_unread, h6.read_unread, h10.read_unread, View.ld_unit_zero (S := S1024x1024) hz]

theorem out_C1 (h0 h1) : out0_C_5 c i a3 h3 a4 h4 a5 h5 a6 h6 a7 h7 a8 h8 a9 h9 a10 h10 h0 h1 x0 x1 x2 x3 u v = k0_pay4 v x2 x3 := by
  unfold out0_C_5
  rw [View.read_writes_eq_canon _ _ _ (cover0_C_5 c i a3 h3 a4 h4 a5 h5 a6 h6 a7 h7 a8 h8 a9 h9 a10 h10 h0 h1 x0 x1 x2 x3 u v)]
  unfold kernelRun0_C
  dsimp only
  sl_unfold_words
  rw [View.canon_unit_zero hz, View.readCov_unit_zero (S := S1024x1024) _ hz]
  simp only [View.readAt_eq_ld, h5.read_unread, h6.read_unread, h10.read_unread, View.ld_unit_zero (S := S1024x1024) hz]

end

theorem pay1_at (y : S1024x1024.Idx) : k0_pay1 (F := Ideal) y = 0 := by
  unfold k0_pay1
  rw [shapeCast_self]
  exact Ideal.ofBits_zero_f32

/-- The second lane's payloads are the first's. -/
theorem pay2_eq : k0_pay2 (F := Ideal) = k0_pay1 := rfl
theorem pay4_eq : k0_pay4 (F := Ideal) = k0_pay3 := rfl

theorem pay3_at (xs : Vec Ideal S1024x1024 .f32) (x0 x1 : Vec Ideal S1024x1024 .bf16) (r s : Fin 1024) :
    k0_pay3 xs x0 x1 (ix2 r s) = (xs (ix2 r s) + ∑ b : Fin 1024, x0 (ix2 b r) * x1 (ix2 b s) : EReal) := by
  unfold k0_pay3
  rw [shapeCast_self]
  exact congrArg (fun z : EReal => xs (ix2 r s) + z) (dot_rows (φ₁ := .bf16) (φ₂ := .bf16) dot_S1024x1024_S1024x1024_S1024x1024_0_0_1_1_n_n rfl rfl
    (fun i q a => by match a with | ⟨0, _⟩ => rfl | ⟨1, _⟩ => rfl) (fun i q a => by match a with | ⟨0, _⟩ => rfl | ⟨1, _⟩ => rfl) none x0 x1 r s)

variable (m : (ℓ : Loc nD τ sig) → Buf (Elt Ideal) ℓ) (c : Dev nD)

/-- The tiles a point reads. -/
abbrev X0 (t : Fin cfg0.N) : FVec Ideal S1024x1024 .bf16 := iblk m c 0 t
abbrev X1 (t : Fin cfg0.N) : FVec Ideal S1024x1024 .bf16 := iblk m c 1 t
abbrev X2 (t : Fin cfg0.N) : FVec Ideal S1024x1024 .bf16 := iblk m c 2 t
abbrev X3 (t : Fin cfg0.N) : FVec Ideal S1024x1024 .bf16 := iblk m c 3 t

/-- A point's addend in a lane whose tiles are `X` and `Y`. -/
def P (X Y : Fin cfg0.N → FVec Ideal S1024x1024 .bf16) (r s : Fin 1024) (n : ℕ) : EReal :=
  if h : n < cfg0.N then (∑ b : Fin 1024, X ⟨n, h⟩ (ix2 b r) * Y ⟨n, h⟩ (ix2 b s) : EReal) else 0

theorem lt48 {n : ℕ} (h : n < cfg0.N) : n < 48 := lt_of_lt_of_eq h N_0

theorem acc_eq0 (r s : Fin 1024) (n : ℕ) (h : n < cfg0.N) :
    (outsAt0 m c n h).2.2.1 (ix2 r s) = ∑ j ∈ Finset.range (n % 16 + 1), P (X0 m c) (X1 m c) r s (n / 16 * 16 + j) := by
  refine acc_sum 16 (by decide) (fun n h => ((outsAt0 m c n h).2.2.1 (ix2 r s) : EReal)) (P (X0 m c) (X1 m c) r s) (fun n h h0 => ?_) (fun n h h0 => ?_) n h
  · have e := congrArg (fun z => (z.2.2.1 (ix2 r s) : EReal)) (outsAt0_A m c ⟨n, h⟩ h0 (by show ¬n % 16 = 15; omega))
    refine e.trans ?_
    dsimp only
    rw [sout_A0, pay3_at, pay1_at, P, dif_pos h]
  · by_cases h1 : n % 16 = 15
    · have e := congrArg (fun z => (z.2.2.1 (ix2 r s) : EReal)) (outsAt0_C m c ⟨n, h⟩ h0 h1)
      refine e.trans ?_
      dsimp only
      rw [sout_C0, pay3_at, P, dif_pos h]
    · have e := congrArg (fun z => (z.2.2.1 (ix2 r s) : EReal)) (outsAt0_B m c ⟨n, h⟩ h0 h1)
      refine e.trans ?_
      dsimp only
      rw [sout_B0, pay3_at, P, dif_pos h]

theorem out_eq0 (t : Fin cfg0.N) (ht : t.val % 16 = 15) (r s : Fin 1024) :
    (outsAt0 m c t.val t.isLt).1 (ix2 r s) = ∑ j ∈ Finset.range 16, P (X0 m c) (X1 m c) r s (t.val / 16 * 16 + j) := by
  have h0 : ¬t.val % 16 = 0 := by omega
  have e1 := congrArg (fun z => (z.1 (ix2 r s) : EReal)) (outsAt0_C m c t h0 ht)
  have e2 := congrArg (fun z => (z.2.2.1 (ix2 r s) : EReal)) (outsAt0_C m c t h0 ht)
  dsimp only at e1 e2
  rw [out_C0] at e1
  rw [sout_C0] at e2
  exact (e1.trans e2.symm).trans ((acc_eq0 m c r s t.val t.isLt).trans (by rw [ht]))

theorem acc_eq1 (r s : Fin 1024) (n : ℕ) (h : n < cfg0.N) :
    (outsAt0 m c n h).2.2.2 (ix2 r s) = ∑ j ∈ Finset.range (n % 16 + 1), P (X2 m c) (X3 m c) r s (n / 16 * 16 + j) := by
  refine acc_sum 16 (by decide) (fun n h => ((outsAt0 m c n h).2.2.2 (ix2 r s) : EReal)) (P (X2 m c) (X3 m c) r s) (fun n h h0 => ?_) (fun n h h0 => ?_) n h
  · have e := congrArg (fun z => (z.2.2.2 (ix2 r s) : EReal)) (outsAt0_A m c ⟨n, h⟩ h0 (by show ¬n % 16 = 15; omega))
    refine e.trans ?_
    dsimp only
    rw [sout_A1, pay4_eq, pay3_at, pay2_eq, pay1_at, P, dif_pos h]
  · by_cases h1 : n % 16 = 15
    · have e := congrArg (fun z => (z.2.2.2 (ix2 r s) : EReal)) (outsAt0_C m c ⟨n, h⟩ h0 h1)
      refine e.trans ?_
      dsimp only
      rw [sout_C1, pay4_eq, pay3_at, P, dif_pos h]
    · have e := congrArg (fun z => (z.2.2.2 (ix2 r s) : EReal)) (outsAt0_B m c ⟨n, h⟩ h0 h1)
      refine e.trans ?_
      dsimp only
      rw [sout_B1, pay4_eq, pay3_at, P, dif_pos h]

theorem out_eq1 (t : Fin cfg0.N) (ht : t.val % 16 = 15) (r s : Fin 1024) :
    (outsAt0 m c t.val t.isLt).2.1 (ix2 r s) = ∑ j ∈ Finset.range 16, P (X2 m c) (X3 m c) r s (t.val / 16 * 16 + j) := by
  have h0 : ¬t.val % 16 = 0 := by omega
  have e1 := congrArg (fun z => (z.2.1 (ix2 r s) : EReal)) (outsAt0_C m c t h0 ht)
  have e2 := congrArg (fun z => (z.2.2.2 (ix2 r s) : EReal)) (outsAt0_C m c t h0 ht)
  dsimp only at e1 e2
  rw [out_C1] at e1
  rw [sout_C1] at e2
  exact (e1.trans e2.symm).trans ((acc_eq1 m c r s t.val t.isLt).trans (by rw [ht]))

theorem word0 (t : Fin cfg0.N) : (BitVec.ofNat 32 (grid0.coords t 0).val).toNat = t.val / 16 := by
  have := lt48 t.isLt
  rw [show (grid0.coords t 0).val = t.val / 16 % 3 from Pipeline.Grid.coords_val t 0 (by decide) rfl, BitVec.toNat_ofNat]
  omega
theorem word2 (t : Fin cfg0.N) : (BitVec.ofNat 32 (grid0.coords t 2).val).toNat = t.val % 16 := by
  rw [show (grid0.coords t 2).val = t.val / 1 % 16 from Pipeline.Grid.coords_val t 2 (by decide) rfl, BitVec.toNat_ofNat]
  omega
theorem word1 (t : Fin cfg0.N) : (BitVec.ofNat 32 (grid0.coords t 1).val).toNat = 0 := by
  rw [show (grid0.coords t 1).val = t.val / 16 % 1 from Pipeline.Grid.coords_val t 1 (by decide) rfl, BitVec.toNat_ofNat]
  omega

/-- The row of the arrays that row `b` of a point's tile is. -/
def row (t : Fin cfg0.N) (b : Fin 1024) : Fin 16384 := ⟨1024 * (t.val % 16) + b.val, by omega⟩
/-- The column of the gradients that column `s` of a point's tile is. -/
def col (t : Fin cfg0.N) (s : Fin 1024) : Fin 3072 := ⟨1024 * (t.val / 16) + s.val, by have := lt48 t.isLt; omega⟩

theorem emb0 (t : Fin cfg0.N) (b s : Fin 1024) : (win0_0.rect t).emb (ix2 b s) = ix2 (row t b) s := by
  funext a; apply Fin.ext
  match a with
  | ⟨0, _⟩ => exact (win0_0.rect_emb_val t _ 0).trans (show (BitVec.ofNat 32 (grid0.coords t 2).val).toNat * 1024 + b.val = 1024 * (t.val % 16) + b.val by rw [word2]; omega)
  | ⟨1, _⟩ => exact (win0_0.rect_emb_val t _ 1).trans (show (BitVec.ofNat 32 (grid0.coords t 1).val).toNat * 1024 + s.val = s.val by rw [word1]; omega)
theorem emb1 (t : Fin cfg0.N) (b s : Fin 1024) : (win0_1.rect t).emb (ix2 b s) = ix2 (row t b) (col t s) := by
  funext a; apply Fin.ext
  match a with
  | ⟨0, _⟩ => exact (win0_1.rect_emb_val t _ 0).trans (show (BitVec.ofNat 32 (grid0.coords t 2).val).toNat * 1024 + b.val = 1024 * (t.val % 16) + b.val by rw [word2]; omega)
  | ⟨1, _⟩ => exact (win0_1.rect_emb_val t _ 1).trans (show (BitVec.ofNat 32 (grid0.coords t 0).val).toNat * 1024 + s.val = 1024 * (t.val / 16) + s.val by rw [word0]; omega)
theorem emb2 (t : Fin cfg0.N) (b s : Fin 1024) : (win0_2.rect t).emb (ix2 b s) = ix2 (row t b) s := by
  funext a; apply Fin.ext
  match a with
  | ⟨0, _⟩ => exact (win0_2.rect_emb_val t _ 0).trans (show (BitVec.ofNat 32 (grid0.coords t 2).val).toNat * 1024 + b.val = 1024 * (t.val % 16) + b.val by rw [word2]; omega)
  | ⟨1, _⟩ => exact (win0_2.rect_emb_val t _ 1).trans (show (BitVec.ofNat 32 (grid0.coords t 1).val).toNat * 1024 + s.val = s.val by rw [word1]; omega)
theorem emb3 (t : Fin cfg0.N) (b s : Fin 1024) : (win0_3.rect t).emb (ix2 b s) = ix2 (row t b) (col t s) := by
  funext a; apply Fin.ext
  match a with
  | ⟨0, _⟩ => exact (win0_3.rect_emb_val t _ 0).trans (show (BitVec.ofNat 32 (grid0.coords t 2).val).toNat * 1024 + b.val = 1024 * (t.val % 16) + b.val by rw [word2]; omega)
  | ⟨1, _⟩ => exact (win0_3.rect_emb_val t _ 1).trans (show (BitVec.ofNat 32 (grid0.coords t 0).val).toNat * 1024 + s.val = 1024 * (t.val / 16) + s.val by rw [word0]; omega)
theorem emb4 (t : Fin cfg0.N) (b s : Fin 1024) : (win0_4.rect t).emb (ix2 b s) = ix2 b (col t s) := by
  funext a; apply Fin.ext
  match a with
  | ⟨0, _⟩ => exact (win0_4.rect_emb_val t _ 0).trans (show (BitVec.ofNat 32 (grid0.coords t 1).val).toNat * 1024 + b.val = b.val by rw [word1]; omega)
  | ⟨1, _⟩ => exact (win0_4.rect_emb_val t _ 1).trans (show (BitVec.ofNat 32 (grid0.coords t 0).val).toNat * 1024 + s.val = 1024 * (t.val / 16) + s.val by rw [word0]; omega)
theorem emb5 (t : Fin cfg0.N) (b s : Fin 1024) : (win0_5.rect t).emb (ix2 b s) = ix2 b (col t s) := by
  funext a; apply Fin.ext
  match a with
  | ⟨0, _⟩ => exact (win0_5.rect_emb_val t _ 0).trans (show (BitVec.ofNat 32 (grid0.coords t 1).val).toNat * 1024 + b.val = b.val by rw [word1]; omega)
  | ⟨1, _⟩ => exact (win0_5.rect_emb_val t _ 1).trans (show (BitVec.ofNat 32 (grid0.coords t 0).val).toNat * 1024 + s.val = 1024 * (t.val / 16) + s.val by rw [word0]; omega)

/-- The arguments. -/
abbrev A0 : FVec Ideal S16384x1024 .bf16 := m ((c.tc : Thread nD τ).loc main_arg0)
abbrev A1 : FVec Ideal S16384x3072 .bf16 := m ((c.tc : Thread nD τ).loc main_arg1)
abbrev A2 : FVec Ideal S16384x3072 .bf16 := m ((c.tc : Thread nD τ).loc main_arg2)

/-- A result: the product over all rows. -/
def G (x : FVec Ideal S16384x1024 .bf16) (y : FVec Ideal S16384x3072 .bf16) : FVec Ideal S1024x3072 .f32 :=
  fun i => (∑ k : Fin 16384, x (ix2 k (i 0)) * y (ix2 k (i 1)) : EReal)

/-- A lane whose tiles are blocks of `x` and `y` ends with their product over all rows. -/
theorem lane (X Y : Fin cfg0.N → FVec Ideal S1024x1024 .bf16) (x : FVec Ideal S16384x1024 .bf16) (y : FVec Ideal S16384x3072 .bf16)
    (hX : ∀ t b r, X t (ix2 b r) = x (ix2 (row t b) r)) (hY : ∀ t b s, Y t (ix2 b s) = y (ix2 (row t b) (col t s)))
    (t : Fin cfg0.N) (r s : Fin 1024) :
    ∑ j ∈ Finset.range 16, P X Y r s (t.val / 16 * 16 + j) = G x y (ix2 r (col t s)) := by
  have hlt := lt48 t.isLt
  refine sum_tiles (L := 16) (B := 1024) (by norm_num) (fun k => (x (ix2 k r) * y (ix2 k (col t s)) : EReal)) _ fun n => ?_
  have hu : t.val / 16 * 16 + n.val < cfg0.N := lt_of_lt_of_eq (by omega : _ < 48) N_0.symm
  rw [P, dif_pos hu]
  refine Finset.sum_congr rfl fun b _ => ?_
  rw [hX, hY, show row ⟨t.val / 16 * 16 + n.val, hu⟩ b = ⟨1024 * n.val + b.val, by omega⟩ from Fin.ext (by show 1024 * ((t.val / 16 * 16 + n.val) % 16) + b.val = 1024 * n.val + b.val; omega),
    show col ⟨t.val / 16 * 16 + n.val, hu⟩ s = col t s from Fin.ext (by show 1024 * ((t.val / 16 * 16 + n.val) / 16) + s.val = 1024 * (t.val / 16) + s.val; omega)]

theorem final4 : (dats m 0 c).arrAt 4 cfg0.N = G (A0 m c) (A1 m c) :=
  Dat.arrAt_eq_of_covers _ 4 _ (by decide +kernel) fun t hf y => by
    show (dats m 0 c).after 4 t y = G (A0 m c) (A1 m c) ((win0_4.rect t).emb y)
    rw [after0_4]
    have e : y = ix2 (y 0) (y 1) := idx2 y
    refine (congrArg _ e).trans ((out_eq0 m c t ((flush0_4 t).mp hf) (y 0) (y 1)).trans ((lane _ _ (A0 m c) (A1 m c)
      (fun t b r => congrArg (A0 m c) (emb0 t b r)) (fun t b s => congrArg (A1 m c) (emb1 t b s)) t (y 0) (y 1)).trans (congrArg (G (A0 m c) (A1 m c)) ?_)))
    exact (emb4 t (y 0) (y 1)).symm.trans (congrArg (fun z => (win0_4.rect t).emb z) e.symm)

theorem final5 : (dats m 0 c).arrAt 5 cfg0.N = G (A0 m c) (A2 m c) :=
  Dat.arrAt_eq_of_covers _ 5 _ (by decide +kernel) fun t hf y => by
    show (dats m 0 c).after 5 t y = G (A0 m c) (A2 m c) ((win0_5.rect t).emb y)
    rw [after0_5]
    have e : y = ix2 (y 0) (y 1) := idx2 y
    refine (congrArg _ e).trans ((out_eq1 m c t ((flush0_5 t).mp hf) (y 0) (y 1)).trans ((lane _ _ (A0 m c) (A2 m c)
      (fun t b r => congrArg (A0 m c) (emb2 t b r)) (fun t b s => congrArg (A2 m c) (emb3 t b s)) t (y 0) (y 1)).trans (congrArg (G (A0 m c) (A2 m c)) ?_)))
    exact (emb5 t (y 0) (y 1)).symm.trans (congrArg (fun z => (win0_5.rect t).emb z) e.symm)

end Cert.WguIdeal.Hand

namespace Cert.Proof

open Idealize.ShloMosaic Idealize.SL.Sem Idealize.ShloMosaic.ValueIdx Cert.Ffn

theorem ref_wg (x : FVec Ideal Cert.WguRefIdeal.S16384x1024 .bf16) (y : FVec Ideal Cert.WguRefIdeal.S16384x3072 .bf16) :
    Cert.WguRefIdeal.Read.val_main_v9 (F := Ideal) x y = Cert.WguIdeal.Hand.G x y := by
  funext i
  rw [Cert.WguRefIdeal.Read.val_main_v9_apply, Cert.WguRefIdeal.Read.val_main_v8_apply]
  refine Finset.sum_congr rfl fun k _ => ?_
  refine (mul_comm _ _).trans (congrArg₂ (fun u v : EReal => u * v) (congrArg x ?_) (congrArg y ?_))
  · exact funext fun a => Fin.ext (by match a with | ⟨0, _⟩ => rfl | ⟨1, _⟩ => rfl)
  · exact funext fun a => Fin.ext (by match a with | ⟨0, _⟩ => rfl | ⟨1, _⟩ => rfl)

theorem ref_wu (x : FVec Ideal Cert.WguRefIdeal.S16384x1024 .bf16) (y : FVec Ideal Cert.WguRefIdeal.S16384x3072 .bf16) :
    Cert.WguRefIdeal.Read.val_main_v7 (F := Ideal) x y = Cert.WguIdeal.Hand.G x y := by
  rw [← ref_wg]
  rfl

theorem algebraic_wgu : algebraic_WguIdeal_WguRefIdeal := by
  intro m g m' g' _ hargs
  refine ⟨fun c => Cert.WguIdeal.Hand.G (Cert.WguIdeal.Hand.A0 m c) (Cert.WguIdeal.Hand.A1 m c),
    fun c => Cert.WguIdeal.Hand.G (Cert.WguIdeal.Hand.A0 m c) (Cert.WguIdeal.Hand.A2 m c), ?_, ?_⟩
  · exact (θ_run Cert.WguIdeal.defs _ _).mono (fun r h c => ⟨(h c).1.trans (Cert.WguIdeal.Hand.final4 m c),
      (h c).2.1.trans (Cert.WguIdeal.Hand.final5 m c), (h c).2.2⟩) (Cert.WguIdeal.Value.run_blocks (F := Ideal) m g)
  · refine (θ_run Cert.WguRefIdeal.defs _ _).mono (fun r h c => ⟨(h c).1.trans ?_, (h c).2.1.trans ?_, (h c).2.2⟩) (Cert.WguRefIdeal.Value.run (F := Ideal) m' g')
    · rw [(hargs c).1, (hargs c).2.1]
      exact ref_wg _ _
    · rw [(hargs c).1, (hargs c).2.2]
      exact ref_wu _ _

end Cert.Proof

end
-- ==== Proof.In.lean ====
module

public import proofs.«01_k».proof.Defs
public import proofs.«01_k».proof.Proof.Norm
public import proofs.«01_k».proof.Proof.Gen.InIdeal.Value
public import proofs.«01_k».proof.Proof.Gen.InRefIdeal.Run
public import proofs.«01_k».proof.Proof.Gen.InRefIdeal.Read
public import Idealize.ShloMosaic.Lib.Pipeline.ValueKit.Geometry

@[expose] public section

noncomputable section

/-! The input projections' backward: two products accumulated together over three tiles of the hidden axis, the input norm's
    gradient of their sum, and the gain's gradient accumulated over the row blocks. -/

namespace Cert.InIdeal.Hand

open Cert.InIdeal Cert.InIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S512x1024 .bf16) (h3 : a3.IsWhole)
  (a4 : Memref sig .tc .vmem S1024x1024 .bf16) (h4 : a4.IsWhole) (a5 : Memref sig .tc .vmem S512x1024 .bf16) (h5 : a5.IsWhole)
  (a6 : Memref sig .tc .vmem S1024x1024 .bf16) (h6 : a6.IsWhole) (a7 : Memref sig .tc .vmem S512x1024 .f32) (h7 : a7.IsWhole)
  (a8 : Memref sig .tc .vmem S512x1024 .f32) (h8 : a8.IsWhole) (a9 : Memref sig .tc .vmem S1x1024 .f32) (h9 : a9.IsWhole)
  (a10 : Memref sig .tc .vmem S512x1024 .f32) (h10 : a10.IsWhole) (a11 : Memref sig .tc .vmem S1x1024 .f32) (h11 : a11.IsWhole)
  (a12 : Memref sig .tc .vmem S512x1024 .f32) (h12 : a12.IsWhole)
  (x0 : Vec F S512x1024 .bf16) (x1 : Vec F S1024x1024 .bf16) (x2 : Vec F S512x1024 .bf16) (x3 : Vec F S1024x1024 .bf16)
  (x4 : Vec F S512x1024 .f32) (x5 : Vec F S512x1024 .f32) (x6 : Vec F S1x1024 .f32) (o : Vec F S1x1024 .f32) (u : Vec F S512x1024 .f32)

/-- What a point makes of the accumulator. -/
abbrev step : Vec F S512x1024 .f32 := k0_pay3 (k0_pay2 u x0 x1) x2 x3

theorem sout_A_0 (k0 k1) : sout0_A_0 c i a3 h3 a4 h4 a5 h5 a6 h6 a7 h7 a8 h8 a9 h9 a10 h10 a11 h11 a12 h12 k0 k1 x0 x1 x2 x3 x4 x5 x6 = step x0 x1 x2 x3 (k0_pay1 (F := F)) := by
  unfold sout0_A_0
  rw [View.read_writes_eq_canon _ _ _ (scover0_A_0 c i a3 h3 a4 h4 a5 h5 a6 h6 a7 h7 a8 h8 a9 h9 a10 h10 a11 h11 a12 h12 k0 k1 x0 x1 x2 x3 x4 x5 x6)]
  unfold kernelRun0_A
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem sout_B_0 (k0 k1) : sout0_B_0 c i a3 h3 a4 h4 a5 h5 a6 h6 a7 h7 a8 h8 a9 h9 a10 h10 a11 h11 a12 h12 k0 k1 x0 x1 x2 x3 x4 x5 x6 u = step x0 x1 x2 x3 u := by
  unfold sout0_B_0
  rw [View.read_writes_eq_canon _ _ _ (scover0_B_0 c i a3 h3 a4 h4 a5 h5 a6 h6 a7 h7 a8 h8 a9 h9 a10 h10 a11 h11 a12 h12 k0 k1 x0 x1 x2 x3 x4 x5 x6 u)]
  unfold kernelRun0_B
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem sout_C_0 (k0 k1 k2 k3) : sout0_C_0 c i a3 h3 a4 h4 a5 h5 a6 h6 a7 h7 a8 h8 a9 h9 a10 h10 a11 h11 a12 h12 k0 k1 k2 k3 x0 x1 x2 x3 x4 x5 x6 u = step x0 x1 x2 x3 u := by
  unfold sout0_C_0
  rw [View.read_writes_eq_canon _ _ _ (scover0_C_0 c i a3 h3 a4 h4 a5 h5 a6 h6 a7 h7 a8 h8 a9 h9 a10 h10 a11 h11 a12 h12 k0 k1 k2 k3 x0 x1 x2 x3 x4 x5 x6 u)]
  unfold kernelRun0_C
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem sout_D_0 (k0 k1 k2 k3) : sout0_D_0 c i a3 h3 a4 h4 a5 h5 a6 h6 a7 h7 a8 h8 a9 h9 a10 h10 a11 h11 a12 h12 k0 k1 k2 k3 x0 x1 x2 x3 x4 x5 x6 o u = step x0 x1 x2 x3 u := by
  unfold sout0_D_0
  rw [View.read_writes_eq_canon _ _ _ (scover0_D_0 c i a3 h3 a4 h4 a5 h5 a6 h6 a7 h7 a8 h8 a9 h9 a10 h10 a11 h11 a12 h12 k0 k1 k2 k3 x0 x1 x2 x3 x4 x5 x6 o u)]
  unfold kernelRun0_D
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem outC7 (k0 k1 k2 k3) : out0_C_7 c i a3 h3 a4 h4 a5 h5 a6 h6 a7 h7 a8 h8 a9 h9 a10 h10 a11 h11 a12 h12 k0 k1 k2 k3 x0 x1 x2 x3 x4 x5 x6 u = k0_pay7 (step x0 x1 x2 x3 u) x4 x5 x6 := by
  unfold out0_C_7
  rw [View.read_writes_eq_canon _ _ _ (cover0_C_7 c i a3 h3 a4 h4 a5 h5 a6 h6 a7 h7 a8 h8 a9 h9 a10 h10 a11 h11 a12 h12 k0 k1 k2 k3 x0 x1 x2 x3 x4 x5 x6 u)]
  unfold kernelRun0_C
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem outC8 (k0 k1 k2 k3) : out0_C_8 c i a3 h3 a4 h4 a5 h5 a6 h6 a7 h7 a8 h8 a9 h9 a10 h10 a11 h11 a12 h12 k0 k1 k2 k3 x0 x1 x2 x3 x4 x5 x6 u = k0_pay6 (step x0 x1 x2 x3 u) x4 := by
  unfold out0_C_8
  rw [View.read_writes_eq_canon _ _ _ (cover0_C_8 c i a3 h3 a4 h4 a5 h5 a6 h6 a7 h7 a8 h8 a9 h9 a10 h10 a11 h11 a12 h12 k0 k1 k2 k3 x0 x1 x2 x3 x4 x5 x6 u)]
  unfold kernelRun0_C
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem outD7 (k0 k1 k2 k3) : out0_D_7 c i a3 h3 a4 h4 a5 h5 a6 h6 a7 h7 a8 h8 a9 h9 a10 h10 a11 h11 a12 h12 k0 k1 k2 k3 x0 x1 x2 x3 x4 x5 x6 o u = k0_pay7 (step x0 x1 x2 x3 u) x4 x5 x6 := by
  unfold out0_D_7
  rw [View.read_writes_eq_canon _ _ _ (cover0_D_7 c i a3 h3 a4 h4 a5 h5 a6 h6 a7 h7 a8 h8 a9 h9 a10 h10 a11 h11 a12 h12 k0 k1 k2 k3 x0 x1 x2 x3 x4 x5 x6 o u)]
  unfold kernelRun0_D
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

theorem outD8 (k0 k1 k2 k3) : out0_D_8 c i a3 h3 a4 h4 a5 h5 a6 h6 a7 h7 a8 h8 a9 h9 a10 h10 a11 h11 a12 h12 k0 k1 k2 k3 x0 x1 x2 x3 x4 x5 x6 o u = k0_pay8 (step x0 x1 x2 x3 u) x4 o := by
  unfold out0_D_8
  rw [View.read_writes_eq_canon _ _ _ (cover0_D_8 c i a3 h3 a4 h4 a5 h5 a6 h6 a7 h7 a8 h8 a9 h9 a10 h10 a11 h11 a12 h12 k0 k1 k2 k3 x0 x1 x2 x3 x4 x5 x6 o u)]
  unfold kernelRun0_D
  dsimp only
  sl_unfold_words
  rw [View.canon_cons_unit_zero hz]
  simp only [View.readAt_eq_ld, View.readCov_cons_toLoadRect, h3.read_unread, h4.read_unread, h5.read_unread, h6.read_unread, h7.read_unread, h8.read_unread, h9.read_unread, h11.read_unread, h12.read_unread, View.ld_unit_zero (S := S512x1024) hz, View.ld_unit_zero (S := S1024x1024) hz, View.ld_unit_zero (S := S1x1024) hz]

end

theorem pay1_at (y : S512x1024.Idx) : k0_pay1 (F := Ideal) y = 0 := by
  unfold k0_pay1
  rw [shapeCast_self]
  exact Ideal.ofBits_zero_f32

/-- A product over the columns of both operands, added to what is there. -/
theorem dot_at (u : FVec Ideal S512x1024 .f32) (x : FVec Ideal S512x1024 .bf16) (w : FVec Ideal S1024x1024 .bf16) (r : Fin 512) (s : Fin 1024) :
    addf u (matmul (F := Ideal) (φ₁ := .bf16) (φ₂ := .bf16) dot_S512x1024_S1024x1024_S512x1024_1_1_0_0_n_n none x w (constant S512x1024 .f32 0x00000000#32)) (ix2 r s)
      = (u (ix2 r s) + ∑ b : Fin 1024, x (ix2 r b) * w (ix2 s b) : EReal) :=
  congrArg (fun z : EReal => u (ix2 r s) + z)
    ((Ideal.matmul_transposedRhs_apply (φ₁ := .bf16) (φ₂ := .bf16) none x w (constant ⟨2, ![512, 1024]⟩ .f32 0x00000000#32) r s).trans (by rw [zero_at, zero_add]))

theorem step_at (x0 : FVec Ideal S512x1024 .bf16) (x1 : FVec Ideal S1024x1024 .bf16) (x2 : FVec Ideal S512x1024 .bf16) (x3 : FVec Ideal S1024x1024 .bf16)
    (u : FVec Ideal S512x1024 .f32) (r : Fin 512) (s : Fin 1024) :
    step (F := Ideal) x0 x1 x2 x3 u (ix2 r s) = (u (ix2 r s) + (∑ b : Fin 1024, x0 (ix2 r b) * x1 (ix2 s b) + ∑ b : Fin 1024, x2 (ix2 r b) * x3 (ix2 s b)) : EReal) := by
  have e : k0_pay2 (F := Ideal) u x0 x1 (ix2 r s) = (u (ix2 r s) + ∑ b : Fin 1024, x0 (ix2 r b) * x1 (ix2 s b) : EReal) := by
    unfold k0_pay2
    rw [shapeCast_self]
    exact dot_at u x0 x1 r s
  unfold step k0_pay3
  rw [shapeCast_self]
  exact (dot_at _ x2 x3 r s).trans ((congrArg (fun z : EReal => z + ∑ b : Fin 1024, x2 (ix2 r b) * x3 (ix2 s b)) e).trans (add_assoc _ _ _))

theorem pay5_at (y : FVec Ideal S512x1024 .f32) (r : Fin 512) (s : Fin 1024) :
    k0_pay5 (F := Ideal) y (ix2 r s) = (y (ix2 r s) * rr fun k => y (ix2 r k) : EReal) := by
  unfold k0_pay5
  exact congrArg (fun z : EReal => y (ix2 r s) * z)
    ((col_bcast (M := 512) (N := 1024) _ broadcasts_S512x1_S512x1024 r s).trans (rr_at (M := 512) y 0x00000000#32 reduces_S512x1024_S512 (.inl rfl) rfl shapeCasts_S512_S512x1 r))

theorem pay6_at (v y : FVec Ideal S512x1024 .f32) (s : Fin 1024) :
    k0_pay6 (F := Ideal) v y (ix2 (0 : Fin 1) s) = (∑ r : Fin 512, v (ix2 r s) * (y (ix2 r s) * rr fun k => y (ix2 r k)) : EReal) := by
  unfold k0_pay6
  refine (col_sum (M := 512) (N := 1024) _ 0x00000000#32 reduces_S512x1024_S1024 (.inl rfl) rfl shapeCasts_S1024_S1x1024 s).trans (Finset.sum_congr rfl fun r _ => ?_)
  exact congrArg (fun z : EReal => v (ix2 r s) * z) (pay5_at y r s)

theorem pay8_at (v y : FVec Ideal S512x1024 .f32) (o : FVec Ideal S1x1024 .f32) (s : Fin 1024) :
    k0_pay8 (F := Ideal) v y o (ix2 (0 : Fin 1) s) = (o (ix2 (0 : Fin 1) s) + ∑ r : Fin 512, v (ix2 r s) * (y (ix2 r s) * rr fun k => y (ix2 r k)) : EReal) := by
  unfold k0_pay8
  rw [shapeCast_self]
  exact congrArg (fun z : EReal => o (ix2 (0 : Fin 1) s) + z) (pay6_at v y s)

theorem pay7_at (v y z : FVec Ideal S512x1024 .f32) (g : FVec Ideal S1x1024 .f32) (r : Fin 512) (s : Fin 1024) :
    k0_pay7 (F := Ideal) v y z g (ix2 r s) = (z (ix2 r s) + dx (fun k => y (ix2 r k)) (fun k => v (ix2 r k) * g (ix2 (0 : Fin 1) k)) s : EReal) := by
  unfold k0_pay7
  have eg : ∀ k, broadcastTo S512x1024 g broadcasts_S1x1024_S512x1024 (ix2 r k) = g (ix2 (0 : Fin 1) k) :=
    fun k => broadcastTo_1b_ab_apply (a := 512) (b := 1024) g broadcasts_S1x1024_S512x1024 r k
  have er := (col_bcast (M := 512) (N := 1024) (k0_pay4 (F := Ideal) y) broadcasts_S512x1_S512x1024 r s).trans
    (rr_at (M := 512) y 0x00000000#32 reduces_S512x1024_S512 (.inl rfl) rfl shapeCasts_S512_S512x1 r)
  have es := (col_bcast (M := 512) (N := 1024) (divf (shapeCast S512x1 (multiReduction .add [1] S512 (mulf (mulf v (broadcastTo S512x1024 g broadcasts_S1x1024_S512x1024)) (k0_pay5 y)) 0x00000000#32 reduces_S512x1024_S512 (.inl rfl) rfl) shapeCasts_S512_S512x1) (broadcast S512x1 (Scalar.ofBits .f32 0x44800000#32))) broadcasts_S512x1_S512x1024 r s).trans
    (congrArg (fun z => Ideal.div z (Ideal.ofBits .f32 0x44800000#32)) ((row_sum (M := 512) (N := 1024) _ 0x00000000#32 reduces_S512x1024_S512 (.inl rfl) rfl shapeCasts_S512_S512x1 r).trans
      (Finset.sum_congr rfl fun k _ => congrArg₂ (fun a b : EReal => v (ix2 r k) * a * b) (eg k) (pay5_at y r k))))
  have e1 := congrArg₂ (fun a b : EReal => v (ix2 r s) * a - b) (eg s) (congrArg₂ (fun a b : EReal => a * b) (pay5_at y r s) es)
  exact congrArg₂ (fun a b : EReal => z (ix2 r s) + a * b) er e1

variable (m : (ℓ : Loc nD τ sig) → Buf (Elt Ideal) ℓ) (c : Dev nD)

/-- The tiles a point reads. -/
abbrev X0 (t : Fin cfg0.N) : FVec Ideal S512x1024 .bf16 := iblk m c 0 t
abbrev X1 (t : Fin cfg0.N) : FVec Ideal S1024x1024 .bf16 := iblk m c 1 t
abbrev X2 (t : Fin cfg0.N) : FVec Ideal S512x1024 .bf16 := iblk m c 2 t
abbrev X3 (t : Fin cfg0.N) : FVec Ideal S1024x1024 .bf16 := iblk m c 3 t
abbrev X4 (t : Fin cfg0.N) : FVec Ideal S512x1024 .f32 := iblk m c 4 t
abbrev X5 (t : Fin cfg0.N) : FVec Ideal S512x1024 .f32 := iblk m c 5 t
abbrev X6 (t : Fin cfg0.N) : FVec Ideal S1x1024 .f32 := iblk m c 6 t

theorem lt96 {n : ℕ} (h : n < cfg0.N) : n < 96 := lt_of_lt_of_eq h N_0

/-- A point's addend. -/
def P (r : Fin 512) (s : Fin 1024) (n : ℕ) : EReal :=
  if h : n < cfg0.N then (∑ b : Fin 1024, X0 m c ⟨n, h⟩ (ix2 r b) * X1 m c ⟨n, h⟩ (ix2 s b) + ∑ b : Fin 1024, X2 m c ⟨n, h⟩ (ix2 r b) * X3 m c ⟨n, h⟩ (ix2 s b) : EReal) else 0

/-- The accumulator before a point. -/
abbrev prev (t : Fin cfg0.N) : FVec Ideal S512x1024 .f32 := (outsAt0 m c (t.val - 1) (Nat.lt_of_le_of_lt (Nat.sub_le _ _) t.isLt)).2.2

/-- At a block's last point the accumulator takes its step, at the first block as at the others. -/
theorem sc_last (t : Fin cfg0.N) (h1 : t.val % 3 = 2) : (outsAt0 m c t.val t.isLt).2.2 = step (X0 m c t) (X1 m c t) (X2 m c t) (X3 m c t) (prev m c t) := by
  by_cases h2 : t.val < 3
  · have e := congrArg (fun z => z.2.2) (outsAt0_C m c t (by omega) h1 h2 (by omega))
    refine e.trans ?_
    dsimp only
    rw [sout_C_0]
  · have e := congrArg (fun z => z.2.2) (outsAt0_D m c t (by omega) h1 h2 (by omega))
    refine e.trans ?_
    dsimp only
    rw [sout_D_0]

theorem acc_eq (r : Fin 512) (s : Fin 1024) (n : ℕ) (h : n < cfg0.N) :
    (outsAt0 m c n h).2.2 (ix2 r s) = ∑ j ∈ Finset.range (n % 3 + 1), P m c r s (n / 3 * 3 + j) := by
  refine acc_sum 3 (by decide) (fun n h => ((outsAt0 m c n h).2.2 (ix2 r s) : EReal)) (P m c r s) (fun n h h0 => ?_) (fun n h h0 => ?_) n h
  · have e := congrArg (fun z => (z.2.2 (ix2 r s) : EReal)) (outsAt0_A m c ⟨n, h⟩ h0 (by show ¬n % 3 = 2; omega))
    refine e.trans ?_
    dsimp only
    rw [sout_A_0, step_at, pay1_at, P, dif_pos h]
  · by_cases h1 : n % 3 = 2
    · refine (congrArg (fun z : FVec Ideal S512x1024 .f32 => (z (ix2 r s) : EReal)) (sc_last m c ⟨n, h⟩ h1)).trans ?_
      rw [step_at, P, dif_pos h]
    · have e := congrArg (fun z => (z.2.2 (ix2 r s) : EReal)) (outsAt0_B m c ⟨n, h⟩ h0 h1)
      refine e.trans ?_
      dsimp only
      rw [sout_B_0, step_at, P, dif_pos h]

theorem word0 (t : Fin cfg0.N) : (BitVec.ofNat 32 (grid0.coords t 0).val).toNat = 0 := by
  have := lt96 t.isLt
  rw [show (grid0.coords t 0).val = t.val / 96 % 1 from Pipeline.Grid.coords_val t 0 (by decide) rfl, BitVec.toNat_ofNat]
  omega
theorem word1 (t : Fin cfg0.N) : (BitVec.ofNat 32 (grid0.coords t 1).val).toNat = t.val / 3 := by
  have := lt96 t.isLt
  rw [show (grid0.coords t 1).val = t.val / 3 % 32 from Pipeline.Grid.coords_val t 1 (by decide) rfl, BitVec.toNat_ofNat]
  omega
theorem word2 (t : Fin cfg0.N) : (BitVec.ofNat 32 (grid0.coords t 2).val).toNat = t.val % 3 := by
  rw [show (grid0.coords t 2).val = t.val / 1 % 3 from Pipeline.Grid.coords_val t 2 (by decide) rfl, BitVec.toNat_ofNat]
  omega

/-- The row of the arrays that a point's block's is, and the summed axis's coordinate. -/
def row (t : Fin cfg0.N) (r : Fin 512) : Fin 16384 := ⟨512 * (t.val / 3) + r.val, by have := lt96 t.isLt; omega⟩
def mid (t : Fin cfg0.N) (b : Fin 1024) : Fin 3072 := ⟨1024 * (t.val % 3) + b.val, by omega⟩

theorem emb0 (t : Fin cfg0.N) (r : Fin 512) (b : Fin 1024) : (win0_0.rect t).emb (ix2 r b) = ix2 (row t r) (mid t b) := by
  funext a; apply Fin.ext
  match a with
  | ⟨0, _⟩ => exact (win0_0.rect_emb_val t _ 0).trans (show (BitVec.ofNat 32 (grid0.coords t 1).val).toNat * 512 + r.val = 512 * (t.val / 3) + r.val by rw [word1]; omega)
  | ⟨1, _⟩ => exact (win0_0.rect_emb_val t _ 1).trans (show (BitVec.ofNat 32 (grid0.coords t 2).val).toNat * 1024 + b.val = 1024 * (t.val % 3) + b.val by rw [word2]; omega)
theorem emb1 (t : Fin cfg0.N) (s b : Fin 1024) : (win0_1.rect t).emb (ix2 s b) = ix2 s (mid t b) := by
  funext a; apply Fin.ext
  match a with
  | ⟨0, _⟩ => exact (win0_1.rect_emb_val t _ 0).trans (show (BitVec.ofNat 32 (grid0.coords t 0).val).toNat * 1024 + s.val = s.val by rw [word0]; omega)
  | ⟨1, _⟩ => exact (win0_1.rect_emb_val t _ 1).trans (show (BitVec.ofNat 32 (grid0.coords t 2).val).toNat * 1024 + b.val = 1024 * (t.val % 3) + b.val by rw [word2]; omega)
theorem emb2 (t : Fin cfg0.N) (r : Fin 512) (b : Fin 1024) : (win0_2.rect t).emb (ix2 r b) = ix2 (row t r) (mid t b) := emb0 t r b
theorem emb3 (t : Fin cfg0.N) (s b : Fin 1024) : (win0_3.rect t).emb (ix2 s b) = ix2 s (mid t b) := emb1 t s b
theorem emb4 (t : Fin cfg0.N) (r : Fin 512) (s : Fin 1024) : (win0_4.rect t).emb (ix2 r s) = ix2 (row t r) s := by
  funext a; apply Fin.ext
  match a with
  | ⟨0, _⟩ => exact (win0_4.rect_emb_val t _ 0).trans (show (BitVec.ofNat 32 (grid0.coords t 1).val).toNat * 512 + r.val = 512 * (t.val / 3) + r.val by rw [word1]; omega)
  | ⟨1, _⟩ => exact (win0_4.rect_emb_val t _ 1).trans (show (BitVec.ofNat 32 (grid0.coords t 0).val).toNat * 1024 + s.val = s.val by rw [word0]; omega)
theorem emb5 (t : Fin cfg0.N) (r : Fin 512) (s : Fin 1024) : (win0_5.rect t).emb (ix2 r s) = ix2 (row t r) s := emb4 t r s
theorem emb7 (t : Fin cfg0.N) (r : Fin 512) (s : Fin 1024) : (win0_7.rect t).emb (ix2 r s) = ix2 (row t r) s := emb4 t r s
theorem emb6 (t : Fin cfg0.N) (s : Fin 1024) : (win0_6.rect t).emb (ix2 (0 : Fin 1) s) = ix2 (0 : Fin 1) s := by
  funext a; apply Fin.ext
  match a with
  | ⟨0, _⟩ => exact (win0_6.rect_emb_val t _ 0).trans rfl
  | ⟨1, _⟩ => exact (win0_6.rect_emb_val t _ 1).trans (show (BitVec.ofNat 32 (grid0.coords t 0).val).toNat * 1024 + s.val = s.val by rw [word0]; omega)
theorem emb8 (t : Fin cfg0.N) (s : Fin 1024) : (win0_8.rect t).emb (ix2 (0 : Fin 1) s) = ix2 (0 : Fin 1) s := emb6 t s

/-- The arguments. -/
abbrev A0 : FVec Ideal S16384x3072 .bf16 := m ((c.tc : Thread nD τ).loc main_arg0)
abbrev A1 : FVec Ideal S1024x3072 .bf16 := m ((c.tc : Thread nD τ).loc main_arg1)
abbrev A2 : FVec Ideal S16384x3072 .bf16 := m ((c.tc : Thread nD τ).loc main_arg2)
abbrev A3 : FVec Ideal S1024x3072 .bf16 := m ((c.tc : Thread nD τ).loc main_arg3)
abbrev A4 : FVec Ideal S16384x1024 .f32 := m ((c.tc : Thread nD τ).loc main_arg4)
abbrev A5 : FVec Ideal S16384x1024 .f32 := m ((c.tc : Thread nD τ).loc main_arg5)
abbrev A6 : FVec Ideal S1x1024 .f32 := m ((c.tc : Thread nD τ).loc main_arg6)

/-- The two products' sum: the gradient of the normalized rows times the gain. -/
def D (p : FVec Ideal S16384x3072 .bf16) (w : FVec Ideal S1024x3072 .bf16) (q : FVec Ideal S16384x3072 .bf16) (z : FVec Ideal S1024x3072 .bf16) (a : Fin 16384) (b : Fin 1024) : EReal :=
  ∑ k : Fin 3072, p (ix2 a k) * w (ix2 b k) + ∑ k : Fin 3072, q (ix2 a k) * z (ix2 b k)

/-- The results, of the rows' gradient `v`: the input's gradient and the gain's. -/
def G7 (v : Fin 16384 → Fin 1024 → EReal) (x ct : FVec Ideal S16384x1024 .f32) (g : FVec Ideal S1x1024 .f32) : FVec Ideal S16384x1024 .f32 :=
  fun i => (ct i + dx (fun k => x (ix2 (i 0) k)) (fun k => v (i 0) k * g (ix2 (0 : Fin 1) k)) (i 1) : EReal)
def term (v : Fin 16384 → Fin 1024 → EReal) (x : FVec Ideal S16384x1024 .f32) (s : Fin 1024) (a : Fin 16384) : EReal :=
  v a s * (x (ix2 a s) * rr fun k => x (ix2 a k))
def gain (v : Fin 16384 → Fin 1024 → EReal) (x : FVec Ideal S16384x1024 .f32) (s : Fin 1024) : EReal := ∑ a : Fin 16384, term v x s a
def G8 (v : Fin 16384 → Fin 1024 → EReal) (x : FVec Ideal S16384x1024 .f32) : FVec Ideal S1x1024 .f32 := fun i => gain v x (i 1)

/-- The rows' gradient, of this call's arguments. -/
abbrev V : Fin 16384 → Fin 1024 → EReal := D (A0 m c) (A1 m c) (A2 m c) (A3 m c)

theorem tiles (t : Fin cfg0.N) (r : Fin 512) (s : Fin 1024) :
    ∑ j ∈ Finset.range 3, P m c r s (t.val / 3 * 3 + j) = V m c (row t r) s := by
  unfold V D
  rw [← Finset.sum_add_distrib]
  refine sum_tiles (L := 3) (B := 1024) rfl (fun k : Fin 3072 => (A0 m c (ix2 (row t r) k) * A1 m c (ix2 s k) + A2 m c (ix2 (row t r) k) * A3 m c (ix2 s k) : EReal)) (fun j => P m c r s (t.val / 3 * 3 + j)) fun n => ?_
  have hlt : t.val / 3 * 3 + n.val < cfg0.N := lt_of_lt_of_eq (b := 96) (by have := lt96 t.isLt; have := n.isLt; omega) N_0.symm
  show P m c r s (t.val / 3 * 3 + n.val) = _
  rw [P, dif_pos hlt, ← Finset.sum_add_distrib]
  have e0 : (t.val / 3 * 3 + n.val) % 3 = n.val := by have := n.isLt; omega
  have e1 : (t.val / 3 * 3 + n.val) / 3 = t.val / 3 := by have := n.isLt; omega
  refine Finset.sum_congr rfl fun b _ => ?_
  have er : row ⟨t.val / 3 * 3 + n.val, hlt⟩ r = row t r := Fin.ext (by show 512 * ((t.val / 3 * 3 + n.val) / 3) + r.val = 512 * (t.val / 3) + r.val; rw [e1])
  have em : (mid ⟨t.val / 3 * 3 + n.val, hlt⟩ b).val = 1024 * n.val + b.val := by show 1024 * ((t.val / 3 * 3 + n.val) % 3) + b.val = 1024 * n.val + b.val; rw [e0]
  have ea := congrArg₂ (fun u v => ix2 u v) er (Fin.ext (b := ⟨1024 * n.val + b.val, by have := n.isLt; omega⟩) em)
  have eb := congrArg (fun v => ix2 s v) (Fin.ext (b := ⟨1024 * n.val + b.val, by have := n.isLt; omega⟩) em)
  exact congrArg₂ (fun u v : EReal => u + v)
    (congrArg₂ (fun u v : EReal => u * v) (congrArg (A0 m c) ((emb0 ⟨_, hlt⟩ r b).trans ea)) (congrArg (A1 m c) ((emb1 ⟨_, hlt⟩ s b).trans eb)))
    (congrArg₂ (fun u v : EReal => u * v) (congrArg (A2 m c) ((emb2 ⟨_, hlt⟩ r b).trans ea)) (congrArg (A3 m c) ((emb3 ⟨_, hlt⟩ s b).trans eb)))

/-- The accumulator at a block's last point. -/
theorem acc_at (t : Fin cfg0.N) (ht : t.val % 3 = 2) (r : Fin 512) (s : Fin 1024) :
    step (F := Ideal) (X0 m c t) (X1 m c t) (X2 m c t) (X3 m c t) (prev m c t) (ix2 r s) = V m c (row t r) s :=
  (congrArg (fun z : FVec Ideal S512x1024 .f32 => (z (ix2 r s) : EReal)) (sc_last m c t ht)).symm.trans
    ((acc_eq m c r s t.val t.isLt).trans ((by rw [ht] : _ = _).trans (tiles m c t r s)))

/-- A block's share of the gain's gradient. -/
def Q (s : Fin 1024) (j : ℕ) : EReal := if h : j < 32 then ∑ r : Fin 512, term (V m c) (A4 m c) s ⟨512 * j + r.val, by omega⟩ else 0

theorem share (t : Fin cfg0.N) (ht : t.val % 3 = 2) (s : Fin 1024) :
    (∑ r : Fin 512, step (F := Ideal) (X0 m c t) (X1 m c t) (X2 m c t) (X3 m c t) (prev m c t) (ix2 r s) * (X4 m c t (ix2 r s) * rr fun k => X4 m c t (ix2 r k)) : EReal) = Q m c s (t.val / 3) := by
  have h := lt96 t.isLt
  rw [Q, dif_pos (by omega)]
  exact Finset.sum_congr rfl fun r _ => congrArg₂ (fun u v : EReal => u * v) (acc_at m c t ht r s)
    (congrArg₂ (fun u v : EReal => u * v) (congrArg (A4 m c) (emb4 t r s)) (congrArg rr (funext fun k => congrArg (A4 m c) (emb4 t r k))))

/-- The gain's gradient after a point holds the shares of the blocks finished. -/
theorem gain_acc (s : Fin 1024) : ∀ (n : ℕ) (h : n < cfg0.N), 2 ≤ n → (outsAt0 m c n h).2.1 (ix2 (0 : Fin 1) s) = ∑ j ∈ Finset.range ((n + 1) / 3), Q m c s j := by
  intro n
  induction n with
  | zero => intro _ h; omega
  | succ n ih =>
    intro h hn
    by_cases h1 : (n + 1) % 3 = 2
    · by_cases h2 : n + 1 < 3
      · have e := congrArg (fun z => (z.2.1 (ix2 (0 : Fin 1) s) : EReal)) (outsAt0_C m c ⟨n + 1, h⟩ (by show ¬(n + 1) % 3 = 0; omega) h1 h2 (by show ¬3 ≤ n + 1; omega))
        refine e.trans ?_
        dsimp only
        rw [outC8, pay6_at]
        refine (share m c ⟨n + 1, h⟩ h1 s).trans ?_
        rw [show (n + 1 + 1) / 3 = 1 by omega, Finset.sum_range_one]
        exact congrArg (Q m c s) (by show (n + 1) / 3 = 0; omega)
      · have e := congrArg (fun z => (z.2.1 (ix2 (0 : Fin 1) s) : EReal)) (outsAt0_D m c ⟨n + 1, h⟩ (by show ¬(n + 1) % 3 = 0; omega) h1 h2 (by show 3 ≤ n + 1; omega))
        refine e.trans ?_
        dsimp only
        rw [outD8, pay8_at]
        refine (congrArg₂ (fun u v : EReal => u + v) (ih (Nat.lt_of_succ_lt h) (by omega)) (share m c ⟨n + 1, h⟩ h1 s)).trans ?_
        rw [show (n + 1 + 1) / 3 = (n + 1) / 3 + 1 by omega, Finset.sum_range_succ]
    · have hq : (n + 1 + 1) / 3 = (n + 1) / 3 := by omega
      rw [hq, ← ih (Nat.lt_of_succ_lt h) (by omega)]
      by_cases h0 : (n + 1) % 3 = 0
      · exact congrArg (fun z => (z.2.1 (ix2 (0 : Fin 1) s) : EReal)) (outsAt0_A m c ⟨n + 1, h⟩ h0 h1)
      · exact congrArg (fun z => (z.2.1 (ix2 (0 : Fin 1) s) : EReal)) (outsAt0_B m c ⟨n + 1, h⟩ h0 h1)

theorem blocks (s : Fin 1024) : ∑ j ∈ Finset.range 32, Q m c s j = gain (V m c) (A4 m c) s := by
  unfold gain
  refine sum_tiles (L := 32) (B := 512) rfl (term (V m c) (A4 m c) s) (Q m c s) fun n => ?_
  rw [Q, dif_pos n.isLt]

theorem out7_at (t : Fin cfg0.N) (ht : t.val % 3 = 2) (r : Fin 512) (s : Fin 1024) :
    (dats m 0 c).after 7 t (ix2 r s) = G7 (V m c) (A4 m c) (A5 m c) (A6 m c) (ix2 (row t r) s) := by
  rw [after0_7]
  have e : ((outsAt0 m c t.val t.isLt).1 (ix2 r s) : EReal) = k0_pay7 (F := Ideal) (step (X0 m c t) (X1 m c t) (X2 m c t) (X3 m c t) (prev m c t)) (X4 m c t) (X5 m c t) (X6 m c t) (ix2 r s) := by
    by_cases h2 : t.val < 3
    · have e := congrArg (fun z => (z.1 (ix2 r s) : EReal)) (outsAt0_C m c t (by omega) ht h2 (by omega))
      dsimp only at e
      rw [outC7] at e
      exact e
    · have e := congrArg (fun z => (z.1 (ix2 r s) : EReal)) (outsAt0_D m c t (by omega) ht h2 (by omega))
      dsimp only at e
      rw [outD7] at e
      exact e
  refine e.trans ((pay7_at _ (X4 m c t) (X5 m c t) (X6 m c t) r s).trans ?_)
  exact congrArg₂ (fun u v : EReal => u + v) (congrArg (A5 m c) (emb5 t r s)) (congrArg₂ (fun u v => dx u v s) (funext fun k => congrArg (A4 m c) (emb4 t r k))
    (funext fun k => congrArg₂ (fun u v : EReal => u * v) (acc_at m c t ht r k) (congrArg (A6 m c) (emb6 t k))))

theorem out8_at (t : Fin cfg0.N) (ht : t.val % 96 = 95) (s : Fin 1024) :
    (dats m 0 c).after 8 t (ix2 (0 : Fin 1) s) = G8 (V m c) (A4 m c) (ix2 (0 : Fin 1) s) := by
  have h := lt96 t.isLt
  rw [after0_8]
  refine (gain_acc m c s t.val t.isLt (by omega)).trans (Eq.trans ?_ (blocks m c s))
  rw [show (t.val + 1) / 3 = 32 by omega]

theorem final7 : (dats m 0 c).arrAt 7 cfg0.N = G7 (V m c) (A4 m c) (A5 m c) (A6 m c) :=
  Dat.arrAt_eq_of_covers _ 7 _ (by decide +kernel) fun t hf y => by
    show (dats m 0 c).after 7 t y = G7 (V m c) (A4 m c) (A5 m c) (A6 m c) ((win0_7.rect t).emb y)
    have e : y = ix2 (y 0) (y 1) := idx2 y
    refine (congrArg _ e).trans ((out7_at m c t ((flush0_7 t).mp hf) (y 0) (y 1)).trans (congrArg (G7 (V m c) (A4 m c) (A5 m c) (A6 m c)) ?_))
    exact (emb7 t (y 0) (y 1)).symm.trans (congrArg (fun z => (win0_7.rect t).emb z) e.symm)

theorem final8 : (dats m 0 c).arrAt 8 cfg0.N = G8 (V m c) (A4 m c) :=
  Dat.arrAt_eq_of_covers _ 8 _ (by decide +kernel) fun t hf y => by
    show (dats m 0 c).after 8 t y = G8 (V m c) (A4 m c) ((win0_8.rect t).emb y)
    have e : y = ix2 (0 : Fin 1) (y 1) := (idx2 y).trans (congrArg (fun z => ix2 z (y 1)) (Subsingleton.elim (α := Fin 1) _ _))
    refine (congrArg _ e).trans ((out8_at m c t ((flush0_8 t).mp hf) (y 1)).trans (congrArg (G8 (V m c) (A4 m c)) ?_))
    exact (emb8 t (y 1)).symm.trans (congrArg (fun z => (win0_8.rect t).emb z) e.symm)

end Cert.InIdeal.Hand

namespace Cert.Proof

open Idealize.ShloMosaic Idealize.SL.Sem Idealize.ShloMosaic.ValueIdx Cert.Ffn
open Cert.InRefIdeal (S16384x3072 S1024x3072 S16384x1024 S1x1024 S16384x1)
open Cert.InIdeal.Hand (D G7 G8 gain term)
open Cert.InRefIdeal.Read

theorem ref_in_vv (x : FVec Ideal S16384x1024 .f32) (i : S16384x1.Idx) : val_main_v10 (F := Ideal) x i = vv fun k => x (ix2 (i 0) k) := by
  rw [val_main_v10_apply, val_main_v9_apply, val_main_v8_apply, val_main_v7_apply, val_main_v6_apply, val_main_v5_apply]
  refine congrArg (fun z => Ideal.div z (Ideal.ofBits .f32 0x44800000#32) + Ideal.ofBits .f32 0x358637BD#32) ?_
  refine (congrArg₂ (fun u v : EReal => u + v) Ideal.ofBits_zero_f32 (Finset.sum_congr rfl fun k _ => ?_)).trans (zero_add _)
  rw [val_main_v4_apply]
  have e : idx_main_v5 (idx_main_v6 i) k = ix2 (i 0) k := funext fun a => by
    match a with
    | ⟨0, _⟩ => rfl
    | ⟨1, _⟩ => rfl
  exact congrArg (fun j => (x j * x j : EReal)) e

theorem ref_in_rr (x : FVec Ideal S16384x1024 .f32) (i : S16384x1.Idx) : val_main_v11 (F := Ideal) x i = rr fun k => x (ix2 (i 0) k) := by
  rw [val_main_v11_apply, ref_in_vv]
  rfl

section
variable (p : FVec Ideal S16384x3072 .bf16) (w : FVec Ideal S1024x3072 .bf16) (q : FVec Ideal S16384x3072 .bf16) (z : FVec Ideal S1024x3072 .bf16)
  (x ct : FVec Ideal S16384x1024 .f32) (g : FVec Ideal S1x1024 .f32)

theorem ref_in_dot (i : S16384x1024.Idx) : val_main_v23 (F := Ideal) p w q z i = D p w q z (i 0) (i 1) := by
  rw [val_main_v23_apply, val_main_v22_apply, val_main_v21_apply]
  refine (add_comm (G := EReal) _ _).trans (congrArg₂ (fun u v : EReal => u + v) (Finset.sum_congr rfl fun k _ => ?_) (Finset.sum_congr rfl fun k _ => ?_))
  · rw [val_main_v0_apply, val_main_v1_apply]
    refine congrArg₂ (fun u v : EReal => u * v) (congrArg p ?_) (congrArg w ?_)
    · exact funext fun a => Fin.ext (by match a with | ⟨0, _⟩ => rfl | ⟨1, _⟩ => rfl)
    · exact funext fun a => Fin.ext (by match a with | ⟨0, _⟩ => rfl | ⟨1, _⟩ => rfl)
  · rw [val_main_v2_apply, val_main_v3_apply]
    refine congrArg₂ (fun u v : EReal => u * v) (congrArg q ?_) (congrArg z ?_)
    · exact funext fun a => Fin.ext (by match a with | ⟨0, _⟩ => rfl | ⟨1, _⟩ => rfl)
    · exact funext fun a => Fin.ext (by match a with | ⟨0, _⟩ => rfl | ⟨1, _⟩ => rfl)

theorem ref_in_term (i : S16384x1024.Idx) : val_main_v24 (F := Ideal) p w q z x i = term (D p w q z) x (i 1) (i 0) := by
  have e0 : ix2 (i 0) (i 1) = i := (idx2 i).symm
  rw [val_main_v24_apply, val_main_v16_apply, val_main_v15_apply, ref_in_rr, ref_in_dot]
  exact (mul_comm (G := EReal) _ _).trans (congrArg (fun j => (D p w q z (i 0) (i 1) * (x j * rr fun k => x (ix2 (i 0) k)) : EReal)) e0.symm)

theorem ref_in_idx (i : S1x1024.Idx) (a : Fin 16384) : idx_main_v25 (idx_main_v26 i) a = ix2 a (i 1) := by
  have h (p q : ℕ) (hp : p < 1) : p * 1024 + q = q := by omega
  have h' : (idx_main_v26 i 0).val = (i 1).val := h _ _ (i 0).isLt
  funext b
  match b with
  | ⟨0, _⟩ => rfl
  | ⟨1, _⟩ => exact Fin.ext h'

theorem ref_in_gain : val_main_v26 (F := Ideal) p w q z x = G8 (D p w q z) x := by
  funext i
  rw [val_main_v26_apply, val_main_v25_apply]
  show _ = gain (D p w q z) x (i 1)
  unfold gain
  rw [show val_main_cst_3 (F := Ideal) _ = 0 from Ideal.ofBits_zero_f32, zero_add]
  refine Finset.sum_congr rfl fun a _ => ?_
  refine (congrArg (val_main_v24 (F := Ideal) p w q z x) (ref_in_idx i a)).trans ?_
  exact ref_in_term p w q z x (ix2 a (i 1))

theorem ref_in_d (i : S16384x1024.Idx) : val_main_v28 (F := Ideal) p w q z g i = (D p w q z (i 0) (i 1) * g (ix2 (0 : Fin 1) (i 1)) : EReal) := by
  rw [val_main_v28_apply, val_main_v27_apply, ref_in_dot]
  have e : idx_main_v27 i = ix2 (0 : Fin 1) (i 1) := funext fun a => Fin.ext (by match a with | ⟨0, _⟩ => rfl | ⟨1, _⟩ => rfl)
  exact congrArg (fun j => (D p w q z (i 0) (i 1) * g j : EReal)) e

theorem ref_in_qq (i : S16384x1.Idx) :
    val_main_v37 (F := Ideal) p w q z x g i = qq (fun k => x (ix2 (i 0) k)) (fun k => D p w q z (i 0) k * g (ix2 (0 : Fin 1) k)) := by
  rw [val_main_v37_apply, val_main_v36_apply, val_main_v35_apply, val_main_v14_apply, val_main_v13_apply, val_main_v12_apply, ref_in_rr, ref_in_vv, val_main_v31_apply, val_main_v30_apply]
  refine congrArg (fun u : EReal => Ideal.div (u * (Ideal.ofBits .f32 0xBF000000#32 * Ideal.div (rr fun k => x (ix2 (i 0) k)) (vv fun k => x (ix2 (i 0) k)))) (Ideal.ofBits .f32 0x44800000#32)) ?_
  refine (congrArg₂ (fun u v : EReal => u + v) Ideal.ofBits_zero_f32 (Finset.sum_congr rfl fun k _ => ?_)).trans (zero_add _)
  have e : idx_main_v30 (idx_main_v31 i) k = ix2 (i 0) k := funext fun a => Fin.ext (by
    match a with
    | ⟨0, _⟩ =>
      show (i 0).val * 1 + (i 1).val = (i 0).val
      have h1 : (i 1).val < 1 := (i 1).isLt
      omega
    | ⟨1, _⟩ => rfl)
  refine (congrArg (val_main_v29 (F := Ideal) p w q z x g) e).trans ?_
  exact congrArg (fun u : EReal => x (ix2 (i 0) k) * u) (ref_in_d p w q z g (ix2 (i 0) k))

theorem ref_in_dx : val_main_v43 (F := Ideal) p w q z x ct g = G7 (D p w q z) x ct g := by
  funext i
  have e0 : ix2 (i 0) (i 1) = i := (idx2 i).symm
  have eq : val_main_v39 (F := Ideal) p w q z x g i = qq (fun k => x (ix2 (i 0) k)) (fun k => D p w q z (i 0) k * g (ix2 (0 : Fin 1) k)) := by
    rw [val_main_v39_apply, val_main_v38_apply]
    refine (congrArg₂ (fun u v : EReal => u + v) Ideal.ofBits_zero_f32 ((Fin.sum_univ_one _).trans (ref_in_qq p w q z x g _))).trans (zero_add _)
  rw [val_main_v43_apply, val_main_v42_apply, val_main_v41_apply, val_main_v40_apply, val_main_v34_apply, val_main_v33_apply, val_main_v32_apply, ref_in_rr, ref_in_d, eq]
  refine Eq.trans ?_ (congrArg (fun u : EReal => ct i + u) (dx_eq _ _ _).symm)
  refine Eq.trans (b := (ct i + D p w q z (i 0) (i 1) * g (ix2 (0 : Fin 1) (i 1)) * rr (fun k => x (ix2 (i 0) k)) + x i * qq (fun k => x (ix2 (i 0) k)) (fun k => D p w q z (i 0) k * g (ix2 (0 : Fin 1) k))
    + qq (fun k => x (ix2 (i 0) k)) (fun k => D p w q z (i 0) k * g (ix2 (0 : Fin 1) k)) * x i : EReal)) rfl ?_
  rw [congrArg x e0.symm, add_assoc, add_assoc, ← add_assoc (D p w q z (i 0) (i 1) * _ * _)]
  rfl

end

theorem algebraic_in : algebraic_InIdeal_InRefIdeal := by
  intro m g m' g' _ hargs
  refine ⟨fun c => G7 (Cert.InIdeal.Hand.V m c) (Cert.InIdeal.Hand.A4 m c) (Cert.InIdeal.Hand.A5 m c) (Cert.InIdeal.Hand.A6 m c),
    fun c => G8 (Cert.InIdeal.Hand.V m c) (Cert.InIdeal.Hand.A4 m c), ?_, ?_⟩
  · exact (θ_run Cert.InIdeal.defs _ _).mono (fun r h c => ⟨(h c).1.trans (Cert.InIdeal.Hand.final7 m c), (h c).2.1.trans (Cert.InIdeal.Hand.final8 m c),
      (h c).2.2⟩) (Cert.InIdeal.Value.run_blocks (F := Ideal) m g)
  · refine (θ_run Cert.InRefIdeal.defs _ _).mono (fun r h c => ⟨(h c).1.trans ?_, (h c).2.1.trans ?_, (h c).2.2⟩) (Cert.InRefIdeal.Value.run (F := Ideal) m' g')
    · rw [val_main_v43_eq, (hargs c).1, (hargs c).2.1, (hargs c).2.2.1, (hargs c).2.2.2.1, (hargs c).2.2.2.2.1, (hargs c).2.2.2.2.2.1, (hargs c).2.2.2.2.2.2]
      exact ref_in_dx _ _ _ _ _ _ _
    · rw [(hargs c).1, (hargs c).2.1, (hargs c).2.2.1, (hargs c).2.2.2.1, (hargs c).2.2.2.2.1]
      exact (val_main_v26_eq (F := Ideal) _ _ _ _ _).trans (ref_in_gain _ _ _ _ _)

end Cert.Proof

end
-- ==== Proof.Sbase.lean ====
module

public import proofs.«01_k».proof.Defs
public import proofs.«01_k».proof.Proof.Norm
public import proofs.«01_k».proof.Proof.Gen.SconvIdeal.Value
public import proofs.«01_k».proof.Proof.Gen.SconvRefIdeal.Run
public import proofs.«01_k».proof.Proof.Gen.SconvRefIdeal.Read
public import Idealize.ShloMosaic.Lib.Pipeline.ValueKit.Geometry
public import Idealize.ShloMosaic.Lib.WritesUnit

@[expose] public section

noncomputable section

/-! The short convolution's backward: the three gradients of the gates block by block, and the taps' gradient accumulated over the blocks. -/

namespace Cert.SconvIdeal.Hand

open Cert.SconvIdeal Cert.SconvIdeal.Gen Cert.Ffn
open Idealize.ShloMosaic Idealize.ShloMosaic.TcCoe Idealize.SL.Sem
open Idealize.ShloMosaic.ValueIdx
open Idealize.ShloMosaic.Pipeline (Dat)

/-- A store over a whole buffer leaves what was stored. -/
theorem full {F : FTy → Type} [FloatOps F] (S : Shape) {κ : Kind} {sp : Space} {e : EltTy} (off size : Fin S.rank → ℕ) (hs : size = S.size) (ho : ∀ a, off a = 0) (v : View sig κ sp S e) (f : v.ty.Contents (Elt F))
    (inb : ∀ a, off a + size a ≤ S.size a) (w : (Rect.unit off size inb).shape.Idx → Elt F e) (L : List (View.Piece (Elt F) S e)) :
    v.read (Elt F) (v.writes (Elt F) f (⟨Rect.unit off size inb, w⟩ :: L)) = fun y => w fun a => ⟨(y a).val, by subst hs; exact (y a).isLt⟩ := by
  funext y
  exact View.read_writes_cons_unit_of_mem v f inb w L y _ rfl fun a => by rw [ho a]; exact (Nat.zero_add _).symm

/-- A load of a row passes a store of another row. -/
theorem ld_skip {F : FTy → Type} [FloatOps F] (o p : ℕ) (h : p ≠ o) {κ : Kind} {sp : Space} (v : View sig κ sp S8x768 .f32) (f : v.ty.Contents (Elt F))
    (inb : ∀ a, (![o, 0] : Fin 2 → ℕ) a + (![1, 768] : Fin 2 → ℕ) a ≤ S8x768.size a) (inb' : ∀ a, (![p, 0] : Fin 2 → ℕ) a + (![1, 768] : Fin 2 → ℕ) a ≤ S8x768.size a) (w : Vec F S1x768 .f32) (L : List (View.Piece (Elt F) S8x768 .f32)) :
    View.ld (v.read (Elt F) (v.writes (Elt F) f (⟨Rect.unit (s := S8x768) ![o, 0] ![1, 768] inb, w⟩ :: L))) (Rect.unit (s := S8x768) ![p, 0] ![1, 768] inb')
      = View.ld (v.read (Elt F) (v.writes (Elt F) f L)) (Rect.unit (s := S8x768) ![p, 0] ![1, 768] inb') := by
  funext x
  have hx : (x 0).val < 1 := (x 0).isLt
  exact View.read_writes_cons_rows_of_not_mem (d := ![8, 768]) (o := o) (W := 1) v f inb w L _ rfl rfl (by show p + 1 * (x 0).val < o ∨ o + 1 ≤ p + 1 * (x 0).val; omega)

section
variable {F : FTy → Type} [FloatOps F] (c : Dev nD) (i : grid0.Coords)
  (a1 : Memref sig .tc .vmem S16x768 .bf16) (h1 : a1.IsWhole) (a2 : Memref sig .tc .vmem S256x768 .bf16) (h2 : a2.IsWhole)
  (a3 : Memref sig .tc .vmem S16x768 .bf16) (h3 : a3.IsWhole) (a4 : Memref sig .tc .vmem S16x768 .bf16) (h4 : a4.IsWhole)
  (a5 : Memref sig .tc .vmem S256x768 .bf16) (h5 : a5.IsWhole) (a6 : Memref sig .tc .vmem S16x768 .bf16) (h6 : a6.IsWhole)
  (a7 : Memref sig .tc .vmem S16x768 .bf16) (h7 : a7.IsWhole) (a8 : Memref sig .tc .vmem S256x768 .bf16) (h8 : a8.IsWhole)
  (a9 : Memref sig .tc .vmem S16x768 .bf16) (h9 : a9.IsWhole) (a10 : Memref sig .tc .vmem S16x768 .bf16) (h10 : a10.IsWhole)
  (a11 : Memref sig .tc .vmem S256x768 .bf16) (h11 : a11.IsWhole) (a12 : Memref sig .tc .vmem S16x768 .bf16) (h12 : a12.IsWhole)
  (a13 : Memref sig .tc .vmem S3x768 .f32) (h13 : a13.IsWhole) (a14 : Memref sig .tc .vmem S256x768 .bf16) (h14 : a14.IsWhole)
  (a15 : Memref sig .tc .vmem S256x768 .bf16) (h15 : a15.IsWhole) (a16 : Memref sig .tc .vmem S256x768 .bf16) (h16 : a16.IsWhole)
  (a17 : Memref sig .tc .vmem S8x768 .f32) (h17 : a17.IsWhole) (a18 : Memref sig .tc .vmem S288x768 .f32) (h18 : a18.IsWhole)
  (a19 : Memref sig .tc .vmem S288x768 .f32) (h19 : a19.IsWhole)
  (x0 : Vec F S16x768 .bf16) (x1 : Vec F S256x768 .bf16) (x2 : Vec F S16x768 .bf16) (x3 : Vec F S16x768 .bf16) (x4 : Vec F S256x768 .bf16) (x5 : Vec F S16x768 .bf16) (x6 : Vec F S16x768 .bf16) (x7 : Vec F S256x768 .bf16) (x8 : Vec F S16x768 .bf16) (x9 : Vec F S16x768 .bf16) (x10 : Vec F S256x768 .bf16) (x11 : Vec F S16x768 .bf16) (x12 : Vec F S3x768 .f32) (o : Vec F S8x768 .f32)

/-- The rows of a window of 288 that lie one before the block's, the block's own, and one after. -/
abbrev low (X : Vec F S288x768 .f32) : Vec F S256x768 .f32 := View.ld X (Rect.unit (s := S288x768) ![15, 0] S256x768.size inb_S288x768_S256x768_15_0)
abbrev mid (X : Vec F S288x768 .f32) : Vec F S256x768 .f32 := View.ld X (Rect.unit (s := S288x768) ![16, 0] S256x768.size inb_S288x768_S256x768_16_0)
abbrev high (X : Vec F S288x768 .f32) : Vec F S256x768 .f32 := View.ld X (Rect.unit (s := S288x768) ![17, 0] S256x768.size inb_S288x768_S256x768_17_0)
/-- A row of the weight's gradient. -/
abbrev r0 (X : Vec F S8x768 .f32) : Vec F S1x768 .f32 := View.ld X (Rect.unit (s := S8x768) ![0, 0] S1x768.size inb_S8x768_S1x768_0_0)
abbrev r1 (X : Vec F S8x768 .f32) : Vec F S1x768 .f32 := View.ld X (Rect.unit (s := S8x768) ![1, 0] S1x768.size inb_S8x768_S1x768_1_0)
abbrev r2 (X : Vec F S8x768 .f32) : Vec F S1x768 .f32 := View.ld X (Rect.unit (s := S8x768) ![2, 0] S1x768.size inb_S8x768_S1x768_2_0)
/-- The two buffers: the product that the convolution takes, and the gradient of the convolution's result. -/
abbrev uu : Vec F S288x768 .f32 := k0_pay9 (k0_pay4 i) (k0_pay6 x6 x7 x8) (k0_pay7 x9) x10 x11
abbrev ee : Vec F S288x768 .f32 := k0_pay10 (k0_pay3 x0 x1 x2) (k0_pay4 i) (k0_pay5 x3 x4 x5)

theorem outA13 (k0) : out0_A_13 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 = k0_pay11 (k0_pay3 x0 x1 x2) x12 (low (uu i x6 x7 x8 x9 x10 x11)) (mid (uu i x6 x7 x8 x9 x10 x11)) (high (uu i x6 x7 x8 x9 x10 x11)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12)]
  unfold kernelRun0_A
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem outA14 (k0) : out0_A_14 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 = k0_pay13 (k0_pay8 (k0_pay7 x9) x10 x11) x12 (high (ee i x0 x1 x2 x3 x4 x5)) (mid (ee i x0 x1 x2 x3 x4 x5)) (low (ee i x0 x1 x2 x3 x4 x5)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12)]
  unfold kernelRun0_A
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem outA15 (k0) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 = k0_pay14 (k0_pay6 x6 x7 x8) x12 (high (ee i x0 x1 x2 x3 x4 x5)) (mid (ee i x0 x1 x2 x3 x4 x5)) (low (ee i x0 x1 x2 x3 x4 x5)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12)]
  unfold kernelRun0_A
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem outB13 (k0) : out0_B_13 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o = k0_pay11 (k0_pay3 x0 x1 x2) x12 (low (uu i x6 x7 x8 x9 x10 x11)) (mid (uu i x6 x7 x8 x9 x10 x11)) (high (uu i x6 x7 x8 x9 x10 x11)) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o)]
  unfold kernelRun0_B
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem outB14 (k0) : out0_B_14 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o = k0_pay13 (k0_pay8 (k0_pay7 x9) x10 x11) x12 (high (ee i x0 x1 x2 x3 x4 x5)) (mid (ee i x0 x1 x2 x3 x4 x5)) (low (ee i x0 x1 x2 x3 x4 x5)) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o)]
  unfold kernelRun0_B
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem outB15 (k0) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o = k0_pay14 (k0_pay6 x6 x7 x8) x12 (high (ee i x0 x1 x2 x3 x4 x5)) (mid (ee i x0 x1 x2 x3 x4 x5)) (low (ee i x0 x1 x2 x3 x4 x5)) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o)]
  unfold kernelRun0_B
  dsimp only
  sl_unfold_words
  rw [View.canon_unit_zero hz]
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  rfl

theorem rows_at {κ : Kind} {sp : Space} (v : View sig κ sp S8x768 .f32) (f : v.ty.Contents (Elt F)) (w0 w1 w2 : Vec F S1x768 .f32)
    (L : List (View.Piece (Elt F) S8x768 .f32)) (j : Fin 8) (s : Fin 768) :
    v.read (Elt F) (v.writes (Elt F) f (⟨Rect.unit (s := S8x768) ![2, 0] ![1, 768] inb_S8x768_S1x768_2_0, w2⟩ :: ⟨Rect.unit (s := S8x768) ![1, 0] ![1, 768] inb_S8x768_S1x768_1_0, w1⟩ ::
        ⟨Rect.unit (s := S8x768) ![0, 0] ![1, 768] inb_S8x768_S1x768_0_0, w0⟩ :: L)) (ix2 j s)
      = if j.val = 0 then w0 (ix2 (0 : Fin 1) s) else if j.val = 1 then w1 (ix2 (0 : Fin 1) s) else if j.val = 2 then w2 (ix2 (0 : Fin 1) s) else v.read (Elt F) (v.writes (Elt F) f L) (ix2 j s) := by
  have skip (o : ℕ) (inb) (w : Vec F S1x768 .f32) (L' : List (View.Piece (Elt F) S8x768 .f32)) (h : j.val ≠ o) :
      v.read (Elt F) (v.writes (Elt F) f (⟨Rect.unit (s := S8x768) ![o, 0] ![1, 768] inb, w⟩ :: L')) (ix2 j s) = v.read (Elt F) (v.writes (Elt F) f L') (ix2 j s) :=
    View.read_writes_cons_rows_of_not_mem (d := ![8, 768]) (o := o) (W := 1) v f inb w L' (ix2 j s) rfl rfl (by show j.val < o ∨ o + 1 ≤ j.val; omega)
  have take (o : ℕ) (inb) (w : Vec F S1x768 .f32) (L' : List (View.Piece (Elt F) S8x768 .f32)) (h : j.val = o) :
      v.read (Elt F) (v.writes (Elt F) f (⟨Rect.unit (s := S8x768) ![o, 0] ![1, 768] inb, w⟩ :: L')) (ix2 j s) = w (ix2 (0 : Fin 1) s) :=
    View.read_writes_cons_rows_of_mem (d := ![8, 768]) (o := o) v f inb w L' (ix2 j s) (ix2 (0 : Fin 1) s) rfl (by show j.val = o + 0; omega) rfl
  by_cases h2 : j.val = 2
  · rw [take 2 _ _ _ h2, if_neg (by omega), if_neg (by omega), if_pos h2]
  rw [skip 2 _ _ _ h2]
  by_cases h1 : j.val = 1
  · rw [take 1 _ _ _ h1, if_neg (by omega), if_pos h1]
  rw [skip 1 _ _ _ h1]
  by_cases h0 : j.val = 0
  · rw [take 0 _ _ _ h0, if_pos h0]
  rw [skip 0 _ _ _ h0, if_neg h0, if_neg h1, if_neg h2]

theorem outA16 (k0) (j : Fin 8) (s : Fin 768) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 (ix2 j s)
    = if j.val = 0 then k0_pay16 (mid (ee i x0 x1 x2 x3 x4 x5)) (r0 (k0_pay15 (F := F))) (low (uu i x6 x7 x8 x9 x10 x11)) (ix2 (0 : Fin 1) s) else if j.val = 1 then k0_pay1 (mid (ee i x0 x1 x2 x3 x4 x5)) (r1 (k0_pay15 (F := F))) (mid (uu i x6 x7 x8 x9 x10 x11)) (ix2 (0 : Fin 1) s)
      else if j.val = 2 then k0_pay2 (mid (ee i x0 x1 x2 x3 x4 x5)) (r2 (k0_pay15 (F := F))) (high (uu i x6 x7 x8 x9 x10 x11)) (ix2 (0 : Fin 1) s) else (k0_pay15 (F := F)) (ix2 j s) := by
  unfold out0_A_16
  unfold kernelRun0_A
  dsimp only
  sl_unfold_words
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  refine (rows_at _ _ _ _ _ _ j s).trans ?_
  simp only [full S8x768 ![0, 0] ![8, 768] rfl (by decide)]
  rfl

theorem outB16 (k0) (j : Fin 8) (s : Fin 768) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 k0 x0 x1 x2 x3 x4 x5 x6 x7 x8 x9 x10 x11 x12 o (ix2 j s)
    = if j.val = 0 then k0_pay16 (mid (ee i x0 x1 x2 x3 x4 x5)) (r0 o) (low (uu i x6 x7 x8 x9 x10 x11)) (ix2 (0 : Fin 1) s) else if j.val = 1 then k0_pay1 (mid (ee i x0 x1 x2 x3 x4 x5)) (r1 o) (mid (uu i x6 x7 x8 x9 x10 x11)) (ix2 (0 : Fin 1) s)
      else if j.val = 2 then k0_pay2 (mid (ee i x0 x1 x2 x3 x4 x5)) (r2 o) (high (uu i x6 x7 x8 x9 x10 x11)) (ix2 (0 : Fin 1) s) else o (ix2 j s) := by
  unfold out0_B_16
  unfold kernelRun0_B
  dsimp only
  sl_unfold_words
  simp only [View.readAt_eq_ld, View.readCov, h1.read_unread, h2.read_unread, h3.read_unread, h4.read_unread, h5.read_unread, h6.read_unread, h7.read_unread, h8.read_unread, h9.read_unread, h10.read_unread, h11.read_unread, h12.read_unread, h13.read_unread, h17.read_unread, View.ld_unit_zero (S := S16x768) hz, View.ld_unit_zero (S := S256x768) hz, View.ld_unit_zero (S := S3x768) hz, View.ld_unit_zero (S := S288x768) hz, View.ld_unit_zero (S := S8x768) hz, full S288x768 ![0, 0] ![288, 768] rfl (by decide), full S8x768 ![0, 0] ![8, 768] rfl (by decide), ld_skip 0 1 (by decide), ld_skip 0 2 (by decide), ld_skip 1 2 (by decide)]
  refine (rows_at _ _ _ _ _ _ j s).trans ?_
  simp only [View.writes_nil, h17.read_unread]
  rfl

end

/-- A row of three joined blocks. -/
theorem cat_at {α : Type} (h : Shape.Concatenates [S16x768, S256x768, S16x768] S288x768 0) (x : S16x768.Idx → α) (y : S256x768.Idx → α) (z : S16x768.Idx → α) (f : Fin 16384 → α) (t : ℕ) (s : Fin 768)
    (hx : ∀ (r : Fin 16) (p : Fin 16384), p.val + 16 = 256 * t + r.val → x (ix2 r s) = f p) (hy : ∀ (r : Fin 256) (p : Fin 16384), p.val = 256 * t + r.val → y (ix2 r s) = f p)
    (hz : ∀ (r : Fin 16) (p : Fin 16384), p.val = 256 * t + 256 + r.val → z (ix2 r s) = f p) (r : Fin 288) (p : Fin 16384) (e : p.val + 16 = 256 * t + r.val) :
    concatenate S288x768 0 [⟨S16x768, x⟩, ⟨S256x768, y⟩, ⟨S16x768, z⟩] h (ix2 r s) = f p := by
  have off (n : ℕ) (b : Fin 2) (hb : b ≠ 0) (q : Fin n) : ((ix2 q s : (⟨2, ![n, 768]⟩ : Shape).Idx) b).val = ((ix2 r s : S288x768.Idx) b).val := by
    match b with
    | ⟨0, _⟩ => exact absurd rfl hb
    | ⟨1, _⟩ => rfl
  by_cases h1 : r.val < 16
  · exact (concatenate_apply_piece (t := S288x768) 0 [⟨S16x768, x⟩, ⟨S256x768, y⟩, ⟨S16x768, z⟩] h (ix2 r s) 0 (show 0 < 3 by decide) S16x768 x rfl rfl 0 rfl (ix2 (⟨r.val, h1⟩ : Fin 16) s) (fun b hb => off 16 b hb _) (Nat.zero_add _)).trans (hx _ p e)
  by_cases h2 : r.val < 272
  · exact (concatenate_apply_piece (t := S288x768) 0 [⟨S16x768, x⟩, ⟨S256x768, y⟩, ⟨S16x768, z⟩] h (ix2 r s) 1 (show 1 < 3 by decide) S256x768 y rfl rfl 16 rfl (ix2 (⟨r.val - 16, by omega⟩ : Fin 256) s) (fun b hb => off 256 b hb _)
      (show 16 + (r.val - 16) = r.val by omega)).trans (hy _ p (show p.val = 256 * t + (r.val - 16) by omega))
  · have := r.isLt
    exact (concatenate_apply_piece (t := S288x768) 0 [⟨S16x768, x⟩, ⟨S256x768, y⟩, ⟨S16x768, z⟩] h (ix2 r s) 2 (show 2 < 3 by decide) S16x768 z rfl rfl 272 rfl (ix2 (⟨r.val - 272, by omega⟩ : Fin 16) s) (fun b hb => off 16 b hb _)
      (show 272 + (r.val - 272) = r.val by omega)).trans (hz _ p (show p.val = 256 * t + 256 + (r.val - 272) by omega))

theorem mask (n : Fin 64) (r : Fin 288) :
    IntOp.andi (IntOp.cmpi .sge (IntOp.addi (IntOp.subi (IntOp.muli (BitVec.ofNat 32 n.val) 256#32) 16#32) (BitVec.ofNat 32 (0 * 288 + r.val))) 0#32)
        (IntOp.cmpi .slt (IntOp.addi (IntOp.subi (IntOp.muli (BitVec.ofNat 32 n.val) 256#32) 16#32) (BitVec.ofNat 32 (0 * 288 + r.val))) 16384#32)
      = if 16 ≤ 256 * n.val + r.val ∧ 256 * n.val + r.val < 16400 then 1#1 else 0#1 := by
  revert n r
  decide +kernel

theorem pay4_at (i : grid0.Coords) (r : Fin 288) :
    k0_pay4 i (ix2 r (0 : Fin 1)) = if 16 ≤ 256 * (i 0).val + r.val ∧ 256 * (i 0).val + r.val < 16400 then 1#1 else 0#1 :=
  mask (i 0) r

/-- A column of an array with a zero before its first row and one after its last. -/
def pd (f : Fin 16384 → EReal) (k : ℕ) : EReal := if h : 1 ≤ k ∧ k ≤ 16384 then f ⟨k - 1, by omega⟩ else 0

theorem sel_at (i : grid0.Coords) (X : FVec Ideal S288x768 .f32) (f : Fin 16384 → EReal) (s : Fin 768)
    (hX : ∀ (r : Fin 288) (p : Fin 16384), p.val + 16 = 256 * (i 0).val + r.val → X (ix2 r s) = f p) (r : Fin 288) (k : ℕ) (e : 256 * (i 0).val + r.val = k + 15) :
    shapeCast S288x768 (select (broadcastTo S288x768 (shapeCast S288x1 (k0_pay4 i) shapeCasts_S288x1_S288x1) broadcasts_S288x1_S288x768) X
      (broadcast S288x768 (Scalar.ofBits (F := Ideal) .f32 0x00000000#32))) shapeCasts_S288x768_S288x768 (ix2 r s) = pd f k := by
  rw [shapeCast_self, shapeCast_self]
  show Scalar.select (broadcastTo S288x768 (k0_pay4 i) broadcasts_S288x1_S288x768 (ix2 r s)) (X (ix2 r s)) (Ideal.ofBits .f32 0x00000000#32) = _
  rw [show broadcastTo S288x768 (k0_pay4 i) broadcasts_S288x1_S288x768 (ix2 r s) = k0_pay4 i (ix2 r (0 : Fin 1)) from col_bcast (M := 288) (N := 768) _ _ r s, pay4_at]
  unfold Scalar.select pd
  by_cases h : 1 ≤ k ∧ k ≤ 16384
  · rw [if_pos (show 16 ≤ 256 * (i 0).val + r.val ∧ 256 * (i 0).val + r.val < 16400 by omega), if_pos (by decide), dif_pos h]
    exact hX r _ (show k - 1 + 16 = _ by omega)
  · rw [if_neg (show ¬(16 ≤ 256 * (i 0).val + r.val ∧ 256 * (i 0).val + r.val < 16400) by omega), if_neg (by decide), dif_neg h]
    exact Ideal.ofBits_zero_f32

theorem row_at (o : ℕ) (ho : o ≤ 32) (inb) (X : Vec Ideal S288x768 .f32) (r : Fin 256) (s : Fin 768) :
    View.ld (Val := Elt Ideal) (e' := .f32) X (Rect.unit (s := S288x768) ![o, 0] S256x768.size inb) (ix2 r s) = X (ix2 (⟨o + r.val, by omega⟩ : Fin 288) s) := by
  refine congrArg X (funext fun a => Fin.ext ?_)
  match a with
  | ⟨0, _⟩ => show o + 1 * r.val = o + r.val; omega
  | ⟨1, _⟩ => show 0 + 1 * s.val = s.val; omega

theorem tap_at (o : Fin 3) (W : FVec Ideal S3x768 .f32) (h) (r : Fin 256) (s : Fin 768) :
    broadcastTo S256x768 (extractStridedSlice S1x768 ![o.val, 0] W h) broadcasts_S1x768_S256x768 (ix2 r s) = W (ix2 o s) := by
  refine (broadcastTo_1b_ab_apply (a := 256) (b := 768) _ broadcasts_S1x768_S256x768 r s).trans (extractStridedSlice_apply _ W h _ (ix2 o s) fun a => ?_)
  match a with
  | ⟨0, _⟩ => rfl
  | ⟨1, _⟩ => exact (Nat.zero_add _).symm

theorem own_at (X : FVec Ideal S288x768 .f32) (h) (r : Fin 256) (s : Fin 768) :
    extractStridedSlice S256x768 ![16, 0] X h (ix2 r s) = X (ix2 (⟨16 + r.val, by omega⟩ : Fin 288) s) := by
  refine extractStridedSlice_apply _ X h _ _ fun a => ?_
  match a with
  | ⟨0, _⟩ => rfl
  | ⟨1, _⟩ => exact (Nat.zero_add _).symm

/-- Three rows weighted by the taps. -/
def conv3 (W : FVec Ideal S3x768 .f32) (s : Fin 768) (a b c : EReal) : EReal := a * W (ix2 (0 : Fin 3) s) + b * W (ix2 (1 : Fin 3) s) + c * W (ix2 (2 : Fin 3) s)

theorem pay12_at (W : FVec Ideal S3x768 .f32) (x y z : FVec Ideal S256x768 .f32) (r : Fin 256) (s : Fin 768) :
    k0_pay12 (F := Ideal) W x y z (ix2 r s) = conv3 W s (x (ix2 r s)) (y (ix2 r s)) (z (ix2 r s)) := by
  unfold k0_pay12
  exact congrArg₂ (fun u v : EReal => u + v) (congrArg₂ (fun u v : EReal => u + v) (congrArg (fun u : EReal => x (ix2 r s) * u) (tap_at 0 W _ r s)) (congrArg (fun u : EReal => y (ix2 r s) * u) (tap_at 1 W _ r s)))
    (congrArg (fun u : EReal => z (ix2 r s) * u) (tap_at 2 W _ r s))

theorem pay11_at (D : FVec Ideal S288x768 .f32) (W : FVec Ideal S3x768 .f32) (x y z : FVec Ideal S256x768 .f32) (r : Fin 256) (s : Fin 768) :
    k0_pay11 (F := Ideal) D W x y z (ix2 r s) = (conv3 W s (x (ix2 r s)) (y (ix2 r s)) (z (ix2 r s)) * D (ix2 (⟨16 + r.val, by omega⟩ : Fin 288) s) : EReal) := by
  refine Eq.trans ?_ (congrArg₂ (fun u v : EReal => u * v) (pay12_at W x y z r s) (own_at D slices_S288x768_o16_0_S256x768 r s))
  unfold k0_pay11
  exact mul_comm (extractStridedSlice S256x768 ![16, 0] D slices_S288x768_o16_0_S256x768 (ix2 r s) : EReal) (k0_pay12 (F := Ideal) W x y z (ix2 r s))

theorem pay13_at (D : FVec Ideal S288x768 .f32) (W : FVec Ideal S3x768 .f32) (x y z : FVec Ideal S256x768 .f32) (r : Fin 256) (s : Fin 768) :
    k0_pay13 (F := Ideal) D W x y z (ix2 r s) = (conv3 W s (x (ix2 r s)) (y (ix2 r s)) (z (ix2 r s)) * D (ix2 (⟨16 + r.val, by omega⟩ : Fin 288) s) : EReal) :=
  congrArg₂ (fun u v : EReal => u * v) (pay12_at W x y z r s) (own_at D slices_S288x768_o16_0_S256x768 r s)

theorem pay14_at (D : FVec Ideal S288x768 .f32) (W : FVec Ideal S3x768 .f32) (x y z : FVec Ideal S256x768 .f32) (r : Fin 256) (s : Fin 768) :
    k0_pay14 (F := Ideal) D W x y z (ix2 r s) = (conv3 W s (x (ix2 r s)) (y (ix2 r s)) (z (ix2 r s)) * D (ix2 (⟨16 + r.val, by omega⟩ : Fin 288) s) : EReal) :=
  pay13_at D W x y z r s

theorem pay16_at (X : FVec Ideal S1x768 .f32) (x y : FVec Ideal S256x768 .f32) (s : Fin 768) :
    k0_pay16 (F := Ideal) x X y (ix2 (0 : Fin 1) s) = (X (ix2 (0 : Fin 1) s) + ∑ r : Fin 256, x (ix2 r s) * y (ix2 r s) : EReal) := by
  unfold k0_pay16
  rw [shapeCast_self]
  exact congrArg (fun z : EReal => X (ix2 (0 : Fin 1) s) + z) (col_sum (M := 256) (N := 768) _ 0x00000000#32 reduces_S256x768_S768 (.inl rfl) rfl shapeCasts_S768_S1x768 s)

theorem pay1_at (X : FVec Ideal S1x768 .f32) (x y : FVec Ideal S256x768 .f32) (s : Fin 768) :
    k0_pay1 (F := Ideal) x X y (ix2 (0 : Fin 1) s) = (X (ix2 (0 : Fin 1) s) + ∑ r : Fin 256, x (ix2 r s) * y (ix2 r s) : EReal) := pay16_at X x y s

theorem pay2_at (X : FVec Ideal S1x768 .f32) (x y : FVec Ideal S256x768 .f32) (s : Fin 768) :
    k0_pay2 (F := Ideal) x X y (ix2 (0 : Fin 1) s) = (X (ix2 (0 : Fin 1) s) + ∑ r : Fin 256, x (ix2 r s) * y (ix2 r s) : EReal) := pay16_at X x y s

end Cert.SconvIdeal.Hand

end
-- ==== Proof.Sconv.lean ====
module

public import proofs.«01_k».proof.Proof.Sbase
public import Idealize.ShloMosaic.Lib.KernelVsHost

@[expose] public section

noncomputable section

/-! The short convolution's backward: its four results as arrays, and the reference's. -/

namespace Cert.SconvIdeal.Hand

open Cert.SconvIdeal Cert.SconvIdeal.Gen Cert.Ffn
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

theorem lt64 {n : ℕ} (h : n < cfg0.N) : n < 64 := lt_of_lt_of_eq h N_0

theorem coord (t : Fin cfg0.N) : (grid0.coords t 0).val = t.val := by
  have := lt64 t.isLt
  rw [show (grid0.coords t 0).val = t.val / 1 % 64 from Pipeline.Grid.coords_val t 0 (by decide) rfl]
  omega

/-- Which block of sixteen rows lies before a point's, and which after. -/
theorem prev_block (i : grid0.Coords) : cc0_transform_0 i 0 = 16 * (i 0).val - 1 :=
  (by decide +kernel : ∀ n : Fin 64, (Scalar.maxsi (Scalar.subi (Scalar.muli (BitVec.ofNat 32 n.val) 16#32) 1#32) 0#32).toNat = 16 * n.val - 1) (i 0)
theorem next_block (i : grid0.Coords) (h : (i 0).val < 63) : cc0_transform_2 i 0 = 16 * ((i 0).val + 1) :=
  (by decide +kernel : ∀ n : Fin 64, n.val < 63 → (Scalar.minsi (Scalar.muli (Scalar.addi (BitVec.ofNat 32 n.val) 1#32) 16#32) 1023#32).toNat = 16 * (n.val + 1)) (i 0) h

/-- The row of the arrays that a point's block's is. -/
def row (t : Fin cfg0.N) (r : Fin 256) : Fin 16384 := ⟨256 * t.val + r.val, by have := lt64 t.isLt; omega⟩

theorem emb0 (t : Fin cfg0.N) (r : Fin 16) (s : Fin 768) (p : Fin 16384) (e : p.val + 16 = 256 * t.val + r.val) : (win0_0.rect t).emb (ix2 r s) = ix2 p s := by
  funext a; apply Fin.ext
  match a with
  | ⟨0, _⟩ => exact (win0_0.rect_emb_val t _ 0).trans (show cc0_transform_0 (grid0.coords t) 0 * 16 + r.val = p.val by rw [prev_block, coord]; omega)
  | ⟨1, _⟩ => exact (win0_0.rect_emb_val t _ 1).trans (show 0 * 768 + s.val = s.val by omega)

theorem emb1 (t : Fin cfg0.N) (r : Fin 256) (s : Fin 768) (p : Fin 16384) (e : p.val = 256 * t.val + r.val) : (win0_1.rect t).emb (ix2 r s) = ix2 p s := by
  have := lt64 t.isLt
  funext a; apply Fin.ext
  match a with
  | ⟨0, _⟩ => exact (win0_1.rect_emb_val t _ 0).trans (show (BitVec.ofNat 32 (grid0.coords t 0).val).toNat * 256 + r.val = p.val by rw [coord, BitVec.toNat_ofNat]; omega)
  | ⟨1, _⟩ => exact (win0_1.rect_emb_val t _ 1).trans (show 0 * 768 + s.val = s.val by omega)

theorem emb2 (t : Fin cfg0.N) (r : Fin 16) (s : Fin 768) (p : Fin 16384) (e : p.val = 256 * t.val + 256 + r.val) : (win0_2.rect t).emb (ix2 r s) = ix2 p s := by
  have := p.isLt
  funext a; apply Fin.ext
  match a with
  | ⟨0, _⟩ => exact (win0_2.rect_emb_val t _ 0).trans (show cc0_transform_2 (grid0.coords t) 0 * 16 + r.val = p.val by rw [next_block _ (by rw [coord]; omega), coord]; omega)
  | ⟨1, _⟩ => exact (win0_2.rect_emb_val t _ 1).trans (show 0 * 768 + s.val = s.val by omega)

theorem emb12 (t : Fin cfg0.N) (j : Fin 3) (s : Fin 768) : (win0_12.rect t).emb (ix2 j s) = ix2 j s := by
  funext a; apply Fin.ext
  match a with
  | ⟨0, _⟩ => exact (win0_12.rect_emb_val t _ 0).trans (show 0 * 3 + j.val = j.val by omega)
  | ⟨1, _⟩ => exact (win0_12.rect_emb_val t _ 1).trans (show 0 * 768 + s.val = s.val by omega)
theorem emb13 (t : Fin cfg0.N) (r : Fin 256) (s : Fin 768) : (win0_13.rect t).emb (ix2 r s) = ix2 (row t r) s := emb1 t r s (row t r) rfl
theorem emb14 (t : Fin cfg0.N) (r : Fin 256) (s : Fin 768) : (win0_14.rect t).emb (ix2 r s) = ix2 (row t r) s := emb1 t r s (row t r) rfl
theorem emb15 (t : Fin cfg0.N) (r : Fin 256) (s : Fin 768) : (win0_15.rect t).emb (ix2 r s) = ix2 (row t r) s := emb1 t r s (row t r) rfl
theorem emb16 (t : Fin cfg0.N) (j : Fin 8) (s : Fin 768) : (win0_16.rect t).emb (ix2 j s) = ix2 j s := by
  funext a; apply Fin.ext
  match a with
  | ⟨0, _⟩ => exact (win0_16.rect_emb_val t _ 0).trans (show 0 * 8 + j.val = j.val by omega)
  | ⟨1, _⟩ => exact (win0_16.rect_emb_val t _ 1).trans (show 0 * 768 + s.val = s.val by omega)

/-- The arguments: the gradient of the mixer's result, the two gates, the value and the taps. -/
abbrev A0 : FVec Ideal S16384x768 .bf16 := m ((c.tc : Thread nD τ).loc main_arg0)
abbrev A1 : FVec Ideal S16384x768 .bf16 := m ((c.tc : Thread nD τ).loc main_arg1)
abbrev A2 : FVec Ideal S16384x768 .bf16 := m ((c.tc : Thread nD τ).loc main_arg2)
abbrev A3 : FVec Ideal S16384x768 .bf16 := m ((c.tc : Thread nD τ).loc main_arg3)
abbrev A4 : FVec Ideal S3x768 .f32 := m ((c.tc : Thread nD τ).loc main_arg4)

/-- A column of a product of two arrays. -/
def pr (x y : FVec Ideal S16384x768 .bf16) (s : Fin 768) (p : Fin 16384) : EReal := x (ix2 p s) * y (ix2 p s)

/-- The three rows around a row, by the taps in order; and in the opposite order. -/
def fwd (W : FVec Ideal S3x768 .f32) (f : Fin 16384 → EReal) (s : Fin 768) (a : ℕ) : EReal := conv3 W s (pd f (a + 0)) (pd f (a + 1)) (pd f (a + 2))
def bwd (W : FVec Ideal S3x768 .f32) (f : Fin 16384 → EReal) (s : Fin 768) (a : ℕ) : EReal := conv3 W s (pd f (a + 2)) (pd f (a + 1)) (pd f (a + 0))

/-- The results. -/
def G13 (d _b cg h : FVec Ideal S16384x768 .bf16) (W : FVec Ideal S3x768 .f32) : FVec Ideal S16384x768 .bf16 := fun i => (fwd W (pr cg h (i 1)) (i 1) (i 0).val * d i : EReal)
def G14 (d b _cg h : FVec Ideal S16384x768 .bf16) (W : FVec Ideal S3x768 .f32) : FVec Ideal S16384x768 .bf16 := fun i => (bwd W (pr d b (i 1)) (i 1) (i 0).val * h i : EReal)
def G15 (d b cg _h : FVec Ideal S16384x768 .bf16) (W : FVec Ideal S3x768 .f32) : FVec Ideal S16384x768 .bf16 := fun i => (bwd W (pr d b (i 1)) (i 1) (i 0).val * cg i : EReal)
def tap (d b cg h : FVec Ideal S16384x768 .bf16) (s : Fin 768) (j : ℕ) : EReal := ∑ a : Fin 16384, pd (pr d b s) (a.val + 1) * pd (pr cg h s) (a.val + j)
def G16 (d b cg h : FVec Ideal S16384x768 .bf16) : FVec Ideal S8x768 .f32 := fun i => if (i 0).val < 3 then tap d b cg h (i 1) (i 0).val else (0 : EReal)

theorem join3 (t : Fin cfg0.N) (r : Fin 288) (s : Fin 768) (p : Fin 16384) (e : p.val + 16 = 256 * t.val + r.val) :
    k0_pay3 (F := Ideal) (iblk m c 0 t) (iblk m c 1 t) (iblk m c 2 t) (ix2 r s) = (A0 m c (ix2 p s) : EReal) :=
  cat_at (α := EReal) concatenates_S16x768_S256x768_S16x768_S288x768_d0 _ _ _ (fun p => A0 m c (ix2 p s)) t.val s (fun r p e => congrArg (A0 m c) (emb0 t r s p e)) (fun r p e => congrArg (A0 m c) (emb1 t r s p e))
    (fun r p e => congrArg (A0 m c) (emb2 t r s p e)) r p e
theorem join5 (t : Fin cfg0.N) (r : Fin 288) (s : Fin 768) (p : Fin 16384) (e : p.val + 16 = 256 * t.val + r.val) :
    k0_pay5 (F := Ideal) (iblk m c 3 t) (iblk m c 4 t) (iblk m c 5 t) (ix2 r s) = (A1 m c (ix2 p s) : EReal) :=
  cat_at (α := EReal) concatenates_S16x768_S256x768_S16x768_S288x768_d0 _ _ _ (fun p => A1 m c (ix2 p s)) t.val s (fun r p e => congrArg (A1 m c) (emb0 t r s p e)) (fun r p e => congrArg (A1 m c) (emb1 t r s p e))
    (fun r p e => congrArg (A1 m c) (emb2 t r s p e)) r p e
theorem join6 (t : Fin cfg0.N) (r : Fin 288) (s : Fin 768) (p : Fin 16384) (e : p.val + 16 = 256 * t.val + r.val) :
    k0_pay6 (F := Ideal) (iblk m c 6 t) (iblk m c 7 t) (iblk m c 8 t) (ix2 r s) = (A2 m c (ix2 p s) : EReal) :=
  cat_at (α := EReal) concatenates_S16x768_S256x768_S16x768_S288x768_d0 _ _ _ (fun p => A2 m c (ix2 p s)) t.val s (fun r p e => congrArg (A2 m c) (emb0 t r s p e)) (fun r p e => congrArg (A2 m c) (emb1 t r s p e))
    (fun r p e => congrArg (A2 m c) (emb2 t r s p e)) r p e
theorem join8 (t : Fin cfg0.N) (r : Fin 288) (s : Fin 768) (p : Fin 16384) (e : p.val + 16 = 256 * t.val + r.val) :
    k0_pay8 (F := Ideal) (k0_pay7 (iblk m c 9 t)) (iblk m c 10 t) (iblk m c 11 t) (ix2 r s) = (A3 m c (ix2 p s) : EReal) :=
  cat_at (α := EReal) concatenates_S16x768_S256x768_S16x768_S288x768_d0 _ _ _ (fun p => A3 m c (ix2 p s)) t.val s (fun r p e => congrArg (A3 m c) (emb0 t r s p e)) (fun r p e => congrArg (A3 m c) (emb1 t r s p e))
    (fun r p e => congrArg (A3 m c) (emb2 t r s p e)) r p e

/-- The two buffers of a point. -/
abbrev UU (t : Fin cfg0.N) : FVec Ideal S288x768 .f32 := uu (F := Ideal) (grid0.coords t) (iblk m c 6 t) (iblk m c 7 t) (iblk m c 8 t) (iblk m c 9 t) (iblk m c 10 t) (iblk m c 11 t)
abbrev EE (t : Fin cfg0.N) : FVec Ideal S288x768 .f32 := ee (F := Ideal) (grid0.coords t) (iblk m c 0 t) (iblk m c 1 t) (iblk m c 2 t) (iblk m c 3 t) (iblk m c 4 t) (iblk m c 5 t)

theorem uu_at (t : Fin cfg0.N) (r : Fin 288) (s : Fin 768) (k : ℕ) (e : 256 * t.val + r.val = k + 15) : UU m c t (ix2 r s) = pd (pr (A2 m c) (A3 m c) s) k :=
  sel_at (grid0.coords t) _ _ s (fun r p e => congrArg₂ (fun u v : EReal => u * v) (join6 m c t r s p (by rw [coord] at e; exact e)) (join8 m c t r s p (by rw [coord] at e; exact e))) r k (by rw [coord]; exact e)
theorem ee_at (t : Fin cfg0.N) (r : Fin 288) (s : Fin 768) (k : ℕ) (e : 256 * t.val + r.val = k + 15) : EE m c t (ix2 r s) = pd (pr (A0 m c) (A1 m c) s) k :=
  sel_at (grid0.coords t) _ _ s (fun r p e => congrArg₂ (fun u v : EReal => u * v) (join3 m c t r s p (by rw [coord] at e; exact e)) (join5 m c t r s p (by rw [coord] at e; exact e))) r k (by rw [coord]; exact e)

theorem uu_row (o : ℕ) (ho : o ≤ 32) (j : ℕ) (hj : o = j + 15) (inb) (t : Fin cfg0.N) (r : Fin 256) (s : Fin 768) :
    View.ld (Val := Elt Ideal) (e' := .f32) (UU m c t) (Rect.unit (s := S288x768) ![o, 0] S256x768.size inb) (ix2 r s) = pd (pr (A2 m c) (A3 m c) s) ((row t r).val + j) :=
  (row_at o ho inb (UU m c t) r s).trans (uu_at m c t _ s _ (show 256 * t.val + (o + r.val) = 256 * t.val + r.val + j + 15 by omega))
theorem ee_row (o : ℕ) (ho : o ≤ 32) (j : ℕ) (hj : o = j + 15) (inb) (t : Fin cfg0.N) (r : Fin 256) (s : Fin 768) :
    View.ld (Val := Elt Ideal) (e' := .f32) (EE m c t) (Rect.unit (s := S288x768) ![o, 0] S256x768.size inb) (ix2 r s) = pd (pr (A0 m c) (A1 m c) s) ((row t r).val + j) :=
  (row_at o ho inb (EE m c t) r s).trans (ee_at m c t _ s _ (show 256 * t.val + (o + r.val) = 256 * t.val + r.val + j + 15 by omega))

theorem conv3_congr {W W' : FVec Ideal S3x768 .f32} {s : Fin 768} (hW : ∀ j, W (ix2 j s) = W' (ix2 j s)) {x x' y y' z z' : EReal} (hx : x = x') (hy : y = y') (hz : z = z') : conv3 W s x y z = conv3 W' s x' y' z' := by
  unfold conv3
  rw [hW, hW, hW, hx, hy, hz]

theorem taps_at (t : Fin cfg0.N) (s : Fin 768) (j : Fin 3) : (iblk m c 12 t : FVec Ideal S3x768 .f32) (ix2 j s) = A4 m c (ix2 j s) := congrArg (A4 m c) (emb12 t j s)

theorem out13_at (t : Fin cfg0.N) (r : Fin 256) (s : Fin 768) :
    (dats m 0 c).after 13 t (ix2 r s) = G13 (A0 m c) (A1 m c) (A2 m c) (A3 m c) (A4 m c) (ix2 (row t r) s) := by
  rw [after0_13]
  have e : ((outsAt0 m c t.val t.isLt).1 (ix2 r s) : EReal)
      = k0_pay11 (F := Ideal) (k0_pay3 (iblk m c 0 t) (iblk m c 1 t) (iblk m c 2 t)) (iblk m c 12 t) (low (UU m c t)) (mid (UU m c t)) (high (UU m c t)) (ix2 r s) := by
    by_cases h0 : t.val % 64 = 0
    · have e := congrArg (fun z => (z.1 (ix2 r s) : EReal)) (outsAt0_A m c t h0)
      dsimp only at e
      rw [outA13] at e
      exact e
    · have e := congrArg (fun z => (z.1 (ix2 r s) : EReal)) (outsAt0_B m c t h0)
      dsimp only at e
      rw [outB13] at e
      exact e
  exact e.trans ((pay11_at _ _ _ _ _ r s).trans (congrArg₂ (fun u v : EReal => u * v)
    (conv3_congr (taps_at m c t s) (uu_row m c 15 (by decide) 0 rfl _ t r s) (uu_row m c 16 (by decide) 1 rfl _ t r s) (uu_row m c 17 (by decide) 2 rfl _ t r s))
    (join3 m c t _ s (row t r) (show 256 * t.val + r.val + 16 = 256 * t.val + (16 + r.val) by omega))))

theorem out14_at (t : Fin cfg0.N) (r : Fin 256) (s : Fin 768) :
    (dats m 0 c).after 14 t (ix2 r s) = G14 (A0 m c) (A1 m c) (A2 m c) (A3 m c) (A4 m c) (ix2 (row t r) s) := by
  rw [after0_14]
  have e : ((outsAt0 m c t.val t.isLt).2.1 (ix2 r s) : EReal)
      = k0_pay13 (F := Ideal) (k0_pay8 (k0_pay7 (iblk m c 9 t)) (iblk m c 10 t) (iblk m c 11 t)) (iblk m c 12 t) (high (EE m c t)) (mid (EE m c t)) (low (EE m c t)) (ix2 r s) := by
    by_cases h0 : t.val % 64 = 0
    · have e := congrArg (fun z => (z.2.1 (ix2 r s) : EReal)) (outsAt0_A m c t h0)
      dsimp only at e
      rw [outA14] at e
      exact e
    · have e := congrArg (fun z => (z.2.1 (ix2 r s) : EReal)) (outsAt0_B m c t h0)
      dsimp only at e
      rw [outB14] at e
      exact e
  exact e.trans ((pay13_at _ _ _ _ _ r s).trans (congrArg₂ (fun u v : EReal => u * v)
    (conv3_congr (taps_at m c t s) (ee_row m c 17 (by decide) 2 rfl _ t r s) (ee_row m c 16 (by decide) 1 rfl _ t r s) (ee_row m c 15 (by decide) 0 rfl _ t r s))
    (join8 m c t _ s (row t r) (show 256 * t.val + r.val + 16 = 256 * t.val + (16 + r.val) by omega))))

theorem out15_at (t : Fin cfg0.N) (r : Fin 256) (s : Fin 768) :
    (dats m 0 c).after 15 t (ix2 r s) = G15 (A0 m c) (A1 m c) (A2 m c) (A3 m c) (A4 m c) (ix2 (row t r) s) := by
  rw [after0_15]
  have e : ((outsAt0 m c t.val t.isLt).2.2.1 (ix2 r s) : EReal)
      = k0_pay14 (F := Ideal) (k0_pay6 (iblk m c 6 t) (iblk m c 7 t) (iblk m c 8 t)) (iblk m c 12 t) (high (EE m c t)) (mid (EE m c t)) (low (EE m c t)) (ix2 r s) := by
    by_cases h0 : t.val % 64 = 0
    · have e := congrArg (fun z => (z.2.2.1 (ix2 r s) : EReal)) (outsAt0_A m c t h0)
      dsimp only at e
      rw [outA15] at e
      exact e
    · have e := congrArg (fun z => (z.2.2.1 (ix2 r s) : EReal)) (outsAt0_B m c t h0)
      dsimp only at e
      rw [outB15] at e
      exact e
  exact e.trans ((pay14_at _ _ _ _ _ r s).trans (congrArg₂ (fun u v : EReal => u * v)
    (conv3_congr (taps_at m c t s) (ee_row m c 17 (by decide) 2 rfl _ t r s) (ee_row m c 16 (by decide) 1 rfl _ t r s) (ee_row m c 15 (by decide) 0 rfl _ t r s))
    (join6 m c t _ s (row t r) (show 256 * t.val + r.val + 16 = 256 * t.val + (16 + r.val) by omega))))

/-- A point's share of the taps' gradient. -/
def T (t : Fin cfg0.N) (j : Fin 8) (s : Fin 768) : EReal :=
  if j.val < 3 then ∑ r : Fin 256, pd (pr (A0 m c) (A1 m c) s) ((row t r).val + 1) * pd (pr (A2 m c) (A3 m c) s) ((row t r).val + j.val) else 0

theorem old_at (k : ℕ) (inb) (o : Vec Ideal S8x768 .f32) (j : Fin 8) (hj : j.val = k) (s : Fin 768) :
    View.ld (Val := Elt Ideal) (e' := .f32) o (Rect.unit (s := S8x768) ![k, 0] S1x768.size inb) (ix2 (0 : Fin 1) s) = o (ix2 j s) := by
  refine congrArg o (funext fun a => Fin.ext ?_)
  match a with
  | ⟨0, _⟩ => show k + 1 * 0 = j.val; omega
  | ⟨1, _⟩ => show 0 + 1 * s.val = s.val; omega

theorem step (t : Fin cfg0.N) (j : Fin 8) (s : Fin 768) (o : Vec Ideal S8x768 .f32) :
    (if j.val = 0 then k0_pay16 (F := Ideal) (mid (EE m c t)) (r0 o) (low (UU m c t)) (ix2 (0 : Fin 1) s) else if j.val = 1 then k0_pay1 (F := Ideal) (mid (EE m c t)) (r1 o) (mid (UU m c t)) (ix2 (0 : Fin 1) s)
      else if j.val = 2 then k0_pay2 (F := Ideal) (mid (EE m c t)) (r2 o) (high (UU m c t)) (ix2 (0 : Fin 1) s) else o (ix2 j s)) = (o (ix2 j s) + T m c t j s : EReal) := by
  unfold T
  by_cases h0 : j.val = 0
  · rw [if_pos h0, if_pos (by omega), pay16_at]
    exact congrArg₂ (fun u v : EReal => u + v) (old_at 0 _ o j h0 s) (Finset.sum_congr rfl fun r _ =>
      congrArg₂ (fun u v : EReal => u * v) (ee_row m c 16 (by decide) 1 rfl _ t r s) (uu_row m c 15 (by decide) j.val (by omega) _ t r s))
  by_cases h1 : j.val = 1
  · rw [if_neg h0, if_pos h1, if_pos (by omega), pay1_at]
    exact congrArg₂ (fun u v : EReal => u + v) (old_at 1 _ o j h1 s) (Finset.sum_congr rfl fun r _ =>
      congrArg₂ (fun u v : EReal => u * v) (ee_row m c 16 (by decide) 1 rfl _ t r s) (uu_row m c 16 (by decide) j.val (by omega) _ t r s))
  by_cases h2 : j.val = 2
  · rw [if_neg h0, if_neg h1, if_pos h2, if_pos (by omega), pay2_at]
    exact congrArg₂ (fun u v : EReal => u + v) (old_at 2 _ o j h2 s) (Finset.sum_congr rfl fun r _ =>
      congrArg₂ (fun u v : EReal => u * v) (ee_row m c 16 (by decide) 1 rfl _ t r s) (uu_row m c 17 (by decide) j.val (by omega) _ t r s))
  · rw [if_neg h0, if_neg h1, if_neg h2, if_neg (by omega), add_zero]

def P (j : Fin 8) (s : Fin 768) (n : ℕ) : EReal := if h : n < cfg0.N then T m c ⟨n, h⟩ j s else 0

theorem acc_eq (j : Fin 8) (s : Fin 768) (n : ℕ) (h : n < cfg0.N) :
    (outsAt0 m c n h).2.2.2 (ix2 j s) = ∑ k ∈ Finset.range (n % 64 + 1), P m c j s (n / 64 * 64 + k) := by
  refine acc_sum 64 (by decide) (fun n h => ((outsAt0 m c n h).2.2.2 (ix2 j s) : EReal)) (P m c j s) (fun n h h0 => ?_) (fun n h h0 => ?_) n h
  · have e := congrArg (fun z => (z.2.2.2 (ix2 j s) : EReal)) (outsAt0_A m c ⟨n, h⟩ h0)
    refine e.trans ?_
    dsimp only
    rw [outA16, P, dif_pos h]
    exact (step m c ⟨n, h⟩ j s _).trans (congrArg (fun z : EReal => z + T m c ⟨n, h⟩ j s) Ideal.ofBits_zero_f32)
  · have e := congrArg (fun z => (z.2.2.2 (ix2 j s) : EReal)) (outsAt0_B m c ⟨n, h⟩ h0)
    refine e.trans ?_
    dsimp only
    rw [outB16, P, dif_pos h]
    exact step m c ⟨n, h⟩ j s _

theorem tiles (j : Fin 8) (s : Fin 768) : ∑ k ∈ Finset.range 64, P m c j s (0 / 64 * 64 + k) = G16 (A0 m c) (A1 m c) (A2 m c) (A3 m c) (ix2 j s) := by
  have hP (n : Fin 64) : P m c j s (0 / 64 * 64 + n.val) = T m c ⟨n.val, lt_of_lt_of_eq (b := 64) n.isLt N_0.symm⟩ j s := by
    rw [show 0 / 64 * 64 + n.val = n.val by omega, P, dif_pos]
  show _ = if j.val < 3 then tap (A0 m c) (A1 m c) (A2 m c) (A3 m c) s j.val else (0 : EReal)
  by_cases hj : j.val < 3
  · rw [if_pos hj]
    refine sum_tiles (L := 64) (B := 256) rfl (fun a : Fin 16384 => (pd (pr (A0 m c) (A1 m c) s) (a.val + 1) * pd (pr (A2 m c) (A3 m c) s) (a.val + j.val) : EReal)) (fun k => P m c j s (0 / 64 * 64 + k)) fun n => ?_
    refine (hP n).trans ?_
    rw [T, if_pos hj]
    rfl
  · rw [if_neg hj, Finset.sum_range]
    exact Finset.sum_eq_zero fun n _ => (hP n).trans (by rw [T, if_neg hj])

theorem out16_at (t : Fin cfg0.N) (ht : t.val % 64 = 63) (j : Fin 8) (s : Fin 768) :
    (dats m 0 c).after 16 t (ix2 j s) = G16 (A0 m c) (A1 m c) (A2 m c) (A3 m c) (ix2 j s) := by
  rw [after0_16]
  refine (acc_eq m c j s t.val t.isLt).trans (Eq.trans ?_ (tiles m c j s))
  rw [ht, show t.val / 64 = 0 / 64 by have := lt64 t.isLt; omega]

theorem final13 : (dats m 0 c).arrAt 13 cfg0.N = G13 (A0 m c) (A1 m c) (A2 m c) (A3 m c) (A4 m c) :=
  Dat.arrAt_eq_of_covers _ 13 _ (by decide +kernel) fun t hf y => by
    show (dats m 0 c).after 13 t y = G13 (A0 m c) (A1 m c) (A2 m c) (A3 m c) (A4 m c) ((win0_13.rect t).emb y)
    have e : y = ix2 (y 0) (y 1) := idx2 y
    refine (congrArg _ e).trans ((out13_at m c t (y 0) (y 1)).trans (congrArg (G13 (A0 m c) (A1 m c) (A2 m c) (A3 m c) (A4 m c)) ?_))
    exact (emb13 t (y 0) (y 1)).symm.trans (congrArg (fun z => (win0_13.rect t).emb z) e.symm)

theorem final14 : (dats m 0 c).arrAt 14 cfg0.N = G14 (A0 m c) (A1 m c) (A2 m c) (A3 m c) (A4 m c) :=
  Dat.arrAt_eq_of_covers _ 14 _ (by decide +kernel) fun t hf y => by
    show (dats m 0 c).after 14 t y = G14 (A0 m c) (A1 m c) (A2 m c) (A3 m c) (A4 m c) ((win0_14.rect t).emb y)
    have e : y = ix2 (y 0) (y 1) := idx2 y
    refine (congrArg _ e).trans ((out14_at m c t (y 0) (y 1)).trans (congrArg (G14 (A0 m c) (A1 m c) (A2 m c) (A3 m c) (A4 m c)) ?_))
    exact (emb14 t (y 0) (y 1)).symm.trans (congrArg (fun z => (win0_14.rect t).emb z) e.symm)

theorem final15 : (dats m 0 c).arrAt 15 cfg0.N = G15 (A0 m c) (A1 m c) (A2 m c) (A3 m c) (A4 m c) :=
  Dat.arrAt_eq_of_covers _ 15 _ (by decide +kernel) fun t hf y => by
    show (dats m 0 c).after 15 t y = G15 (A0 m c) (A1 m c) (A2 m c) (A3 m c) (A4 m c) ((win0_15.rect t).emb y)
    have e : y = ix2 (y 0) (y 1) := idx2 y
    refine (congrArg _ e).trans ((out15_at m c t (y 0) (y 1)).trans (congrArg (G15 (A0 m c) (A1 m c) (A2 m c) (A3 m c) (A4 m c)) ?_))
    exact (emb15 t (y 0) (y 1)).symm.trans (congrArg (fun z => (win0_15.rect t).emb z) e.symm)

theorem final16 : (dats m 0 c).arrAt 16 cfg0.N = G16 (A0 m c) (A1 m c) (A2 m c) (A3 m c) :=
  Dat.arrAt_eq_of_covers _ 16 _ (by decide +kernel) fun t hf y => by
    show (dats m 0 c).after 16 t y = G16 (A0 m c) (A1 m c) (A2 m c) (A3 m c) ((win0_16.rect t).emb y)
    have e : y = ix2 (y 0) (y 1) := idx2 y
    refine (congrArg _ e).trans ((out16_at m c t ((flush0_16 t).mp hf) (y 0) (y 1)).trans (congrArg (G16 (A0 m c) (A1 m c) (A2 m c) (A3 m c)) ?_))
    exact (emb16 t (y 0) (y 1)).symm.trans (congrArg (fun z => (win0_16.rect t).emb z) e.symm)

end Cert.SconvIdeal.Hand

namespace Cert.Proof

open Idealize.ShloMosaic Idealize.SL.Sem Idealize.ShloMosaic.ValueIdx Cert.Ffn
open Cert.SconvRefIdeal (S16384x768 S16386x768 S3x768 S8x768 S1x768 S5x768 S_)
open Cert.SconvIdeal.Hand (pd pr conv3 fwd bwd tap G13 G14 G15 G16)
open Cert.SconvRefIdeal.Read

theorem pd_zero (f : Fin 16384 → EReal) {k : ℕ} (h : ¬(1 ≤ k ∧ k ≤ 16384)) : pd f k = 0 := dif_neg h
theorem pd_succ (f : Fin 16384 → EReal) (a : Fin 16384) {k : ℕ} (h : k = a.val + 1) : pd f k = f a := by
  subst h
  exact (dif_pos ⟨Nat.le_add_left 1 a.val, a.isLt⟩).trans rfl
theorem pd_mul (f : Fin 16384 → EReal) (w : EReal) (k : ℕ) : pd (fun p => f p * w) k = pd f k * w := by
  unfold pd
  split
  · rfl
  · exact (zero_mul w).symm

/-- A column with a zero put before and after it. -/
theorem ref_sconv_cat (x y : FVec Ideal S16384x768 .bf16) (k : Fin 16386) (s : Fin 768) : val_main_v6 (F := Ideal) x y (ix2 k s) = pd (pr x y s) k.val := by
  have off (n : ℕ) (b : Fin 2) (hb : b ≠ 0) (q : Fin n) : ((ix2 q s : (⟨2, ![n, 768]⟩ : Shape).Idx) b).val = ((ix2 k s : S16386x768.Idx) b).val := by
    match b with
    | ⟨0, _⟩ => exact absurd rfl hb
    | ⟨1, _⟩ => rfl
  have hk := k.isLt
  unfold val_main_v6
  by_cases h0 : k.val < 1
  · rw [pd_zero _ (by omega)]
    refine (concatenate_apply_piece (t := S16386x768) 0 [⟨S1x768, val_main_v5 (F := Ideal)⟩, ⟨S16384x768, val_main_v4 (F := Ideal) x y⟩, ⟨S1x768, val_main_v5 (F := Ideal)⟩] _ (ix2 k s) 0 (show 0 < 3 by decide) S1x768 _ rfl rfl 0 rfl (ix2 (⟨k.val, h0⟩ : Fin 1) s) (fun b hb => off 1 b hb _) (Nat.zero_add _)).trans ?_
    rw [val_main_v5_apply]
    exact Ideal.ofBits_zero_f32
  by_cases h1 : k.val < 16385
  · rw [pd_succ _ (⟨k.val - 1, by omega⟩ : Fin 16384) (show k.val = k.val - 1 + 1 by omega)]
    exact concatenate_apply_piece (t := S16386x768) 0 [⟨S1x768, val_main_v5 (F := Ideal)⟩, ⟨S16384x768, val_main_v4 (F := Ideal) x y⟩, ⟨S1x768, val_main_v5 (F := Ideal)⟩] _ (ix2 k s) 1 (show 1 < 3 by decide) S16384x768 (val_main_v4 (F := Ideal) x y) rfl rfl 1 rfl (ix2 (⟨k.val - 1, by omega⟩ : Fin 16384) s) (fun b hb => off 16384 b hb _)
      (show 1 + (k.val - 1) = k.val by omega)
  · rw [pd_zero _ (by omega)]
    refine (concatenate_apply_piece (t := S16386x768) 0 [⟨S1x768, val_main_v5 (F := Ideal)⟩, ⟨S16384x768, val_main_v4 (F := Ideal) x y⟩, ⟨S1x768, val_main_v5 (F := Ideal)⟩] _ (ix2 k s) 2 (show 2 < 3 by decide) S1x768 _ rfl rfl 16385 rfl (ix2 (⟨k.val - 16385, by omega⟩ : Fin 1) s) (fun b hb => off 1 b hb _)
      (show 16385 + (k.val - 16385) = k.val by omega)).trans ?_
    rw [val_main_v5_apply]
    exact Ideal.ofBits_zero_f32

theorem ref_sconv_shift (x y : FVec Ideal S16384x768 .bf16) (i : S16384x768.Idx) (o : ℕ) (J : S16386x768.Idx) (h0 : (J 0).val = o + (i 0).val) (h1 : (J 1).val = (i 1).val) :
    val_main_v6 (F := Ideal) x y J = pd (pr x y (i 1)) ((i 0).val + o) := by
  have e : J = ix2 (J 0) (i 1) := funext fun a => by
    match a with
    | ⟨0, _⟩ => rfl
    | ⟨1, _⟩ => exact Fin.ext h1
  exact (congrArg (val_main_v6 (F := Ideal) x y) e).trans ((ref_sconv_cat x y (J 0) (i 1)).trans (congrArg (pd _) (h0.trans (Nat.add_comm _ _))))

theorem ref_sconv_s0 (x y : FVec Ideal S16384x768 .bf16) (i : S16384x768.Idx) : val_main_v9 (F := Ideal) x y i = pd (pr x y (i 1)) ((i 0).val + 0) := by
  rw [val_main_v9_apply]
  exact ref_sconv_shift x y i 0 _ (Nat.zero_add _).symm rfl
theorem ref_sconv_s1 (x y : FVec Ideal S16384x768 .bf16) (i : S16384x768.Idx) : val_main_v17 (F := Ideal) x y i = pd (pr x y (i 1)) ((i 0).val + 1) := by
  rw [val_main_v17_apply]
  exact ref_sconv_shift x y i 1 _ rfl rfl
theorem ref_sconv_s2 (x y : FVec Ideal S16384x768 .bf16) (i : S16384x768.Idx) : val_main_v24 (F := Ideal) x y i = pd (pr x y (i 1)) ((i 0).val + 2) := by
  rw [val_main_v24_apply]
  exact ref_sconv_shift x y i 2 _ rfl rfl

theorem ref_sconv_tapi (j : Fin 3) (J : S3x768.Idx) (s : Fin 768) (h0 : (J 0).val = j.val) (h1 : (J 1).val = s.val % 768) : J = ix2 j s := funext fun a => by
  match a with
  | ⟨0, _⟩ => exact Fin.ext h0
  | ⟨1, _⟩ => exact Fin.ext (h1.trans (Nat.mod_eq_of_lt s.isLt))

theorem ref_sconv_w0 (W : FVec Ideal S3x768 .f32) (i : S1x768.Idx) : val_main_v12 (F := Ideal) W i = W (ix2 (0 : Fin 3) (i 1)) := by
  rw [val_main_v12_apply, val_main_v11_apply, val_main_v10_apply]
  exact congrArg W (ref_sconv_tapi 0 _ (i 1) rfl rfl)
theorem ref_sconv_w1 (W : FVec Ideal S3x768 .f32) (i : S1x768.Idx) : val_main_v20 (F := Ideal) W i = W (ix2 (1 : Fin 3) (i 1)) := by
  rw [val_main_v20_apply, val_main_v19_apply, val_main_v18_apply]
  exact congrArg W (ref_sconv_tapi 1 _ (i 1) rfl rfl)
theorem ref_sconv_w2 (W : FVec Ideal S3x768 .f32) (i : S1x768.Idx) : val_main_v27 (F := Ideal) W i = W (ix2 (2 : Fin 3) (i 1)) := by
  rw [val_main_v27_apply, val_main_v26_apply, val_main_v25_apply]
  exact congrArg W (ref_sconv_tapi 2 _ (i 1) rfl rfl)

theorem ref_sconv_conv (x y : FVec Ideal S16384x768 .bf16) (W : FVec Ideal S3x768 .f32) (i : S16384x768.Idx) : val_main_v30 (F := Ideal) x y W i = fwd W (pr x y (i 1)) (i 1) (i 0).val := by
  rw [val_main_v30_apply, val_main_v29_apply, val_main_v28_apply, val_main_v23_apply, val_main_v22_apply, val_main_v21_apply, val_main_v16_apply, val_main_v15_apply, val_main_v14_apply, val_main_v13_apply,
    ref_sconv_s0, ref_sconv_s1, ref_sconv_s2, ref_sconv_w0, ref_sconv_w1, ref_sconv_w2]
  exact congrArg (fun z : EReal => z + pd (pr x y (i 1)) ((i 0).val + 1) * W (ix2 (1 : Fin 3) (i 1)) + pd (pr x y (i 1)) ((i 0).val + 2) * W (ix2 (2 : Fin 3) (i 1)))
    ((congrArg (fun z : EReal => z + pd (pr x y (i 1)) ((i 0).val + 0) * W (ix2 (0 : Fin 3) (i 1))) Ideal.ofBits_zero_f32).trans (zero_add _))

theorem ref_sconv_dbg (d b cg h : FVec Ideal S16384x768 .bf16) (W : FVec Ideal S3x768 .f32) : val_main_v71 (F := Ideal) d cg h W = G13 d b cg h W := by
  funext i
  rw [val_main_v71_apply, val_main_v33_apply, ref_sconv_conv, val_main_v0_apply]
  exact mul_comm _ _

theorem ref_sconv_e (d b : FVec Ideal S16384x768 .bf16) (i : S16384x768.Idx) : val_main_v32 (F := Ideal) d b i = pr d b (i 1) (i 0) := by
  rw [val_main_v32_apply, val_main_v0_apply, val_main_v1_apply]
  have e0 : ix2 (i 0) (i 1) = i := (idx2 i).symm
  exact (congrArg (fun j => (b j * d j : EReal)) e0.symm).trans (mul_comm _ _)

/-- A column moved by some rows in a longer array. -/
theorem ref_sconv_pad (l u : ℕ) (X : FVec Ideal S16384x768 .f32) (v : FVec Ideal S_ .f32) (hv : ∀ j, v j = (0 : EReal)) (h hu) (k : Fin 16386) (s : Fin 768) :
    pad S16386x768 ![l, 0] ![u, 0] ![0, 0] X v h hu (ix2 k s) = pd (fun p => X (ix2 p s)) (k.val + 1 - l) := by
  by_cases hk : l ≤ k.val ∧ k.val - l < 16384
  · rw [pd_succ _ (⟨k.val - l, hk.2⟩ : Fin 16384) (show k.val + 1 - l = k.val - l + 1 by omega)]
    refine pad_apply_of_inside _ _ _ X v h hu (ix2 k s) (ix2 (⟨k.val - l, hk.2⟩ : Fin 16384) s) fun a => ?_
    match a with
    | ⟨0, _⟩ => show k.val = l + (k.val - l) * (0 + 1); omega
    | ⟨1, _⟩ => show s.val = 0 + s.val * (0 + 1); omega
  · rw [pd_zero _ (by omega)]
    exact (pad_apply_of_not_inside _ _ _ X v h hu (ix2 k s) 0 fun hin => hk ⟨hin.1, by
      have e : (k.val - l) / (0 + 1) < 16384 := hin.2.2
      rwa [Nat.zero_add, Nat.div_one] at e⟩).trans (hv _)

/-- A row put at a place among three. -/
theorem ref_sconv_pad3 (l u : ℕ) (X : FVec Ideal S1x768 .f32) (v : FVec Ideal S_ .f32) (hv : ∀ j, v j = (0 : EReal)) (h hu) (k : Fin 3) (s : Fin 768) :
    pad S3x768 ![l, 0] ![u, 0] ![0, 0] X v h hu (ix2 k s) = if k.val = l then X (ix2 (0 : Fin 1) s) else (0 : EReal) := by
  by_cases hk : k.val = l
  · rw [if_pos hk]
    refine pad_apply_of_inside _ _ _ X v h hu (ix2 k s) (ix2 (0 : Fin 1) s) fun a => ?_
    match a with
    | ⟨0, _⟩ => show k.val = l + 0 * (0 + 1); omega
    | ⟨1, _⟩ => show s.val = 0 + s.val * (0 + 1); omega
  · rw [if_neg hk]
    exact (pad_apply_of_not_inside _ _ _ X v h hu (ix2 k s) 0 fun hin => hk (by
      have e : (k.val - l) / (0 + 1) < 1 := hin.2.2
      have e' : l ≤ k.val := hin.1
      omega)).trans (hv _)

theorem ref_sconv_padw (l u : ℕ) (d b : FVec Ideal S16384x768 .bf16) (X : FVec Ideal S16384x768 .f32) (w : EReal) (s : Fin 768) (hX : ∀ p, X (ix2 p s) = (pr d b s p * w : EReal)) (v : FVec Ideal S_ .f32) (hv : ∀ j, v j = (0 : EReal)) (h hu)
    (k : Fin 16386) : pad S16386x768 ![l, 0] ![u, 0] ![0, 0] X v h hu (ix2 k s) = (pd (pr d b s) (k.val + 1 - l) * w : EReal) := by
  rw [ref_sconv_pad l u X v hv h hu k s, show (fun p => X (ix2 p s)) = fun p => (pr d b s p * w : EReal) from funext hX, pd_mul]

theorem ref_sconv_sum3 (d b : FVec Ideal S16384x768 .bf16) (W : FVec Ideal S3x768 .f32) (a : Fin 16384) (s : Fin 768) : val_main_v64 (F := Ideal) d b W (ix2 (⟨1 + a.val, by omega⟩ : Fin 16386) s) = bwd W (pr d b s) s a.val := by
  rw [val_main_v64_apply, val_main_v53_apply]
  unfold val_main_v42 val_main_v52 val_main_v63
  rw [ref_sconv_padw 2 0 d b _ (W (ix2 (2 : Fin 3) s)) s (fun p => by rw [val_main_v38_apply, val_main_v37_apply, ref_sconv_e d b (ix2 p s), ref_sconv_w2]; rfl) (val_main_cst_6 (F := Ideal)) (fun _ => Ideal.ofBits_zero_f32),
    ref_sconv_padw 1 1 d b _ (W (ix2 (1 : Fin 3) s)) s (fun p => by rw [val_main_v47_apply, val_main_v46_apply, ref_sconv_e d b (ix2 p s), ref_sconv_w1]; rfl) (val_main_cst_10 (F := Ideal)) (fun _ => Ideal.ofBits_zero_f32),
    ref_sconv_padw 0 2 d b _ (W (ix2 (0 : Fin 3) s)) s (fun p => by rw [val_main_v58_apply, val_main_v57_apply, ref_sconv_e d b (ix2 p s), ref_sconv_w0]; rfl) (val_main_cst_14 (F := Ideal)) (fun _ => Ideal.ofBits_zero_f32)]
  unfold bwd conv3
  have h2 : 1 + a.val + 1 - 2 = a.val + 0 := by omega
  have h1 : 1 + a.val + 1 - 1 = a.val + 1 := by omega
  have h0 : 1 + a.val + 1 - 0 = a.val + 2 := by omega
  have sw (x y z : EReal) : x + y + z = z + y + x := by rw [add_comm x y, add_comm (y + x), add_assoc]
  refine Eq.trans ?_ (sw _ _ _)
  show (pd _ (1 + a.val + 1 - 2) * _ + pd _ (1 + a.val + 1 - 1) * _ + pd _ (1 + a.val + 1 - 0) * _ : EReal) = _
  rw [h2, h1, h0]

theorem ref_sconv_back (d b : FVec Ideal S16384x768 .bf16) (W : FVec Ideal S3x768 .f32) (i : S16384x768.Idx) : val_main_v66 (F := Ideal) d b W i = bwd W (pr d b (i 1)) (i 1) (i 0).val := by
  rw [val_main_v66_apply]
  refine (congrArg (val_main_v64 (F := Ideal) d b W) (funext fun a => ?_)).trans (ref_sconv_sum3 d b W (i 0) (i 1))
  match a with
  | ⟨0, _⟩ => rfl
  | ⟨1, _⟩ => rfl

theorem ref_sconv_dcg (d b cg h : FVec Ideal S16384x768 .bf16) (W : FVec Ideal S3x768 .f32) : val_main_v72 (F := Ideal) d b h W = G14 d b cg h W := by
  funext i
  rw [val_main_v72_apply, val_main_v69_apply, ref_sconv_back, val_main_v3_apply]
  rfl

theorem ref_sconv_dhx (d b cg h : FVec Ideal S16384x768 .bf16) (W : FVec Ideal S3x768 .f32) : val_main_v73 (F := Ideal) d b cg W = G15 d b cg h W := by
  funext i
  rw [val_main_v73_apply, val_main_v68_apply, ref_sconv_back, val_main_v2_apply]
  exact mul_comm _ _

theorem ref_sconv_row (i : S1x768.Idx) (z : Fin 1) (a : Fin 16384) : idx_main_v35 (idx_main_v36 (idx_main_v39 (idx_main_v40 i) z)) a = ix2 a (i 1) := by
  have h (p q : ℕ) (hp : p < 1) : p * 768 + q = q := by omega
  funext b
  match b with
  | ⟨0, _⟩ => rfl
  | ⟨1, _⟩ => exact Fin.ext (h z.val (i 1).val z.isLt)

/-- A sum over the rows, summed again over one row. -/
theorem ref_sconv_sum (x : EReal) (f : Fin 1 → EReal) (g : Fin 16384 → EReal) (j : ℕ) (d b cg h : FVec Ideal S16384x768 .bf16) (s : Fin 768) (hf : f 0 = x + ∑ a, g a) (hx : x = 0)
    (hg : ∀ a, g a = pd (pr cg h s) (a.val + j) * pr d b s a) : x + ∑ z, f z = tap d b cg h s j := by
  rw [Fin.sum_univ_one, hf, hx, zero_add, zero_add]
  exact Finset.sum_congr rfl fun a _ => by rw [hg, pd_succ _ a rfl, mul_comm]

theorem ref_sconv_d2 (d b cg h : FVec Ideal S16384x768 .bf16) (i : S1x768.Idx) : val_main_v40 (F := Ideal) d b cg h i = tap d b cg h (i 1) 2 := by
  rw [val_main_v40_apply, val_main_v39_apply]
  refine ref_sconv_sum _ _ (fun a => val_main_v34 (F := Ideal) d b cg h (ix2 a (i 1))) 2 d b cg h (i 1) ?_ Ideal.ofBits_zero_f32 fun a => by rw [val_main_v34_apply, ref_sconv_s2, ref_sconv_e]; rfl
  rw [val_main_v36_apply, val_main_v35_apply]
  exact congrArg (fun z : EReal => Ideal.ofBits .f32 0x00000000#32 + z) (Finset.sum_congr rfl fun a _ => congrArg (val_main_v34 (F := Ideal) d b cg h) (ref_sconv_row i 0 a))
theorem ref_sconv_d1 (d b cg h : FVec Ideal S16384x768 .bf16) (i : S1x768.Idx) : val_main_v49 (F := Ideal) d b cg h i = tap d b cg h (i 1) 1 := by
  rw [val_main_v49_apply, val_main_v48_apply]
  refine ref_sconv_sum _ _ (fun a => val_main_v43 (F := Ideal) d b cg h (ix2 a (i 1))) 1 d b cg h (i 1) ?_ Ideal.ofBits_zero_f32 fun a => by rw [val_main_v43_apply, ref_sconv_s1, ref_sconv_e]; rfl
  rw [val_main_v45_apply, val_main_v44_apply]
  exact congrArg (fun z : EReal => Ideal.ofBits .f32 0x00000000#32 + z) (Finset.sum_congr rfl fun a _ => congrArg (val_main_v43 (F := Ideal) d b cg h) (ref_sconv_row i 0 a))
theorem ref_sconv_d0 (d b cg h : FVec Ideal S16384x768 .bf16) (i : S1x768.Idx) : val_main_v60 (F := Ideal) d b cg h i = tap d b cg h (i 1) 0 := by
  rw [val_main_v60_apply, val_main_v59_apply]
  refine ref_sconv_sum _ _ (fun a => val_main_v54 (F := Ideal) d b cg h (ix2 a (i 1))) 0 d b cg h (i 1) ?_ Ideal.ofBits_zero_f32 fun a => by rw [val_main_v54_apply, ref_sconv_s0, ref_sconv_e]; rfl
  rw [val_main_v56_apply, val_main_v55_apply]
  exact congrArg (fun z : EReal => Ideal.ofBits .f32 0x00000000#32 + z) (Finset.sum_congr rfl fun a _ => congrArg (val_main_v54 (F := Ideal) d b cg h) (ref_sconv_row i 0 a))

theorem ref_sconv_taps (d b cg h : FVec Ideal S16384x768 .bf16) (j : Fin 3) (s : Fin 768) : val_main_v62 (F := Ideal) d b cg h (ix2 j s) = tap d b cg h s j.val := by
  rw [val_main_v62_apply, val_main_v51_apply]
  unfold val_main_v41 val_main_v50 val_main_v61
  rw [ref_sconv_pad3 2 0 _ (val_main_cst_5 (F := Ideal)) (fun _ => Ideal.ofBits_zero_f32), ref_sconv_pad3 1 1 _ (val_main_cst_9 (F := Ideal)) (fun _ => Ideal.ofBits_zero_f32), ref_sconv_pad3 0 2 _ (val_main_cst_13 (F := Ideal)) (fun _ => Ideal.ofBits_zero_f32), ref_sconv_d2, ref_sconv_d1, ref_sconv_d0]
  match j with
  | ⟨0, _⟩ => exact (congrArg (fun z : EReal => z + tap d b cg h s 0) (zero_add 0)).trans (zero_add _)
  | ⟨1, _⟩ => exact (add_zero (0 + tap d b cg h s 1)).trans (zero_add _)
  | ⟨2, _⟩ => exact (add_zero (tap d b cg h s 2 + 0)).trans (add_zero _)

theorem ref_sconv_dw (d b cg h : FVec Ideal S16384x768 .bf16) : val_main_v74 (F := Ideal) d b cg h = G16 d b cg h := by
  funext i
  have hi : (i 0).val < 8 := (i 0).isLt
  unfold val_main_v74 G16
  by_cases hj : (i 0).val < 3
  · rw [if_pos hj]
    refine (concatenate_pair_apply_left (t := S8x768) (s₁ := S3x768) (s₂ := S5x768) 0 (val_main_v62 (F := Ideal) d b cg h) _ _ i rfl (ix2 (⟨(i 0).val, hj⟩ : Fin 3) (i 1)) fun a => ?_).trans (ref_sconv_taps d b cg h _ _)
    match a with
    | ⟨0, _⟩ => rfl
    | ⟨1, _⟩ => rfl
  · rw [if_neg hj]
    refine (concatenate_pair_apply_right (t := S8x768) (s₁ := S3x768) (s₂ := S5x768) 0 _ (val_main_v70 (F := Ideal)) _ i rfl rfl (ix2 (⟨(i 0).val - 3, by omega⟩ : Fin 5) (i 1)) (fun a ha => ?_) (show (i 0).val - 3 + 3 = (i 0).val by omega)).trans ?_
    · match a with
      | ⟨0, _⟩ => exact absurd rfl ha
      | ⟨1, _⟩ => rfl
    · rw [val_main_v70_apply]
      exact Ideal.ofBits_zero_f32

theorem algebraic_sconv : algebraic_SconvIdeal_SconvRefIdeal := by
  intro m g m' g' _ hargs
  refine ⟨fun c => G13 (Cert.SconvIdeal.Hand.A0 m c) (Cert.SconvIdeal.Hand.A1 m c) (Cert.SconvIdeal.Hand.A2 m c) (Cert.SconvIdeal.Hand.A3 m c) (Cert.SconvIdeal.Hand.A4 m c),
    fun c => G14 (Cert.SconvIdeal.Hand.A0 m c) (Cert.SconvIdeal.Hand.A1 m c) (Cert.SconvIdeal.Hand.A2 m c) (Cert.SconvIdeal.Hand.A3 m c) (Cert.SconvIdeal.Hand.A4 m c),
    fun c => G15 (Cert.SconvIdeal.Hand.A0 m c) (Cert.SconvIdeal.Hand.A1 m c) (Cert.SconvIdeal.Hand.A2 m c) (Cert.SconvIdeal.Hand.A3 m c) (Cert.SconvIdeal.Hand.A4 m c),
    fun c => G16 (Cert.SconvIdeal.Hand.A0 m c) (Cert.SconvIdeal.Hand.A1 m c) (Cert.SconvIdeal.Hand.A2 m c) (Cert.SconvIdeal.Hand.A3 m c), ?_, ?_⟩
  · exact (θ_run Cert.SconvIdeal.defs _ _).mono (fun r h c => ⟨(h c).1.trans (Cert.SconvIdeal.Hand.final13 m c), (h c).2.1.trans (Cert.SconvIdeal.Hand.final14 m c), (h c).2.2.1.trans (Cert.SconvIdeal.Hand.final15 m c),
      (h c).2.2.2.1.trans (Cert.SconvIdeal.Hand.final16 m c), (h c).2.2.2.2⟩) (Cert.SconvIdeal.Value.run_blocks (F := Ideal) m g)
  · refine (θ_run Cert.SconvRefIdeal.defs _ _).mono (fun r h c => ⟨(h c).1.trans ?_, (h c).2.1.trans ?_, (h c).2.2.1.trans ?_, (h c).2.2.2.1.trans ?_, (h c).2.2.2.2⟩) (Cert.SconvRefIdeal.Value.run (F := Ideal) m' g')
    · rw [val_main_v71_eq, (hargs c).1, (hargs c).2.2.1, (hargs c).2.2.2.1, (hargs c).2.2.2.2]
      exact ref_sconv_dbg _ _ _ _ _
    · rw [val_main_v72_eq, (hargs c).1, (hargs c).2.1, (hargs c).2.2.2.1, (hargs c).2.2.2.2]
      exact ref_sconv_dcg _ _ _ _ _
    · rw [val_main_v73_eq, (hargs c).1, (hargs c).2.1, (hargs c).2.2.1, (hargs c).2.2.2.2]
      exact ref_sconv_dhx _ _ _ _ _
    · rw [val_main_v74_eq, (hargs c).1, (hargs c).2.1, (hargs c).2.2.1, (hargs c).2.2.2.1]
      exact ref_sconv_dw _ _ _ _

end Cert.Proof

end
-- ==== Proof.Prod.lean ====
module

public import proofs.«01_k».proof.Proof.Ffn

@[expose] public section

noncomputable section

/-! What the projections' calls share: the three products, one tile of each, and a product over the rows of both
    operands accumulated over sixteen row tiles. -/

namespace Cert.Ffn

open Idealize.ShloMosaic Idealize.ShloMosaic.ValueIdx

/-- x·w, x·wᵀ and xᵀ·y. -/
def mmN {M K N : ℕ} {φ₁ φ₂ φ : FTy} (x : FVec Ideal ⟨2, ![M, K]⟩ φ₁) (w : FVec Ideal ⟨2, ![K, N]⟩ φ₂) : FVec Ideal ⟨2, ![M, N]⟩ φ :=
  fun i => (∑ k : Fin K, x (ix2 (i 0) k) * w (ix2 k (i 1)) : EReal)
def mmT {M K N : ℕ} {φ₁ φ₂ φ : FTy} (x : FVec Ideal ⟨2, ![M, K]⟩ φ₁) (w : FVec Ideal ⟨2, ![N, K]⟩ φ₂) : FVec Ideal ⟨2, ![M, N]⟩ φ :=
  fun i => (∑ k : Fin K, x (ix2 (i 0) k) * w (ix2 (i 1) k) : EReal)
def mmR {M K N : ℕ} {φ₁ φ₂ φ : FTy} (x : FVec Ideal ⟨2, ![K, M]⟩ φ₁) (y : FVec Ideal ⟨2, ![K, N]⟩ φ₂) : FVec Ideal ⟨2, ![M, N]⟩ φ :=
  fun i => (∑ k : Fin K, x (ix2 k (i 0)) * y (ix2 k (i 1)) : EReal)

theorem tile_mmN {M K N : ℕ} (x : FVec Ideal ⟨2, ![M, K]⟩ .bf16) (w : FVec Ideal ⟨2, ![K, N]⟩ .bf16) (r : Fin M) (s : Fin N) :
    matmul (F := Ideal) (DotDims.plain M K N) none x w (constant ⟨2, ![M, N]⟩ .f32 0x00000000#32) (ix2 r s) = (∑ k : Fin K, x (ix2 r k) * w (ix2 k s) : EReal) :=
  (Ideal.matmul_plain_apply (φ₁ := .bf16) (φ₂ := .bf16) none x w (constant ⟨2, ![M, N]⟩ .f32 0x00000000#32) r s).trans (by rw [zero_at, zero_add])

theorem tile_mmT {M K N : ℕ} (x : FVec Ideal ⟨2, ![M, K]⟩ .bf16) (w : FVec Ideal ⟨2, ![N, K]⟩ .bf16) (r : Fin M) (s : Fin N) :
    matmul (F := Ideal) (DotDims.transposedRhs M K N) none x w (constant ⟨2, ![M, N]⟩ .f32 0x00000000#32) (ix2 r s) = (∑ k : Fin K, x (ix2 r k) * w (ix2 s k) : EReal) :=
  (Ideal.matmul_transposedRhs_apply (φ₁ := .bf16) (φ₂ := .bf16) none x w (constant ⟨2, ![M, N]⟩ .f32 0x00000000#32) r s).trans (by rw [zero_at, zero_add])

/-- The word of a grid coordinate. -/
theorem word_val {x : ℕ} (h : x < 4294967296) : (BitVec.ofNat 32 x).toNat = x := by
  rw [BitVec.toNat_ofNat]; exact Nat.mod_eq_of_lt h

/-- The accumulator after the last of a run of `L` points: `f` restarts at the run's first point and adds a point's tile
    at every point, and the run's tiles together are all `K` rows. -/
theorem acc_rows {N L B K : ℕ} (hL : 0 < L) (hK : L * B = K) (f : (n : ℕ) → n < N → EReal) (P : (n : ℕ) → n < N → EReal) (h : Fin K → EReal)
    (h0 : ∀ n hn, n % L = 0 → f n hn = 0 + P n hn)
    (hs : ∀ n hn, ¬n % L = 0 → f n hn = f (n - 1) (Nat.lt_of_le_of_lt (Nat.sub_le _ _) hn) + P n hn)
    (n : ℕ) (hn : n < N) (hl : n % L = L - 1)
    (hP : ∀ j (hj : j < L) (hu : n / L * L + j < N), P (n / L * L + j) hu = ∑ b : Fin B, h ⟨B * j + b.val, by
      have := Nat.mul_le_mul_left B hj; have := b.isLt; rw [← hK, Nat.mul_comm L]; rw [Nat.mul_succ] at *; omega⟩) :
    f n hn = ∑ k : Fin K, h k := by
  have hf := acc_sum L hL f (fun n => if hn : n < N then P n hn else 0)
    (fun n hn e => (h0 n hn e).trans (by rw [dif_pos hn])) (fun n hn e => (hs n hn e).trans (by rw [dif_pos hn])) n hn
  refine hf.trans ?_
  rw [hl, Nat.sub_add_cancel hL]
  refine sum_tiles hK h _ fun j => ?_
  have hu : n / L * L + j.val < N := by
    have := Nat.div_add_mod n L
    have := j.isLt
    rw [Nat.mul_comm]; omega
  rw [dif_pos hu]
  exact hP j.val j.isLt hu

end Cert.Ffn

end
-- ==== Proof.Zin.lean ====
module

public import proofs.«01_k».proof.Defs
public import proofs.«01_k».proof.Proof.Prod
public import proofs.«01_k».proof.Proof.Gen.ZinIdeal.Value
public import proofs.«01_k».proof.Proof.Gen.ZinRefIdeal.Run
public import proofs.«01_k».proof.Proof.Gen.ZinRefIdeal.Read
public import Idealize.ShloMosaic.Lib.Pipeline.ValueKit.Geometry

@[expose] public section

noncomputable section

/-! The dilated attention's projection: each point's block is a block of the whole product. -/

namespace Cert.ZinIdeal.Hand

open Cert.ZinIdeal Cert.ZinIdeal.Gen Cert.Ffn
open Idealize.ShloMosaic Idealize.ShloMosaic.TcCoe Idealize.SL.Sem
open Idealize.ShloMosaic.ValueIdx
open Idealize.ShloMosaic.Pipeline (Dat)

theorem out_pay {F : FTy → Type} [FloatOps F] (x0 : Vec F S1024x1024 .bf16) (x1 : Vec F S1024x256 .bf16) : out0_2 x0 x1 = k0_pay1 x0 x1 := by
  unfold out0_2
  rw [View.canon_unit_zero hz]
  simp only [View.ld_unit_zero (S := S1024x1024) hz, View.ld_unit_zero (S := S1024x256) hz]

theorem pay1_at (x0 : FVec Ideal S1024x1024 .bf16) (x1 : FVec Ideal S1024x256 .bf16) (r : Fin 1024) (s : Fin 256) :
    k0_pay1 (F := Ideal) x0 x1 (ix2 r s) = (∑ k : Fin 1024, x0 (ix2 r k) * x1 (ix2 k s) : EReal) :=
  tile_mmN x0 x1 r s

variable (m : (ℓ : Loc nD τ sig) → Buf (Elt Ideal) ℓ) (c : Dev nD)

theorem lt304 (t : Fin cfg0.N) : t.val < 304 := lt_of_lt_of_eq t.isLt N_0

theorem word0 (t : Fin cfg0.N) : (BitVec.ofNat 32 (grid0.coords t 0).val).toNat = t.val / 16 := by
  have := lt304 t
  rw [show (grid0.coords t 0).val = t.val / 16 % 19 from Pipeline.Grid.coords_val t 0 (by decide) rfl, word_val (by omega)]
  omega
theorem word1 (t : Fin cfg0.N) : (BitVec.ofNat 32 (grid0.coords t 1).val).toNat = t.val % 16 := by
  rw [show (grid0.coords t 1).val = t.val / 1 % 16 from Pipeline.Grid.coords_val t 1 (by decide) rfl, word_val (by omega)]
  omega
theorem word2 (t : Fin cfg0.N) : (BitVec.ofNat 32 (grid0.coords t 2).val).toNat = 0 := by
  rw [show (grid0.coords t 2).val = t.val / 1 % 1 from Pipeline.Grid.coords_val t 2 (by decide) rfl, word_val (by omega)]
  omega

/-- The row and the column of the result that a point's block's are. -/
def row (t : Fin cfg0.N) (r : Fin 1024) : Fin 16384 := ⟨1024 * (t.val % 16) + r.val, by omega⟩
def col (t : Fin cfg0.N) (s : Fin 256) : Fin 4864 := ⟨256 * (t.val / 16) + s.val, by have := lt304 t; omega⟩

theorem emb0 (t : Fin cfg0.N) (r k : Fin 1024) : (win0_0.rect t).emb (ix2 r k) = ix2 (row t r) k := by
  funext a; apply Fin.ext
  match a with
  | ⟨0, _⟩ => exact (win0_0.rect_emb_val t _ 0).trans (show (BitVec.ofNat 32 (grid0.coords t 1).val).toNat * 1024 + r.val = 1024 * (t.val % 16) + r.val by rw [word1]; omega)
  | ⟨1, _⟩ => exact (win0_0.rect_emb_val t _ 1).trans (show (BitVec.ofNat 32 (grid0.coords t 2).val).toNat * 1024 + k.val = k.val by rw [word2]; omega)
theorem emb1 (t : Fin cfg0.N) (k : Fin 1024) (s : Fin 256) : (win0_1.rect t).emb (ix2 k s) = ix2 k (col t s) := by
  funext a; apply Fin.ext
  match a with
  | ⟨0, _⟩ => exact (win0_1.rect_emb_val t _ 0).trans (show (BitVec.ofNat 32 (grid0.coords t 2).val).toNat * 1024 + k.val = k.val by rw [word2]; omega)
  | ⟨1, _⟩ => exact (win0_1.rect_emb_val t _ 1).trans (show (BitVec.ofNat 32 (grid0.coords t 0).val).toNat * 256 + s.val = 256 * (t.val / 16) + s.val by rw [word0]; omega)
theorem emb2 (t : Fin cfg0.N) (r : Fin 1024) (s : Fin 256) : (win0_2.rect t).emb (ix2 r s) = ix2 (row t r) (col t s) := by
  funext a; apply Fin.ext
  match a with
  | ⟨0, _⟩ => exact (win0_2.rect_emb_val t _ 0).trans (show (BitVec.ofNat 32 (grid0.coords t 1).val).toNat * 1024 + r.val = 1024 * (t.val % 16) + r.val by rw [word1]; omega)
  | ⟨1, _⟩ => exact (win0_2.rect_emb_val t _ 1).trans (show (BitVec.ofNat 32 (grid0.coords t 0).val).toNat * 256 + s.val = 256 * (t.val / 16) + s.val by rw [word0]; omega)

/-- The arguments. -/
abbrev A0 : FVec Ideal S16384x1024 .bf16 := m ((c.tc : Thread nD τ).loc main_arg0)
abbrev A1 : FVec Ideal S1024x4864 .bf16 := m ((c.tc : Thread nD τ).loc main_arg1)

/-- The result. -/
abbrev G (x : FVec Ideal S16384x1024 .bf16) (w : FVec Ideal S1024x4864 .bf16) : FVec Ideal S16384x4864 .bf16 := mmN x w

theorem out_at (t : Fin cfg0.N) (r : Fin 1024) (s : Fin 256) :
    (dats m 0 c).after 2 t (ix2 r s) = G (A0 m c) (A1 m c) (ix2 (row t r) (col t s)) := by
  rw [after0_2, out_pay]
  exact (pay1_at (iblk m c 0 t) (iblk m c 1 t) r s).trans (Finset.sum_congr rfl fun k _ =>
    congrArg₂ (fun u v : EReal => u * v) (congrArg (A0 m c) (emb0 t r k)) (congrArg (A1 m c) (emb1 t k s)))

theorem final : (dats m 0 c).arrAt 2 cfg0.N = G (A0 m c) (A1 m c) :=
  Dat.arrAt_eq_of_covers _ 2 _ (by decide +kernel) fun t _ y => by
    show (dats m 0 c).after 2 t y = G (A0 m c) (A1 m c) ((win0_2.rect t).emb y)
    have e : y = ix2 (y 0) (y 1) := idx2 y
    refine (congrArg _ e).trans ((out_at m c t (y 0) (y 1)).trans (congrArg (G (A0 m c) (A1 m c)) ?_))
    exact (emb2 t (y 0) (y 1)).symm.trans (congrArg (fun z => (win0_2.rect t).emb z) e.symm)

end Cert.ZinIdeal.Hand

namespace Cert.Proof

open Idealize.ShloMosaic Idealize.SL.Sem Idealize.ShloMosaic.ValueIdx Cert.Ffn

theorem ref_zin (x : FVec Ideal Cert.ZinRefIdeal.S16384x1024 .bf16) (w : FVec Ideal Cert.ZinRefIdeal.S1024x4864 .bf16) :
    Cert.ZinRefIdeal.Read.val_main_v3 (F := Ideal) x w = Cert.ZinIdeal.Hand.G x w := by
  funext i
  rw [Cert.ZinRefIdeal.Read.val_main_v3_apply, Cert.ZinRefIdeal.Read.val_main_v2_apply]
  refine Finset.sum_congr rfl fun k _ => congrArg₂ (fun u v : EReal => u * v) (congrArg x ?_) (congrArg w ?_)
  · exact funext fun a => Fin.ext (by match a with | ⟨0, _⟩ => rfl | ⟨1, _⟩ => rfl)
  · exact funext fun a => Fin.ext (by match a with | ⟨0, _⟩ => rfl | ⟨1, _⟩ => rfl)

theorem algebraic_zin : algebraic_ZinIdeal_ZinRefIdeal := by
  intro m g m' g' _ hargs
  refine ⟨fun c => Cert.ZinIdeal.Hand.G (Cert.ZinIdeal.Hand.A0 m c) (Cert.ZinIdeal.Hand.A1 m c), ?_, ?_⟩
  · exact (θ_run Cert.ZinIdeal.defs _ _).mono (fun r h c => ⟨(h c).1.trans (Cert.ZinIdeal.Hand.final m c), (h c).2⟩)
      (Cert.ZinIdeal.Value.run_blocks (F := Ideal) m g)
  · refine (θ_run Cert.ZinRefIdeal.defs _ _).mono (fun r h c => ⟨(h c).1.trans ?_, (h c).2⟩) (Cert.ZinRefIdeal.Value.run (F := Ideal) m' g')
    rw [(hargs c).1, (hargs c).2]
    exact (Cert.ZinRefIdeal.Read.val_main_v3_eq (F := Ideal) _ _).trans (ref_zin _ _)

end Cert.Proof

end
-- ==== Proof.Bout.lean ====
module

public import proofs.«01_k».proof.Defs
public import proofs.«01_k».proof.Proof.Prod
public import proofs.«01_k».proof.Proof.Gen.BoutIdeal.Value
public import proofs.«01_k».proof.Proof.Gen.BoutRefIdeal.Run
public import proofs.«01_k».proof.Proof.Gen.BoutRefIdeal.Read
public import Idealize.ShloMosaic.Lib.Pipeline.ValueKit.Geometry

@[expose] public section

noncomputable section

/-! The gradient of an output projection's input: each point's block is a block of the whole product. -/

namespace Cert.BoutIdeal.Hand

open Cert.BoutIdeal Cert.BoutIdeal.Gen Cert.Ffn
open Idealize.ShloMosaic Idealize.ShloMosaic.TcCoe Idealize.SL.Sem
open Idealize.ShloMosaic.ValueIdx
open Idealize.ShloMosaic.Pipeline (Dat)

theorem out_pay {F : FTy → Type} [FloatOps F] (x0 : Vec F S1024x1024 .bf16) (x1 : Vec F S256x1024 .bf16) : out0_2 x0 x1 = k0_pay1 x0 x1 := by
  unfold out0_2
  rw [View.canon_unit_zero hz]
  simp only [View.ld_unit_zero (S := S1024x1024) hz, View.ld_unit_zero (S := S256x1024) hz]

theorem pay1_at (x0 : FVec Ideal S1024x1024 .bf16) (x1 : FVec Ideal S256x1024 .bf16) (r : Fin 1024) (s : Fin 256) :
    k0_pay1 (F := Ideal) x0 x1 (ix2 r s) = (∑ k : Fin 1024, x0 (ix2 r k) * x1 (ix2 s k) : EReal) :=
  tile_mmT x0 x1 r s

variable (m : (ℓ : Loc nD τ sig) → Buf (Elt Ideal) ℓ) (c : Dev nD)

theorem lt64 (t : Fin cfg0.N) : t.val < 64 := lt_of_lt_of_eq t.isLt N_0

theorem word0 (t : Fin cfg0.N) : (BitVec.ofNat 32 (grid0.coords t 0).val).toNat = t.val / 16 := by
  have := lt64 t
  rw [show (grid0.coords t 0).val = t.val / 16 % 4 from Pipeline.Grid.coords_val t 0 (by decide) rfl, word_val (by omega)]
  omega
theorem word1 (t : Fin cfg0.N) : (BitVec.ofNat 32 (grid0.coords t 1).val).toNat = t.val % 16 := by
  rw [show (grid0.coords t 1).val = t.val / 1 % 16 from Pipeline.Grid.coords_val t 1 (by decide) rfl, word_val (by omega)]
  omega
theorem word2 (t : Fin cfg0.N) : (BitVec.ofNat 32 (grid0.coords t 2).val).toNat = 0 := by
  rw [show (grid0.coords t 2).val = t.val / 1 % 1 from Pipeline.Grid.coords_val t 2 (by decide) rfl, word_val (by omega)]
  omega

/-- The row and the column of the result that a point's block's are. -/
def row (t : Fin cfg0.N) (r : Fin 1024) : Fin 16384 := ⟨1024 * (t.val % 16) + r.val, by omega⟩
def col (t : Fin cfg0.N) (s : Fin 256) : Fin 1024 := ⟨256 * (t.val / 16) + s.val, by have := lt64 t; omega⟩

theorem emb0 (t : Fin cfg0.N) (r k : Fin 1024) : (win0_0.rect t).emb (ix2 r k) = ix2 (row t r) k := by
  funext a; apply Fin.ext
  match a with
  | ⟨0, _⟩ => exact (win0_0.rect_emb_val t _ 0).trans (show (BitVec.ofNat 32 (grid0.coords t 1).val).toNat * 1024 + r.val = 1024 * (t.val % 16) + r.val by rw [word1]; omega)
  | ⟨1, _⟩ => exact (win0_0.rect_emb_val t _ 1).trans (show (BitVec.ofNat 32 (grid0.coords t 2).val).toNat * 1024 + k.val = k.val by rw [word2]; omega)
theorem emb1 (t : Fin cfg0.N) (s : Fin 256) (k : Fin 1024) : (win0_1.rect t).emb (ix2 s k) = ix2 (col t s) k := by
  funext a; apply Fin.ext
  match a with
  | ⟨0, _⟩ => exact (win0_1.rect_emb_val t _ 0).trans (show (BitVec.ofNat 32 (grid0.coords t 0).val).toNat * 256 + s.val = 256 * (t.val / 16) + s.val by rw [word0]; omega)
  | ⟨1, _⟩ => exact (win0_1.rect_emb_val t _ 1).trans (show (BitVec.ofNat 32 (grid0.coords t 2).val).toNat * 1024 + k.val = k.val by rw [word2]; omega)
theorem emb2 (t : Fin cfg0.N) (r : Fin 1024) (s : Fin 256) : (win0_2.rect t).emb (ix2 r s) = ix2 (row t r) (col t s) := by
  funext a; apply Fin.ext
  match a with
  | ⟨0, _⟩ => exact (win0_2.rect_emb_val t _ 0).trans (show (BitVec.ofNat 32 (grid0.coords t 1).val).toNat * 1024 + r.val = 1024 * (t.val % 16) + r.val by rw [word1]; omega)
  | ⟨1, _⟩ => exact (win0_2.rect_emb_val t _ 1).trans (show (BitVec.ofNat 32 (grid0.coords t 0).val).toNat * 256 + s.val = 256 * (t.val / 16) + s.val by rw [word0]; omega)

/-- The arguments. -/
abbrev A0 : FVec Ideal S16384x1024 .bf16 := m ((c.tc : Thread nD τ).loc main_arg0)
abbrev A1 : FVec Ideal S1024x1024 .bf16 := m ((c.tc : Thread nD τ).loc main_arg1)

/-- The result. -/
abbrev G (x : FVec Ideal S16384x1024 .bf16) (w : FVec Ideal S1024x1024 .bf16) : FVec Ideal S16384x1024 .bf16 := mmT x w

theorem out_at (t : Fin cfg0.N) (r : Fin 1024) (s : Fin 256) :
    (dats m 0 c).after 2 t (ix2 r s) = G (A0 m c) (A1 m c) (ix2 (row t r) (col t s)) := by
  rw [after0_2, out_pay]
  exact (pay1_at (iblk m c 0 t) (iblk m c 1 t) r s).trans (Finset.sum_congr rfl fun k _ =>
    congrArg₂ (fun u v : EReal => u * v) (congrArg (A0 m c) (emb0 t r k)) (congrArg (A1 m c) (emb1 t s k)))

theorem final : (dats m 0 c).arrAt 2 cfg0.N = G (A0 m c) (A1 m c) :=
  Dat.arrAt_eq_of_covers _ 2 _ (by decide +kernel) fun t _ y => by
    show (dats m 0 c).after 2 t y = G (A0 m c) (A1 m c) ((win0_2.rect t).emb y)
    have e : y = ix2 (y 0) (y 1) := idx2 y
    refine (congrArg _ e).trans ((out_at m c t (y 0) (y 1)).trans (congrArg (G (A0 m c) (A1 m c)) ?_))
    exact (emb2 t (y 0) (y 1)).symm.trans (congrArg (fun z => (win0_2.rect t).emb z) e.symm)

end Cert.BoutIdeal.Hand

namespace Cert.Proof

open Idealize.ShloMosaic Idealize.SL.Sem Idealize.ShloMosaic.ValueIdx Cert.Ffn

theorem ref_bout (x : FVec Ideal Cert.BoutRefIdeal.S16384x1024 .bf16) (w : FVec Ideal Cert.BoutRefIdeal.S1024x1024 .bf16) :
    Cert.BoutRefIdeal.Read.val_main_v5 (F := Ideal) x w = Cert.BoutIdeal.Hand.G x w := by
  funext i
  rw [Cert.BoutRefIdeal.Read.val_main_v5_apply, Cert.BoutRefIdeal.Read.val_main_v4_apply]
  refine Finset.sum_congr rfl fun k _ => congrArg₂ (fun u v : EReal => u * v) (congrArg x ?_) (congrArg w ?_)
  · exact funext fun a => Fin.ext (by match a with | ⟨0, _⟩ => rfl | ⟨1, _⟩ => rfl)
  · exact funext fun a => Fin.ext (by match a with | ⟨0, _⟩ => rfl | ⟨1, _⟩ => rfl)

theorem algebraic_bout : algebraic_BoutIdeal_BoutRefIdeal := by
  intro m g m' g' _ hargs
  refine ⟨fun c => Cert.BoutIdeal.Hand.G (Cert.BoutIdeal.Hand.A0 m c) (Cert.BoutIdeal.Hand.A1 m c), ?_, ?_⟩
  · exact (θ_run Cert.BoutIdeal.defs _ _).mono (fun r h c => ⟨(h c).1.trans (Cert.BoutIdeal.Hand.final m c), (h c).2⟩)
      (Cert.BoutIdeal.Value.run_blocks (F := Ideal) m g)
  · refine (θ_run Cert.BoutRefIdeal.defs _ _).mono (fun r h c => ⟨(h c).1.trans ?_, (h c).2⟩) (Cert.BoutRefIdeal.Value.run (F := Ideal) m' g')
    rw [(hargs c).1, (hargs c).2]
    exact (Cert.BoutRefIdeal.Read.val_main_v5_eq (F := Ideal) _ _).trans (ref_bout _ _)

end Cert.Proof

end
-- ==== Proof.Dwout.lean ====
module

public import proofs.«01_k».proof.Defs
public import proofs.«01_k».proof.Proof.Prod
public import proofs.«01_k».proof.Proof.Gen.DwoutIdeal.Value
public import proofs.«01_k».proof.Proof.Gen.DwoutRefIdeal.Run
public import proofs.«01_k».proof.Proof.Gen.DwoutRefIdeal.Read
public import Idealize.ShloMosaic.Lib.Pipeline.ValueKit.Geometry

@[expose] public section

noncomputable section

/-! The gradient of an output projection's weights: one block, accumulated over sixteen row tiles. -/

namespace Cert.DwoutIdeal.Hand

open Cert.DwoutIdeal Cert.DwoutIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec F S1024x1024 .bf16) (xs : Vec F S1024x1024 .f32)

theorem sout_A (h0 h1) : sout0_A_0 c i a3 h3 a4 h4 a5 h5 a6 h6 h0 h1 x0 x1 = k0_pay2 (k0_pay1 (F := F)) x0 x1 := by
  unfold sout0_A_0
  rw [View.read_writes_eq_canon _ _ _ (scover0_A_0 c i a3 h3 a4 h4 a5 h5 a6 h6 h0 h1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem sout_B (h0 h1) : sout0_B_0 c i a3 h3 a4 h4 a5 h5 a6 h6 h0 h1 x0 x1 xs = k0_pay2 xs x0 x1 := by
  unfold sout0_B_0
  rw [View.read_writes_eq_canon _ _ _ (scover0_B_0 c i a3 h3 a4 h4 a5 h5 a6 h6 h0 h1 x0 x1 xs)]
  unfold kernelRun0_B
  dsimp only
  rw [View.canon_unit_zero hz]
  simp only [View.readAt_eq_ld, h3.read_unread, h4.read_unread, h6.read_unread, View.ld_unit_zero (S := S1024x1024) hz]

theorem sout_C (h0 h1) : sout0_C_0 c i a3 h3 a4 h4 a5 h5 a6 h6 h0 h1 x0 x1 xs = k0_pay2 xs x0 x1 := by
  unfold sout0_C_0
  rw [View.read_writes_eq_canon _ _ _ (scover0_C_0 c i a3 h3 a4 h4 a5 h5 a6 h6 h0 h1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]

theorem out_C (h0 h1) : out0_C_2 c i a3 h3 a4 h4 a5 h5 a6 h6 h0 h1 x0 x1 xs = k0_pay2 xs x0 x1 := by
  unfold out0_C_2
  rw [View.read_writes_eq_canon _ _ _ (cover0_C_2 c i a3 h3 a4 h4 a5 h5 a6 h6 h0 h1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

theorem pay1_at (y : S1024x1024.Idx) : k0_pay1 (F := Ideal) y = 0 := by
  unfold k0_pay1
  rw [shapeCast_self]
  exact Ideal.ofBits_zero_f32

theorem pay2_at (xs : Vec Ideal S1024x1024 .f32) (x0 x1 : Vec Ideal S1024x1024 .bf16) (r s : Fin 1024) :
    k0_pay2 xs x0 x1 (ix2 r s) = (xs (ix2 r s) + ∑ b : Fin 1024, x0 (ix2 b r) * x1 (ix2 b s) : EReal) := by
  unfold k0_pay2
  rw [shapeCast_self]
  exact congrArg (fun z : EReal => xs (ix2 r s) + z) (dot_rows (φ₁ := .bf16) (φ₂ := .bf16) dot_S1024x1024_S1024x1024_S1024x1024_0_0_1_1_n_n rfl rfl
    (fun i q a => by match a with | ⟨0, _⟩ => rfl | ⟨1, _⟩ => rfl) (fun i q a => by match a with | ⟨0, _⟩ => rfl | ⟨1, _⟩ => rfl) none x0 x1 r s)

variable (m : (ℓ : Loc nD τ sig) → Buf (Elt Ideal) ℓ) (c : Dev nD)

/-- The two tiles a point reads. -/
abbrev X0 (t : Fin cfg0.N) : FVec Ideal S1024x1024 .bf16 := iblk m c 0 t
abbrev X1 (t : Fin cfg0.N) : FVec Ideal S1024x1024 .bf16 := iblk m c 1 t

/-- A point's addend. -/
def P (r s : Fin 1024) (n : ℕ) (h : n < cfg0.N) : EReal :=
  ∑ b : Fin 1024, X0 m c ⟨n, h⟩ (ix2 b r) * X1 m c ⟨n, h⟩ (ix2 b s)

theorem acc_first (r s : Fin 1024) (n : ℕ) (h : n < cfg0.N) (h0 : n % 16 = 0) :
    (outsAt0 m c n h).2 (ix2 r s) = (0 + P m c r s n h : EReal) := by
  refine (congrArg (fun z => (z.2 (ix2 r s) : EReal)) (outsAt0_A m c ⟨n, h⟩ h0 (by show ¬n % 16 = 15; omega))).trans ?_
  dsimp only
  rw [sout_A, pay2_at, pay1_at]
  rfl

theorem acc_next (r s : Fin 1024) (n : ℕ) (h : n < cfg0.N) (h0 : ¬n % 16 = 0) :
    (outsAt0 m c n h).2 (ix2 r s) = ((outsAt0 m c (n - 1) (Nat.lt_of_le_of_lt (Nat.sub_le _ _) h)).2 (ix2 r s) + P m c r s n h : EReal) := by
  by_cases h1 : n % 16 = 15
  · refine (congrArg (fun z => (z.2 (ix2 r s) : EReal)) (outsAt0_C m c ⟨n, h⟩ h0 h1)).trans ?_
    dsimp only
    rw [sout_C, pay2_at]
    rfl
  · refine (congrArg (fun z => (z.2 (ix2 r s) : EReal)) (outsAt0_B m c ⟨n, h⟩ h0 h1)).trans ?_
    dsimp only
    rw [sout_B, pay2_at]
    rfl

/-- What a last tile's point writes back: the accumulator. -/
theorem out_eq (t : Fin cfg0.N) (ht : t.val % 16 = 15) (r s : Fin 1024) :
    (outsAt0 m c t.val t.isLt).1 (ix2 r s) = (outsAt0 m c t.val t.isLt).2 (ix2 r s) := by
  have h0 : ¬t.val % 16 = 0 := by omega
  have e1 := congrArg (fun z => (z.1 (ix2 r s) : EReal)) (outsAt0_C m c t h0 ht)
  have e2 := congrArg (fun z => (z.2 (ix2 r s) : EReal)) (outsAt0_C m c t h0 ht)
  dsimp only at e1 e2
  rw [out_C] at e1
  rw [sout_C] at e2
  exact e1.trans e2.symm

theorem word0 (t : Fin cfg0.N) : (BitVec.ofNat 32 (grid0.coords t 0).val).toNat = 0 := by
  rw [show (grid0.coords t 0).val = t.val / 16 % 1 from Pipeline.Grid.coords_val t 0 (by decide) rfl, word_val (by omega)]
  omega
theorem word1 (t : Fin cfg0.N) : (BitVec.ofNat 32 (grid0.coords t 1).val).toNat = 0 := by
  rw [show (grid0.coords t 1).val = t.val / 16 % 1 from Pipeline.Grid.coords_val t 1 (by decide) rfl, word_val (by omega)]
  omega
theorem word2 (t : Fin cfg0.N) : (BitVec.ofNat 32 (grid0.coords t 2).val).toNat = t.val % 16 := by
  rw [show (grid0.coords t 2).val = t.val / 1 % 16 from Pipeline.Grid.coords_val t 2 (by decide) rfl, word_val (by omega)]
  omega

/-- The row of the arrays that row `b` of a point's tile is. -/
def row (t : Fin cfg0.N) (b : Fin 1024) : Fin 16384 := ⟨1024 * (t.val % 16) + b.val, by omega⟩

theorem emb0 (t : Fin cfg0.N) (b r : Fin 1024) : (win0_0.rect t).emb (ix2 b r) = ix2 (row t b) r := by
  funext a; apply Fin.ext
  match a with
  | ⟨0, _⟩ => exact (win0_0.rect_emb_val t _ 0).trans (show (BitVec.ofNat 32 (grid0.coords t 2).val).toNat * 1024 + b.val = 1024 * (t.val % 16) + b.val by rw [word2]; omega)
  | ⟨1, _⟩ => exact (win0_0.rect_emb_val t _ 1).trans (show (BitVec.ofNat 32 (grid0.coords t 1).val).toNat * 1024 + r.val = r.val by rw [word1]; omega)
theorem emb1 (t : Fin cfg0.N) (b s : Fin 1024) : (win0_1.rect t).emb (ix2 b s) = ix2 (row t b) s := by
  funext a; apply Fin.ext
  match a with
  | ⟨0, _⟩ => exact (win0_1.rect_emb_val t _ 0).trans (show (BitVec.ofNat 32 (grid0.coords t 2).val).toNat * 1024 + b.val = 1024 * (t.val % 16) + b.val by rw [word2]; omega)
  | ⟨1, _⟩ => exact (win0_1.rect_emb_val t _ 1).trans (show (BitVec.ofNat 32 (grid0.coords t 0).val).toNat * 1024 + s.val = s.val by rw [word0]; omega)
theorem emb2 (t : Fin cfg0.N) (r s : Fin 1024) : (win0_2.rect t).emb (ix2 r s) = ix2 r s := by
  funext a; apply Fin.ext
  match a with
  | ⟨0, _⟩ => exact (win0_2.rect_emb_val t _ 0).trans (show (BitVec.ofNat 32 (grid0.coords t 1).val).toNat * 1024 + r.val = r.val by rw [word1]; omega)
  | ⟨1, _⟩ => exact (win0_2.rect_emb_val t _ 1).trans (show (BitVec.ofNat 32 (grid0.coords t 0).val).toNat * 1024 + s.val = s.val by rw [word0]; omega)

/-- The arguments. -/
abbrev A0 : FVec Ideal S16384x1024 .bf16 := m ((c.tc : Thread nD τ).loc main_arg0)
abbrev A1 : FVec Ideal S16384x1024 .bf16 := m ((c.tc : Thread nD τ).loc main_arg1)

/-- The result: the product over all rows. -/
abbrev G (x y : FVec Ideal S16384x1024 .bf16) : FVec Ideal S1024x1024 .f32 := mmR x y

theorem P_eq (r s : Fin 1024) (t : Fin cfg0.N) :
    P m c r s t.val t.isLt = (∑ b : Fin 1024, A0 m c (ix2 (row t b) r) * A1 m c (ix2 (row t b) s) : EReal) :=
  Finset.sum_congr rfl fun b _ => congrArg₂ (fun u v : EReal => u * v) (congrArg (A0 m c) (emb0 t b r)) (congrArg (A1 m c) (emb1 t b s))

theorem out_final (t : Fin cfg0.N) (ht : t.val % 16 = 15) (r s : Fin 1024) :
    (outsAt0 m c t.val t.isLt).1 (ix2 r s) = G (A0 m c) (A1 m c) (ix2 r s) := by
  refine (out_eq m c t ht r s).trans (acc_rows (L := 16) (B := 1024) (by decide) (by norm_num) (fun n h => ((outsAt0 m c n h).2 (ix2 r s) : EReal)) (P m c r s)
    (fun k => (A0 m c (ix2 k r) * A1 m c (ix2 k s) : EReal)) (acc_first m c r s) (acc_next m c r s) t.val t.isLt ht fun j hj hu => ?_)
  refine (P_eq m c r s ⟨_, hu⟩).trans (Finset.sum_congr rfl fun b _ => ?_)
  rw [show row ⟨t.val / 16 * 16 + j, hu⟩ b = ⟨1024 * j + b.val, by omega⟩ from Fin.ext (by show 1024 * ((t.val / 16 * 16 + j) % 16) + b.val = 1024 * j + b.val; omega)]

theorem final : (dats m 0 c).arrAt 2 cfg0.N = G (A0 m c) (A1 m c) :=
  Dat.arrAt_eq_of_covers _ 2 _ (by decide +kernel) fun t hf y => by
    show (dats m 0 c).after 2 t y = G (A0 m c) (A1 m c) ((win0_2.rect t).emb y)
    rw [after0_2]
    have e : y = ix2 (y 0) (y 1) := idx2 y
    refine (congrArg _ e).trans ((out_final m c t ((flush0_2 t).mp hf) (y 0) (y 1)).trans (congrArg (G (A0 m c) (A1 m c)) ?_))
    exact (emb2 t (y 0) (y 1)).symm.trans (congrArg (fun z => (win0_2.rect t).emb z) e.symm)

end Cert.DwoutIdeal.Hand

namespace Cert.Proof

open Idealize.ShloMosaic Idealize.SL.Sem Idealize.ShloMosaic.ValueIdx Cert.Ffn

theorem ref_dwout (x : FVec Ideal Cert.DwoutRefIdeal.S16384x1024 .bf16) (y : FVec Ideal Cert.DwoutRefIdeal.S16384x1024 .bf16) :
    Cert.DwoutRefIdeal.Read.val_main_v5 (F := Ideal) x y = Cert.DwoutIdeal.Hand.G x y := by
  funext i
  rw [Cert.DwoutRefIdeal.Read.val_main_v5_apply, Cert.DwoutRefIdeal.Read.val_main_v4_apply]
  refine Finset.sum_congr rfl fun k _ => ?_
  refine (mul_comm _ _).trans (congrArg₂ (fun u v : EReal => u * v) (congrArg x ?_) (congrArg y ?_))
  · exact funext fun a => Fin.ext (by match a with | ⟨0, _⟩ => rfl | ⟨1, _⟩ => rfl)
  · exact funext fun a => Fin.ext (by match a with | ⟨0, _⟩ => rfl | ⟨1, _⟩ => rfl)

theorem algebraic_dwout : algebraic_DwoutIdeal_DwoutRefIdeal := by
  intro m g m' g' _ hargs
  refine ⟨fun c => Cert.DwoutIdeal.Hand.G (Cert.DwoutIdeal.Hand.A0 m c) (Cert.DwoutIdeal.Hand.A1 m c), ?_, ?_⟩
  · exact (θ_run Cert.DwoutIdeal.defs _ _).mono (fun r h c => ⟨(h c).1.trans (Cert.DwoutIdeal.Hand.final m c), (h c).2⟩)
      (Cert.DwoutIdeal.Value.run_blocks (F := Ideal) m g)
  · refine (θ_run Cert.DwoutRefIdeal.defs _ _).mono (fun r h c => ⟨(h c).1.trans ?_, (h c).2⟩) (Cert.DwoutRefIdeal.Value.run (F := Ideal) m' g')
    rw [(hargs c).1, (hargs c).2]
    exact ref_dwout _ _

end Cert.Proof

end
-- ==== Proof.Dwin.lean ====
module

public import proofs.«01_k».proof.Defs
public import proofs.«01_k».proof.Proof.Prod
public import proofs.«01_k».proof.Proof.Gen.DwinIdeal.Value
public import proofs.«01_k».proof.Proof.Gen.DwinRefIdeal.Run
public import proofs.«01_k».proof.Proof.Gen.DwinRefIdeal.Read
public import Idealize.ShloMosaic.Lib.Pipeline.ValueKit.Geometry

@[expose] public section

noncomputable section

/-! The gradient of the dilated attention's projection: nineteen column blocks, each accumulated over sixteen row tiles. -/

namespace Cert.DwinIdeal.Hand

open Cert.DwinIdeal Cert.DwinIdeal.Gen Cert.Ffn
open Idealize.ShloMosaic Idealize.ShloMosaic.TcCoe Idealize.SL.Sem
open Idealize.ShloMosaic.ValueIdx
open Idealize.ShloMosaic.Pipeline (Dat)

section
variable {F : FTy → Type} [FloatOps F] (c : Dev nD) (i : grid0.Coords) (a3 : Memref sig .tc .vmem S1024x1024 .bf16) (h3 : a3.IsWhole)
  (a4 : Memref sig .tc .vmem S1024x256 .bf16) (h4 : a4.IsWhole) (a5 : Memref sig .tc .vmem S1024x256 .f32) (h5 : a5.IsWhole)
  (a6 : Memref sig .tc .vmem S1024x256 .f32) (h6 : a6.IsWhole) (x0 : Vec F S1024x1024 .bf16) (x1 : Vec F S1024x256 .bf16) (xs : Vec F S1024x256 .f32)

theorem sout_A (h0 h1) : sout0_A_0 c i a3 h3 a4 h4 a5 h5 a6 h6 h0 h1 x0 x1 = k0_pay2 (k0_pay1 (F := F)) x0 x1 := by
  unfold sout0_A_0
  rw [View.read_writes_eq_canon _ _ _ (scover0_A_0 c i a3 h3 a4 h4 a5 h5 a6 h6 h0 h1 x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz, View.ld_unit_zero (S := S1024x256) hz]

theorem sout_B (h0 h1) : sout0_B_0 c i a3 h3 a4 h4 a5 h5 a6 h6 h0 h1 x0 x1 xs = k0_pay2 xs x0 x1 := by
  unfold sout0_B_0
  rw [View.read_writes_eq_canon _ _ _ (scover0_B_0 c i a3 h3 a4 h4 a5 h5 a6 h6 h0 h1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x256) hz]

theorem sout_C (h0 h1) : sout0_C_0 c i a3 h3 a4 h4 a5 h5 a6 h6 h0 h1 x0 x1 xs = k0_pay2 xs x0 x1 := by
  unfold sout0_C_0
  rw [View.read_writes_eq_canon _ _ _ (scover0_C_0 c i a3 h3 a4 h4 a5 h5 a6 h6 h0 h1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x256) hz]

theorem out_C (h0 h1) : out0_C_2 c i a3 h3 a4 h4 a5 h5 a6 h6 h0 h1 x0 x1 xs = k0_pay2 xs x0 x1 := by
  unfold out0_C_2
  rw [View.read_writes_eq_canon _ _ _ (cover0_C_2 c i a3 h3 a4 h4 a5 h5 a6 h6 h0 h1 x0 x1 xs)]
  unfold kernelRun0_C
  dsimp only
  sl_unfold_words
  rw [View.canon_unit_zero hz, View.readCov_unit_zero (S := S1024x256) _ hz]
  simp only [View.readAt_eq_ld, h3.read_unread, h4.read_unread, h6.read_unread, View.ld_unit_zero (S := S1024x1024) hz, View.ld_unit_zero (S := S1024x256) hz]
end

theorem pay1_at (y : S1024x256.Idx) : k0_pay1 (F := Ideal) y = 0 := by
  unfold k0_pay1
  rw [shapeCast_self]
  exact Ideal.ofBits_zero_f32

theorem pay2_at (xs : Vec Ideal S1024x256 .f32) (x0 : Vec Ideal S1024x1024 .bf16) (x1 : Vec Ideal S1024x256 .bf16) (r : Fin 1024) (s : Fin 256) :
    k0_pay2 xs x0 x1 (ix2 r s) = (xs (ix2 r s) + ∑ b : Fin 1024, x0 (ix2 b r) * x1 (ix2 b s) : EReal) := by
  unfold k0_pay2
  rw [shapeCast_self]
  exact congrArg (fun z : EReal => xs (ix2 r s) + z) (dot_rows (φ₁ := .bf16) (φ₂ := .bf16) dot_S1024x1024_S1024x256_S1024x256_0_0_1_1_n_n rfl rfl
    (fun i q a => by match a with | ⟨0, _⟩ => rfl | ⟨1, _⟩ => rfl) (fun i q a => by match a with | ⟨0, _⟩ => rfl | ⟨1, _⟩ => rfl) none x0 x1 r s)

variable (m : (ℓ : Loc nD τ sig) → Buf (Elt Ideal) ℓ) (c : Dev nD)

/-- The two tiles a point reads. -/
abbrev X0 (t : Fin cfg0.N) : FVec Ideal S1024x1024 .bf16 := iblk m c 0 t
abbrev X1 (t : Fin cfg0.N) : FVec Ideal S1024x256 .bf16 := iblk m c 1 t

/-- A point's addend. -/
def P (r : Fin 1024) (s : Fin 256) (n : ℕ) (h : n < cfg0.N) : EReal :=
  ∑ b : Fin 1024, X0 m c ⟨n, h⟩ (ix2 b r) * X1 m c ⟨n, h⟩ (ix2 b s)

theorem acc_first (r : Fin 1024) (s : Fin 256) (n : ℕ) (h : n < cfg0.N) (h0 : n % 16 = 0) :
    (outsAt0 m c n h).2 (ix2 r s) = (0 + P m c r s n h : EReal) := by
  refine (congrArg (fun z => (z.2 (ix2 r s) : EReal)) (outsAt0_A m c ⟨n, h⟩ h0 (by show ¬n % 16 = 15; omega))).trans ?_
  dsimp only
  rw [sout_A, pay2_at, pay1_at]
  rfl

theorem acc_next (r : Fin 1024) (s : Fin 256) (n : ℕ) (h : n < cfg0.N) (h0 : ¬n % 16 = 0) :
    (outsAt0 m c n h).2 (ix2 r s) = ((outsAt0 m c (n - 1) (Nat.lt_of_le_of_lt (Nat.sub_le _ _) h)).2 (ix2 r s) + P m c r s n h : EReal) := by
  by_cases h1 : n % 16 = 15
  · refine (congrArg (fun z => (z.2 (ix2 r s) : EReal)) (outsAt0_C m c ⟨n, h⟩ h0 h1)).trans ?_
    dsimp only
    rw [sout_C, pay2_at]
    rfl
  · refine (congrArg (fun z => (z.2 (ix2 r s) : EReal)) (outsAt0_B m c ⟨n, h⟩ h0 h1)).trans ?_
    dsimp only
    rw [sout_B, pay2_at]
    rfl

/-- What a last tile's point writes back: the accumulator. -/
theorem out_eq (t : Fin cfg0.N) (ht : t.val % 16 = 15) (r : Fin 1024) (s : Fin 256) :
    (outsAt0 m c t.val t.isLt).1 (ix2 r s) = (outsAt0 m c t.val t.isLt).2 (ix2 r s) := by
  have h0 : ¬t.val % 16 = 0 := by omega
  have e1 := congrArg (fun z => (z.1 (ix2 r s) : EReal)) (outsAt0_C m c t h0 ht)
  have e2 := congrArg (fun z => (z.2 (ix2 r s) : EReal)) (outsAt0_C m c t h0 ht)
  dsimp only at e1 e2
  rw [out_C] at e1
  rw [sout_C] at e2
  exact e1.trans e2.symm

theorem lt304 {n : ℕ} (h : n < cfg0.N) : n < 304 := lt_of_lt_of_eq h N_0

theorem word0 (t : Fin cfg0.N) : (BitVec.ofNat 32 (grid0.coords t 0).val).toNat = t.val / 16 := by
  have := lt304 t.isLt
  rw [show (grid0.coords t 0).val = t.val / 16 % 19 from Pipeline.Grid.coords_val t 0 (by decide) rfl, word_val (by omega)]
  omega
theorem word1 (t : Fin cfg0.N) : (BitVec.ofNat 32 (grid0.coords t 1).val).toNat = 0 := by
  rw [show (grid0.coords t 1).val = t.val / 16 % 1 from Pipeline.Grid.coords_val t 1 (by decide) rfl, word_val (by omega)]
  omega
theorem word2 (t : Fin cfg0.N) : (BitVec.ofNat 32 (grid0.coords t 2).val).toNat = t.val % 16 := by
  rw [show (grid0.coords t 2).val = t.val / 1 % 16 from Pipeline.Grid.coords_val t 2 (by decide) rfl, word_val (by omega)]
  omega

/-- The row of the arrays that row `b` of a point's tile is, and the column of the result that its column `s` is. -/
def row (t : Fin cfg0.N) (b : Fin 1024) : Fin 16384 := ⟨1024 * (t.val % 16) + b.val, by omega⟩
def col (t : Fin cfg0.N) (s : Fin 256) : Fin 4864 := ⟨256 * (t.val / 16) + s.val, by have := lt304 t.isLt; omega⟩

theorem emb0 (t : Fin cfg0.N) (b r : Fin 1024) : (win0_0.rect t).emb (ix2 b r) = ix2 (row t b) r := by
  funext a; apply Fin.ext
  match a with
  | ⟨0, _⟩ => exact (win0_0.rect_emb_val t _ 0).trans (show (BitVec.ofNat 32 (grid0.coords t 2).val).toNat * 1024 + b.val = 1024 * (t.val % 16) + b.val by rw [word2]; omega)
  | ⟨1, _⟩ => exact (win0_0.rect_emb_val t _ 1).trans (show (BitVec.ofNat 32 (grid0.coords t 1).val).toNat * 1024 + r.val = r.val by rw [word1]; omega)
theorem emb1 (t : Fin cfg0.N) (b : Fin 1024) (s : Fin 256) : (win0_1.rect t).emb (ix2 b s) = ix2 (row t b) (col t s) := by
  funext a; apply Fin.ext
  match a with
  | ⟨0, _⟩ => exact (win0_1.rect_emb_val t _ 0).trans (show (BitVec.ofNat 32 (grid0.coords t 2).val).toNat * 1024 + b.val = 1024 * (t.val % 16) + b.val by rw [word2]; omega)
  | ⟨1, _⟩ => exact (win0_1.rect_emb_val t _ 1).trans (show (BitVec.ofNat 32 (grid0.coords t 0).val).toNat * 256 + s.val = 256 * (t.val / 16) + s.val by rw [word0]; omega)
theorem emb2 (t : Fin cfg0.N) (r : Fin 1024) (s : Fin 256) : (win0_2.rect t).emb (ix2 r s) = ix2 r (col t s) := by
  funext a; apply Fin.ext
  match a with
  | ⟨0, _⟩ => exact (win0_2.rect_emb_val t _ 0).trans (show (BitVec.ofNat 32 (grid0.coords t 1).val).toNat * 1024 + r.val = r.val by rw [word1]; omega)
  | ⟨1, _⟩ => exact (win0_2.rect_emb_val t _ 1).trans (show (BitVec.ofNat 32 (grid0.coords t 0).val).toNat * 256 + s.val = 256 * (t.val / 16) + s.val by rw [word0]; omega)

/-- The arguments. -/
abbrev A0 : FVec Ideal S16384x1024 .bf16 := m ((c.tc : Thread nD τ).loc main_arg0)
abbrev A1 : FVec Ideal S16384x4864 .bf16 := m ((c.tc : Thread nD τ).loc main_arg1)

/-- The result: the product over all rows. -/
abbrev G (x : FVec Ideal S16384x1024 .bf16) (y : FVec Ideal S16384x4864 .bf16) : FVec Ideal S1024x4864 .f32 := mmR x y

theorem P_eq (r : Fin 1024) (s : Fin 256) (t : Fin cfg0.N) :
    P m c r s t.val t.isLt = (∑ b : Fin 1024, A0 m c (ix2 (row t b) r) * A1 m c (ix2 (row t b) (col t s)) : EReal) :=
  Finset.sum_congr rfl fun b _ => congrArg₂ (fun u v : EReal => u * v) (congrArg (A0 m c) (emb0 t b r)) (congrArg (A1 m c) (emb1 t b s))

theorem out_final (t : Fin cfg0.N) (ht : t.val % 16 = 15) (r : Fin 1024) (s : Fin 256) :
    (outsAt0 m c t.val t.isLt).1 (ix2 r s) = G (A0 m c) (A1 m c) (ix2 r (col t s)) := by
  refine (out_eq m c t ht r s).trans (acc_rows (L := 16) (B := 1024) (by decide) (by norm_num) (fun n h => ((outsAt0 m c n h).2 (ix2 r s) : EReal)) (P m c r s)
    (fun k => (A0 m c (ix2 k r) * A1 m c (ix2 k (col t s)) : EReal)) (acc_first m c r s) (acc_next m c r s) t.val t.isLt ht fun j hj hu => ?_)
  refine (P_eq m c r s ⟨_, hu⟩).trans (Finset.sum_congr rfl fun b _ => ?_)
  rw [show row ⟨t.val / 16 * 16 + j, hu⟩ b = ⟨1024 * j + b.val, by omega⟩ from Fin.ext (by show 1024 * ((t.val / 16 * 16 + j) % 16) + b.val = 1024 * j + b.val; omega),
    show col ⟨t.val / 16 * 16 + j, hu⟩ s = col t s from Fin.ext (by show 256 * ((t.val / 16 * 16 + j) / 16) + s.val = 256 * (t.val / 16) + s.val; omega)]

theorem final : (dats m 0 c).arrAt 2 cfg0.N = G (A0 m c) (A1 m c) :=
  Dat.arrAt_eq_of_covers _ 2 _ (by decide +kernel) fun t hf y => by
    show (dats m 0 c).after 2 t y = G (A0 m c) (A1 m c) ((win0_2.rect t).emb y)
    rw [after0_2]
    have e : y = ix2 (y 0) (y 1) := idx2 y
    refine (congrArg _ e).trans ((out_final m c t ((flush0_2 t).mp hf) (y 0) (y 1)).trans (congrArg (G (A0 m c) (A1 m c)) ?_))
    exact (emb2 t (y 0) (y 1)).symm.trans (congrArg (fun z => (win0_2.rect t).emb z) e.symm)

end Cert.DwinIdeal.Hand

namespace Cert.Proof

open Idealize.ShloMosaic Idealize.SL.Sem Idealize.ShloMosaic.ValueIdx Cert.Ffn

theorem ref_dwin (x : FVec Ideal Cert.DwinRefIdeal.S16384x1024 .bf16) (y : FVec Ideal Cert.DwinRefIdeal.S16384x4864 .bf16) :
    Cert.DwinRefIdeal.Read.val_main_v5 (F := Ideal) x y = Cert.DwinIdeal.Hand.G x y := by
  funext i
  rw [Cert.DwinRefIdeal.Read.val_main_v5_apply, Cert.DwinRefIdeal.Read.val_main_v4_apply]
  refine Finset.sum_congr rfl fun k _ => ?_
  refine (mul_comm _ _).trans (congrArg₂ (fun u v : EReal => u * v) (congrArg x ?_) (congrArg y ?_))
  · exact funext fun a => Fin.ext (by match a with | ⟨0, _⟩ => rfl | ⟨1, _⟩ => rfl)
  · exact funext fun a => Fin.ext (by match a with | ⟨0, _⟩ => rfl | ⟨1, _⟩ => rfl)

theorem algebraic_dwin : algebraic_DwinIdeal_DwinRefIdeal := by
  intro m g m' g' _ hargs
  refine ⟨fun c => Cert.DwinIdeal.Hand.G (Cert.DwinIdeal.Hand.A0 m c) (Cert.DwinIdeal.Hand.A1 m c), ?_, ?_⟩
  · exact (θ_run Cert.DwinIdeal.defs _ _).mono (fun r h c => ⟨(h c).1.trans (Cert.DwinIdeal.Hand.final m c), (h c).2⟩)
      (Cert.DwinIdeal.Value.run_blocks (F := Ideal) m g)
  · refine (θ_run Cert.DwinRefIdeal.defs _ _).mono (fun r h c => ⟨(h c).1.trans ?_, (h c).2⟩) (Cert.DwinRefIdeal.Value.run (F := Ideal) m' g')
    rw [(hargs c).1, (hargs c).2]
    exact ref_dwin _ _

end Cert.Proof

end
-- ==== Proof.Fmath.lean ====
module

public import proofs.«01_k».proof.Proof.Hval
public import proofs.«01_k».proof.Proof.Norm
public import proofs.«01_k».proof.Proof.Gen.FwdIdeal.Skeleton

@[expose] public section

noncomputable section

/-! The forward call, entry by entry: what a row carries from one key tile to the next, and what it holds after the last.

    A row carries a shift `M` and the sums of `2 ^ (score - M)` times the values' columns, of which column 64 is ones. The
    shift only has to be a real: it cancels in both results. -/

namespace Cert.Attn

open Idealize.ShloMosaic Idealize.ShloMosaic.ValueIdx
open Cert.KernelIdeal.Hand (Qk log2_ne)

/-- The key that column `b` of key tile `j` is. -/
def key (j : ℕ) (b : Fin 2048) : Fin 16384 := ⟨2048 * (j % 8) + b.val, by omega⟩

/-- The values with a column of ones and columns of zeros. -/
def V1 (v : (Tok 64).Idx → EReal) (h : Fin 12) (b : Fin 16384) (d : Fin 128) : EReal :=
  if hd : d.val < 64 then v (ix3 b h ⟨d.val, hd⟩) else if d.val = 64 then 1 else 0

/-- The scores over `log 2`. -/
def S2 (q k : (Tok 96).Idx → ℝ) (h : Fin 12) (a b : Fin 16384) : ℝ := ∑ d, Qk q h a d * Hd k h b d

/-- What a row's accumulator holds after `n` key tiles, with shift `M`. The values may be infinite. -/
def St (q k : (Tok 96).Idx → ℝ) (v : (Tok 64).Idx → EReal) (h : Fin 12) (a : Fin 16384) (M : ℝ) (n : ℕ) (d : Fin 128) : EReal :=
  ∑ j ∈ Finset.range n, ∑ b : Fin 2048, ((Real.rpow 2 (S2 q k h a (key j b) - M) : ℝ) : EReal) * V1 v h (key j b) d

variable (q k : (Tok 96).Idx → ℝ) (v : (Tok 64).Idx → EReal) (h : Fin 12) (a : Fin 16384) (M M' : ℝ)

theorem real_mul_sum {ι : Type} (S : Finset ι) (f : ι → EReal) {r : ℝ} (hr : 0 ≤ r) : (r : EReal) * ∑ k ∈ S, f k = ∑ k ∈ S, (r : EReal) * f k :=
  (mul_comm _ _).trans ((Cert.Ffn.mul_sum_real S f hr).symm.trans (Finset.sum_congr rfl fun _ _ => mul_comm _ _))

theorem rpow_shift (x : ℝ) : Real.rpow 2 (M - M') * Real.rpow 2 (x - M) = Real.rpow 2 (x - M') := by
  refine (Real.rpow_add (x := 2) (by norm_num) (M - M') (x - M)).symm.trans ?_
  exact congrArg (Real.rpow 2) (by ring)

theorem St_succ (n : ℕ) (d : Fin 128) :
    ((Real.rpow 2 (M - M') : ℝ) : EReal) * St q k v h a M n d + ∑ b : Fin 2048, ((Real.rpow 2 (S2 q k h a (key n b) - M') : ℝ) : EReal) * V1 v h (key n b) d = St q k v h a M' (n + 1) d := by
  have hr : 0 ≤ Real.rpow 2 (M - M') := Real.rpow_nonneg (by norm_num) _
  unfold St
  rw [Finset.sum_range_succ, real_mul_sum _ _ hr]
  refine congrArg (fun z : EReal => z + _) (Finset.sum_congr rfl fun j _ => ?_)
  rw [real_mul_sum _ _ hr]
  refine Finset.sum_congr rfl fun b _ => ?_
  rw [← mul_assoc, ← EReal.coe_mul, rpow_shift]

theorem St_all (d : Fin 128) : St q k v h a M 8 d = ∑ b, ((Real.exp (sc (Qh q h) (Hd k h) a b - M * Real.log 2) : ℝ) : EReal) * V1 v h b d := by
  have e : ∀ b, Real.rpow 2 (S2 q k h a b - M) = Real.exp (sc (Qh q h) (Hd k h) a b - M * Real.log 2) := fun b => by
    rw [← two_rpow]
    congr 1
    rw [sub_div, mul_div_cancel_right₀ _ log2_ne, S2, sc, Finset.sum_div]
    congr 1
    exact Finset.sum_congr rfl fun d _ => by rw [Qk]; ring
  refine Cert.Ffn.sum_tiles (L := 8) (B := 2048) rfl (fun b => ((Real.exp (sc (Qh q h) (Hd k h) a b - M * Real.log 2) : ℝ) : EReal) * V1 v h b d) _ fun j => ?_
  refine Finset.sum_congr rfl fun b _ => ?_
  rw [e, show key j.val b = ⟨2048 * j.val + b.val, _⟩ from Fin.ext (by show 2048 * (j.val % 8) + b.val = _; rw [Nat.mod_eq_of_lt j.isLt])]

/-- The accumulator's column of ones after the last tile: the row's sum. -/
theorem St_ones : St q k v h a M 8 64 = (ls (Qh q h) (Hd k h) (fun _ => M * Real.log 2) a : EReal) := by
  rw [St_all, ls, ← coe_sum]
  refine Finset.sum_congr rfl fun b _ => ?_
  rw [V1, dif_neg (by decide), if_pos (by decide), mul_one]

/-- The two results. -/
def Out (q k : (Tok 96).Idx → ℝ) (v : (Tok 64).Idx → EReal) (h : Fin 12) (a : Fin 16384) (e : Fin 64) : EReal := ∑ b, (wt (Qh q h) (Hd k h) a b : EReal) * v (ix3 b h e)
def Lse (q k : (Tok 96).Idx → ℝ) (h : Fin 12) (a : Fin 16384) : ℝ := Real.log (∑ b, Real.exp (sc (Qh q h) (Hd k h) a b)) / Real.log 2

theorem St_out (e : Fin 64) : Ideal.div (St q k v h a M 8 (e.castLE (by omega))) (ls (Qh q h) (Hd k h) (fun _ => M * Real.log 2) a : EReal) = Out q k v h a e := by
  have hl := ls_pos (Qh q h) (Hd k h) (fun _ => M * Real.log 2) a
  rw [Ideal.div_coe hl.ne', St_all, Out, ← Cert.Ffn.mul_sum_real _ _ (one_div_pos.mpr hl).le]
  refine Finset.sum_congr rfl fun b _ => ?_
  rw [← wt_shift (Qh q h) (Hd k h) (fun _ => M * Real.log 2) a b, show V1 v h b (e.castLE (by omega)) = v (ix3 b h e) from dif_pos e.isLt, mul_right_comm, ← EReal.coe_mul, mul_one_div]

theorem St_lse : M + Real.log (ls (Qh q h) (Hd k h) (fun _ => M * Real.log 2) a) * (Real.log 2)⁻¹ = Lse q k h a := by
  rw [ls_eq, Real.log_mul (Real.exp_ne_zero _) (sum_pos _ _ a).ne', Real.log_exp, Lse]
  have := log2_ne
  field_simp
  ring

end Cert.Attn

namespace Cert.FwdIdeal.Hand

open Cert.FwdIdeal Cert.FwdIdeal.Gen Cert.Attn
open Idealize.ShloMosaic Idealize.ShloMosaic.ValueIdx
open Cert.KernelIdeal.Hand (Qk log2_ne)

variable {x0 : Vec Ideal S1x1024x96 .bf16} {x1 : Vec Ideal S1x2048x96 .bf16} {x2 : Vec Ideal S1x2048x128 .bf16} {y : Vec Ideal S1024x1 .f32} {z : Vec Ideal S1024x128 .f32}
  {Q : Fin 96 → ℝ} {K : Fin 2048 → Fin 96 → ℝ} {U : Fin 2048 → Fin 128 → EReal} {a : Fin 1024} {m : ℝ} {w : Fin 128 → EReal}

/-- The tile's scores. -/
theorem pay6_at (h0 : ∀ d, x0 (ix3 0 a d) = (Q d : EReal)) (h1 : ∀ b d, x1 (ix3 0 b d) = (K b d : EReal)) (b : Fin 2048) :
    k0_pay6 (F := Ideal) x0 x1 (ix2 a b) = ((∑ d, Q d * K b d : ℝ) : EReal) := by
  refine (Ideal.matmul_transposedRhs_apply (M := 1024) (K := 96) (N := 2048) none _ _ _ a b).trans ?_
  rw [Cert.Ffn.zero_at, zero_add]
  exact coe_dot _ _ _ _ (fun d => ((shapeCast_dropUnit_apply ![1024, 96] x0 _ (ix2 a d)).trans (congrArg x0 (eq_ix3 _))).trans (h0 d))
    (fun d => ((shapeCast_dropUnit_apply ![2048, 96] x1 _ (ix2 b d)).trans (congrArg x1 (eq_ix3 _))).trans (h1 b d))

/-- A row's maximum is a real when its entries are. -/
theorem row_max (s : FVec Ideal S1024x2048 .f32) (a : Fin 1024) (f : Fin 2048 → ℝ) (hs : ∀ b, s (ix2 a b) = (f b : EReal)) (acc) (hacc : acc = FKind.maximumf.neutral .f32 (.inl rfl)) (he : FloatOps.ofBits (F := Ideal) .f32 acc = (⊥ : EReal)) :
    ∃ M : ℝ, shapeCast S1024x1 (multiReduction (F := Ideal) (φ := .f32) .maximumf [1] S1024 s acc reduces_S1024x2048_S1024 (.inl rfl) hacc) shapeCasts_S1024_S1024x1 (ix2 a 0) = (M : EReal) := by
  rw [shapeCast_apply _ shapeCasts_S1024_S1024x1 (ix2 a 0) (ix1 a) (by rw [Shape.rowMajor_val_one, Shape.rowMajor_val_two]; show a.val = a.val * 1 + 0; omega)]
  have er := Ideal.multiReduction_maximumf_single (φ := .f32) s acc reduces_S1024x2048_S1024 (.inl rfl) hacc (ix1 a)
  rw [he] at er
  obtain ⟨M, hM⟩ := max_real (s ∘ (reduces_S1024x2048_S1024).lift (ix1 a)) fun i => ⟨f i, (congrArg s (funext fun c => Fin.ext (by match c with | ⟨0, _⟩ => rfl | ⟨1, _⟩ => rfl))).trans (hs i)⟩
  exact ⟨M, er.trans hM⟩

/-- The next shift is a real. -/
theorem pay7_at (h0 : ∀ d, x0 (ix3 0 a d) = (Q d : EReal)) (h1 : ∀ b d, x1 (ix3 0 b d) = (K b d : EReal)) (hy : y (ix2 a 0) = (m : EReal)) :
    ∃ M : ℝ, k0_pay7 (F := Ideal) x0 x1 y (ix2 a 0) = (M : EReal) := by
  have hs := pay6_at h0 h1
  unfold k0_pay7
  generalize k0_pay6 (F := Ideal) x0 x1 = s at hs ⊢
  obtain ⟨M, hM⟩ := row_max s a _ hs 0xFF800000#32 rfl bot_eq
  dsimp only
  generalize shapeCast S1024x1 _ shapeCasts_S1024_S1024x1 = z at hM ⊢
  exact ⟨max m M, (congrArg₂ (fun u v : EReal => max u v) hy hM).trans (EReal.coe_strictMono.monotone.map_max).symm⟩

/-- The accumulator's next contents. -/
theorem pay8_at (h0 : ∀ d, x0 (ix3 0 a d) = (Q d : EReal)) (h1 : ∀ b d, x1 (ix3 0 b d) = (K b d : EReal)) (h2 : ∀ b d, x2 (ix3 0 b d) = U b d)
    (hy : y (ix2 a 0) = (m : EReal)) (hz : ∀ d, z (ix2 a d) = w d) {M : ℝ} (hM : k0_pay7 (F := Ideal) x0 x1 y (ix2 a 0) = (M : EReal)) (d : Fin 128) :
    k0_pay8 (F := Ideal) x0 x1 y z x2 (ix2 a d) = (((Real.rpow 2 (m - M) : ℝ) : EReal) * w d + ∑ b, ((Real.rpow 2 ((∑ d, Q d * K b d) - M) : ℝ) : EReal) * U b d : EReal) := by
  have hs := pay6_at h0 h1
  unfold k0_pay8
  generalize k0_pay6 (F := Ideal) x0 x1 = s at hs ⊢
  generalize k0_pay7 (F := Ideal) x0 x1 y = u at hM ⊢
  rw [shapeCast_self]
  refine congrArg₂ (fun u v : EReal => u + v) ?_ ?_
  · refine congrArg₂ (fun u v : EReal => u * v) ?_ (hz d)
    refine (Cert.Ffn.col_bcast (M := 1024) (N := 128) _ broadcasts_S1024x1_S1024x128 a d).trans ?_
    exact (congrArg₂ (fun u v : EReal => Ideal.exp2 (u - v)) hy hM).trans ((congrArg Ideal.exp2 (coe_sub _ _)).trans (Ideal.exp2_coe _))
  · refine (Ideal.matmul_plain_apply (M := 1024) (K := 2048) (N := 128) none _ _ _ a d).trans ?_
    rw [Cert.Ffn.zero_at, zero_add]
    refine Finset.sum_congr rfl fun b _ => congrArg₂ (fun u v : EReal => u * v) ?_ (((shapeCast_dropUnit_apply ![2048, 128] x2 _ (ix2 b d)).trans (congrArg x2 (eq_ix3 _))).trans (h2 b d))
    have e := (Cert.Ffn.col_bcast (M := 1024) (N := 2048) u broadcasts_S1024x1_S1024x2048 a b).trans hM
    exact (congrArg₂ (fun u v : EReal => Ideal.exp2 (u - v)) (hs b) e).trans ((congrArg Ideal.exp2 (coe_sub _ _)).trans (Ideal.exp2_coe _))

theorem neg_eq : ∃ M : ℝ, Ideal.ofBits .f32 0xF149F2CA#32 = (M : EReal) := by
  refine ⟨(Ideal.ofBits .f32 0xF149F2CA#32).toReal, (EReal.coe_toReal ?_ ?_).symm⟩ <;> simp [Ideal.ofBits, Ideal.ieee, -EReal.coe_mul]

theorem pay4_at : ∃ M : ℝ, k0_pay4 (F := Ideal) (ix2 a 0) = (M : EReal) := by
  unfold k0_pay4
  rw [shapeCast_self]
  exact neg_eq

theorem pay5_at (d : Fin 128) : k0_pay5 (F := Ideal) (ix2 a d) = (0 : EReal) := by
  unfold k0_pay5
  rw [shapeCast_self]
  exact Ideal.ofBits_zero_f32

theorem pay9_at : k0_pay9 (F := Ideal) x0 x1 y = k0_pay7 x0 x1 y := by
  unfold k0_pay9
  exact shapeCast_self _ _

theorem log2e_at : Named.named (F := Ideal) (φ := .f32) κ "log2e" 0x3FB8AA3B#32 = (((Real.log 2)⁻¹ : ℝ) : EReal) :=
  IdealRules.named_const.ideal_named_scalar _ _ _ _ rfl

theorem pay1_at (hz : ∀ d, z (ix2 a d) = w d) : k0_pay1 (F := Ideal) z (ix2 a 0) = w 64 := by
  unfold k0_pay1
  refine (extractStridedSlice_apply ![0, 64] z slices_S1024x128_o0_64_S1024x1 (ix2 a 0) (ix2 a 64) fun c => ?_).trans (hz 64)
  match c with
  | ⟨0, _⟩ => exact (Nat.zero_add _).symm
  | ⟨1, _⟩ => rfl

theorem pay2_at (hz : ∀ d, z (ix2 a d) = w d) (e : Fin 64) :
    k0_pay2 (F := Ideal) z (ix3 0 a e) = Ideal.div (w (e.castLE (by omega))) (w 64) := by
  have h1 := (Cert.Ffn.col_bcast (M := 1024) (N := 64) (k0_pay1 (F := Ideal) z) broadcasts_S1024x1_S1024x64 a e).trans (pay1_at hz)
  have h2 : extractStridedSlice S1024x64 ![0, 0] z slices_S1024x128_o0_0_S1024x64 (ix2 a e) = w (e.castLE (by omega)) := by
    refine (extractStridedSlice_apply ![0, 0] z slices_S1024x128_o0_0_S1024x64 (ix2 a e) (ix2 a (e.castLE (by omega))) fun c => ?_).trans (hz _)
    match c with
    | ⟨0, _⟩ => exact (Nat.zero_add _).symm
    | ⟨1, _⟩ => exact (Nat.zero_add _).symm
  unfold k0_pay2
  refine (shapeCast_addUnit_apply ![1024, 64] _ _ (ix3 0 a e)).trans ?_
  rw [show (fun i : Fin 2 => (ix3 (0 : Fin 1) a e : S1x1024x64.Idx) i.succ) = ix2 a e from eq_ix2 _]
  exact congrArg₂ Ideal.div h2 h1

theorem pay3_at (hy : y (ix2 a 0) = (m : EReal)) (hz : ∀ d, z (ix2 a d) = w d) {l : ℝ} (hl : w 64 = (l : EReal)) (hw : 0 < l) :
    k0_pay3 (F := Ideal) z y (ix3 0 a 0) = ((m + Real.log l * (Real.log 2)⁻¹ : ℝ) : EReal) := by
  unfold k0_pay3
  refine (shapeCast_addUnit_apply ![1024, 1] _ _ (ix3 0 a 0)).trans ?_
  rw [show (fun i : Fin 2 => (ix3 (0 : Fin 1) a (0 : Fin 1) : S1x1024x1.Idx) i.succ) = ix2 a 0 from eq_ix2 _]
  refine (congrArg₂ (fun u v : EReal => u + v) hy ((congrArg₂ (fun u v : EReal => u * v) ?_ log2e_at).trans (EReal.coe_mul _ _).symm)).trans (EReal.coe_add _ _).symm
  exact (congrArg Ideal.log ((pay1_at hz).trans hl)).trans ((Ideal.log_coe _).trans (if_neg (not_le.mpr hw)))

end Cert.FwdIdeal.Hand

end
-- ==== Proof.Fref.lean ====
module

public import proofs.«01_k».proof.Proof.Fmath
public import proofs.«01_k».proof.Proof.Real
public import proofs.«01_k».proof.Proof.Gen.Pre_finite_fwd
public import proofs.«01_k».proof.Proof.Gen.FwdRefIdeal.Read

@[expose] public section

noncomputable section

/-! The forward call's reference, read at an index, and what its precondition says. -/

namespace Cert.Pre_finite_fwd.Hand

open Cert.Pre_finite_fwd Cert.Attn
open Idealize.ShloMosaic Idealize.ShloMosaic.ValueIdx
open Cert.Pre_finite.Hand (lift_of_all)

theorem real (a0 a1 : FVec Ideal S16384x12x96 .f32) (a2 : FVec Ideal S16384x12x64 .f32) (h : fn (F := Ideal) a0 a1 a2 = fun _ => 1#1) :
    a0 = lift (fun i => (a0 i).toReal) ∧ a1 = lift (fun i => (a1 i).toReal) := by
  have hk := fun j => IntOp.andi_eq_one.1 (congrFun h j)
  exact ⟨lift_of_all a0 _ _ _ (funext fun j => (hk j).1), lift_of_all a1 _ _ _ (funext fun j => (hk j).2)⟩

end Cert.Pre_finite_fwd.Hand

namespace Cert.FwdRefIdeal.Hand

open Cert.FwdRefIdeal Cert.FwdRefIdeal.Gen Cert.FwdRefIdeal.Read Cert.Attn
open Idealize.ShloMosaic Idealize.ShloMosaic.ValueIdx

variable (q k : (Tok 96).Idx → ℝ) (v : (Tok 64).Idx → EReal) (h : Fin 12) (a b : Fin 16384)

theorem r2 : val_main_v2 (F := Ideal) (lift q) (lift k) (ix3 h a b) = (sc (Qh q h) (Hd k h) a b : EReal) := Cert.ReferenceIdeal.Hand.r2 q k h a b

theorem r13 : val_main_v13 (F := Ideal) (lift q) (lift k) (ix3 h a b) = (wt (Qh q h) (Hd k h) a b : EReal) := Cert.ReferenceIdeal.Hand.r27 q k h a b

theorem r24 (e : Fin 64) : val_main_v24 (F := Ideal) (lift q) (lift k) v (ix3 h a e) = Out q k v h a e := by
  rw [val_main_v24_apply, val_main_v23_apply, val_main_v15_apply, val_main_v14_apply]
  refine Finset.sum_congr rfl fun b _ => (congrArg₂ (fun x y : EReal => x * y) (congrArg v (eq_ix3 _)) ((congrArg _ (eq_ix3 _)).trans (r13 q k h a b))).trans (mul_comm _ _)

theorem r22 : val_main_v22 (F := Ideal) (lift q) (lift k) (ix3 h a 0) = (Lse q k h a : EReal) := by
  have e17 : val_main_v17 (F := Ideal) (lift q) (lift k) (ix2 h a) = ((∑ b, Real.exp (sc (Qh q h) (Hd k h) a b) : ℝ) : EReal) := by
    rw [val_main_v17_apply]
    refine (congrArg₂ (fun x y : EReal => x + y) zero_eq ((Finset.sum_congr rfl fun b _ => ?_).trans (coe_sum _ _))).trans ((EReal.coe_add _ _).symm.trans (congrArg _ (zero_add _)))
    refine (congrArg _ (eq_ix3 _)).trans ((val_main_v16_apply _ _ _).trans ?_)
    exact congrArg Ideal.exp (r2 q k h a b)
  rw [val_main_v22_apply, val_main_v19_apply, val_main_v18_apply, show idx_main_v18 (ix3 h a 0) = ix2 h a from eq_ix2 _, e17, val_main_v21_apply]
  exact (congrArg₂ Ideal.div ((Ideal.log_coe _).trans (if_neg (not_le.mpr (sum_pos _ _ a)))) (Cert.KernelIdeal.Hand.w0_eq _)).trans (coe_div _ _ Cert.KernelIdeal.Hand.log2_ne)

end Cert.FwdRefIdeal.Hand

end
-- ==== Proof.Fwd.lean ====
module

public import proofs.«01_k».proof.Defs
public import proofs.«01_k».proof.Proof.Fref
public import proofs.«01_k».proof.Proof.Gen.FwdIdeal.Value
public import proofs.«01_k».proof.Proof.Gen.FwdRefIdeal.Run
public import Idealize.ShloMosaic.Lib.Pipeline.ValueKit.Geometry
public import Idealize.ShloMosaic.Lib.StableHlo.RunRead

@[expose] public section

noncomputable section

/-! The forward call: what its points leave, and its two results against the reference. -/

namespace Cert.FwdIdeal.Hand

open Cert.FwdIdeal Cert.FwdIdeal.Gen Cert.Attn
open Idealize.ShloMosaic Idealize.ShloMosaic.TcCoe Idealize.SL.Sem
open Idealize.ShloMosaic.ValueIdx
open Idealize.ShloMosaic.Pipeline (Dat)
open Cert.KernelIdeal.Hand (Qk log2_ne)
open Cert.Ffn (hz)

theorem hz3 : (![0, 0, 0] : Fin 3 → ℕ) = fun _ => 0 := by
  funext a
  match a with
  | ⟨0, _⟩ => rfl
  | ⟨1, _⟩ => rfl
  | ⟨2, _⟩ => rfl

section
variable {F : FTy → Type} [FloatOps F] [Named F] (c : Dev nD) (i : grid0.Coords) (a3 : Memref sig .tc .vmem S1x1024x96 .bf16) (h3 : a3.IsWhole)
  (a4 : Memref sig .tc .vmem S1x2048x96 .bf16) (h4 : a4.IsWhole) (a5 : Memref sig .tc .vmem S1x2048x128 .bf16) (h5 : a5.IsWhole)
  (a6 : Memref sig .tc .vmem S1x1024x64 .bf16) (h6 : a6.IsWhole) (a7 : Memref sig .tc .vmem S1x1024x1 .f32) (h7 : a7.IsWhole)
  (a8 : Memref sig .tc .vmem S1024x1 .f32) (h8 : a8.IsWhole) (a9 : Memref sig .tc .vmem S1024x128 .f32) (h9 : a9.IsWhole)
  (x0 : Vec F S1x1024x96 .bf16) (x1 : Vec F S1x2048x96 .bf16) (x2 : Vec F S1x2048x128 .bf16) (y : Vec F S1024x1 .f32) (z : Vec F S1024x128 .f32)

theorem sout_A_0 (h0 h1) : sout0_A_0 c i a3 h3 a4 h4 a5 h5 a6 h6 a7 h7 a8 h8 a9 h9 h0 h1 x0 x1 x2 = k0_pay9 x0 x1 (k0_pay4 (F := F)) := by
  unfold sout0_A_0
  rw [View.read_writes_eq_canon _ _ _ (scover0_A_0 c i a3 h3 a4 h4 a5 h5 a6 h6 a7 h7 a8 h8 a9 h9 h0 h1 x0 x1 x2)]
  unfold kernelRun0_A
  dsimp only
  sl_unfold_words
  rw [View.canon_cons_unit_zero (S := S1024x1) hz, View.readCov_unit_zero (S := S1024x1) _ hz]
  simp only [View.readAt_eq_ld, h3.read_unread, h4.read_unread, h5.read_unread, View.ld_unit_zero (S := S1x1024x96) hz3, View.ld_unit_zero (S := S1x2048x96) hz3, View.ld_unit_zero (S := S1x2048x128) hz3]

theorem sout_A_1 (h0 h1) : sout0_A_1 c i a3 h3 a4 h4 a5 h5 a6 h6 a7 h7 a8 h8 a9 h9 h0 h1 x0 x1 x2 = k0_pay8 x0 x1 (k0_pay4 (F := F)) (k0_pay5 (F := F)) x2 := by
  unfold sout0_A_1
  rw [View.read_writes_eq_canon _ _ _ (scover0_A_1 c i a3 h3 a4 h4 a5 h5 a6 h6 a7 h7 a8 h8 a9 h9 h0 h1 x0 x1 x2)]
  unfold kernelRun0_A
  dsimp only
  sl_unfold_words
  rw [View.canon_cons_unit_zero (S := S1024x128) hz, View.readCov_unit_zero (S := S1024x1) _ hz, View.readCov_unit_zero (S := S1024x128) _ hz]
  simp only [View.readAt_eq_ld, h3.read_unread, h4.read_unread, h5.read_unread, View.ld_unit_zero (S := S1x1024x96) hz3, View.ld_unit_zero (S := S1x2048x96) hz3, View.ld_unit_zero (S := S1x2048x128) hz3]

theorem sout_B_0 (h0 h1) : sout0_B_0 c i a3 h3 a4 h4 a5 h5 a6 h6 a7 h7 a8 h8 a9 h9 h0 h1 x0 x1 x2 y z = k0_pay9 x0 x1 y := by
  unfold sout0_B_0
  rw [View.read_writes_eq_canon _ _ _ (scover0_B_0 c i a3 h3 a4 h4 a5 h5 a6 h6 a7 h7 a8 h8 a9 h9 h0 h1 x0 x1 x2 y z)]
  unfold kernelRun0_B
  dsimp only
  sl_unfold_words
  rw [View.canon_unit_zero hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

theorem sout_B_1 (h0 h1) : sout0_B_1 c i a3 h3 a4 h4 a5 h5 a6 h6 a7 h7 a8 h8 a9 h9 h0 h1 x0 x1 x2 y z = k0_pay8 x0 x1 y z x2 := by
  unfold sout0_B_1
  rw [View.read_writes_eq_canon _ _ _ (scover0_B_1 c i a3 h3 a4 h4 a5 h5 a6 h6 a7 h7 a8 h8 a9 h9 h0 h1 x0 x1 x2 y z)]
  unfold kernelRun0_B
  dsimp only
  sl_unfold_words
  rw [View.canon_unit_zero hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

theorem sout_C_0 (h0 h1) : sout0_C_0 c i a3 h3 a4 h4 a5 h5 a6 h6 a7 h7 a8 h8 a9 h9 h0 h1 x0 x1 x2 y z = k0_pay9 x0 x1 y := by
  unfold sout0_C_0
  rw [View.read_writes_eq_canon _ _ _ (scover0_C_0 c i a3 h3 a4 h4 a5 h5 a6 h6 a7 h7 a8 h8 a9 h9 h0 h1 x0 x1 x2 y z)]
  unfold kernelRun0_C
  dsimp only
  sl_unfold_words
  rw [View.canon_unit_zero hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

theorem sout_C_1 (h0 h1) : sout0_C_1 c i a3 h3 a4 h4 a5 h5 a6 h6 a7 h7 a8 h8 a9 h9 h0 h1 x0 x1 x2 y z = k0_pay8 x0 x1 y z x2 := by
  unfold sout0_C_1
  rw [View.read_writes_eq_canon _ _ _ (scover0_C_1 c i a3 h3 a4 h4 a5 h5 a6 h6 a7 h7 a8 h8 a9 h9 h0 h1 x0 x1 x2 y z)]
  unfold kernelRun0_C
  dsimp only
  sl_unfold_words
  rw [View.canon_unit_zero hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

theorem outC3 (h0 h1) : out0_C_3 c i a3 h3 a4 h4 a5 h5 a6 h6 a7 h7 a8 h8 a9 h9 h0 h1 x0 x1 x2 y z = k0_pay2 (k0_pay8 x0 x1 y z x2) := by
  unfold out0_C_3
  rw [View.read_writes_eq_canon _ _ _ (cover0_C_3 c i a3 h3 a4 h4 a5 h5 a6 h6 a7 h7 a8 h8 a9 h9 h0 h1 x0 x1 x2 y z)]
  unfold kernelRun0_C
  dsimp only
  sl_unfold_words
  rw [View.canon_unit_zero hz3, View.readCov_unit_zero (S := S1024x128) _ hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

theorem outC4 (h0 h1) : out0_C_4 c i a3 h3 a4 h4 a5 h5 a6 h6 a7 h7 a8 h8 a9 h9 h0 h1 x0 x1 x2 y z = k0_pay3 (k0_pay8 x0 x1 y z x2) (k0_pay9 x0 x1 y) := by
  unfold out0_C_4
  rw [View.read_writes_eq_canon _ _ _ (cover0_C_4 c i a3 h3 a4 h4 a5 h5 a6 h6 a7 h7 a8 h8 a9 h9 h0 h1 x0 x1 x2 y z)]
  unfold kernelRun0_C
  dsimp only
  sl_unfold_words
  rw [View.canon_unit_zero hz3, View.readCov_unit_zero (S := S1024x128) _ hz, View.readCov_unit_zero (S := S1024x1) _ hz]
  simp only [View.readAt_eq_ld, h3.read_unread, h4.read_unread, h5.read_unread, h8.read_unread, h9.read_unread, View.ld_unit_zero (S := S1x1024x96) hz3, View.ld_unit_zero (S := S1x2048x96) hz3, View.ld_unit_zero (S := S1x2048x128) hz3, View.ld_unit_zero (S := S1024x1) hz, View.ld_unit_zero (S := S1024x128) hz]

end

variable (m : (ℓ : Loc nD τ sig) → Buf (Elt Ideal) ℓ) (c : Dev nD)

/-- The arguments. -/
abbrev A0 : FVec Ideal S16384x12x96 .f32 := m ((c.tc : Thread nD τ).loc main_arg0)
abbrev A1 : FVec Ideal S16384x12x96 .f32 := m ((c.tc : Thread nD τ).loc main_arg1)
abbrev A2 : FVec Ideal S16384x12x64 .f32 := m ((c.tc : Thread nD τ).loc main_arg2)

theorem V_main_v6 : V (F := Ideal) m c main_v6 = transpose S12x16384x96 [1, 0, 2]
    (truncf .bf16 (Host.divf (Cert.KernelIdeal.Hand.w2 (A0 m c)) (broadcastInDim S16384x12x96 ![] bcast_S_S16384x12x96 Cert.KernelIdeal.Hand.w0)) bitsLt_bf16_f32) transposes_S16384x12x96_S12x16384x96_1_0_2 := by
  after_reads_simp
  rfl

theorem V_main_v8 : V (F := Ideal) m c main_v8 = transpose S12x16384x96 [1, 0, 2] (truncf (F := Ideal) (φ := .f32) .bf16 (A1 m c) bitsLt_bf16_f32) transposes_S16384x12x96_S12x16384x96_1_0_2 := by
  after_reads_simp

/-- The values' three pieces: themselves, ones and zeros. -/
def w10 (v : FVec Ideal S16384x12x64 .f32) : FVec Ideal S12x16384x64 .bf16 :=
  transpose S12x16384x64 [1, 0, 2] (truncf (F := Ideal) (φ := .f32) .bf16 v bitsLt_bf16_f32) transposes_S16384x12x64_S12x16384x64_1_0_2
def w11 : FVec Ideal S12x16384x1 .bf16 := broadcastInDim S12x16384x1 ![] bcast_S_S12x16384x1 (constant (F := Ideal) S_ .bf16 0x3F80#16)
def w12 : FVec Ideal S12x16384x63 .bf16 := broadcastInDim S12x16384x63 ![] bcast_S_S12x16384x63 (constant (F := Ideal) S_ .bf16 0x0000#16)

theorem V_main_v13 : V (F := Ideal) m c main_v13 = concatenate S12x16384x128 2 [⟨S12x16384x64, w10 (A2 m c)⟩, ⟨S12x16384x1, w11⟩, ⟨S12x16384x63, w12⟩]
    concatenates_S12x16384x64_S12x16384x1_S12x16384x63_S12x16384x128_d2 := by
  after_reads_simp
  rfl

section
variable {m c} {q k : (Tok 96).Idx → ℝ} {v : (Tok 64).Idx → EReal} (h : Fin 12) (a b : Fin 16384)

theorem arr_q (h0 : A0 m c = lift q) (d : Fin 96) : (V (F := Ideal) m c main_v6 : S12x16384x96.Idx → EReal) (ix3 h a d) = (Qk q h a d : EReal) := by
  rw [V_main_v6, h0]
  refine (Cert.KernelIdeal.Hand.swap96 _ h a d).trans ((congrArg₂ Ideal.div (Cert.KernelIdeal.Hand.w2_eq q _) ((Cert.KernelIdeal.Hand.bc_scalar _ _ _).trans (Cert.KernelIdeal.Hand.w0_eq _))).trans ?_)
  exact coe_div _ _ log2_ne

theorem arr_k (h1 : A1 m c = lift k) (d : Fin 96) : (V (F := Ideal) m c main_v8 : S12x16384x96.Idx → EReal) (ix3 h b d) = (Hd k h b d : EReal) := by
  rw [V_main_v8, h1]
  exact Cert.KernelIdeal.Hand.swap96 _ h b d

theorem one_bf16 : Ideal.ofBits .bf16 0x3F80#16 = (1 : EReal) := by
  refine Eq.trans ?_ EReal.coe_one
  simp [Ideal.ofBits, Ideal.ieee, -EReal.coe_mul]
  norm_num
theorem zero_bf16 : Ideal.ofBits .bf16 0x0000#16 = (0 : EReal) := by
  simp [Ideal.ofBits, Ideal.ieee, -EReal.coe_mul]

theorem arr_v (h2 : A2 m c = v) (d : Fin 128) : (V (F := Ideal) m c main_v13 : S12x16384x128.Idx → EReal) (ix3 h b d) = V1 v h b d := by
  rw [V_main_v13, h2]
  by_cases hd : d.val < 64
  · refine (concatenate_apply_piece 2 _ _ (ix3 h b d) 0 (by simp) S12x16384x64 (w10 v) rfl rfl 0 rfl (ix3 h b ⟨d.val, hd⟩) ?_ (Nat.zero_add _)).trans ?_
    · intro e he
      match e with
      | ⟨0, _⟩ => rfl
      | ⟨1, _⟩ => rfl
      | ⟨2, _⟩ => exact absurd rfl he
    · rw [V1, dif_pos hd]
      exact Cert.KernelIdeal.Hand.swap64 _ h b ⟨d.val, hd⟩
  · by_cases he : d.val = 64
    · refine (concatenate_apply_piece 2 _ _ (ix3 h b d) 1 (by simp) S12x16384x1 w11 rfl rfl 64 rfl (ix3 h b 0) ?_ (by show 64 + 0 = d.val; omega)).trans ?_
      · intro e he
        match e with
        | ⟨0, _⟩ => rfl
        | ⟨1, _⟩ => rfl
        | ⟨2, _⟩ => exact absurd rfl he
      · rw [V1, dif_neg hd, if_pos he]
        exact one_bf16
    · refine (concatenate_apply_piece 2 _ _ (ix3 h b d) 2 (by simp) S12x16384x63 w12 rfl rfl 65 rfl (ix3 h b ⟨d.val - 65, by omega⟩) ?_ (by show 65 + (d.val - 65) = d.val; omega)).trans ?_
      · intro e he
        match e with
        | ⟨0, _⟩ => rfl
        | ⟨1, _⟩ => rfl
        | ⟨2, _⟩ => exact absurd rfl he
      · rw [V1, dif_neg hd, if_neg he]
        exact zero_bf16
end

/-! What a point reads. -/

theorem lt1536 {n : ℕ} (h : n < cfg0.N) : n < 1536 := lt_of_lt_of_eq h N_0

/-- The head of a point, and the row of the arrays that a point's block's is. -/
def head (n : ℕ) : Fin 12 := ⟨n / 128 % 12, Nat.mod_lt _ (by decide)⟩
def row (n : ℕ) (r : Fin 1024) : Fin 16384 := ⟨1024 * (n / 8 % 16) + r.val, by omega⟩

theorem word0 (t : Fin cfg0.N) : (BitVec.ofNat 32 (grid0.coords t 0).val).toNat = t.val / 128 % 12 := by
  rw [show (grid0.coords t 0).val = t.val / 128 % 12 from Pipeline.Grid.coords_val t 0 (by decide) rfl, BitVec.toNat_ofNat]
  omega
theorem word1 (t : Fin cfg0.N) : (BitVec.ofNat 32 (grid0.coords t 1).val).toNat = t.val / 8 % 16 := by
  rw [show (grid0.coords t 1).val = t.val / 8 % 16 from Pipeline.Grid.coords_val t 1 (by decide) rfl, BitVec.toNat_ofNat]
  omega
theorem word2 (t : Fin cfg0.N) : (BitVec.ofNat 32 (grid0.coords t 2).val).toNat = t.val % 8 := by
  rw [show (grid0.coords t 2).val = t.val / 1 % 8 from Pipeline.Grid.coords_val t 2 (by decide) rfl, BitVec.toNat_ofNat]
  omega

theorem emb0 (t : Fin cfg0.N) (r : Fin 1024) (d : Fin 96) : (win0_0.rect t).emb (ix3 (0 : Fin 1) r d) = ix3 (head t.val) (row t.val r) d := by
  funext a; apply Fin.ext
  match a with
  | ⟨0, _⟩ => exact (win0_0.rect_emb_val t _ 0).trans (show (BitVec.ofNat 32 (grid0.coords t 0).val).toNat * 1 + 0 = t.val / 128 % 12 by rw [word0]; omega)
  | ⟨1, _⟩ => exact (win0_0.rect_emb_val t _ 1).trans (show (BitVec.ofNat 32 (grid0.coords t 1).val).toNat * 1024 + r.val = 1024 * (t.val / 8 % 16) + r.val by rw [word1]; omega)
  | ⟨2, _⟩ => exact (win0_0.rect_emb_val t _ 2).trans (show 0 * 96 + d.val = d.val by omega)
theorem emb1 (t : Fin cfg0.N) (b : Fin 2048) (d : Fin 96) : (win0_1.rect t).emb (ix3 (0 : Fin 1) b d) = ix3 (head t.val) (key (t.val % 8) b) d := by
  funext a; apply Fin.ext
  match a with
  | ⟨0, _⟩ => exact (win0_1.rect_emb_val t _ 0).trans (show (BitVec.ofNat 32 (grid0.coords t 0).val).toNat * 1 + 0 = t.val / 128 % 12 by rw [word0]; omega)
  | ⟨1, _⟩ => exact (win0_1.rect_emb_val t _ 1).trans (show (BitVec.ofNat 32 (grid0.coords t 2).val).toNat * 2048 + b.val = 2048 * (t.val % 8 % 8) + b.val by rw [word2]; omega)
  | ⟨2, _⟩ => exact (win0_1.rect_emb_val t _ 2).trans (show 0 * 96 + d.val = d.val by omega)
theorem emb2 (t : Fin cfg0.N) (b : Fin 2048) (d : Fin 128) : (win0_2.rect t).emb (ix3 (0 : Fin 1) b d) = ix3 (head t.val) (key (t.val % 8) b) d := by
  funext a; apply Fin.ext
  match a with
  | ⟨0, _⟩ => exact (win0_2.rect_emb_val t _ 0).trans (show (BitVec.ofNat 32 (grid0.coords t 0).val).toNat * 1 + 0 = t.val / 128 % 12 by rw [word0]; omega)
  | ⟨1, _⟩ => exact (win0_2.rect_emb_val t _ 1).trans (show (BitVec.ofNat 32 (grid0.coords t 2).val).toNat * 2048 + b.val = 2048 * (t.val % 8 % 8) + b.val by rw [word2]; omega)
  | ⟨2, _⟩ => exact (win0_2.rect_emb_val t _ 2).trans (show 0 * 128 + d.val = d.val by omega)
theorem emb3 (t : Fin cfg0.N) (r : Fin 1024) (e : Fin 64) : (win0_3.rect t).emb (ix3 (0 : Fin 1) r e) = ix3 (head t.val) (row t.val r) e := by
  funext a; apply Fin.ext
  match a with
  | ⟨0, _⟩ => exact (win0_3.rect_emb_val t _ 0).trans (show (BitVec.ofNat 32 (grid0.coords t 0).val).toNat * 1 + 0 = t.val / 128 % 12 by rw [word0]; omega)
  | ⟨1, _⟩ => exact (win0_3.rect_emb_val t _ 1).trans (show (BitVec.ofNat 32 (grid0.coords t 1).val).toNat * 1024 + r.val = 1024 * (t.val / 8 % 16) + r.val by rw [word1]; omega)
  | ⟨2, _⟩ => exact (win0_3.rect_emb_val t _ 2).trans (show 0 * 64 + e.val = e.val by omega)
theorem emb4 (t : Fin cfg0.N) (r : Fin 1024) (e : Fin 1) : (win0_4.rect t).emb (ix3 (0 : Fin 1) r e) = ix3 (head t.val) (row t.val r) e := by
  funext a; apply Fin.ext
  match a with
  | ⟨0, _⟩ => exact (win0_4.rect_emb_val t _ 0).trans (show (BitVec.ofNat 32 (grid0.coords t 0).val).toNat * 1 + 0 = t.val / 128 % 12 by rw [word0]; omega)
  | ⟨1, _⟩ => exact (win0_4.rect_emb_val t _ 1).trans (show (BitVec.ofNat 32 (grid0.coords t 1).val).toNat * 1024 + r.val = 1024 * (t.val / 8 % 16) + r.val by rw [word1]; omega)
  | ⟨2, _⟩ => exact (win0_4.rect_emb_val t _ 2).trans (show 0 * 1 + e.val = e.val by omega)

/-- The tiles a point reads. -/
abbrev X0 (t : Fin cfg0.N) : FVec Ideal S1x1024x96 .bf16 := iblk m c 0 t
abbrev X1 (t : Fin cfg0.N) : FVec Ideal S1x2048x96 .bf16 := iblk m c 1 t
abbrev X2 (t : Fin cfg0.N) : FVec Ideal S1x2048x128 .bf16 := iblk m c 2 t

section
variable {m c} {q k : (Tok 96).Idx → ℝ} {v : (Tok 64).Idx → EReal} (h0 : A0 m c = lift q) (h1 : A1 m c = lift k) (h2 : A2 m c = v)
include h0 h1 h2

/-- One point: the shift it leaves is a real, and its accumulator is the row's sums with that shift. -/
theorem step (t : Fin cfg0.N) (r : Fin 1024) (y : FVec Ideal S1024x1 .f32) (z : FVec Ideal S1024x128 .f32) (M : ℝ) (hy : y (ix2 r 0) = (M : EReal))
    (hz : ∀ d, z (ix2 r d) = St q k v (head t.val) (row t.val r) M (t.val % 8) d) :
    ∃ M' : ℝ, k0_pay9 (F := Ideal) (X0 m c t) (X1 m c t) y (ix2 r 0) = (M' : EReal)
      ∧ ∀ d, k0_pay8 (F := Ideal) (X0 m c t) (X1 m c t) y z (X2 m c t) (ix2 r d) = St q k v (head t.val) (row t.val r) M' (t.val % 8 + 1) d := by
  have e0 : ∀ d, X0 m c t (ix3 0 r d) = (Qk q (head t.val) (row t.val r) d : EReal) := fun d =>
    (congrArg (V (F := Ideal) m c main_v6 : S12x16384x96.Idx → EReal) (emb0 t r d)).trans (arr_q _ _ h0 d)
  have e1 : ∀ b d, X1 m c t (ix3 0 b d) = (Hd k (head t.val) (key (t.val % 8) b) d : EReal) := fun b d =>
    (congrArg (V (F := Ideal) m c main_v8 : S12x16384x96.Idx → EReal) (emb1 t b d)).trans (arr_k _ _ h1 d)
  have e2 : ∀ b d, X2 m c t (ix3 0 b d) = V1 v (head t.val) (key (t.val % 8) b) d := fun b d =>
    (congrArg (V (F := Ideal) m c main_v13 : S12x16384x128.Idx → EReal) (emb2 t b d)).trans (arr_v _ _ h2 d)
  obtain ⟨M', hM⟩ := pay7_at e0 e1 hy
  refine ⟨M', (congrFun pay9_at _).trans hM, fun d => (pay8_at e0 e1 e2 hy hz hM d).trans ?_⟩
  exact St_succ q k v (head t.val) (row t.val r) M M' (t.val % 8) d

/-- What the scratch holds after each point. -/
theorem inv (n : ℕ) (hn : n < cfg0.N) (r : Fin 1024) :
    ∃ M : ℝ, ((outsAt0 m c n hn).2.2.1 (ix2 r 0) : EReal) = (M : EReal)
      ∧ ∀ d, ((outsAt0 m c n hn).2.2.2 (ix2 r d) : EReal) = St q k v (head n) (row n r) M (n % 8 + 1) d := by
  induction n using Nat.strong_induction_on with
  | _ n ih =>
    by_cases hA : n % 8 = 0
    · obtain ⟨M, hM⟩ := pay4_at (a := r)
      obtain ⟨M', e1, e2⟩ := step h0 h1 h2 ⟨n, hn⟩ r (k0_pay4 (F := Ideal)) (k0_pay5 (F := Ideal)) M hM fun d =>
        (pay5_at d).trans (by show 0 = St q k v (head n) (row n r) M (n % 8) d; rw [hA]; rfl)
      have e := outsAt0_A m c ⟨n, hn⟩ hA (by show ¬n % 8 = 7; omega)
      refine ⟨M', ?_, fun d => ?_⟩
      · refine (congrArg (fun z => (z.2.2.1 (ix2 r 0) : EReal)) e).trans ?_
        dsimp only
        rw [sout_A_0]
        exact e1
      · refine (congrArg (fun z => (z.2.2.2 (ix2 r d) : EReal)) e).trans ?_
        dsimp only
        rw [sout_A_1]
        exact e2 d
    · have hp : n - 1 < cfg0.N := Nat.lt_of_le_of_lt (Nat.sub_le _ _) hn
      obtain ⟨M, m1, m2⟩ := ih (n - 1) (by omega) hp
      rw [show head (n - 1) = head n from Fin.ext (by show (n - 1) / 128 % 12 = n / 128 % 12; omega),
        show row (n - 1) r = row n r from Fin.ext (by show 1024 * ((n - 1) / 8 % 16) + r.val = 1024 * (n / 8 % 16) + r.val; omega),
        show (n - 1) % 8 + 1 = n % 8 by omega] at m2
      obtain ⟨M', e1, e2⟩ := step h0 h1 h2 ⟨n, hn⟩ r _ _ M m1 m2
      by_cases hC : n % 8 = 7
      · have e := outsAt0_C m c ⟨n, hn⟩ hA hC
        refine ⟨M', ?_, fun d => ?_⟩
        · refine (congrArg (fun z => (z.2.2.1 (ix2 r 0) : EReal)) e).trans ?_
          dsimp only
          rw [sout_C_0]
          exact e1
        · refine (congrArg (fun z => (z.2.2.2 (ix2 r d) : EReal)) e).trans ?_
          dsimp only
          rw [sout_C_1]
          exact e2 d
      · have e := outsAt0_B m c ⟨n, hn⟩ hA hC
        refine ⟨M', ?_, fun d => ?_⟩
        · refine (congrArg (fun z => (z.2.2.1 (ix2 r 0) : EReal)) e).trans ?_
          dsimp only
          rw [sout_B_0]
          exact e1
        · refine (congrArg (fun z => (z.2.2.2 (ix2 r d) : EReal)) e).trans ?_
          dsimp only
          rw [sout_B_1]
          exact e2 d
end

/-- At a block's last point the outputs are read off what the point leaves in the scratch. -/
theorem outs_C (t : Fin cfg0.N) (ht : t.val % 8 = 7) :
    (outsAt0 m c t.val t.isLt).1 = k0_pay2 (F := Ideal) (outsAt0 m c t.val t.isLt).2.2.2
      ∧ (outsAt0 m c t.val t.isLt).2.1 = k0_pay3 (F := Ideal) (outsAt0 m c t.val t.isLt).2.2.2 (outsAt0 m c t.val t.isLt).2.2.1 := by
  rw [outsAt0_C m c t (by omega) ht]
  dsimp only
  rw [outC3, outC4, sout_C_0, sout_C_1]
  exact ⟨rfl, rfl⟩

/-- The results: the rows' outputs, and the logarithms of their sums over `log 2`. -/
def G3 (q k : (Tok 96).Idx → ℝ) (v : (Tok 64).Idx → EReal) : FVec Ideal S12x16384x64 .bf16 := fun i => Out q k v (i 0) (i 1) (i 2)
def G4 (q k : (Tok 96).Idx → ℝ) : FVec Ideal S12x16384x1 .f32 := fun i => (Lse q k (i 0) (i 1) : EReal)

section
variable {m c} {q k : (Tok 96).Idx → ℝ} {v : (Tok 64).Idx → EReal} (h0 : A0 m c = lift q) (h1 : A1 m c = lift k) (h2 : A2 m c = v)
include h0 h1 h2

theorem out3_at (t : Fin cfg0.N) (ht : t.val % 8 = 7) (r : Fin 1024) (e : Fin 64) :
    (dats m 0 c).after 3 t (ix3 0 r e) = Out q k v (head t.val) (row t.val r) e := by
  rw [after0_3, (outs_C m c t ht).1]
  obtain ⟨M, _, e2⟩ := inv h0 h1 h2 t.val t.isLt r
  rw [ht] at e2
  refine (pay2_at e2 e).trans ?_
  rw [St_ones]
  exact St_out q k v _ _ M e

theorem out4_at (t : Fin cfg0.N) (ht : t.val % 8 = 7) (r : Fin 1024) :
    (dats m 0 c).after 4 t (ix3 0 r 0) = (Lse q k (head t.val) (row t.val r) : EReal) := by
  rw [after0_4, (outs_C m c t ht).2]
  obtain ⟨M, e1, e2⟩ := inv h0 h1 h2 t.val t.isLt r
  rw [ht] at e2
  exact (pay3_at e1 e2 (St_ones q k v _ _ M) (ls_pos _ _ _ _)).trans (congrArg (fun z : ℝ => (z : EReal)) (St_lse q k _ _ M))

theorem final3 : (dats m 0 c).arrAt 3 cfg0.N = G3 q k v :=
  Dat.arrAt_eq_of_covers _ 3 _ (by decide +kernel) fun t hf y => by
    show (dats m 0 c).after 3 t y = G3 q k v ((win0_3.rect t).emb y)
    have e : y = ix3 (0 : Fin 1) (y 1) (y 2) := (eq_ix3 y).trans (congrArg (fun z : Fin 1 => ix3 z (y 1) (y 2)) (Subsingleton.elim (α := Fin 1) (y 0) 0))
    refine (congrArg _ e).trans ((out3_at h0 h1 h2 t ((flush0_3 t).mp hf) (y 1) (y 2)).trans (?_ : G3 q k v (ix3 (head t.val) (row t.val (y 1)) (y 2)) = _))
    exact congrArg (G3 q k v) ((emb3 t (y 1) (y 2)).symm.trans (congrArg (fun z => (win0_3.rect t).emb z) e.symm))

theorem final4 : (dats m 0 c).arrAt 4 cfg0.N = G4 q k :=
  Dat.arrAt_eq_of_covers _ 4 _ (by decide +kernel) fun t hf y => by
    show (dats m 0 c).after 4 t y = G4 q k ((win0_4.rect t).emb y)
    have e : y = ix3 (0 : Fin 1) (y 1) (0 : Fin 1) := (eq_ix3 y).trans (congrArg₂ (fun z w : Fin 1 => ix3 z (y 1) w) (Subsingleton.elim (α := Fin 1) (y 0) 0) (Subsingleton.elim (α := Fin 1) (y 2) 0))
    refine (congrArg _ e).trans ((out4_at h0 h1 h2 t ((flush0_4 t).mp hf) (y 1)).trans (?_ : G4 q k (ix3 (head t.val) (row t.val (y 1)) (0 : Fin 1)) = _))
    exact congrArg (G4 q k) ((emb4 t (y 1) 0).symm.trans (congrArg (fun z => (win0_4.rect t).emb z) e.symm))
end

end Cert.FwdIdeal.Hand

namespace Cert.Proof

open Idealize.ShloMosaic Idealize.SL.Sem Idealize.ShloMosaic.ValueIdx Cert.Attn
open Cert.FwdIdeal.Hand (G3 G4 A0 A1 A2)

theorem ref_fwd_out (q k : (Tok 96).Idx → ℝ) (v : (Tok 64).Idx → EReal) : Cert.FwdRefIdeal.Read.val_main_v24 (F := Ideal) (lift q) (lift k) v = G3 q k v :=
  funext fun i => (congrArg _ (eq_ix3 i)).trans (Cert.FwdRefIdeal.Hand.r24 q k v (i 0) (i 1) (i 2))

theorem ref_fwd_lse (q k : (Tok 96).Idx → ℝ) : Cert.FwdRefIdeal.Read.val_main_v22 (F := Ideal) (lift q) (lift k) = G4 q k := funext fun i =>
  (congrArg _ ((eq_ix3 i).trans (congrArg (fun z : Fin 1 => ix3 (i 0) (i 1) z) (Subsingleton.elim (α := Fin 1) (i 2) 0)))).trans (Cert.FwdRefIdeal.Hand.r22 q k (i 0) (i 1))

theorem algebraic_fwd : algebraic_FwdIdeal_FwdRefIdeal_pre_finite_fwd := by
  intro m g m' g' hpre hargs
  have hr := fun c => Cert.Pre_finite_fwd.Hand.real _ _ _ (hpre c)
  refine ⟨fun c => G3 (fun i => (A0 m c i).toReal) (fun i => (A1 m c i).toReal) (A2 m c),
    fun c => G4 (fun i => (A0 m c i).toReal) (fun i => (A1 m c i).toReal), ?_, ?_⟩
  · refine (θ_run Cert.FwdIdeal.defs _ _).mono (fun r h c => ?_) (Cert.FwdIdeal.Value.run_blocks (F := Ideal) m g)
    obtain ⟨e0, e1⟩ := hr c
    exact ⟨(h c).1.trans (Cert.FwdIdeal.Hand.final3 e0 e1 rfl), (h c).2.1.trans (Cert.FwdIdeal.Hand.final4 e0 e1 rfl), (h c).2.2⟩
  · refine (θ_run Cert.FwdRefIdeal.defs _ _).mono (fun r h c => ?_) (Cert.FwdRefIdeal.Value.run (F := Ideal) m' g')
    obtain ⟨e0, e1⟩ := hr c
    obtain ⟨a0, a1, a2⟩ := hargs c
    refine ⟨(h c).1.trans ?_, (h c).2.1.trans ?_, (h c).2.2⟩
    · rw [a0.trans e0, a1.trans e1, a2]
      exact ref_fwd_out _ _ _
    · rw [a0.trans e0, a1.trans e1]
      exact (Cert.FwdRefIdeal.Read.val_main_v22_eq (F := Ideal) _ _).trans (ref_fwd_lse _ _)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_act
public import proofs.«01_k».proof.Proof.Gen.ReferenceIdeal.Run
public import proofs.«01_k».proof.Proof.Gen.ReferenceIdeal.Read
public import proofs.«01_k».proof.Proof.Gen.Up
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down
public import proofs.«01_k».proof.Proof.Gen.DownIdeal.Value
public import proofs.«01_k».proof.Proof.Gen.DownRefIdeal.Run
public import proofs.«01_k».proof.Proof.Gen.DownRefIdeal.Read
public import proofs.«01_k».proof.Proof.Gen.Post
public import proofs.«01_k».proof.Proof.Gen.PostIdeal.Value
public import proofs.«01_k».proof.Proof.Gen.PostRefIdeal.Run
public import proofs.«01_k».proof.Proof.Gen.PostRefIdeal.Read
public import proofs.«01_k».proof.Proof.Gen.Act
public import proofs.«01_k».proof.Proof.Gen.ActIdeal.Value
public import proofs.«01_k».proof.Proof.Gen.ActRefIdeal.Run
public import proofs.«01_k».proof.Proof.Gen.ActRefIdeal.Read
public import proofs.«01_k».proof.Proof.Gen.Wd
public import proofs.«01_k».proof.Proof.Gen.WdIdeal.Value
public import proofs.«01_k».proof.Proof.Gen.WdRefIdeal.Run
public import proofs.«01_k».proof.Proof.Gen.WdRefIdeal.Read
public import proofs.«01_k».proof.Proof.Gen.Wgu
public import proofs.«01_k».proof.Proof.Gen.WguIdeal.Value
public import proofs.«01_k».proof.Proof.Gen.WguRefIdeal.Run
public import proofs.«01_k».proof.Proof.Gen.WguRefIdeal.Read
public import proofs.«01_k».proof.Proof.Gen.In
public import proofs.«01_k».proof.Proof.Gen.InIdeal.Value
public import proofs.«01_k».proof.Proof.Gen.InRefIdeal.Run
public import proofs.«01_k».proof.Proof.Gen.InRefIdeal.Read
public import proofs.«01_k».proof.Proof.Gen.Sconv
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.Zin
public import proofs.«01_k».proof.Proof.Gen.ZinIdeal.Value
public import proofs.«01_k».proof.Proof.Gen.ZinRefIdeal.Run
public import proofs.«01_k».proof.Proof.Gen.ZinRefIdeal.Read
public import proofs.«01_k».proof.Proof.Gen.Bout
public import proofs.«01_k».proof.Proof.Gen.BoutIdeal.Value
public import proofs.«01_k».proof.Proof.Gen.BoutRefIdeal.Run
public import proofs.«01_k».proof.Proof.Gen.BoutRefIdeal.Read
public import proofs.«01_k».proof.Proof.Gen.Dwout
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.Dwin
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.Fwd.Frame
public import proofs.«01_k».proof.Proof.Gen.Pre_finite_fwd
public import proofs.«01_k».proof.Proof.Gen.Fwd
public import proofs.«01_k».proof.Proof.Gen.FwdIdeal.Value
public import proofs.«01_k».proof.Proof.Gen.FwdRefIdeal.Run
public import proofs.«01_k».proof.Proof.Gen.FwdRefIdeal.Read
public import proofs.«01_k».proof.Proof.KRun
public import proofs.«01_k».proof.Proof.Alg
public import proofs.«01_k».proof.Proof.Up
public import proofs.«01_k».proof.Proof.Down
public import proofs.«01_k».proof.Proof.Post
public import proofs.«01_k».proof.Proof.Act
public import proofs.«01_k».proof.Proof.Wd
public import proofs.«01_k».proof.Proof.Wgu
public import proofs.«01_k».proof.Proof.In
public import proofs.«01_k».proof.Proof.Sconv
public import proofs.«01_k».proof.Proof.Zin
public import proofs.«01_k».proof.Proof.Bout
public import proofs.«01_k».proof.Proof.Dwout
public import proofs.«01_k».proof.Proof.Dwin
public import proofs.«01_k».proof.Proof.Fwd
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference is host operations only: its generated run leaves the arguments, and it declares no semaphore. -/
theorem frame_reference (m : (ℓ : Loc Cert.ReferenceIdeal.nD Cert.ReferenceIdeal.τ Cert.ReferenceIdeal.sig) → Buf (Elt Ideal) ℓ) (ρ) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-! The references of the feed-forward calls, likewise. -/

theorem frame_up_reference (m : (ℓ : Loc Cert.UpRefIdeal.nD Cert.UpRefIdeal.τ Cert.UpRefIdeal.sig) → Buf (Elt Ideal) ℓ) (ρ) :
    θ_run Cert.UpRefIdeal.defs (onTc (τ := Cert.UpRefIdeal.τ) (Cert.UpRefIdeal.main (F := Ideal))) ⟨m, fun _ => 0, ρ⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0) :=
  (θ_run Cert.UpRefIdeal.defs _ _).mono (fun r h => ⟨fun c => (h c).2.2.2, sem_eq_zero_of_no_sems (by decide) r.2⟩)
    (Cert.UpRefIdeal.Value.run (F := Ideal) m ρ)

theorem frame_down_reference (m : (ℓ : Loc Cert.DownRefIdeal.nD Cert.DownRefIdeal.τ Cert.DownRefIdeal.sig) → Buf (Elt Ideal) ℓ) (ρ) :
    θ_run Cert.DownRefIdeal.defs (onTc (τ := Cert.DownRefIdeal.τ) (Cert.DownRefIdeal.main (F := Ideal))) ⟨m, fun _ => 0, ρ⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0) :=
  (θ_run Cert.DownRefIdeal.defs _ _).mono (fun r h => ⟨fun c => (h c).2.2, sem_eq_zero_of_no_sems (by decide) r.2⟩)
    (Cert.DownRefIdeal.Value.run (F := Ideal) m ρ)

theorem frame_post_reference (m : (ℓ : Loc Cert.PostRefIdeal.nD Cert.PostRefIdeal.τ Cert.PostRefIdeal.sig) → Buf (Elt Ideal) ℓ) (ρ) :
    θ_run Cert.PostRefIdeal.defs (onTc (τ := Cert.PostRefIdeal.τ) (Cert.PostRefIdeal.main (F := Ideal))) ⟨m, fun _ => 0, ρ⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0) :=
  (θ_run Cert.PostRefIdeal.defs _ _).mono (fun r h => ⟨fun c => (h c).2.2, sem_eq_zero_of_no_sems (by decide) r.2⟩)
    (Cert.PostRefIdeal.Value.run (F := Ideal) m ρ)

theorem frame_act_reference (m : (ℓ : Loc Cert.ActRefIdeal.nD Cert.ActRefIdeal.τ Cert.ActRefIdeal.sig) → Buf (Elt Ideal) ℓ) (ρ) :
    θ_run Cert.ActRefIdeal.defs (onTc (τ := Cert.ActRefIdeal.τ) (Cert.ActRefIdeal.main (F := Ideal))) ⟨m, fun _ => 0, ρ⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0) :=
  (θ_run Cert.ActRefIdeal.defs _ _).mono (fun r h => ⟨fun c => (h c).2.2, sem_eq_zero_of_no_sems (by decide) r.2⟩)
    (Cert.ActRefIdeal.Value.run (F := Ideal) m ρ)

theorem frame_wd_reference (m : (ℓ : Loc Cert.WdRefIdeal.nD Cert.WdRefIdeal.τ Cert.WdRefIdeal.sig) → Buf (Elt Ideal) ℓ) (ρ) :
    θ_run Cert.WdRefIdeal.defs (onTc (τ := Cert.WdRefIdeal.τ) (Cert.WdRefIdeal.main (F := Ideal))) ⟨m, fun _ => 0, ρ⟩ (fun r => (∀ c : Dev Cert.WdRefIdeal.nD,
      r.2.mem ((c.tc : Thread Cert.WdRefIdeal.nD Cert.WdRefIdeal.τ).loc Cert.WdRefIdeal.main_arg0) = m ((c.tc : Thread Cert.WdRefIdeal.nD Cert.WdRefIdeal.τ).loc Cert.WdRefIdeal.main_arg0)
      ∧ r.2.mem ((c.tc : Thread Cert.WdRefIdeal.nD Cert.WdRefIdeal.τ).loc Cert.WdRefIdeal.main_arg1) = m ((c.tc : Thread Cert.WdRefIdeal.nD Cert.WdRefIdeal.τ).loc Cert.WdRefIdeal.main_arg1))
      ∧ r.2.sem = fun _ => 0) :=
  (θ_run Cert.WdRefIdeal.defs _ _).mono (fun r h => ⟨fun c => (h c).2, sem_eq_zero_of_no_sems (by decide) r.2⟩)
    (Cert.WdRefIdeal.Value.run (F := Ideal) m ρ)

theorem frame_wgu_reference (m : (ℓ : Loc Cert.WguRefIdeal.nD Cert.WguRefIdeal.τ Cert.WguRefIdeal.sig) → Buf (Elt Ideal) ℓ) (ρ) :
    θ_run Cert.WguRefIdeal.defs (onTc (τ := Cert.WguRefIdeal.τ) (Cert.WguRefIdeal.main (F := Ideal))) ⟨m, fun _ => 0, ρ⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1)
      ∧ r.2.mem ((c.tc : Thread Cert.WguRefIdeal.nD Cert.WguRefIdeal.τ).loc Cert.WguRefIdeal.main_arg2) = m ((c.tc : Thread Cert.WguRefIdeal.nD Cert.WguRefIdeal.τ).loc Cert.WguRefIdeal.main_arg2))
      ∧ r.2.sem = fun _ => 0) :=
  (θ_run Cert.WguRefIdeal.defs _ _).mono (fun r h => ⟨fun c => (h c).2.2, sem_eq_zero_of_no_sems (by decide) r.2⟩)
    (Cert.WguRefIdeal.Value.run (F := Ideal) m ρ)

theorem frame_in_reference (m : (ℓ : Loc Cert.InRefIdeal.nD Cert.InRefIdeal.τ Cert.InRefIdeal.sig) → Buf (Elt Ideal) ℓ) (ρ) :
    θ_run Cert.InRefIdeal.defs (onTc (τ := Cert.InRefIdeal.τ) (Cert.InRefIdeal.main (F := Ideal))) ⟨m, fun _ => 0, ρ⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0) :=
  (θ_run Cert.InRefIdeal.defs _ _).mono (fun r h => ⟨fun c => (h c).2.2, sem_eq_zero_of_no_sems (by decide) r.2⟩)
    (Cert.InRefIdeal.Value.run (F := Ideal) m ρ)

theorem frame_sconv_reference (m : (ℓ : Loc Cert.SconvRefIdeal.nD Cert.SconvRefIdeal.τ Cert.SconvRefIdeal.sig) → Buf (Elt Ideal) ℓ) (ρ) :
    θ_run Cert.SconvRefIdeal.defs (onTc (τ := Cert.SconvRefIdeal.τ) (Cert.SconvRefIdeal.main (F := Ideal))) ⟨m, fun _ => 0, ρ⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)
      ∧ r.2.mem ((c.tc : Thread Cert.SconvRefIdeal.nD Cert.SconvRefIdeal.τ).loc Cert.SconvRefIdeal.main_arg4) = m ((c.tc : Thread Cert.SconvRefIdeal.nD Cert.SconvRefIdeal.τ).loc Cert.SconvRefIdeal.main_arg4))
      ∧ r.2.sem = fun _ => 0) :=
  (θ_run Cert.SconvRefIdeal.defs _ _).mono (fun r h => ⟨fun c => (h c).2.2.2.2, sem_eq_zero_of_no_sems (by decide) r.2⟩)
    (Cert.SconvRefIdeal.Value.run (F := Ideal) m ρ)

theorem frame_zin_reference (m : (ℓ : Loc Cert.ZinRefIdeal.nD Cert.ZinRefIdeal.τ Cert.ZinRefIdeal.sig) → Buf (Elt Ideal) ℓ) (ρ) :
    θ_run Cert.ZinRefIdeal.defs (onTc (τ := Cert.ZinRefIdeal.τ) (Cert.ZinRefIdeal.main (F := Ideal))) ⟨m, fun _ => 0, ρ⟩ (fun r => (∀ c : Dev Cert.ZinRefIdeal.nD,
      r.2.mem ((c.tc : Thread Cert.ZinRefIdeal.nD Cert.ZinRefIdeal.τ).loc Cert.ZinRefIdeal.main_arg0) = m ((c.tc : Thread Cert.ZinRefIdeal.nD Cert.ZinRefIdeal.τ).loc Cert.ZinRefIdeal.main_arg0)
      ∧ r.2.mem ((c.tc : Thread Cert.ZinRefIdeal.nD Cert.ZinRefIdeal.τ).loc Cert.ZinRefIdeal.main_arg1) = m ((c.tc : Thread Cert.ZinRefIdeal.nD Cert.ZinRefIdeal.τ).loc Cert.ZinRefIdeal.main_arg1))
      ∧ r.2.sem = fun _ => 0) :=
  (θ_run Cert.ZinRefIdeal.defs _ _).mono (fun r h => ⟨fun c => (h c).2, sem_eq_zero_of_no_sems (by decide) r.2⟩)
    (Cert.ZinRefIdeal.Value.run (F := Ideal) m ρ)

theorem frame_bout_reference (m : (ℓ : Loc Cert.BoutRefIdeal.nD Cert.BoutRefIdeal.τ Cert.BoutRefIdeal.sig) → Buf (Elt Ideal) ℓ) (ρ) :
    θ_run Cert.BoutRefIdeal.defs (onTc (τ := Cert.BoutRefIdeal.τ) (Cert.BoutRefIdeal.main (F := Ideal))) ⟨m, fun _ => 0, ρ⟩ (fun r => (∀ c : Dev Cert.BoutRefIdeal.nD,
      r.2.mem ((c.tc : Thread Cert.BoutRefIdeal.nD Cert.BoutRefIdeal.τ).loc Cert.BoutRefIdeal.main_arg0) = m ((c.tc : Thread Cert.BoutRefIdeal.nD Cert.BoutRefIdeal.τ).loc Cert.BoutRefIdeal.main_arg0)
      ∧ r.2.mem ((c.tc : Thread Cert.BoutRefIdeal.nD Cert.BoutRefIdeal.τ).loc Cert.BoutRefIdeal.main_arg1) = m ((c.tc : Thread Cert.BoutRefIdeal.nD Cert.BoutRefIdeal.τ).loc Cert.BoutRefIdeal.main_arg1))
      ∧ r.2.sem = fun _ => 0) :=
  (θ_run Cert.BoutRefIdeal.defs _ _).mono (fun r h => ⟨fun c => (h c).2, sem_eq_zero_of_no_sems (by decide) r.2⟩)
    (Cert.BoutRefIdeal.Value.run (F := Ideal) m ρ)

theorem frame_dwout_reference (m : (ℓ : Loc Cert.DwoutRefIdeal.nD Cert.DwoutRefIdeal.τ Cert.DwoutRefIdeal.sig) → Buf (Elt Ideal) ℓ) (ρ) :
    θ_run Cert.DwoutRefIdeal.defs (onTc (τ := Cert.DwoutRefIdeal.τ) (Cert.DwoutRefIdeal.main (F := Ideal))) ⟨m, fun _ => 0, ρ⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0) :=
  (θ_run Cert.DwoutRefIdeal.defs _ _).mono (fun r h => ⟨fun c => (h c).2, sem_eq_zero_of_no_sems (by decide) r.2⟩)
    (Cert.DwoutRefIdeal.Value.run (F := Ideal) m ρ)

theorem frame_dwin_reference (m : (ℓ : Loc Cert.DwinRefIdeal.nD Cert.DwinRefIdeal.τ Cert.DwinRefIdeal.sig) → Buf (Elt Ideal) ℓ) (ρ) :
    θ_run Cert.DwinRefIdeal.defs (onTc (τ := Cert.DwinRefIdeal.τ) (Cert.DwinRefIdeal.main (F := Ideal))) ⟨m, fun _ => 0, ρ⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0) :=
  (θ_run Cert.DwinRefIdeal.defs _ _).mono (fun r h => ⟨fun c => (h c).2, sem_eq_zero_of_no_sems (by decide) r.2⟩)
    (Cert.DwinRefIdeal.Value.run (F := Ideal) m ρ)

theorem frame_fwd_reference (m : (ℓ : Loc Cert.FwdRefIdeal.nD Cert.FwdRefIdeal.τ Cert.FwdRefIdeal.sig) → Buf (Elt Ideal) ℓ) (ρ) :
    θ_run Cert.FwdRefIdeal.defs (onTc (τ := Cert.FwdRefIdeal.τ) (Cert.FwdRefIdeal.main (F := Ideal))) ⟨m, fun _ => 0, ρ⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0) :=
  (θ_run Cert.FwdRefIdeal.defs _ _).mono (fun r h => ⟨fun c => (h c).2.2, sem_eq_zero_of_no_sems (by decide) r.2⟩)
    (Cert.FwdRefIdeal.Value.run (F := Ideal) m ρ)

/-! The calls printed for the bits and for the ideal values have the same text: their body tables are equal, and one run
    gives both frames. -/

theorem defs_up : Cert.Up.defs (F := Bits) = Cert.UpIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_up : quiescent_Up := fun m ρ _ => by
  have h := Cert.UpIdeal.Gen.frame (F := Bits) m ρ
  rw [← defs_up] at h
  exact h

theorem defs_down : Cert.Down.defs (F := Bits) = Cert.DownIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_down : quiescent_Down := fun m ρ _ => by
  have h := Cert.DownIdeal.Gen.frame (F := Bits) m ρ
  rw [← defs_down] at h
  exact h

theorem defs_post : Cert.Post.defs (F := Bits) = Cert.PostIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_post : quiescent_Post := fun m ρ _ => by
  have h := Cert.PostIdeal.Gen.frame (F := Bits) m ρ
  rw [← defs_post] at h
  exact h

theorem defs_act : Cert.Act.defs (F := Bits) = Cert.ActIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_act : quiescent_Act := fun m ρ _ => by
  have h := Cert.ActIdeal.Gen.frame (F := Bits) m ρ
  rw [← defs_act] at h
  exact h

theorem defs_wd : Cert.Wd.defs (F := Bits) = Cert.WdIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_wd : quiescent_Wd := fun m ρ _ => by
  have h := Cert.WdIdeal.Gen.frame (F := Bits) m ρ
  rw [← defs_wd] at h
  exact h

theorem defs_wgu : Cert.Wgu.defs (F := Bits) = Cert.WguIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_wgu : quiescent_Wgu := fun m ρ _ => by
  have h := Cert.WguIdeal.Gen.frame (F := Bits) m ρ
  rw [← defs_wgu] at h
  exact h

theorem defs_in : Cert.In.defs (F := Bits) = Cert.InIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_in : quiescent_In := fun m ρ _ => by
  have h := Cert.InIdeal.Gen.frame (F := Bits) m ρ
  rw [← defs_in] at h
  exact h

set_option maxHeartbeats 4000000 in
theorem defs_sconv : Cert.Sconv.defs (F := Bits) = Cert.SconvIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_sconv : quiescent_Sconv := fun m ρ _ => by
  have h := Cert.SconvIdeal.Gen.frame (F := Bits) m ρ
  rw [← defs_sconv] at h
  exact h

theorem defs_zin : Cert.Zin.defs (F := Bits) = Cert.ZinIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_zin : quiescent_Zin := fun m ρ _ => by
  have h := Cert.ZinIdeal.Gen.frame (F := Bits) m ρ
  rw [← defs_zin] at h
  exact h

theorem defs_bout : Cert.Bout.defs (F := Bits) = Cert.BoutIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_bout : quiescent_Bout := fun m ρ _ => by
  have h := Cert.BoutIdeal.Gen.frame (F := Bits) m ρ
  rw [← defs_bout] at h
  exact h

theorem defs_dwout : Cert.Dwout.defs (F := Bits) = Cert.DwoutIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_dwout : quiescent_Dwout := fun m ρ _ => by
  have h := Cert.DwoutIdeal.Gen.frame (F := Bits) m ρ
  rw [← defs_dwout] at h
  exact h

theorem defs_dwin : Cert.Dwin.defs (F := Bits) = Cert.DwinIdeal.defs (F := Bits) := by
  refine congrArg (Pipeline.defs _) (congrArg Defs.onTc (funext fun x => funext fun y => ?_))
  match x, y with
  | ⟨0, _⟩, (t, s) => rfl
  | ⟨_ + 1, h⟩, _ => exact absurd h (Nat.not_lt.2 (Nat.le_add_left _ _))

theorem frame_dwin : quiescent_Dwin := fun m ρ _ => by
  have h := Cert.DwinIdeal.Gen.frame (F := Bits) m ρ
  rw [← defs_dwin] at h
  exact h

theorem frame_fwd : quiescent_Fwd := fun m ρ _ => Cert.Fwd.Gen.frame (F := Bits) m ρ

theorem claim : Cert.Claim := ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.Post.Gen.facts, Cert.PostIdeal.Gen.facts, Cert.PostRefIdeal.Gen.facts, Cert.Act.Gen.facts, Cert.ActIdeal.Gen.facts, Cert.ActRefIdeal.Gen.facts, Cert.Wd.Gen.facts, Cert.WdIdeal.Gen.facts, Cert.WdRefIdeal.Gen.facts, Cert.Wgu.Gen.facts, Cert.WguIdeal.Gen.facts, Cert.WguRefIdeal.Gen.facts, Cert.In.Gen.facts, Cert.InIdeal.Gen.facts, Cert.InRefIdeal.Gen.facts, Cert.Sconv.Gen.facts, Cert.SconvIdeal.Gen.facts, Cert.SconvRefIdeal.Gen.facts, Cert.Zin.Gen.facts, Cert.ZinIdeal.Gen.facts, Cert.ZinRefIdeal.Gen.facts, Cert.Bout.Gen.facts, Cert.BoutIdeal.Gen.facts, Cert.BoutRefIdeal.Gen.facts, Cert.Dwout.Gen.facts, Cert.DwoutIdeal.Gen.facts, Cert.DwoutRefIdeal.Gen.facts, Cert.Dwin.Gen.facts, Cert.DwinIdeal.Gen.facts, Cert.DwinRefIdeal.Gen.facts, Cert.Fwd.Gen.facts, Cert.FwdIdeal.Gen.facts, Cert.FwdRefIdeal.Gen.facts, Cert.Pre_finite.Gen.facts, Cert.Pre_finite_act.Gen.facts, Cert.Pre_finite_fwd.Gen.facts,
  fun m ρ _ => Cert.Kernel.Hand.frame (F := Bits) m ρ,
  fun m ρ _ => Cert.KernelIdeal.Hand.frame m ρ,
  fun m ρ _ => Cert.KernelIdeal.Hand.frame m ρ,
  fun m ρ _ => frame_reference m ρ,
  fun m ρ _ => frame_reference m ρ,
  frame_up,
  fun m ρ _ => Cert.UpIdeal.Gen.frame m ρ,
  fun m ρ _ => frame_up_reference m ρ,
  frame_down,
  fun m ρ _ => Cert.DownIdeal.Gen.frame m ρ,
  fun m ρ _ => frame_down_reference m ρ,
  frame_post,
  fun m ρ _ => Cert.PostIdeal.Gen.frame m ρ,
  fun m ρ _ => frame_post_reference m ρ,
  frame_act,
  fun m ρ _ => Cert.ActIdeal.Gen.frame m ρ,
  fun m ρ _ => Cert.ActIdeal.Gen.frame m ρ,
  fun m ρ _ => frame_act_reference m ρ,
  fun m ρ _ => frame_act_reference m ρ,
  frame_wd,
  fun m ρ _ => Cert.WdIdeal.Gen.frame m ρ,
  fun m ρ _ => frame_wd_reference m ρ,
  frame_wgu,
  fun m ρ _ => Cert.WguIdeal.Gen.frame m ρ,
  fun m ρ _ => frame_wgu_reference m ρ,
  frame_in,
  fun m ρ _ => Cert.InIdeal.Gen.frame m ρ,
  fun m ρ _ => frame_in_reference m ρ,
  frame_sconv,
  fun m ρ _ => Cert.SconvIdeal.Gen.frame m ρ,
  fun m ρ _ => frame_sconv_reference m ρ,
  frame_zin,
  fun m ρ _ => Cert.ZinIdeal.Gen.frame m ρ,
  fun m ρ _ => frame_zin_reference m ρ,
  frame_bout,
  fun m ρ _ => Cert.BoutIdeal.Gen.frame m ρ,
  fun m ρ _ => frame_bout_reference m ρ,
  frame_dwout,
  fun m ρ _ => Cert.DwoutIdeal.Gen.frame m ρ,
  fun m ρ _ => frame_dwout_reference m ρ,
  frame_dwin,
  fun m ρ _ => Cert.DwinIdeal.Gen.frame m ρ,
  fun m ρ _ => frame_dwin_reference m ρ,
  frame_fwd,
  fun m ρ _ => Cert.FwdIdeal.Gen.frame m ρ,
  fun m ρ _ => Cert.FwdIdeal.Gen.frame m ρ,
  fun m ρ _ => frame_fwd_reference m ρ,
  fun m ρ _ => frame_fwd_reference m ρ,
  Idealize.ShloMosaic.IdealRules.named_const.statement Cert.KernelIdeal.κ "ln2" .f32 0x3F317218#32 ((Real.log 2 : ℝ) : EReal) rfl,
  algebraic,
  trivial,
  algebraic_up,
  trivial,
  algebraic_down,
  trivial,
  algebraic_post,
  trivial,
  algebraic_act,
  trivial,
  algebraic_wd,
  trivial,
  algebraic_wgu,
  trivial,
  algebraic_in,
  trivial,
  algebraic_sconv,
  trivial,
  algebraic_zin,
  trivial,
  algebraic_bout,
  trivial,
  algebraic_dwout,
  trivial,
  algebraic_dwin,
  Idealize.ShloMosaic.IdealRules.named_const.statement Cert.FwdIdeal.κ "log2e" .f32 0x3FB8AA3B#32 (((Real.log 2)⁻¹ : ℝ) : EReal) rfl,
  algebraic_fwd⟩

end Cert.Proof

end
